-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_RefXIdeal (m : (ℓ : Loc Cert.RefXIdeal.nD Cert.RefXIdeal.τ Cert.RefXIdeal.sig) → Buf (Elt Ideal) ℓ) : Prop :=
  True

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_RefWIdeal (m : (ℓ : Loc Cert.RefWIdeal.nD Cert.RefWIdeal.τ Cert.RefWIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_RefOIdeal (m : (ℓ : Loc Cert.RefOIdeal.nD Cert.RefOIdeal.τ Cert.RefOIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_KernelAC (m : (ℓ : Loc Cert.KernelAC.nD Cert.KernelAC.τ Cert.KernelAC.sig) → Buf (Elt Bits) ℓ) : Prop :=
  True

def Pre_KernelACIdeal (m : (ℓ : Loc Cert.KernelACIdeal.nD Cert.KernelACIdeal.τ Cert.KernelACIdeal.sig) → Buf (Elt Ideal) ℓ) : Prop :=
  True

def Pre_RefACIdeal (m : (ℓ : Loc Cert.RefACIdeal.nD Cert.RefACIdeal.τ Cert.RefACIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3)
      ∧ r.2.mem ((c.tc : Thread Cert.KernelX.nD Cert.KernelX.τ).loc Cert.KernelX.main_arg4) = m ((c.tc : Thread Cert.KernelX.nD Cert.KernelX.τ).loc Cert.KernelX.main_arg4)
      ∧ r.2.mem ((c.tc : Thread Cert.KernelX.nD Cert.KernelX.τ).loc Cert.KernelX.main_arg5) = m ((c.tc : Thread Cert.KernelX.nD Cert.KernelX.τ).loc Cert.KernelX.main_arg5)
      ∧ r.2.mem ((c.tc : Thread Cert.KernelX.nD Cert.KernelX.τ).loc Cert.KernelX.main_arg6) = m ((c.tc : Thread Cert.KernelX.nD Cert.KernelX.τ).loc Cert.KernelX.main_arg6)
      ∧ r.2.mem ((c.tc : Thread Cert.KernelX.nD Cert.KernelX.τ).loc Cert.KernelX.main_arg7) = m ((c.tc : Thread Cert.KernelX.nD Cert.KernelX.τ).loc Cert.KernelX.main_arg7)
      ∧ r.2.mem ((c.tc : Thread Cert.KernelX.nD Cert.KernelX.τ).loc Cert.KernelX.main_arg8) = m ((c.tc : Thread Cert.KernelX.nD Cert.KernelX.τ).loc Cert.KernelX.main_arg8)
      ∧ r.2.mem ((c.tc : Thread Cert.KernelX.nD Cert.KernelX.τ).loc Cert.KernelX.main_arg9) = m ((c.tc : Thread Cert.KernelX.nD Cert.KernelX.τ).loc Cert.KernelX.main_arg9))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
      ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
      ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
      ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
      ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8)
      ∧ r.2.mem ((c.tc : Thread Cert.KernelXIdeal.nD Cert.KernelXIdeal.τ).loc Cert.KernelXIdeal.main_arg9) = m ((c.tc : Thread Cert.KernelXIdeal.nD Cert.KernelXIdeal.τ).loc Cert.KernelXIdeal.main_arg9))
      ∧ r.2.sem = fun _ => 0)

def quiescent_RefXIdeal [hRefXIdeal : Cert.RefXIdeal.Facts] : Prop :=
  ∀ (m : (ℓ : Loc Cert.RefXIdeal.nD Cert.RefXIdeal.τ Cert.RefXIdeal.sig) → Buf (Elt Ideal) ℓ) (g : Dev Cert.RefXIdeal.nD → PrngReg), Pre_RefXIdeal m →
    θ_run (Cert.RefXIdeal.defs (F := Ideal)) (onTc (τ := Cert.RefXIdeal.τ) (Cert.RefXIdeal.main (F := Ideal))) ⟨m, fun _ => 0, g⟩ (fun r => (∀ c : Dev Cert.RefXIdeal.nD,
      r.2.mem ((c.tc : Thread Cert.RefXIdeal.nD Cert.RefXIdeal.τ).loc Cert.RefXIdeal.main_arg0) = m ((c.tc : Thread Cert.RefXIdeal.nD Cert.RefXIdeal.τ).loc Cert.RefXIdeal.main_arg0)
      ∧ r.2.mem ((c.tc : Thread Cert.RefXIdeal.nD Cert.RefXIdeal.τ).loc Cert.RefXIdeal.main_arg1) = m ((c.tc : Thread Cert.RefXIdeal.nD Cert.RefXIdeal.τ).loc Cert.RefXIdeal.main_arg1)
      ∧ r.2.mem ((c.tc : Thread Cert.RefXIdeal.nD Cert.RefXIdeal.τ).loc Cert.RefXIdeal.main_arg2) = m ((c.tc : Thread Cert.RefXIdeal.nD Cert.RefXIdeal.τ).loc Cert.RefXIdeal.main_arg2)
      ∧ r.2.mem ((c.tc : Thread Cert.RefXIdeal.nD Cert.RefXIdeal.τ).loc Cert.RefXIdeal.main_arg3) = m ((c.tc : Thread Cert.RefXIdeal.nD Cert.RefXIdeal.τ).loc Cert.RefXIdeal.main_arg3)
      ∧ r.2.mem ((c.tc : Thread Cert.RefXIdeal.nD Cert.RefXIdeal.τ).loc Cert.RefXIdeal.main_arg4) = m ((c.tc : Thread Cert.RefXIdeal.nD Cert.RefXIdeal.τ).loc Cert.RefXIdeal.main_arg4)
      ∧ r.2.mem ((c.tc : Thread Cert.RefXIdeal.nD Cert.RefXIdeal.τ).loc Cert.RefXIdeal.main_arg5) = m ((c.tc : Thread Cert.RefXIdeal.nD Cert.RefXIdeal.τ).loc Cert.RefXIdeal.main_arg5)
      ∧ r.2.mem ((c.tc : Thread Cert.RefXIdeal.nD Cert.RefXIdeal.τ).loc Cert.RefXIdeal.main_arg6) = m ((c.tc : Thread Cert.RefXIdeal.nD Cert.RefXIdeal.τ).loc Cert.RefXIdeal.main_arg6)
      ∧ r.2.mem ((c.tc : Thread Cert.RefXIdeal.nD Cert.RefXIdeal.τ).loc Cert.RefXIdeal.main_arg7) = m ((c.tc : Thread Cert.RefXIdeal.nD Cert.RefXIdeal.τ).loc Cert.RefXIdeal.main_arg7)
      ∧ r.2.mem ((c.tc : Thread Cert.RefXIdeal.nD Cert.RefXIdeal.τ).loc Cert.RefXIdeal.main_arg8) = m ((c.tc : Thread Cert.RefXIdeal.nD Cert.RefXIdeal.τ).loc Cert.RefXIdeal.main_arg8)
      ∧ r.2.mem ((c.tc : Thread Cert.RefXIdeal.nD Cert.RefXIdeal.τ).loc Cert.RefXIdeal.main_arg9) = m ((c.tc : Thread Cert.RefXIdeal.nD Cert.RefXIdeal.τ).loc Cert.RefXIdeal.main_arg9))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1)
      ∧ r.2.mem ((c.tc : Thread Cert.KernelW.nD Cert.KernelW.τ).loc Cert.KernelW.main_arg2) = m ((c.tc : Thread Cert.KernelW.nD Cert.KernelW.τ).loc Cert.KernelW.main_arg2)
      ∧ r.2.mem ((c.tc : Thread Cert.KernelW.nD Cert.KernelW.τ).loc Cert.KernelW.main_arg3) = m ((c.tc : Thread Cert.KernelW.nD Cert.KernelW.τ).loc Cert.KernelW.main_arg3)
      ∧ r.2.mem ((c.tc : Thread Cert.KernelW.nD Cert.KernelW.τ).loc Cert.KernelW.main_arg4) = m ((c.tc : Thread Cert.KernelW.nD Cert.KernelW.τ).loc Cert.KernelW.main_arg4)
      ∧ r.2.mem ((c.tc : Thread Cert.KernelW.nD Cert.KernelW.τ).loc Cert.KernelW.main_arg5) = m ((c.tc : Thread Cert.KernelW.nD Cert.KernelW.τ).loc Cert.KernelW.main_arg5)
      ∧ r.2.mem ((c.tc : Thread Cert.KernelW.nD Cert.KernelW.τ).loc Cert.KernelW.main_arg6) = m ((c.tc : Thread Cert.KernelW.nD Cert.KernelW.τ).loc Cert.KernelW.main_arg6)
      ∧ r.2.mem ((c.tc : Thread Cert.KernelW.nD Cert.KernelW.τ).loc Cert.KernelW.main_arg7) = m ((c.tc : Thread Cert.KernelW.nD Cert.KernelW.τ).loc Cert.KernelW.main_arg7))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
      ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
      ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
      ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
      ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
      ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7))
      ∧ r.2.sem = fun _ => 0)

def quiescent_RefWIdeal [hRefWIdeal : Cert.RefWIdeal.Facts] : Prop :=
  ∀ (m : (ℓ : Loc Cert.RefWIdeal.nD Cert.RefWIdeal.τ Cert.RefWIdeal.sig) → Buf (Elt Ideal) ℓ) (g : Dev Cert.RefWIdeal.nD → PrngReg), Pre_RefWIdeal m →
    θ_run (Cert.RefWIdeal.defs (F := Ideal)) (onTc (τ := Cert.RefWIdeal.τ) (Cert.RefWIdeal.main (F := Ideal))) ⟨m, fun _ => 0, g⟩ (fun r => (∀ c : Dev Cert.RefWIdeal.nD,
      r.2.mem ((c.tc : Thread Cert.RefWIdeal.nD Cert.RefWIdeal.τ).loc Cert.RefWIdeal.main_arg0) = m ((c.tc : Thread Cert.RefWIdeal.nD Cert.RefWIdeal.τ).loc Cert.RefWIdeal.main_arg0)
      ∧ r.2.mem ((c.tc : Thread Cert.RefWIdeal.nD Cert.RefWIdeal.τ).loc Cert.RefWIdeal.main_arg1) = m ((c.tc : Thread Cert.RefWIdeal.nD Cert.RefWIdeal.τ).loc Cert.RefWIdeal.main_arg1)
      ∧ r.2.mem ((c.tc : Thread Cert.RefWIdeal.nD Cert.RefWIdeal.τ).loc Cert.RefWIdeal.main_arg2) = m ((c.tc : Thread Cert.RefWIdeal.nD Cert.RefWIdeal.τ).loc Cert.RefWIdeal.main_arg2)
      ∧ r.2.mem ((c.tc : Thread Cert.RefWIdeal.nD Cert.RefWIdeal.τ).loc Cert.RefWIdeal.main_arg3) = m ((c.tc : Thread Cert.RefWIdeal.nD Cert.RefWIdeal.τ).loc Cert.RefWIdeal.main_arg3)
      ∧ r.2.mem ((c.tc : Thread Cert.RefWIdeal.nD Cert.RefWIdeal.τ).loc Cert.RefWIdeal.main_arg4) = m ((c.tc : Thread Cert.RefWIdeal.nD Cert.RefWIdeal.τ).loc Cert.RefWIdeal.main_arg4)
      ∧ r.2.mem ((c.tc : Thread Cert.RefWIdeal.nD Cert.RefWIdeal.τ).loc Cert.RefWIdeal.main_arg5) = m ((c.tc : Thread Cert.RefWIdeal.nD Cert.RefWIdeal.τ).loc Cert.RefWIdeal.main_arg5)
      ∧ r.2.mem ((c.tc : Thread Cert.RefWIdeal.nD Cert.RefWIdeal.τ).loc Cert.RefWIdeal.main_arg6) = m ((c.tc : Thread Cert.RefWIdeal.nD Cert.RefWIdeal.τ).loc Cert.RefWIdeal.main_arg6)
      ∧ r.2.mem ((c.tc : Thread Cert.RefWIdeal.nD Cert.RefWIdeal.τ).loc Cert.RefWIdeal.main_arg7) = m ((c.tc : Thread Cert.RefWIdeal.nD Cert.RefWIdeal.τ).loc Cert.RefWIdeal.main_arg7))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ r.2.sem = fun _ => 0)

def quiescent_RefOIdeal [hRefOIdeal : Cert.RefOIdeal.Facts] : Prop :=
  ∀ (m : (ℓ : Loc Cert.RefOIdeal.nD Cert.RefOIdeal.τ Cert.RefOIdeal.sig) → Buf (Elt Ideal) ℓ) (g : Dev Cert.RefOIdeal.nD → PrngReg), Pre_RefOIdeal m →
    θ_run (Cert.RefOIdeal.defs (F := Ideal)) (onTc (τ := Cert.RefOIdeal.τ) (Cert.RefOIdeal.main (F := Ideal))) ⟨m, fun _ => 0, g⟩ (fun r => (∀ c : Dev Cert.RefOIdeal.nD,
      r.2.mem ((c.tc : Thread Cert.RefOIdeal.nD Cert.RefOIdeal.τ).loc Cert.RefOIdeal.main_arg0) = m ((c.tc : Thread Cert.RefOIdeal.nD Cert.RefOIdeal.τ).loc Cert.RefOIdeal.main_arg0)
      ∧ r.2.mem ((c.tc : Thread Cert.RefOIdeal.nD Cert.RefOIdeal.τ).loc Cert.RefOIdeal.main_arg1) = m ((c.tc : Thread Cert.RefOIdeal.nD Cert.RefOIdeal.τ).loc Cert.RefOIdeal.main_arg1)
      ∧ r.2.mem ((c.tc : Thread Cert.RefOIdeal.nD Cert.RefOIdeal.τ).loc Cert.RefOIdeal.main_arg2) = m ((c.tc : Thread Cert.RefOIdeal.nD Cert.RefOIdeal.τ).loc Cert.RefOIdeal.main_arg2)
      ∧ r.2.mem ((c.tc : Thread Cert.RefOIdeal.nD Cert.RefOIdeal.τ).loc Cert.RefOIdeal.main_arg3) = m ((c.tc : Thread Cert.RefOIdeal.nD Cert.RefOIdeal.τ).loc Cert.RefOIdeal.main_arg3)
      ∧ r.2.mem ((c.tc : Thread Cert.RefOIdeal.nD Cert.RefOIdeal.τ).loc Cert.RefOIdeal.main_arg4) = m ((c.tc : Thread Cert.RefOIdeal.nD Cert.RefOIdeal.τ).loc Cert.RefOIdeal.main_arg4)
      ∧ r.2.mem ((c.tc : Thread Cert.RefOIdeal.nD Cert.RefOIdeal.τ).loc Cert.RefOIdeal.main_arg5) = m ((c.tc : Thread Cert.RefOIdeal.nD Cert.RefOIdeal.τ).loc Cert.RefOIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1)
      ∧ r.2.mem ((c.tc : Thread Cert.RefLossIdeal.nD Cert.RefLossIdeal.τ).loc Cert.RefLossIdeal.main_arg2) = m ((c.tc : Thread Cert.RefLossIdeal.nD Cert.RefLossIdeal.τ).loc Cert.RefLossIdeal.main_arg2))
      ∧ r.2.sem = fun _ => 0)

def quiescent_KernelAC [hKernelAC : Cert.KernelAC.Facts] : Prop :=
  ∀ (m : (ℓ : Loc Cert.KernelAC.nD Cert.KernelAC.τ Cert.KernelAC.sig) → Buf (Elt Bits) ℓ) (g : Dev Cert.KernelAC.nD → PrngReg), Pre_KernelAC m →
    θ_run (Cert.KernelAC.defs (F := Bits)) (onTc (τ := Cert.KernelAC.τ) (Cert.KernelAC.main (F := Bits))) ⟨m, fun _ => 0, g⟩ (fun r => (∀ c : Dev Cert.KernelAC.nD,
      r.2.mem ((c.tc : Thread Cert.KernelAC.nD Cert.KernelAC.τ).loc Cert.KernelAC.main_arg0) = m ((c.tc : Thread Cert.KernelAC.nD Cert.KernelAC.τ).loc Cert.KernelAC.main_arg0)
      ∧ r.2.mem ((c.tc : Thread Cert.KernelAC.nD Cert.KernelAC.τ).loc Cert.KernelAC.main_arg1) = m ((c.tc : Thread Cert.KernelAC.nD Cert.KernelAC.τ).loc Cert.KernelAC.main_arg1)
      ∧ r.2.mem ((c.tc : Thread Cert.KernelAC.nD Cert.KernelAC.τ).loc Cert.KernelAC.main_arg2) = m ((c.tc : Thread Cert.KernelAC.nD Cert.KernelAC.τ).loc Cert.KernelAC.main_arg2)
      ∧ r.2.mem ((c.tc : Thread Cert.KernelAC.nD Cert.KernelAC.τ).loc Cert.KernelAC.main_arg3) = m ((c.tc : Thread Cert.KernelAC.nD Cert.KernelAC.τ).loc Cert.KernelAC.main_arg3)
      ∧ r.2.mem ((c.tc : Thread Cert.KernelAC.nD Cert.KernelAC.τ).loc Cert.KernelAC.main_arg4) = m ((c.tc : Thread Cert.KernelAC.nD Cert.KernelAC.τ).loc Cert.KernelAC.main_arg4)
      ∧ r.2.mem ((c.tc : Thread Cert.KernelAC.nD Cert.KernelAC.τ).loc Cert.KernelAC.main_arg5) = m ((c.tc : Thread Cert.KernelAC.nD Cert.KernelAC.τ).loc Cert.KernelAC.main_arg5)
      ∧ r.2.mem ((c.tc : Thread Cert.KernelAC.nD Cert.KernelAC.τ).loc Cert.KernelAC.main_arg6) = m ((c.tc : Thread Cert.KernelAC.nD Cert.KernelAC.τ).loc Cert.KernelAC.main_arg6)
      ∧ r.2.mem ((c.tc : Thread Cert.KernelAC.nD Cert.KernelAC.τ).loc Cert.KernelAC.main_arg7) = m ((c.tc : Thread Cert.KernelAC.nD Cert.KernelAC.τ).loc Cert.KernelAC.main_arg7))
      ∧ r.2.sem = fun _ => 0)

def quiescent_KernelACIdeal [hKernelACIdeal : Cert.KernelACIdeal.Facts] : Prop :=
  ∀ (m : (ℓ : Loc Cert.KernelACIdeal.nD Cert.KernelACIdeal.τ Cert.KernelACIdeal.sig) → Buf (Elt Ideal) ℓ) (g : Dev Cert.KernelACIdeal.nD → PrngReg), Pre_KernelACIdeal m →
    θ_run (Cert.KernelACIdeal.defs (F := Ideal)) (onTc (τ := Cert.KernelACIdeal.τ) (Cert.KernelACIdeal.main (F := Ideal))) ⟨m, fun _ => 0, g⟩ (fun r => (∀ c : Dev Cert.KernelACIdeal.nD,
      r.2.mem ((c.tc : Thread Cert.KernelACIdeal.nD Cert.KernelACIdeal.τ).loc Cert.KernelACIdeal.main_arg0) = m ((c.tc : Thread Cert.KernelACIdeal.nD Cert.KernelACIdeal.τ).loc Cert.KernelACIdeal.main_arg0)
      ∧ r.2.mem ((c.tc : Thread Cert.KernelACIdeal.nD Cert.KernelACIdeal.τ).loc Cert.KernelACIdeal.main_arg1) = m ((c.tc : Thread Cert.KernelACIdeal.nD Cert.KernelACIdeal.τ).loc Cert.KernelACIdeal.main_arg1)
      ∧ r.2.mem ((c.tc : Thread Cert.KernelACIdeal.nD Cert.KernelACIdeal.τ).loc Cert.KernelACIdeal.main_arg2) = m ((c.tc : Thread Cert.KernelACIdeal.nD Cert.KernelACIdeal.τ).loc Cert.KernelACIdeal.main_arg2)
      ∧ r.2.mem ((c.tc : Thread Cert.KernelACIdeal.nD Cert.KernelACIdeal.τ).loc Cert.KernelACIdeal.main_arg3) = m ((c.tc : Thread Cert.KernelACIdeal.nD Cert.KernelACIdeal.τ).loc Cert.KernelACIdeal.main_arg3)
      ∧ r.2.mem ((c.tc : Thread Cert.KernelACIdeal.nD Cert.KernelACIdeal.τ).loc Cert.KernelACIdeal.main_arg4) = m ((c.tc : Thread Cert.KernelACIdeal.nD Cert.KernelACIdeal.τ).loc Cert.KernelACIdeal.main_arg4)
      ∧ r.2.mem ((c.tc : Thread Cert.KernelACIdeal.nD Cert.KernelACIdeal.τ).loc Cert.KernelACIdeal.main_arg5) = m ((c.tc : Thread Cert.KernelACIdeal.nD Cert.KernelACIdeal.τ).loc Cert.KernelACIdeal.main_arg5)
      ∧ r.2.mem ((c.tc : Thread Cert.KernelACIdeal.nD Cert.KernelACIdeal.τ).loc Cert.KernelACIdeal.main_arg6) = m ((c.tc : Thread Cert.KernelACIdeal.nD Cert.KernelACIdeal.τ).loc Cert.KernelACIdeal.main_arg6)
      ∧ r.2.mem ((c.tc : Thread Cert.KernelACIdeal.nD Cert.KernelACIdeal.τ).loc Cert.KernelACIdeal.main_arg7) = m ((c.tc : Thread Cert.KernelACIdeal.nD Cert.KernelACIdeal.τ).loc Cert.KernelACIdeal.main_arg7))
      ∧ r.2.sem = fun _ => 0)

def quiescent_RefACIdeal [hRefACIdeal : Cert.RefACIdeal.Facts] : Prop :=
  ∀ (m : (ℓ : Loc Cert.RefACIdeal.nD Cert.RefACIdeal.τ Cert.RefACIdeal.sig) → Buf (Elt Ideal) ℓ) (g : Dev Cert.RefACIdeal.nD → PrngReg), Pre_RefACIdeal m →
    θ_run (Cert.RefACIdeal.defs (F := Ideal)) (onTc (τ := Cert.RefACIdeal.τ) (Cert.RefACIdeal.main (F := Ideal))) ⟨m, fun _ => 0, g⟩ (fun r => (∀ c : Dev Cert.RefACIdeal.nD,
      r.2.mem ((c.tc : Thread Cert.RefACIdeal.nD Cert.RefACIdeal.τ).loc Cert.RefACIdeal.main_arg0) = m ((c.tc : Thread Cert.RefACIdeal.nD Cert.RefACIdeal.τ).loc Cert.RefACIdeal.main_arg0)
      ∧ r.2.mem ((c.tc : Thread Cert.RefACIdeal.nD Cert.RefACIdeal.τ).loc Cert.RefACIdeal.main_arg1) = m ((c.tc : Thread Cert.RefACIdeal.nD Cert.RefACIdeal.τ).loc Cert.RefACIdeal.main_arg1)
      ∧ r.2.mem ((c.tc : Thread Cert.RefACIdeal.nD Cert.RefACIdeal.τ).loc Cert.RefACIdeal.main_arg2) = m ((c.tc : Thread Cert.RefACIdeal.nD Cert.RefACIdeal.τ).loc Cert.RefACIdeal.main_arg2)
      ∧ r.2.mem ((c.tc : Thread Cert.RefACIdeal.nD Cert.RefACIdeal.τ).loc Cert.RefACIdeal.main_arg3) = m ((c.tc : Thread Cert.RefACIdeal.nD Cert.RefACIdeal.τ).loc Cert.RefACIdeal.main_arg3)
      ∧ r.2.mem ((c.tc : Thread Cert.RefACIdeal.nD Cert.RefACIdeal.τ).loc Cert.RefACIdeal.main_arg4) = m ((c.tc : Thread Cert.RefACIdeal.nD Cert.RefACIdeal.τ).loc Cert.RefACIdeal.main_arg4)
      ∧ r.2.mem ((c.tc : Thread Cert.RefACIdeal.nD Cert.RefACIdeal.τ).loc Cert.RefACIdeal.main_arg5) = m ((c.tc : Thread Cert.RefACIdeal.nD Cert.RefACIdeal.τ).loc Cert.RefACIdeal.main_arg5)
      ∧ r.2.mem ((c.tc : Thread Cert.RefACIdeal.nD Cert.RefACIdeal.τ).loc Cert.RefACIdeal.main_arg6) = m ((c.tc : Thread Cert.RefACIdeal.nD Cert.RefACIdeal.τ).loc Cert.RefACIdeal.main_arg6)
      ∧ r.2.mem ((c.tc : Thread Cert.RefACIdeal.nD Cert.RefACIdeal.τ).loc Cert.RefACIdeal.main_arg7) = m ((c.tc : Thread Cert.RefACIdeal.nD Cert.RefACIdeal.τ).loc Cert.RefACIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v583) = v0 c
          ∧ r.2.mem ((c.tc : Thread Cert.ReferenceIdeal.nD Cert.ReferenceIdeal.τ).loc Cert.ReferenceIdeal.main_v585) = v1 c
          ∧ r.2.mem ((c.tc : Thread Cert.ReferenceIdeal.nD Cert.ReferenceIdeal.τ).loc Cert.ReferenceIdeal.main_v586) = v2 c
          ∧ r.2.mem ((c.tc : Thread Cert.ReferenceIdeal.nD Cert.ReferenceIdeal.τ).loc Cert.ReferenceIdeal.main_v299) = v3 c
          ∧ r.2.mem ((c.tc : Thread Cert.ReferenceIdeal.nD Cert.ReferenceIdeal.τ).loc Cert.ReferenceIdeal.main_v273) = v4 c
          ∧ r.2.mem ((c.tc : Thread Cert.ReferenceIdeal.nD Cert.ReferenceIdeal.τ).loc Cert.ReferenceIdeal.main_v270) = v5 c
          ∧ r.2.mem ((c.tc : Thread Cert.ReferenceIdeal.nD Cert.ReferenceIdeal.τ).loc Cert.ReferenceIdeal.main_v266) = v6 c
          ∧ r.2.mem ((c.tc : Thread Cert.ReferenceIdeal.nD Cert.ReferenceIdeal.τ).loc Cert.ReferenceIdeal.main_v264) = v7 c
          ∧ r.2.mem ((c.tc : Thread Cert.ReferenceIdeal.nD Cert.ReferenceIdeal.τ).loc Cert.ReferenceIdeal.main_v587) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelX_KernelXIdeal : Prop :=
  True

def algebraic_KernelXIdeal_RefXIdeal [hKernelXIdeal : Cert.KernelXIdeal.Facts] [hRefXIdeal : Cert.RefXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.RefXIdeal.nD Cert.RefXIdeal.τ Cert.RefXIdeal.sig) → Buf (Elt Ideal) ℓ) (g' : Dev Cert.RefXIdeal.nD → PrngReg), Pre_KernelXIdeal m →
    (∀ c : Dev Cert.KernelXIdeal.nD,
      m' ((c.tc : Thread Cert.RefXIdeal.nD Cert.RefXIdeal.τ).loc Cert.RefXIdeal.main_arg0) = m ((c.tc : Thread Cert.KernelXIdeal.nD Cert.KernelXIdeal.τ).loc Cert.KernelXIdeal.main_arg0)
      ∧ m' ((c.tc : Thread Cert.RefXIdeal.nD Cert.RefXIdeal.τ).loc Cert.RefXIdeal.main_arg1) = m ((c.tc : Thread Cert.KernelXIdeal.nD Cert.KernelXIdeal.τ).loc Cert.KernelXIdeal.main_arg1)
      ∧ m' ((c.tc : Thread Cert.RefXIdeal.nD Cert.RefXIdeal.τ).loc Cert.RefXIdeal.main_arg2) = m ((c.tc : Thread Cert.KernelXIdeal.nD Cert.KernelXIdeal.τ).loc Cert.KernelXIdeal.main_arg2)
      ∧ m' ((c.tc : Thread Cert.RefXIdeal.nD Cert.RefXIdeal.τ).loc Cert.RefXIdeal.main_arg3) = m ((c.tc : Thread Cert.KernelXIdeal.nD Cert.KernelXIdeal.τ).loc Cert.KernelXIdeal.main_arg3)
      ∧ m' ((c.tc : Thread Cert.RefXIdeal.nD Cert.RefXIdeal.τ).loc Cert.RefXIdeal.main_arg4) = m ((c.tc : Thread Cert.KernelXIdeal.nD Cert.KernelXIdeal.τ).loc Cert.KernelXIdeal.main_arg4)
      ∧ m' ((c.tc : Thread Cert.RefXIdeal.nD Cert.RefXIdeal.τ).loc Cert.RefXIdeal.main_arg5) = m ((c.tc : Thread Cert.KernelXIdeal.nD Cert.KernelXIdeal.τ).loc Cert.KernelXIdeal.main_arg5)
      ∧ m' ((c.tc : Thread Cert.RefXIdeal.nD Cert.RefXIdeal.τ).loc Cert.RefXIdeal.main_arg6) = m ((c.tc : Thread Cert.KernelXIdeal.nD Cert.KernelXIdeal.τ).loc Cert.KernelXIdeal.main_arg6)
      ∧ m' ((c.tc : Thread Cert.RefXIdeal.nD Cert.RefXIdeal.τ).loc Cert.RefXIdeal.main_arg7) = m ((c.tc : Thread Cert.KernelXIdeal.nD Cert.KernelXIdeal.τ).loc Cert.KernelXIdeal.main_arg7)
      ∧ m' ((c.tc : Thread Cert.RefXIdeal.nD Cert.RefXIdeal.τ).loc Cert.RefXIdeal.main_arg8) = m ((c.tc : Thread Cert.KernelXIdeal.nD Cert.KernelXIdeal.τ).loc Cert.KernelXIdeal.main_arg8)
      ∧ m' ((c.tc : Thread Cert.RefXIdeal.nD Cert.RefXIdeal.τ).loc Cert.RefXIdeal.main_arg9) = m ((c.tc : Thread Cert.KernelXIdeal.nD Cert.KernelXIdeal.τ).loc Cert.KernelXIdeal.main_arg9)) →
    ∃ (v0 : (c : Dev Cert.KernelXIdeal.nD) → Buf (Elt Ideal) ((c.tc : Thread Cert.KernelXIdeal.nD Cert.KernelXIdeal.τ).loc Cert.KernelXIdeal.main_v0_0)) (v1 : (c : Dev Cert.KernelXIdeal.nD) → Buf (Elt Ideal) ((c.tc : Thread Cert.KernelXIdeal.nD Cert.KernelXIdeal.τ).loc Cert.KernelXIdeal.main_v0_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0_0) = v0 c
          ∧ r.2.mem ((c.tc : Thread Cert.KernelXIdeal.nD Cert.KernelXIdeal.τ).loc Cert.KernelXIdeal.main_v0_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
          ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
          ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
          ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
          ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
          ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8)
          ∧ r.2.mem ((c.tc : Thread Cert.KernelXIdeal.nD Cert.KernelXIdeal.τ).loc Cert.KernelXIdeal.main_arg9) = m ((c.tc : Thread Cert.KernelXIdeal.nD Cert.KernelXIdeal.τ).loc Cert.KernelXIdeal.main_arg9))
      ∧ θ_run (Cert.RefXIdeal.defs (F := Ideal)) (onTc (τ := Cert.RefXIdeal.τ) (Cert.RefXIdeal.main (F := Ideal))) ⟨m', fun _ => 0, g'⟩ (fun r => ∀ c : Dev Cert.RefXIdeal.nD,
          r.2.mem ((c.tc : Thread Cert.RefXIdeal.nD Cert.RefXIdeal.τ).loc Cert.RefXIdeal.main_v39) = v0 c
          ∧ r.2.mem ((c.tc : Thread Cert.RefXIdeal.nD Cert.RefXIdeal.τ).loc Cert.RefXIdeal.main_v22) = v1 c
          ∧ r.2.mem ((c.tc : Thread Cert.RefXIdeal.nD Cert.RefXIdeal.τ).loc Cert.RefXIdeal.main_arg0) = m' ((c.tc : Thread Cert.RefXIdeal.nD Cert.RefXIdeal.τ).loc Cert.RefXIdeal.main_arg0)
          ∧ r.2.mem ((c.tc : Thread Cert.RefXIdeal.nD Cert.RefXIdeal.τ).loc Cert.RefXIdeal.main_arg1) = m' ((c.tc : Thread Cert.RefXIdeal.nD Cert.RefXIdeal.τ).loc Cert.RefXIdeal.main_arg1)
          ∧ r.2.mem ((c.tc : Thread Cert.RefXIdeal.nD Cert.RefXIdeal.τ).loc Cert.RefXIdeal.main_arg2) = m' ((c.tc : Thread Cert.RefXIdeal.nD Cert.RefXIdeal.τ).loc Cert.RefXIdeal.main_arg2)
          ∧ r.2.mem ((c.tc : Thread Cert.RefXIdeal.nD Cert.RefXIdeal.τ).loc Cert.RefXIdeal.main_arg3) = m' ((c.tc : Thread Cert.RefXIdeal.nD Cert.RefXIdeal.τ).loc Cert.RefXIdeal.main_arg3)
          ∧ r.2.mem ((c.tc : Thread Cert.RefXIdeal.nD Cert.RefXIdeal.τ).loc Cert.RefXIdeal.main_arg4) = m' ((c.tc : Thread Cert.RefXIdeal.nD Cert.RefXIdeal.τ).loc Cert.RefXIdeal.main_arg4)
          ∧ r.2.mem ((c.tc : Thread Cert.RefXIdeal.nD Cert.RefXIdeal.τ).loc Cert.RefXIdeal.main_arg5) = m' ((c.tc : Thread Cert.RefXIdeal.nD Cert.RefXIdeal.τ).loc Cert.RefXIdeal.main_arg5)
          ∧ r.2.mem ((c.tc : Thread Cert.RefXIdeal.nD Cert.RefXIdeal.τ).loc Cert.RefXIdeal.main_arg6) = m' ((c.tc : Thread Cert.RefXIdeal.nD Cert.RefXIdeal.τ).loc Cert.RefXIdeal.main_arg6)
          ∧ r.2.mem ((c.tc : Thread Cert.RefXIdeal.nD Cert.RefXIdeal.τ).loc Cert.RefXIdeal.main_arg7) = m' ((c.tc : Thread Cert.RefXIdeal.nD Cert.RefXIdeal.τ).loc Cert.RefXIdeal.main_arg7)
          ∧ r.2.mem ((c.tc : Thread Cert.RefXIdeal.nD Cert.RefXIdeal.τ).loc Cert.RefXIdeal.main_arg8) = m' ((c.tc : Thread Cert.RefXIdeal.nD Cert.RefXIdeal.τ).loc Cert.RefXIdeal.main_arg8)
          ∧ r.2.mem ((c.tc : Thread Cert.RefXIdeal.nD Cert.RefXIdeal.τ).loc Cert.RefXIdeal.main_arg9) = m' ((c.tc : Thread Cert.RefXIdeal.nD Cert.RefXIdeal.τ).loc Cert.RefXIdeal.main_arg9))

def preserves_KernelW_KernelWIdeal : Prop :=
  True

def algebraic_KernelWIdeal_RefWIdeal [hKernelWIdeal : Cert.KernelWIdeal.Facts] [hRefWIdeal : Cert.RefWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.RefWIdeal.nD Cert.RefWIdeal.τ Cert.RefWIdeal.sig) → Buf (Elt Ideal) ℓ) (g' : Dev Cert.RefWIdeal.nD → PrngReg), Pre_KernelWIdeal m →
    (∀ c : Dev Cert.KernelWIdeal.nD,
      m' ((c.tc : Thread Cert.RefWIdeal.nD Cert.RefWIdeal.τ).loc Cert.RefWIdeal.main_arg0) = m ((c.tc : Thread Cert.KernelWIdeal.nD Cert.KernelWIdeal.τ).loc Cert.KernelWIdeal.main_arg0)
      ∧ m' ((c.tc : Thread Cert.RefWIdeal.nD Cert.RefWIdeal.τ).loc Cert.RefWIdeal.main_arg1) = m ((c.tc : Thread Cert.KernelWIdeal.nD Cert.KernelWIdeal.τ).loc Cert.KernelWIdeal.main_arg1)
      ∧ m' ((c.tc : Thread Cert.RefWIdeal.nD Cert.RefWIdeal.τ).loc Cert.RefWIdeal.main_arg2) = m ((c.tc : Thread Cert.KernelWIdeal.nD Cert.KernelWIdeal.τ).loc Cert.KernelWIdeal.main_arg2)
      ∧ m' ((c.tc : Thread Cert.RefWIdeal.nD Cert.RefWIdeal.τ).loc Cert.RefWIdeal.main_arg3) = m ((c.tc : Thread Cert.KernelWIdeal.nD Cert.KernelWIdeal.τ).loc Cert.KernelWIdeal.main_arg3)
      ∧ m' ((c.tc : Thread Cert.RefWIdeal.nD Cert.RefWIdeal.τ).loc Cert.RefWIdeal.main_arg4) = m ((c.tc : Thread Cert.KernelWIdeal.nD Cert.KernelWIdeal.τ).loc Cert.KernelWIdeal.main_arg4)
      ∧ m' ((c.tc : Thread Cert.RefWIdeal.nD Cert.RefWIdeal.τ).loc Cert.RefWIdeal.main_arg5) = m ((c.tc : Thread Cert.KernelWIdeal.nD Cert.KernelWIdeal.τ).loc Cert.KernelWIdeal.main_arg5)
      ∧ m' ((c.tc : Thread Cert.RefWIdeal.nD Cert.RefWIdeal.τ).loc Cert.RefWIdeal.main_arg6) = m ((c.tc : Thread Cert.KernelWIdeal.nD Cert.KernelWIdeal.τ).loc Cert.KernelWIdeal.main_arg6)
      ∧ m' ((c.tc : Thread Cert.RefWIdeal.nD Cert.RefWIdeal.τ).loc Cert.RefWIdeal.main_arg7) = m ((c.tc : Thread Cert.KernelWIdeal.nD Cert.KernelWIdeal.τ).loc Cert.KernelWIdeal.main_arg7)) →
    ∃ (v0 : (c : Dev Cert.KernelWIdeal.nD) → Buf (Elt Ideal) ((c.tc : Thread Cert.KernelWIdeal.nD Cert.KernelWIdeal.τ).loc Cert.KernelWIdeal.main_v13)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v13) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
          ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
          ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
          ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
          ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
          ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
          ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7))
      ∧ θ_run (Cert.RefWIdeal.defs (F := Ideal)) (onTc (τ := Cert.RefWIdeal.τ) (Cert.RefWIdeal.main (F := Ideal))) ⟨m', fun _ => 0, g'⟩ (fun r => ∀ c : Dev Cert.RefWIdeal.nD,
          r.2.mem ((c.tc : Thread Cert.RefWIdeal.nD Cert.RefWIdeal.τ).loc Cert.RefWIdeal.main_v17) = v0 c
          ∧ r.2.mem ((c.tc : Thread Cert.RefWIdeal.nD Cert.RefWIdeal.τ).loc Cert.RefWIdeal.main_arg0) = m' ((c.tc : Thread Cert.RefWIdeal.nD Cert.RefWIdeal.τ).loc Cert.RefWIdeal.main_arg0)
          ∧ r.2.mem ((c.tc : Thread Cert.RefWIdeal.nD Cert.RefWIdeal.τ).loc Cert.RefWIdeal.main_arg1) = m' ((c.tc : Thread Cert.RefWIdeal.nD Cert.RefWIdeal.τ).loc Cert.RefWIdeal.main_arg1)
          ∧ r.2.mem ((c.tc : Thread Cert.RefWIdeal.nD Cert.RefWIdeal.τ).loc Cert.RefWIdeal.main_arg2) = m' ((c.tc : Thread Cert.RefWIdeal.nD Cert.RefWIdeal.τ).loc Cert.RefWIdeal.main_arg2)
          ∧ r.2.mem ((c.tc : Thread Cert.RefWIdeal.nD Cert.RefWIdeal.τ).loc Cert.RefWIdeal.main_arg3) = m' ((c.tc : Thread Cert.RefWIdeal.nD Cert.RefWIdeal.τ).loc Cert.RefWIdeal.main_arg3)
          ∧ r.2.mem ((c.tc : Thread Cert.RefWIdeal.nD Cert.RefWIdeal.τ).loc Cert.RefWIdeal.main_arg4) = m' ((c.tc : Thread Cert.RefWIdeal.nD Cert.RefWIdeal.τ).loc Cert.RefWIdeal.main_arg4)
          ∧ r.2.mem ((c.tc : Thread Cert.RefWIdeal.nD Cert.RefWIdeal.τ).loc Cert.RefWIdeal.main_arg5) = m' ((c.tc : Thread Cert.RefWIdeal.nD Cert.RefWIdeal.τ).loc Cert.RefWIdeal.main_arg5)
          ∧ r.2.mem ((c.tc : Thread Cert.RefWIdeal.nD Cert.RefWIdeal.τ).loc Cert.RefWIdeal.main_arg6) = m' ((c.tc : Thread Cert.RefWIdeal.nD Cert.RefWIdeal.τ).loc Cert.RefWIdeal.main_arg6)
          ∧ r.2.mem ((c.tc : Thread Cert.RefWIdeal.nD Cert.RefWIdeal.τ).loc Cert.RefWIdeal.main_arg7) = m' ((c.tc : Thread Cert.RefWIdeal.nD Cert.RefWIdeal.τ).loc Cert.RefWIdeal.main_arg7))

def preserves_KernelO_KernelOIdeal : Prop :=
  True

def algebraic_KernelOIdeal_RefOIdeal [hKernelOIdeal : Cert.KernelOIdeal.Facts] [hRefOIdeal : Cert.RefOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.RefOIdeal.nD Cert.RefOIdeal.τ Cert.RefOIdeal.sig) → Buf (Elt Ideal) ℓ) (g' : Dev Cert.RefOIdeal.nD → PrngReg), Pre_KernelOIdeal m →
    (∀ c : Dev Cert.KernelOIdeal.nD,
      m' ((c.tc : Thread Cert.RefOIdeal.nD Cert.RefOIdeal.τ).loc Cert.RefOIdeal.main_arg0) = m ((c.tc : Thread Cert.KernelOIdeal.nD Cert.KernelOIdeal.τ).loc Cert.KernelOIdeal.main_arg0)
      ∧ m' ((c.tc : Thread Cert.RefOIdeal.nD Cert.RefOIdeal.τ).loc Cert.RefOIdeal.main_arg1) = m ((c.tc : Thread Cert.KernelOIdeal.nD Cert.KernelOIdeal.τ).loc Cert.KernelOIdeal.main_arg1)
      ∧ m' ((c.tc : Thread Cert.RefOIdeal.nD Cert.RefOIdeal.τ).loc Cert.RefOIdeal.main_arg2) = m ((c.tc : Thread Cert.KernelOIdeal.nD Cert.KernelOIdeal.τ).loc Cert.KernelOIdeal.main_arg2)
      ∧ m' ((c.tc : Thread Cert.RefOIdeal.nD Cert.RefOIdeal.τ).loc Cert.RefOIdeal.main_arg3) = m ((c.tc : Thread Cert.KernelOIdeal.nD Cert.KernelOIdeal.τ).loc Cert.KernelOIdeal.main_arg3)
      ∧ m' ((c.tc : Thread Cert.RefOIdeal.nD Cert.RefOIdeal.τ).loc Cert.RefOIdeal.main_arg4) = m ((c.tc : Thread Cert.KernelOIdeal.nD Cert.KernelOIdeal.τ).loc Cert.KernelOIdeal.main_arg4)
      ∧ m' ((c.tc : Thread Cert.RefOIdeal.nD Cert.RefOIdeal.τ).loc Cert.RefOIdeal.main_arg5) = m ((c.tc : Thread Cert.KernelOIdeal.nD Cert.KernelOIdeal.τ).loc Cert.KernelOIdeal.main_arg5)) →
    ∃ (v0 : (c : Dev Cert.KernelOIdeal.nD) → Buf (Elt Ideal) ((c.tc : Thread Cert.KernelOIdeal.nD Cert.KernelOIdeal.τ).loc Cert.KernelOIdeal.main_v0_0)) (v1 : (c : Dev Cert.KernelOIdeal.nD) → Buf (Elt Ideal) ((c.tc : Thread Cert.KernelOIdeal.nD Cert.KernelOIdeal.τ).loc Cert.KernelOIdeal.main_v0_1)) (v2 : (c : Dev Cert.KernelOIdeal.nD) → Buf (Elt Ideal) ((c.tc : Thread Cert.KernelOIdeal.nD Cert.KernelOIdeal.τ).loc Cert.KernelOIdeal.main_v0_2)) (v3 : (c : Dev Cert.KernelOIdeal.nD) → Buf (Elt Ideal) ((c.tc : Thread Cert.KernelOIdeal.nD Cert.KernelOIdeal.τ).loc Cert.KernelOIdeal.main_v0_3)) (v4 : (c : Dev Cert.KernelOIdeal.nD) → Buf (Elt Ideal) ((c.tc : Thread Cert.KernelOIdeal.nD Cert.KernelOIdeal.τ).loc Cert.KernelOIdeal.main_v0_4)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0_0) = v0 c
          ∧ r.2.mem ((c.tc : Thread Cert.KernelOIdeal.nD Cert.KernelOIdeal.τ).loc Cert.KernelOIdeal.main_v0_1) = v1 c
          ∧ r.2.mem ((c.tc : Thread Cert.KernelOIdeal.nD Cert.KernelOIdeal.τ).loc Cert.KernelOIdeal.main_v0_2) = v2 c
          ∧ r.2.mem ((c.tc : Thread Cert.KernelOIdeal.nD Cert.KernelOIdeal.τ).loc Cert.KernelOIdeal.main_v0_3) = v3 c
          ∧ r.2.mem ((c.tc : Thread Cert.KernelOIdeal.nD Cert.KernelOIdeal.τ).loc Cert.KernelOIdeal.main_v0_4) = v4 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ θ_run (Cert.RefOIdeal.defs (F := Ideal)) (onTc (τ := Cert.RefOIdeal.τ) (Cert.RefOIdeal.main (F := Ideal))) ⟨m', fun _ => 0, g'⟩ (fun r => ∀ c : Dev Cert.RefOIdeal.nD,
          r.2.mem ((c.tc : Thread Cert.RefOIdeal.nD Cert.RefOIdeal.τ).loc Cert.RefOIdeal.main_v6) = v0 c
          ∧ r.2.mem ((c.tc : Thread Cert.RefOIdeal.nD Cert.RefOIdeal.τ).loc Cert.RefOIdeal.main_v7) = v1 c
          ∧ r.2.mem ((c.tc : Thread Cert.RefOIdeal.nD Cert.RefOIdeal.τ).loc Cert.RefOIdeal.main_v8) = v2 c
          ∧ r.2.mem ((c.tc : Thread Cert.RefOIdeal.nD Cert.RefOIdeal.τ).loc Cert.RefOIdeal.main_v9) = v3 c
          ∧ r.2.mem ((c.tc : Thread Cert.RefOIdeal.nD Cert.RefOIdeal.τ).loc Cert.RefOIdeal.main_v4) = v4 c
          ∧ r.2.mem ((c.tc : Thread Cert.RefOIdeal.nD Cert.RefOIdeal.τ).loc Cert.RefOIdeal.main_arg0) = m' ((c.tc : Thread Cert.RefOIdeal.nD Cert.RefOIdeal.τ).loc Cert.RefOIdeal.main_arg0)
          ∧ r.2.mem ((c.tc : Thread Cert.RefOIdeal.nD Cert.RefOIdeal.τ).loc Cert.RefOIdeal.main_arg1) = m' ((c.tc : Thread Cert.RefOIdeal.nD Cert.RefOIdeal.τ).loc Cert.RefOIdeal.main_arg1)
          ∧ r.2.mem ((c.tc : Thread Cert.RefOIdeal.nD Cert.RefOIdeal.τ).loc Cert.RefOIdeal.main_arg2) = m' ((c.tc : Thread Cert.RefOIdeal.nD Cert.RefOIdeal.τ).loc Cert.RefOIdeal.main_arg2)
          ∧ r.2.mem ((c.tc : Thread Cert.RefOIdeal.nD Cert.RefOIdeal.τ).loc Cert.RefOIdeal.main_arg3) = m' ((c.tc : Thread Cert.RefOIdeal.nD Cert.RefOIdeal.τ).loc Cert.RefOIdeal.main_arg3)
          ∧ r.2.mem ((c.tc : Thread Cert.RefOIdeal.nD Cert.RefOIdeal.τ).loc Cert.RefOIdeal.main_arg4) = m' ((c.tc : Thread Cert.RefOIdeal.nD Cert.RefOIdeal.τ).loc Cert.RefOIdeal.main_arg4)
          ∧ r.2.mem ((c.tc : Thread Cert.RefOIdeal.nD Cert.RefOIdeal.τ).loc Cert.RefOIdeal.main_arg5) = m' ((c.tc : Thread Cert.RefOIdeal.nD Cert.RefOIdeal.τ).loc Cert.RefOIdeal.main_arg5))

def preserves_KernelIn_KernelInIdeal : Prop :=
  True

def algebraic_KernelInIdeal_RefInIdeal [hKernelInIdeal : Cert.KernelInIdeal.Facts] [hRefInIdeal : Cert.RefInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.RefInIdeal.nD Cert.RefInIdeal.τ Cert.RefInIdeal.sig) → Buf (Elt Ideal) ℓ) (g' : Dev Cert.RefInIdeal.nD → PrngReg), Pre_KernelInIdeal m →
    (∀ c : Dev Cert.KernelInIdeal.nD,
      m' ((c.tc : Thread Cert.RefInIdeal.nD Cert.RefInIdeal.τ).loc Cert.RefInIdeal.main_arg0) = m ((c.tc : Thread Cert.KernelInIdeal.nD Cert.KernelInIdeal.τ).loc Cert.KernelInIdeal.main_arg0)
      ∧ m' ((c.tc : Thread Cert.RefInIdeal.nD Cert.RefInIdeal.τ).loc Cert.RefInIdeal.main_arg1) = m ((c.tc : Thread Cert.KernelInIdeal.nD Cert.KernelInIdeal.τ).loc Cert.KernelInIdeal.main_arg1)
      ∧ m' ((c.tc : Thread Cert.RefInIdeal.nD Cert.RefInIdeal.τ).loc Cert.RefInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v13) = v0 c
          ∧ r.2.mem ((c.tc : Thread Cert.RefInIdeal.nD Cert.RefInIdeal.τ).loc Cert.RefInIdeal.main_v14) = v1 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2))

def preserves_KernelOut_KernelOutIdeal : Prop :=
  True

def algebraic_KernelOutIdeal_RefOutIdeal [hKernelOutIdeal : Cert.KernelOutIdeal.Facts] [hRefOutIdeal : Cert.RefOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_KernelOutIdeal m →
    (∀ c : Dev Cert.KernelOutIdeal.nD,
      m' ((c.tc : Thread Cert.RefOutIdeal.nD Cert.RefOutIdeal.τ).loc Cert.RefOutIdeal.main_arg0) = m ((c.tc : Thread Cert.KernelOutIdeal.nD Cert.KernelOutIdeal.τ).loc Cert.KernelOutIdeal.main_arg0)
      ∧ m' ((c.tc : Thread Cert.RefOutIdeal.nD Cert.RefOutIdeal.τ).loc Cert.RefOutIdeal.main_arg1) = m ((c.tc : Thread Cert.KernelOutIdeal.nD Cert.KernelOutIdeal.τ).loc Cert.KernelOutIdeal.main_arg1)
      ∧ m' ((c.tc : Thread Cert.RefOutIdeal.nD Cert.RefOutIdeal.τ).loc Cert.RefOutIdeal.main_arg2) = m ((c.tc : Thread Cert.KernelOutIdeal.nD Cert.KernelOutIdeal.τ).loc Cert.KernelOutIdeal.main_arg2)
      ∧ m' ((c.tc : Thread Cert.RefOutIdeal.nD Cert.RefOutIdeal.τ).loc Cert.RefOutIdeal.main_arg3) = m ((c.tc : Thread Cert.KernelOutIdeal.nD Cert.KernelOutIdeal.τ).loc Cert.KernelOutIdeal.main_arg3)
      ∧ m' ((c.tc : Thread Cert.RefOutIdeal.nD Cert.RefOutIdeal.τ).loc Cert.RefOutIdeal.main_arg4) = m ((c.tc : Thread Cert.KernelOutIdeal.nD Cert.KernelOutIdeal.τ).loc Cert.KernelOutIdeal.main_arg4)
      ∧ m' ((c.tc : Thread Cert.RefOutIdeal.nD Cert.RefOutIdeal.τ).loc Cert.RefOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v3) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5))

def preserves_KernelLoss_KernelLossIdeal : Prop :=
  True

def algebraic_KernelLossIdeal_RefLossIdeal [hKernelLossIdeal : Cert.KernelLossIdeal.Facts] [hRefLossIdeal : Cert.RefLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_KernelLossIdeal m →
    (∀ c : Dev Cert.KernelLossIdeal.nD,
      m' ((c.tc : Thread Cert.RefLossIdeal.nD Cert.RefLossIdeal.τ).loc Cert.RefLossIdeal.main_arg0) = m ((c.tc : Thread Cert.KernelLossIdeal.nD Cert.KernelLossIdeal.τ).loc Cert.KernelLossIdeal.main_arg0)
      ∧ m' ((c.tc : Thread Cert.RefLossIdeal.nD Cert.RefLossIdeal.τ).loc Cert.RefLossIdeal.main_arg1) = m ((c.tc : Thread Cert.KernelLossIdeal.nD Cert.KernelLossIdeal.τ).loc Cert.KernelLossIdeal.main_arg1)
      ∧ m' ((c.tc : Thread Cert.RefLossIdeal.nD Cert.RefLossIdeal.τ).loc Cert.RefLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v48) = v0 c
          ∧ r.2.mem ((c.tc : Thread Cert.RefLossIdeal.nD Cert.RefLossIdeal.τ).loc Cert.RefLossIdeal.main_v32) = v1 c
          ∧ r.2.mem ((c.tc : Thread Cert.RefLossIdeal.nD Cert.RefLossIdeal.τ).loc Cert.RefLossIdeal.main_v49) = v2 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1)
          ∧ r.2.mem ((c.tc : Thread Cert.RefLossIdeal.nD Cert.RefLossIdeal.τ).loc Cert.RefLossIdeal.main_arg2) = m' ((c.tc : Thread Cert.RefLossIdeal.nD Cert.RefLossIdeal.τ).loc Cert.RefLossIdeal.main_arg2))

def preserves_KernelAC_KernelACIdeal : Prop :=
  True

def algebraic_KernelACIdeal_RefACIdeal [hKernelACIdeal : Cert.KernelACIdeal.Facts] [hRefACIdeal : Cert.RefACIdeal.Facts] : Prop :=
  ∀ (m : (ℓ : Loc Cert.KernelACIdeal.nD Cert.KernelACIdeal.τ Cert.KernelACIdeal.sig) → Buf (Elt Ideal) ℓ) (g : Dev Cert.KernelACIdeal.nD → PrngReg)
    (m' : (ℓ : Loc Cert.RefACIdeal.nD Cert.RefACIdeal.τ Cert.RefACIdeal.sig) → Buf (Elt Ideal) ℓ) (g' : Dev Cert.RefACIdeal.nD → PrngReg), Pre_KernelACIdeal m →
    (∀ c : Dev Cert.KernelACIdeal.nD,
      m' ((c.tc : Thread Cert.RefACIdeal.nD Cert.RefACIdeal.τ).loc Cert.RefACIdeal.main_arg0) = m ((c.tc : Thread Cert.KernelACIdeal.nD Cert.KernelACIdeal.τ).loc Cert.KernelACIdeal.main_arg0)
      ∧ m' ((c.tc : Thread Cert.RefACIdeal.nD Cert.RefACIdeal.τ).loc Cert.RefACIdeal.main_arg1) = m ((c.tc : Thread Cert.KernelACIdeal.nD Cert.KernelACIdeal.τ).loc Cert.KernelACIdeal.main_arg1)
      ∧ m' ((c.tc : Thread Cert.RefACIdeal.nD Cert.RefACIdeal.τ).loc Cert.RefACIdeal.main_arg2) = m ((c.tc : Thread Cert.KernelACIdeal.nD Cert.KernelACIdeal.τ).loc Cert.KernelACIdeal.main_arg2)
      ∧ m' ((c.tc : Thread Cert.RefACIdeal.nD Cert.RefACIdeal.τ).loc Cert.RefACIdeal.main_arg3) = m ((c.tc : Thread Cert.KernelACIdeal.nD Cert.KernelACIdeal.τ).loc Cert.KernelACIdeal.main_arg3)
      ∧ m' ((c.tc : Thread Cert.RefACIdeal.nD Cert.RefACIdeal.τ).loc Cert.RefACIdeal.main_arg4) = m ((c.tc : Thread Cert.KernelACIdeal.nD Cert.KernelACIdeal.τ).loc Cert.KernelACIdeal.main_arg4)
      ∧ m' ((c.tc : Thread Cert.RefACIdeal.nD Cert.RefACIdeal.τ).loc Cert.RefACIdeal.main_arg5) = m ((c.tc : Thread Cert.KernelACIdeal.nD Cert.KernelACIdeal.τ).loc Cert.KernelACIdeal.main_arg5)
      ∧ m' ((c.tc : Thread Cert.RefACIdeal.nD Cert.RefACIdeal.τ).loc Cert.RefACIdeal.main_arg6) = m ((c.tc : Thread Cert.KernelACIdeal.nD Cert.KernelACIdeal.τ).loc Cert.KernelACIdeal.main_arg6)
      ∧ m' ((c.tc : Thread Cert.RefACIdeal.nD Cert.RefACIdeal.τ).loc Cert.RefACIdeal.main_arg7) = m ((c.tc : Thread Cert.KernelACIdeal.nD Cert.KernelACIdeal.τ).loc Cert.KernelACIdeal.main_arg7)) →
    ∃ (v0 : (c : Dev Cert.KernelACIdeal.nD) → Buf (Elt Ideal) ((c.tc : Thread Cert.KernelACIdeal.nD Cert.KernelACIdeal.τ).loc Cert.KernelACIdeal.main_v3_0)) (v1 : (c : Dev Cert.KernelACIdeal.nD) → Buf (Elt Ideal) ((c.tc : Thread Cert.KernelACIdeal.nD Cert.KernelACIdeal.τ).loc Cert.KernelACIdeal.main_v3_1)),
      θ_run (Cert.KernelACIdeal.defs (F := Ideal)) (onTc (τ := Cert.KernelACIdeal.τ) (Cert.KernelACIdeal.main (F := Ideal))) ⟨m, fun _ => 0, g⟩ (fun r => ∀ c : Dev Cert.KernelACIdeal.nD,
          r.2.mem ((c.tc : Thread Cert.KernelACIdeal.nD Cert.KernelACIdeal.τ).loc Cert.KernelACIdeal.main_v3_0) = v0 c
          ∧ r.2.mem ((c.tc : Thread Cert.KernelACIdeal.nD Cert.KernelACIdeal.τ).loc Cert.KernelACIdeal.main_v3_1) = v1 c
          ∧ r.2.mem ((c.tc : Thread Cert.KernelACIdeal.nD Cert.KernelACIdeal.τ).loc Cert.KernelACIdeal.main_arg0) = m ((c.tc : Thread Cert.KernelACIdeal.nD Cert.KernelACIdeal.τ).loc Cert.KernelACIdeal.main_arg0)
          ∧ r.2.mem ((c.tc : Thread Cert.KernelACIdeal.nD Cert.KernelACIdeal.τ).loc Cert.KernelACIdeal.main_arg1) = m ((c.tc : Thread Cert.KernelACIdeal.nD Cert.KernelACIdeal.τ).loc Cert.KernelACIdeal.main_arg1)
          ∧ r.2.mem ((c.tc : Thread Cert.KernelACIdeal.nD Cert.KernelACIdeal.τ).loc Cert.KernelACIdeal.main_arg2) = m ((c.tc : Thread Cert.KernelACIdeal.nD Cert.KernelACIdeal.τ).loc Cert.KernelACIdeal.main_arg2)
          ∧ r.2.mem ((c.tc : Thread Cert.KernelACIdeal.nD Cert.KernelACIdeal.τ).loc Cert.KernelACIdeal.main_arg3) = m ((c.tc : Thread Cert.KernelACIdeal.nD Cert.KernelACIdeal.τ).loc Cert.KernelACIdeal.main_arg3)
          ∧ r.2.mem ((c.tc : Thread Cert.KernelACIdeal.nD Cert.KernelACIdeal.τ).loc Cert.KernelACIdeal.main_arg4) = m ((c.tc : Thread Cert.KernelACIdeal.nD Cert.KernelACIdeal.τ).loc Cert.KernelACIdeal.main_arg4)
          ∧ r.2.mem ((c.tc : Thread Cert.KernelACIdeal.nD Cert.KernelACIdeal.τ).loc Cert.KernelACIdeal.main_arg5) = m ((c.tc : Thread Cert.KernelACIdeal.nD Cert.KernelACIdeal.τ).loc Cert.KernelACIdeal.main_arg5)
          ∧ r.2.mem ((c.tc : Thread Cert.KernelACIdeal.nD Cert.KernelACIdeal.τ).loc Cert.KernelACIdeal.main_arg6) = m ((c.tc : Thread Cert.KernelACIdeal.nD Cert.KernelACIdeal.τ).loc Cert.KernelACIdeal.main_arg6)
          ∧ r.2.mem ((c.tc : Thread Cert.KernelACIdeal.nD Cert.KernelACIdeal.τ).loc Cert.KernelACIdeal.main_arg7) = m ((c.tc : Thread Cert.KernelACIdeal.nD Cert.KernelACIdeal.τ).loc Cert.KernelACIdeal.main_arg7))
      ∧ θ_run (Cert.RefACIdeal.defs (F := Ideal)) (onTc (τ := Cert.RefACIdeal.τ) (Cert.RefACIdeal.main (F := Ideal))) ⟨m', fun _ => 0, g'⟩ (fun r => ∀ c : Dev Cert.RefACIdeal.nD,
          r.2.mem ((c.tc : Thread Cert.RefACIdeal.nD Cert.RefACIdeal.τ).loc Cert.RefACIdeal.main_v197) = v0 c
          ∧ r.2.mem ((c.tc : Thread Cert.RefACIdeal.nD Cert.RefACIdeal.τ).loc Cert.RefACIdeal.main_v217) = v1 c
          ∧ r.2.mem ((c.tc : Thread Cert.RefACIdeal.nD Cert.RefACIdeal.τ).loc Cert.RefACIdeal.main_arg0) = m' ((c.tc : Thread Cert.RefACIdeal.nD Cert.RefACIdeal.τ).loc Cert.RefACIdeal.main_arg0)
          ∧ r.2.mem ((c.tc : Thread Cert.RefACIdeal.nD Cert.RefACIdeal.τ).loc Cert.RefACIdeal.main_arg1) = m' ((c.tc : Thread Cert.RefACIdeal.nD Cert.RefACIdeal.τ).loc Cert.RefACIdeal.main_arg1)
          ∧ r.2.mem ((c.tc : Thread Cert.RefACIdeal.nD Cert.RefACIdeal.τ).loc Cert.RefACIdeal.main_arg2) = m' ((c.tc : Thread Cert.RefACIdeal.nD Cert.RefACIdeal.τ).loc Cert.RefACIdeal.main_arg2)
          ∧ r.2.mem ((c.tc : Thread Cert.RefACIdeal.nD Cert.RefACIdeal.τ).loc Cert.RefACIdeal.main_arg3) = m' ((c.tc : Thread Cert.RefACIdeal.nD Cert.RefACIdeal.τ).loc Cert.RefACIdeal.main_arg3)
          ∧ r.2.mem ((c.tc : Thread Cert.RefACIdeal.nD Cert.RefACIdeal.τ).loc Cert.RefACIdeal.main_arg4) = m' ((c.tc : Thread Cert.RefACIdeal.nD Cert.RefACIdeal.τ).loc Cert.RefACIdeal.main_arg4)
          ∧ r.2.mem ((c.tc : Thread Cert.RefACIdeal.nD Cert.RefACIdeal.τ).loc Cert.RefACIdeal.main_arg5) = m' ((c.tc : Thread Cert.RefACIdeal.nD Cert.RefACIdeal.τ).loc Cert.RefACIdeal.main_arg5)
          ∧ r.2.mem ((c.tc : Thread Cert.RefACIdeal.nD Cert.RefACIdeal.τ).loc Cert.RefACIdeal.main_arg6) = m' ((c.tc : Thread Cert.RefACIdeal.nD Cert.RefACIdeal.τ).loc Cert.RefACIdeal.main_arg6)
          ∧ r.2.mem ((c.tc : Thread Cert.RefACIdeal.nD Cert.RefACIdeal.τ).loc Cert.RefACIdeal.main_arg7) = m' ((c.tc : Thread Cert.RefACIdeal.nD Cert.RefACIdeal.τ).loc Cert.RefACIdeal.main_arg7))

def Claim : Prop :=
  ∃ (hKernel : Cert.Kernel.Facts) (hKernelIdeal : Cert.KernelIdeal.Facts) (hReferenceIdeal : Cert.ReferenceIdeal.Facts) (hKernelX : Cert.KernelX.Facts) (hKernelXIdeal : Cert.KernelXIdeal.Facts) (hRefXIdeal : Cert.RefXIdeal.Facts) (hKernelW : Cert.KernelW.Facts) (hKernelWIdeal : Cert.KernelWIdeal.Facts) (hRefWIdeal : Cert.RefWIdeal.Facts) (hKernelO : Cert.KernelO.Facts) (hKernelOIdeal : Cert.KernelOIdeal.Facts) (hRefOIdeal : Cert.RefOIdeal.Facts) (hKernelIn : Cert.KernelIn.Facts) (hKernelInIdeal : Cert.KernelInIdeal.Facts) (hRefInIdeal : Cert.RefInIdeal.Facts) (hKernelOut : Cert.KernelOut.Facts) (hKernelOutIdeal : Cert.KernelOutIdeal.Facts) (hRefOutIdeal : Cert.RefOutIdeal.Facts) (hKernelLoss : Cert.KernelLoss.Facts) (hKernelLossIdeal : Cert.KernelLossIdeal.Facts) (hRefLossIdeal : Cert.RefLossIdeal.Facts) (hKernelAC : Cert.KernelAC.Facts) (hKernelACIdeal : Cert.KernelACIdeal.Facts) (hRefACIdeal : Cert.RefACIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelX (hKernelX := hKernelX)
    ∧ quiescent_KernelXIdeal (hKernelXIdeal := hKernelXIdeal)
    ∧ quiescent_RefXIdeal (hRefXIdeal := hRefXIdeal)
    ∧ quiescent_KernelW (hKernelW := hKernelW)
    ∧ quiescent_KernelWIdeal (hKernelWIdeal := hKernelWIdeal)
    ∧ quiescent_RefWIdeal (hRefWIdeal := hRefWIdeal)
    ∧ quiescent_KernelO (hKernelO := hKernelO)
    ∧ quiescent_KernelOIdeal (hKernelOIdeal := hKernelOIdeal)
    ∧ quiescent_RefOIdeal (hRefOIdeal := hRefOIdeal)
    ∧ quiescent_KernelIn (hKernelIn := hKernelIn)
    ∧ quiescent_KernelInIdeal (hKernelInIdeal := hKernelInIdeal)
    ∧ quiescent_RefInIdeal (hRefInIdeal := hRefInIdeal)
    ∧ quiescent_KernelOut (hKernelOut := hKernelOut)
    ∧ quiescent_KernelOutIdeal (hKernelOutIdeal := hKernelOutIdeal)
    ∧ quiescent_RefOutIdeal (hRefOutIdeal := hRefOutIdeal)
    ∧ quiescent_KernelLoss (hKernelLoss := hKernelLoss)
    ∧ quiescent_KernelLossIdeal (hKernelLossIdeal := hKernelLossIdeal)
    ∧ quiescent_RefLossIdeal (hRefLossIdeal := hRefLossIdeal)
    ∧ quiescent_KernelAC (hKernelAC := hKernelAC)
    ∧ quiescent_KernelACIdeal (hKernelACIdeal := hKernelACIdeal)
    ∧ quiescent_RefACIdeal (hRefACIdeal := hRefACIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelX_KernelXIdeal
    ∧ algebraic_KernelXIdeal_RefXIdeal (hKernelXIdeal := hKernelXIdeal) (hRefXIdeal := hRefXIdeal)
    ∧ preserves_KernelW_KernelWIdeal
    ∧ algebraic_KernelWIdeal_RefWIdeal (hKernelWIdeal := hKernelWIdeal) (hRefWIdeal := hRefWIdeal)
    ∧ preserves_KernelO_KernelOIdeal
    ∧ algebraic_KernelOIdeal_RefOIdeal (hKernelOIdeal := hKernelOIdeal) (hRefOIdeal := hRefOIdeal)
    ∧ preserves_KernelIn_KernelInIdeal
    ∧ algebraic_KernelInIdeal_RefInIdeal (hKernelInIdeal := hKernelInIdeal) (hRefInIdeal := hRefInIdeal)
    ∧ preserves_KernelOut_KernelOutIdeal
    ∧ algebraic_KernelOutIdeal_RefOutIdeal (hKernelOutIdeal := hKernelOutIdeal) (hRefOutIdeal := hRefOutIdeal)
    ∧ preserves_KernelLoss_KernelLossIdeal
    ∧ algebraic_KernelLossIdeal_RefLossIdeal (hKernelLossIdeal := hKernelLossIdeal) (hRefLossIdeal := hRefLossIdeal)
    ∧ preserves_KernelAC_KernelACIdeal
    ∧ algebraic_KernelACIdeal_RefACIdeal (hKernelACIdeal := hKernelACIdeal) (hRefACIdeal := hRefACIdeal)
-- ==== Pre_finite.lean ====
abbrev S4096x3456 : Shape := ⟨2, ![4096, 3456]⟩
abbrev S31x256 : Shape := ⟨2, ![31, 256]⟩
abbrev S1x256 : Shape := ⟨2, ![1, 256]⟩
abbrev S256x256 : Shape := ⟨2, ![256, 256]⟩
abbrev S3x256 : Shape := ⟨2, ![3, 256]⟩
abbrev S4096x256 : Shape := ⟨2, ![4096, 256]⟩
abbrev S4096x768 : Shape := ⟨2, ![4096, 768]⟩
abbrev S_ : Shape := ⟨0, ![]⟩
abbrev S4096x1024 : Shape := ⟨2, ![4096, 1024]⟩

class Facts : Prop where
  slices_S4096x3456_S4096x768_0_0 : S4096x3456.Slices ![0, 0] S4096x768
  bcast_S_S4096x768 : S_.BroadcastsInDim S4096x768 (![] : Fin 0 → Fin S4096x768.rank)
  reducesTo_S4096x768_S_d0_1 : S4096x768.ReducesTo [0, 1] S_
  h_S_ : 0 < S_.numel
  slices_S4096x3456_S4096x1024_0_1280 : S4096x3456.Slices ![0, 1280] S4096x1024
  bcast_S_S4096x1024 : S_.BroadcastsInDim S4096x1024 (![] : Fin 0 → Fin S4096x1024.rank)
  reducesTo_S4096x1024_S_d0_1 : S4096x1024.ReducesTo [0, 1] S_
  bcast_S_S31x256 : S_.BroadcastsInDim S31x256 (![] : Fin 0 → Fin S31x256.rank)
  reducesTo_S31x256_S_d0_1 : S31x256.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S3x256 : S_.BroadcastsInDim S3x256 (![] : Fin 0 → Fin S3x256.rank)
  reducesTo_S3x256_S_d0_1 : S3x256.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn_part2 {F : FTy → Type} [FloatOps F] (main_arg7 : FVec F S3x256 .f32) (main_arg8 : FVec F S4096x256 .f32) (main_arg9 : FVec F S4096x256 .f32) (main_v30 : IVec S_ 1) (main_v33 : IVec S256x256 1) (main_c_11 : IVec S_ 1) : IVec S_ 1 :=
  let main_v34 : IVec S_ 1 := (fun x v => Host.reduce IntOp.andi x v reducesTo_S256x256_S_d0_1 h_S_) main_v33 main_c_11
  let main_v35 : IVec S_ 1 := andi main_v30 main_v34
  let main_v36 : FVec F S3x256 .f32 := Host.absf main_arg7
  let main_cst_12 : FVec F S_ .f32 := constant S_ .f32 0x7F800000#32
  let main_v37 : FVec F S3x256 .f32 := broadcastInDim S3x256 ![] bcast_S_S3x256 main_cst_12
  let main_v38 : IVec S3x256 1 := cmpf .olt main_v36 main_v37
  let main_c_13 : IVec S_ 1 := constantI S_ 1 1#1
  let main_v39 : IVec S_ 1 := (fun x v => Host.reduce IntOp.andi x v reducesTo_S3x256_S_d0_1 h_S_) main_v38 main_c_13
  let main_v40 : IVec S_ 1 := andi main_v35 main_v39
  let main_v41 : FVec F S4096x256 .f32 := Host.absf main_arg8
  let main_cst_14 : FVec F S_ .f32 := constant S_ .f32 0x7F800000#32
  let main_v42 : FVec F S4096x256 .f32 := broadcastInDim S4096x256 ![] bcast_S_S4096x256 main_cst_14
  let main_v43 : IVec S4096x256 1 := cmpf .olt main_v41 main_v42
  let main_c_15 : IVec S_ 1 := constantI S_ 1 1#1
  let main_v44 : IVec S_ 1 := (fun x v => Host.reduce IntOp.andi x v reducesTo_S4096x256_S_d0_1 h_S_) main_v43 main_c_15
  let main_v45 : IVec S_ 1 := andi main_v40 main_v44
  let main_v46 : FVec F S4096x256 .f32 := Host.absf main_arg9
  let main_cst_16 : FVec F S_ .f32 := constant S_ .f32 0x7F800000#32
  let main_v47 : FVec F S4096x256 .f32 := broadcastInDim S4096x256 ![] bcast_S_S4096x256 main_cst_16
  let main_v48 : IVec S4096x256 1 := cmpf .olt main_v46 main_v47
  let main_c_17 : IVec S_ 1 := constantI S_ 1 1#1
  let main_v49 : IVec S_ 1 := (fun x v => Host.reduce IntOp.andi x v reducesTo_S4096x256_S_d0_1 h_S_) main_v48 main_c_17
  let main_v50 : IVec S_ 1 := andi main_v45 main_v49
  main_v50

def fn_part1 {F : FTy → Type} [FloatOps F] (main_arg3 : FVec F S1x256 .f32) (main_arg4 : FVec F S1x256 .f32) (main_arg5 : FVec F S256x256 .f32) (main_arg7 : FVec F S3x256 .f32) (main_arg8 : FVec F S4096x256 .f32) (main_arg9 : FVec F S4096x256 .f32) (main_v15 : IVec S_ 1) (main_v16 : FVec F S1x256 .f32) (main_cst_4 : FVec F S_ .f32) : IVec S_ 1 :=
  let main_v17 : FVec F S1x256 .f32 := broadcastInDim S1x256 ![] bcast_S_S1x256 main_cst_4
  let main_v18 : IVec S1x256 1 := cmpf .olt main_v16 main_v17
  let main_c_5 : IVec S_ 1 := constantI S_ 1 1#1
  let main_v19 : IVec S_ 1 := (fun x v => Host.reduce IntOp.andi x v reducesTo_S1x256_S_d0_1 h_S_) main_v18 main_c_5
  let main_v20 : IVec S_ 1 := andi main_v15 main_v19
  let main_v21 : FVec F S1x256 .f32 := Host.absf main_arg3
  let main_cst_6 : FVec F S_ .f32 := constant S_ .f32 0x7F800000#32
  let main_v22 : FVec F S1x256 .f32 := broadcastInDim S1x256 ![] bcast_S_S1x256 main_cst_6
  let main_v23 : IVec S1x256 1 := cmpf .olt main_v21 main_v22
  let main_c_7 : IVec S_ 1 := constantI S_ 1 1#1
  let main_v24 : IVec S_ 1 := (fun x v => Host.reduce IntOp.andi x v reducesTo_S1x256_S_d0_1 h_S_) main_v23 main_c_7
  let main_v25 : IVec S_ 1 := andi main_v20 main_v24
  let main_v26 : FVec F S1x256 .f32 := Host.absf main_arg4
  let main_cst_8 : FVec F S_ .f32 := constant S_ .f32 0x7F800000#32
  let main_v27 : FVec F S1x256 .f32 := broadcastInDim S1x256 ![] bcast_S_S1x256 main_cst_8
  let main_v28 : IVec S1x256 1 := cmpf .olt main_v26 main_v27
  let main_c_9 : IVec S_ 1 := constantI S_ 1 1#1
  let main_v29 : IVec S_ 1 := (fun x v => Host.reduce IntOp.andi x v reducesTo_S1x256_S_d0_1 h_S_) main_v28 main_c_9
  let main_v30 : IVec S_ 1 := andi main_v25 main_v29
  let main_v31 : FVec F S256x256 .f32 := Host.absf main_arg5
  let main_cst_10 : FVec F S_ .f32 := constant S_ .f32 0x7F800000#32
  let main_v32 : FVec F S256x256 .f32 := broadcastInDim S256x256 ![] bcast_S_S256x256 main_cst_10
  let main_v33 : IVec S256x256 1 := cmpf .olt main_v31 main_v32
  let main_c_11 : IVec S_ 1 := constantI S_ 1 1#1
  fn_part2 (F := F) main_arg7 main_arg8 main_arg9 main_v30 main_v33 main_c_11

def fn {F : FTy → Type} [FloatOps F] (main_arg0 : FVec F S4096x3456 .f32) (main_arg1 : FVec F S31x256 .f32) (main_arg2 : FVec F S1x256 .f32) (main_arg3 : FVec F S1x256 .f32) (main_arg4 : FVec F S1x256 .f32) (main_arg5 : FVec F S256x256 .f32) (main_arg6 : FVec F S1x256 .f32) (main_arg7 : FVec F S3x256 .f32) (main_arg8 : FVec F S4096x256 .f32) (main_arg9 : FVec F S4096x256 .f32) : IVec S_ 1 :=
  let main_v0 : FVec F S4096x768 .f32 := (extractStridedSlice S4096x768 ![0, 0] · slices_S4096x3456_S4096x768_0_0) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_c : IVec S_ 1 := constantI S_ 1 1#1
  let main_v4 : IVec S_ 1 := (fun x v => Host.reduce IntOp.andi x v reducesTo_S4096x768_S_d0_1 h_S_) main_v3 main_c
  let main_v5 : FVec F S4096x1024 .f32 := (extractStridedSlice S4096x1024 ![0, 1280] · slices_S4096x3456_S4096x1024_0_1280) main_arg0
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S31x256 .f32 := Host.absf main_arg1
  let main_cst_2 : FVec F S_ .f32 := constant S_ .f32 0x7F800000#32
  let main_v12 : FVec F S31x256 .f32 := broadcastInDim S31x256 ![] bcast_S_S31x256 main_cst_2
  let main_v13 : IVec S31x256 1 := cmpf .olt main_v11 main_v12
  let main_c_3 : IVec S_ 1 := constantI S_ 1 1#1
  let main_v14 : IVec S_ 1 := (fun x v => Host.reduce IntOp.andi x v reducesTo_S31x256_S_d0_1 h_S_) main_v13 main_c_3
  let main_v15 : IVec S_ 1 := andi main_v10 main_v14
  let main_v16 : FVec F S1x256 .f32 := Host.absf main_arg2
  let main_cst_4 : FVec F S_ .f32 := constant S_ .f32 0x7F800000#32
  fn_part1 (F := F) main_arg3 main_arg4 main_arg5 main_arg7 main_arg8 main_arg9 main_v15 main_v16 main_cst_4
-- ==== Kernel.lean ====
abbrev S4096x3456 : Shape := ⟨2, ![4096, 3456]⟩
abbrev S31x256 : Shape := ⟨2, ![31, 256]⟩
abbrev S1x256 : Shape := ⟨2, ![1, 256]⟩
abbrev S256x256 : Shape := ⟨2, ![256, 256]⟩
abbrev S3x256 : Shape := ⟨2, ![3, 256]⟩
abbrev S4096x256 : Shape := ⟨2, ![4096, 256]⟩
abbrev S_ : Shape := ⟨0, ![]⟩
abbrev S32x256 : Shape := ⟨2, ![32, 256]⟩
abbrev S8x256 : Shape := ⟨2, ![8, 256]⟩
abbrev S4096x768 : Shape := ⟨2, ![4096, 768]⟩
abbrev S4096x1024 : Shape := ⟨2, ![4096, 1024]⟩
abbrev S512x256 : Shape := ⟨2, ![512, 256]⟩
abbrev S512x768 : Shape := ⟨2, ![512, 768]⟩
abbrev S512x1024 : Shape := ⟨2, ![512, 1024]⟩
abbrev S4x32x256 : Shape := ⟨3, ![4, 32, 256]⟩
abbrev S544x256 : Shape := ⟨2, ![544, 256]⟩
abbrev S542x256 : Shape := ⟨2, ![542, 256]⟩
abbrev S2x256 : Shape := ⟨2, ![2, 256]⟩
abbrev S541x256 : Shape := ⟨2, ![541, 256]⟩
abbrev S540x256 : Shape := ⟨2, ![540, 256]⟩
abbrev S4x256 : Shape := ⟨2, ![4, 256]⟩
abbrev S539x256 : Shape := ⟨2, ![539, 256]⟩
abbrev S5x256 : Shape := ⟨2, ![5, 256]⟩
abbrev S538x256 : Shape := ⟨2, ![538, 256]⟩
abbrev S6x256 : Shape := ⟨2, ![6, 256]⟩
abbrev S537x256 : Shape := ⟨2, ![537, 256]⟩
abbrev S7x256 : Shape := ⟨2, ![7, 256]⟩
abbrev S536x256 : Shape := ⟨2, ![536, 256]⟩
abbrev S535x256 : Shape := ⟨2, ![535, 256]⟩
abbrev S9x256 : Shape := ⟨2, ![9, 256]⟩
abbrev S534x256 : Shape := ⟨2, ![534, 256]⟩
abbrev S10x256 : Shape := ⟨2, ![10, 256]⟩
abbrev S533x256 : Shape := ⟨2, ![533, 256]⟩
abbrev S11x256 : Shape := ⟨2, ![11, 256]⟩
abbrev S532x256 : Shape := ⟨2, ![532, 256]⟩
abbrev S12x256 : Shape := ⟨2, ![12, 256]⟩
abbrev S531x256 : Shape := ⟨2, ![531, 256]⟩
abbrev S13x256 : Shape := ⟨2, ![13, 256]⟩
abbrev S530x256 : Shape := ⟨2, ![530, 256]⟩
abbrev S14x256 : Shape := ⟨2, ![14, 256]⟩
abbrev S529x256 : Shape := ⟨2, ![529, 256]⟩
abbrev S15x256 : Shape := ⟨2, ![15, 256]⟩
abbrev S528x256 : Shape := ⟨2, ![528, 256]⟩
abbrev S16x256 : Shape := ⟨2, ![16, 256]⟩
abbrev S527x256 : Shape := ⟨2, ![527, 256]⟩
abbrev S17x256 : Shape := ⟨2, ![17, 256]⟩
abbrev S526x256 : Shape := ⟨2, ![526, 256]⟩
abbrev S18x256 : Shape := ⟨2, ![18, 256]⟩
abbrev S525x256 : Shape := ⟨2, ![525, 256]⟩
abbrev S19x256 : Shape := ⟨2, ![19, 256]⟩
abbrev S524x256 : Shape := ⟨2, ![524, 256]⟩
abbrev S20x256 : Shape := ⟨2, ![20, 256]⟩
abbrev S523x256 : Shape := ⟨2, ![523, 256]⟩
abbrev S21x256 : Shape := ⟨2, ![21, 256]⟩
abbrev S522x256 : Shape := ⟨2, ![522, 256]⟩
abbrev S22x256 : Shape := ⟨2, ![22, 256]⟩
abbrev S521x256 : Shape := ⟨2, ![521, 256]⟩
abbrev S23x256 : Shape := ⟨2, ![23, 256]⟩
abbrev S520x256 : Shape := ⟨2, ![520, 256]⟩
abbrev S24x256 : Shape := ⟨2, ![24, 256]⟩
abbrev S519x256 : Shape := ⟨2, ![519, 256]⟩
abbrev S25x256 : Shape := ⟨2, ![25, 256]⟩
abbrev S518x256 : Shape := ⟨2, ![518, 256]⟩
abbrev S26x256 : Shape := ⟨2, ![26, 256]⟩
abbrev S517x256 : Shape := ⟨2, ![517, 256]⟩
abbrev S27x256 : Shape := ⟨2, ![27, 256]⟩
abbrev S516x256 : Shape := ⟨2, ![516, 256]⟩
abbrev S28x256 : Shape := ⟨2, ![28, 256]⟩
abbrev S515x256 : Shape := ⟨2, ![515, 256]⟩
abbrev S29x256 : Shape := ⟨2, ![29, 256]⟩
abbrev S514x256 : Shape := ⟨2, ![514, 256]⟩
abbrev S30x256 : Shape := ⟨2, ![30, 256]⟩
abbrev S513x256 : Shape := ⟨2, ![513, 256]⟩
abbrev S512 : Shape := ⟨1, ![512]⟩
abbrev S512x1 : Shape := ⟨2, ![512, 1]⟩
abbrev S256 : Shape := ⟨1, ![256]⟩
abbrev S480x256 : Shape := ⟨2, ![480, 256]⟩
abbrev S1x32x256 : Shape := ⟨3, ![1, 32, 256]⟩

abbrev nBuf : Space → Nat
  | .hbm => 26
  | .vmem => 45
  | .smem => 0
  | _ => 0

abbrev bufTy : (tb : Table) → Fin (tcTables nBuf tb) → BufTy
  | .hbm, ⟨0, _⟩ => ⟨S4096x3456, .f32⟩
  | .hbm, ⟨1, _⟩ => ⟨S31x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S256x256, .f32⟩
  | .hbm, ⟨6, _⟩ => ⟨S1x256, .f32⟩
  | .hbm, ⟨7, _⟩ => ⟨S3x256, .f32⟩
  | .hbm, ⟨8, _⟩ => ⟨S4096x256, .f32⟩
  | .hbm, ⟨9, _⟩ => ⟨S4096x256, .f32⟩
  | .hbm, ⟨10, _⟩ => ⟨S_, .i32⟩
  | .hbm, ⟨11, _⟩ => ⟨S_, .f32⟩
  | .hbm, ⟨12, _⟩ => ⟨S32x256, .f32⟩
  | .hbm, ⟨13, _⟩ => ⟨S256x256, .bf16⟩
  | .hbm, ⟨14, _⟩ => ⟨S_, .i32⟩
  | .hbm, ⟨15, _⟩ => ⟨S_, .f32⟩
  | .hbm, ⟨16, _⟩ => ⟨S8x256, .f32⟩
  | .hbm, ⟨17, _⟩ => ⟨S4096x768, .bf16⟩
  | .hbm, ⟨18, _⟩ => ⟨S4096x1024, .bf16⟩
  | .hbm, ⟨19, _⟩ => ⟨S32x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S256x256, .f32⟩
  | .hbm, ⟨24, _⟩ => ⟨S1x256, .f32⟩
  | .hbm, ⟨25, _⟩ => ⟨S8x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | .local _ .vmem, ⟨22, _⟩ => ⟨S32x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S256x256, .bf16⟩
  | .local _ .vmem, ⟨27, _⟩ => ⟨S1x256, .f32⟩
  | .local _ .vmem, ⟨28, _⟩ => ⟨S8x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x768, .bf16⟩
  | .local _ .vmem, ⟨34, _⟩ => ⟨S512x768, .bf16⟩
  | .local _ .vmem, ⟨35, _⟩ => ⟨S512x1024, .bf16⟩
  | .local _ .vmem, ⟨36, _⟩ => ⟨S512x1024, .bf16⟩
  | .local _ .vmem, ⟨37, _⟩ => ⟨S32x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S256x256, .f32⟩
  | .local _ .vmem, ⟨42, _⟩ => ⟨S1x256, .f32⟩
  | .local _ .vmem, ⟨43, _⟩ => ⟨S8x256, .f32⟩
  | .local _ .vmem, ⟨44, _⟩ => ⟨S4x32x256, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_v3_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg25_0 : Ref sig .tc := ⟨.vmem, 40, rfl⟩
abbrev cc0_stg26_0 : Ref sig .tc := ⟨.vmem, 41, rfl⟩
abbrev cc0_stg27_0 : Ref sig .tc := ⟨.vmem, 42, rfl⟩
abbrev cc0_stg28_0 : Ref sig .tc := ⟨.vmem, 43, rfl⟩
abbrev cc0_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem23_0 : DmaSem sig := 38
abbrev cc0_sem24_0 : DmaSem sig := 39
abbrev cc0_sem25_0 : DmaSem sig := 40
abbrev cc0_sem26_0 : DmaSem sig := 41
abbrev cc0_sem27_0 : DmaSem sig := 42
abbrev cc0_sem28_0 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c6_i32 : BitVec 32 := 6#32
  let c0_i32 : BitVec 32 := 0#32
  ![v0.toNat, c6_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c7_i32_0 : BitVec 32 := 7#32
  let c0_i32 : BitVec 32 := 0#32
  ![v0.toNat, c7_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c6_i32 : BitVec 32 := 6#32
  let c0_i32_0 : BitVec 32 := 0#32
  ![v3.toNat, c6_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c7_i32_0 : BitVec 32 := 7#32
  let c0_i32_1 : BitVec 32 := 0#32
  ![v3.toNat, c7_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x768 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S32x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S256x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S8x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== ReferenceIdeal.lean ====
abbrev S4096x3456 : Shape := ⟨2, ![4096, 3456]⟩
abbrev S31x256 : Shape := ⟨2, ![31, 256]⟩
abbrev S1x256 : Shape := ⟨2, ![1, 256]⟩
abbrev S256x256 : Shape := ⟨2, ![256, 256]⟩
abbrev S3x256 : Shape := ⟨2, ![3, 256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S4096 : Shape := ⟨1, ![4096]⟩
abbrev S4096x1 : Shape := ⟨2, ![4096, 1]⟩
abbrev S2x256 : Shape := ⟨2, ![2, 256]⟩
abbrev S4098x256 : Shape := ⟨2, ![4098, 256]⟩
abbrev S256 : Shape := ⟨1, ![256]⟩
abbrev S4096x768 : Shape := ⟨2, ![4096, 768]⟩
abbrev S4096x1024 : Shape := ⟨2, ![4096, 1024]⟩
abbrev S32x256 : Shape := ⟨2, ![32, 256]⟩
abbrev S8x256 : Shape := ⟨2, ![8, 256]⟩

abbrev nBuf : Space → Nat
  | .hbm => 772
  | .vmem => 0
  | .smem => 0
  | _ => 0

abbrev hbmTy0_0 (i : Nat) : BufTy := match i % 128 with
  | 0 => ⟨S4096x3456, .f32⟩
  | 1 => ⟨S31x256, .f32⟩
  | 2 => ⟨S1x256, .f32⟩
  | 3 => ⟨S1x256, .f32⟩
  | 4 => ⟨S1x256, .f32⟩
  | 5 => ⟨S256x256, .f32⟩
  | 6 => ⟨S1x256, .f32⟩
  | 7 => ⟨S3x256, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S4096x256, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S4096x256, .f32⟩
  | 29 => ⟨S4096x256, .f32⟩
  | 30 => ⟨S_, .f32⟩
  | 31 => ⟨S30x256, .f32⟩
  | 32 => ⟨S4126x256, .f32⟩
  | 33 => ⟨S_, .f32⟩
  | 34 => ⟨S30x256, .f32⟩
  | 35 => ⟨S4096x256, .f32⟩
  | 36 => ⟨S1x256, .f32⟩
  | 37 => ⟨S4096x256, .f32⟩
  | 38 => ⟨S4096x256, .f32⟩
  | 39 => ⟨S4096x256, .f32⟩
  | 40 => ⟨S1x256, .f32⟩
  | 41 => ⟨S4096x256, .f32⟩
  | 42 => ⟨S4096x256, .f32⟩
  | 43 => ⟨S4096x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S1x256, .f32⟩
  | 56 => ⟨S4096x256, .f32⟩
  | 57 => ⟨S4096x256, .f32⟩
  | 58 => ⟨S4096x256, .f32⟩
  | 59 => ⟨S4096x256, .f32⟩
  | 60 => ⟨S1x256, .f32⟩
  | 61 => ⟨S4096x256, .f32⟩
  | 62 => ⟨S4096x256, .f32⟩
  | 63 => ⟨S4096x256, .f32⟩
  | 64 => ⟨S4096x256, .f32⟩
  | 65 => ⟨S1x256, .f32⟩
  | 66 => ⟨S4096x256, .f32⟩
  | 67 => ⟨S4096x256, .f32⟩
  | 68 => ⟨S4096x256, .f32⟩
  | 69 => ⟨S4096x256, .f32⟩
  | 70 => ⟨S1x256, .f32⟩
  | 71 => ⟨S4096x256, .f32⟩
  | 72 => ⟨S4096x256, .f32⟩
  | 73 => ⟨S4096x256, .f32⟩
  | 74 => ⟨S4096x256, .f32⟩
  | 75 => ⟨S1x256, .f32⟩
  | 76 => ⟨S4096x256, .f32⟩
  | 77 => ⟨S4096x256, .f32⟩
  | 78 => ⟨S4096x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S1x256, .f32⟩
  | 86 => ⟨S4096x256, .f32⟩
  | 87 => ⟨S4096x256, .f32⟩
  | 88 => ⟨S4096x256, .f32⟩
  | 89 => ⟨S4096x256, .f32⟩
  | 90 => ⟨S1x256, .f32⟩
  | 91 => ⟨S4096x256, .f32⟩
  | 92 => ⟨S4096x256, .f32⟩
  | 93 => ⟨S4096x256, .f32⟩
  | 94 => ⟨S4096x256, .f32⟩
  | 95 => ⟨S1x256, .f32⟩
  | 96 => ⟨S4096x256, .f32⟩
  | 97 => ⟨S4096x256, .f32⟩
  | 98 => ⟨S4096x256, .f32⟩
  | 99 => ⟨S4096x256, .f32⟩
  | 100 => ⟨S1x256, .f32⟩
  | 101 => ⟨S4096x256, .f32⟩
  | 102 => ⟨S4096x256, .f32⟩
  | 103 => ⟨S4096x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x256, .f32⟩
  | 111 => ⟨S4096x256, .f32⟩
  | 112 => ⟨S4096x256, .f32⟩
  | 113 => ⟨S4096x256, .f32⟩
  | 114 => ⟨S4096x256, .f32⟩
  | 115 => ⟨S1x256, .f32⟩
  | 116 => ⟨S4096x256, .f32⟩
  | 117 => ⟨S4096x256, .f32⟩
  | 118 => ⟨S4096x256, .f32⟩
  | 119 => ⟨S4096x256, .f32⟩
  | 120 => ⟨S1x256, .f32⟩
  | 121 => ⟨S4096x256, .f32⟩
  | 122 => ⟨S4096x256, .f32⟩
  | 123 => ⟨S4096x256, .f32⟩
  | 124 => ⟨S4096x256, .f32⟩
  | 125 => ⟨S1x256, .f32⟩
  | 126 => ⟨S4096x256, .f32⟩
  | 127 => ⟨S4096x256, .f32⟩
  | _ => ⟨S4096x3456, .f32⟩

abbrev hbmTy0_1 (i : Nat) : BufTy := match i % 128 with
  | 0 => ⟨S4096x256, .f32⟩
  | 1 => ⟨S4096x256, .f32⟩
  | 2 => ⟨S1x256, .f32⟩
  | 3 => ⟨S4096x256, .f32⟩
  | 4 => ⟨S4096x256, .f32⟩
  | 5 => ⟨S4096x256, .f32⟩
  | 6 => ⟨S4096x256, .f32⟩
  | 7 => ⟨S1x256, .f32⟩
  | 8 => ⟨S4096x256, .f32⟩
  | 9 => ⟨S4096x256, .f32⟩
  | 10 => ⟨S4096x256, .f32⟩
  | 11 => ⟨S4096x256, .f32⟩
  | 12 => ⟨S1x256, .f32⟩
  | 13 => ⟨S4096x256, .f32⟩
  | 14 => ⟨S4096x256, .f32⟩
  | 15 => ⟨S4096x256, .f32⟩
  | 16 => ⟨S4096x256, .f32⟩
  | 17 => ⟨S1x256, .f32⟩
  | 18 => ⟨S4096x256, .f32⟩
  | 19 => ⟨S4096x256, .f32⟩
  | 20 => ⟨S4096x256, .f32⟩
  | 21 => ⟨S4096x256, .f32⟩
  | 22 => ⟨S1x256, .f32⟩
  | 23 => ⟨S4096x256, .f32⟩
  | 24 => ⟨S4096x256, .f32⟩
  | 25 => ⟨S4096x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S4096x256, .f32⟩
  | 42 => ⟨S1x256, .f32⟩
  | 43 => ⟨S4096x256, .f32⟩
  | 44 => ⟨S4096x256, .f32⟩
  | 45 => ⟨S4096x256, .f32⟩
  | 46 => ⟨S4096x256, .f32⟩
  | 47 => ⟨S1x256, .f32⟩
  | 48 => ⟨S4096x256, .f32⟩
  | 49 => ⟨S4096x256, .f32⟩
  | 50 => ⟨S4096x256, .f32⟩
  | 51 => ⟨S4096x256, .f32⟩
  | 52 => ⟨S1x256, .f32⟩
  | 53 => ⟨S4096x256, .f32⟩
  | 54 => ⟨S4096x256, .f32⟩
  | 55 => ⟨S4096x256, .f32⟩
  | 56 => ⟨S4096x256, .f32⟩
  | 57 => ⟨S1x256, .f32⟩
  | 58 => ⟨S4096x256, .f32⟩
  | 59 => ⟨S4096x256, .f32⟩
  | 60 => ⟨S4096x256, .f32⟩
  | 61 => ⟨S4096x256, .f32⟩
  | 62 => ⟨S4096x256, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S4096x256, .f32⟩
  | 70 => ⟨S4096x256, .f32⟩
  | 71 => ⟨S4096x256, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S_, .f32⟩
  | 79 => ⟨S4096x1, .f32⟩
  | 80 => ⟨S4096x1, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x256, .f32⟩
  | 87 => ⟨S4096x256, .f32⟩
  | 88 => ⟨S4096x256, .f32⟩
  | 89 => ⟨S4096x256, .f32⟩
  | 90 => ⟨S4096x256, .f32⟩
  | 91 => ⟨S4096x256, .f32⟩
  | 92 => ⟨S4096x256, .f32⟩
  | 93 => ⟨S4096x256, .f32⟩
  | 94 => ⟨S_, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S4096x256, .f32⟩
  | 104 => ⟨S4096x256, .f32⟩
  | 105 => ⟨S4096x256, .f32⟩
  | 106 => ⟨S4096x256, .f32⟩
  | 107 => ⟨S4096x256, .f32⟩
  | 108 => ⟨S4096x256, .f32⟩
  | 109 => ⟨S4096x256, .f32⟩
  | 110 => ⟨S_, .f32⟩
  | 111 => ⟨S4096x256, .f32⟩
  | 112 => ⟨S4096x256, .f32⟩
  | 113 => ⟨S_, .f32⟩
  | 114 => ⟨S4096x256, .f32⟩
  | 115 => ⟨S4096x256, .f32⟩
  | 116 => ⟨S_, .f32⟩
  | 117 => ⟨S4096x256, .f32⟩
  | 118 => ⟨S4096x256, .f32⟩
  | 119 => ⟨S4096x256, .f32⟩
  | 120 => ⟨S4096x256, .f32⟩
  | 121 => ⟨S4096x256, .f32⟩
  | 122 => ⟨S4096x256, .f32⟩
  | 123 => ⟨S_, .f32⟩
  | 124 => ⟨S2x256, .f32⟩
  | 125 => ⟨S4098x256, .f32⟩
  | 126 => ⟨S_, .f32⟩
  | 127 => ⟨S2x256, .f32⟩
  | _ => ⟨S4096x3456, .f32⟩

abbrev hbmTy0_2 (i : Nat) : BufTy := match i % 128 with
  | 0 => ⟨S4096x256, .f32⟩
  | 1 => ⟨S1x256, .f32⟩
  | 2 => ⟨S4096x256, .f32⟩
  | 3 => ⟨S4096x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S4096x256, .f32⟩
  | 17 => ⟨S_, .f32⟩
  | 18 => ⟨S4096x256, .f32⟩
  | 19 => ⟨S4096x256, .f32⟩
  | 20 => ⟨S_, .f32⟩
  | 21 => ⟨S4096x256, .f32⟩
  | 22 => ⟨S4096x256, .f32⟩
  | 23 => ⟨S_, .f32⟩
  | 24 => ⟨S4096x256, .f32⟩
  | 25 => ⟨S4096x256, .f32⟩
  | 26 => ⟨S4096x256, .f32⟩
  | 27 => ⟨S4096x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S256, .f32⟩
  | 40 => ⟨S1x256, .f32⟩
  | 41 => ⟨S4096x256, .f32⟩
  | 42 => ⟨S4096x256, .f32⟩
  | 43 => ⟨S_, .f32⟩
  | 44 => ⟨S3x256, .f32⟩
  | 45 => ⟨S_, .f32⟩
  | 46 => ⟨S4098x256, .f32⟩
  | 47 => ⟨S4096x256, .f32⟩
  | 48 => ⟨S_, .f32⟩
  | 49 => ⟨S256, .f32⟩
  | 50 => ⟨S1x256, .f32⟩
  | 51 => ⟨S4096x256, .f32⟩
  | 52 => ⟨S4096x256, .f32⟩
  | 53 => ⟨S_, .f32⟩
  | 54 => ⟨S3x256, .f32⟩
  | 55 => ⟨S3x256, .f32⟩
  | 56 => ⟨S_, .f32⟩
  | 57 => ⟨S4098x256, .f32⟩
  | 58 => ⟨S4098x256, .f32⟩
  | 59 => ⟨S4096x256, .f32⟩
  | 60 => ⟨S_, .f32⟩
  | 61 => ⟨S256, .f32⟩
  | 62 => ⟨S1x256, .f32⟩
  | 63 => ⟨S4096x256, .f32⟩
  | 64 => ⟨S4096x256, .f32⟩
  | 65 => ⟨S_, .f32⟩
  | 66 => ⟨S3x256, .f32⟩
  | 67 => ⟨S3x256, .f32⟩
  | 68 => ⟨S_, .f32⟩
  | 69 => ⟨S4098x256, .f32⟩
  | 70 => ⟨S4098x256, .f32⟩
  | 71 => ⟨S2x256, .f32⟩
  | 72 => ⟨S4096x256, .f32⟩
  | 73 => ⟨S4096x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S4096x256, .f32⟩
  | 80 => ⟨S4096x256, .f32⟩
  | 81 => ⟨S_, .f32⟩
  | 82 => ⟨S256, .f32⟩
  | 83 => ⟨S1x256, .f32⟩
  | 84 => ⟨S256x256, .f32⟩
  | 85 => ⟨S256x256, .f32⟩
  | 86 => ⟨S4096x256, .f32⟩
  | 87 => ⟨S4096x256, .f32⟩
  | 88 => ⟨S4096x256, .f32⟩
  | 89 => ⟨S4096x256, .f32⟩
  | 90 => ⟨S4096x256, .f32⟩
  | 91 => ⟨S_, .f32⟩
  | 92 => ⟨S256, .f32⟩
  | 93 => ⟨S1x256, .f32⟩
  | 94 => ⟨S4096x256, .f32⟩
  | 95 => ⟨S_, .f32⟩
  | 96 => ⟨S256, .f32⟩
  | 97 => ⟨S1x256, .f32⟩
  | 98 => ⟨S4096x256, .f32⟩
  | 99 => ⟨S4096x256, .f32⟩
  | 100 => ⟨S4096x256, .f32⟩
  | 101 => ⟨S_, .f32⟩
  | 102 => ⟨S4096, .f32⟩
  | 103 => ⟨S4096x1, .f32⟩
  | 104 => ⟨S4096x256, .f32⟩
  | 105 => ⟨S4096x256, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x256, .f32⟩
  | 113 => ⟨S4096x256, .f32⟩
  | 114 => ⟨S4096x256, .f32⟩
  | 115 => ⟨S4096x256, .f32⟩
  | 116 => ⟨S4096x256, .f32⟩
  | 117 => ⟨S4096x256, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x256, .f32⟩
  | 127 => ⟨S4096x256, .f32⟩
  | _ => ⟨S4096x3456, .f32⟩

abbrev hbmTy0_3 (i : Nat) : BufTy := match i % 128 with
  | 0 => ⟨S_, .f32⟩
  | 1 => ⟨S256, .f32⟩
  | 2 => ⟨S1x256, .f32⟩
  | 3 => ⟨S4096x256, .f32⟩
  | 4 => ⟨S_, .f32⟩
  | 5 => ⟨S256, .f32⟩
  | 6 => ⟨S1x256, .f32⟩
  | 7 => ⟨S4096x256, .f32⟩
  | 8 => ⟨S4096x256, .f32⟩
  | 9 => ⟨S_, .f32⟩
  | 10 => ⟨S31x256, .f32⟩
  | 11 => ⟨S_, .f32⟩
  | 12 => ⟨S4126x256, .f32⟩
  | 13 => ⟨S4096x256, .f32⟩
  | 14 => ⟨S_, .f32⟩
  | 15 => ⟨S256, .f32⟩
  | 16 => ⟨S1x256, .f32⟩
  | 17 => ⟨S4096x256, .f32⟩
  | 18 => ⟨S4096x256, .f32⟩
  | 19 => ⟨S_, .f32⟩
  | 20 => ⟨S31x256, .f32⟩
  | 21 => ⟨S31x256, .f32⟩
  | 22 => ⟨S_, .f32⟩
  | 23 => ⟨S4126x256, .f32⟩
  | 24 => ⟨S4126x256, .f32⟩
  | 25 => ⟨S4096x256, .f32⟩
  | 26 => ⟨S_, .f32⟩
  | 27 => ⟨S256, .f32⟩
  | 28 => ⟨S1x256, .f32⟩
  | 29 => ⟨S4096x256, .f32⟩
  | 30 => ⟨S4096x256, .f32⟩
  | 31 => ⟨S_, .f32⟩
  | 32 => ⟨S31x256, .f32⟩
  | 33 => ⟨S31x256, .f32⟩
  | 34 => ⟨S_, .f32⟩
  | 35 => ⟨S4126x256, .f32⟩
  | 36 => ⟨S4126x256, .f32⟩
  | 37 => ⟨S4096x256, .f32⟩
  | 38 => ⟨S_, .f32⟩
  | 39 => ⟨S256, .f32⟩
  | 40 => ⟨S1x256, .f32⟩
  | 41 => ⟨S4096x256, .f32⟩
  | 42 => ⟨S4096x256, .f32⟩
  | 43 => ⟨S_, .f32⟩
  | 44 => ⟨S31x256, .f32⟩
  | 45 => ⟨S31x256, .f32⟩
  | 46 => ⟨S_, .f32⟩
  | 47 => ⟨S4126x256, .f32⟩
  | 48 => ⟨S4126x256, .f32⟩
  | 49 => ⟨S4096x256, .f32⟩
  | 50 => ⟨S_, .f32⟩
  | 51 => ⟨S256, .f32⟩
  | 52 => ⟨S1x256, .f32⟩
  | 53 => ⟨S4096x256, .f32⟩
  | 54 => ⟨S4096x256, .f32⟩
  | 55 => ⟨S_, .f32⟩
  | 56 => ⟨S31x256, .f32⟩
  | 57 => ⟨S31x256, .f32⟩
  | 58 => ⟨S_, .f32⟩
  | 59 => ⟨S4126x256, .f32⟩
  | 60 => ⟨S4126x256, .f32⟩
  | 61 => ⟨S4096x256, .f32⟩
  | 62 => ⟨S_, .f32⟩
  | 63 => ⟨S256, .f32⟩
  | 64 => ⟨S1x256, .f32⟩
  | 65 => ⟨S4096x256, .f32⟩
  | 66 => ⟨S4096x256, .f32⟩
  | 67 => ⟨S_, .f32⟩
  | 68 => ⟨S31x256, .f32⟩
  | 69 => ⟨S31x256, .f32⟩
  | 70 => ⟨S_, .f32⟩
  | 71 => ⟨S4126x256, .f32⟩
  | 72 => ⟨S4126x256, .f32⟩
  | 73 => ⟨S4096x256, .f32⟩
  | 74 => ⟨S_, .f32⟩
  | 75 => ⟨S256, .f32⟩
  | 76 => ⟨S1x256, .f32⟩
  | 77 => ⟨S4096x256, .f32⟩
  | 78 => ⟨S4096x256, .f32⟩
  | 79 => ⟨S_, .f32⟩
  | 80 => ⟨S31x256, .f32⟩
  | 81 => ⟨S31x256, .f32⟩
  | 82 => ⟨S_, .f32⟩
  | 83 => ⟨S4126x256, .f32⟩
  | 84 => ⟨S4126x256, .f32⟩
  | 85 => ⟨S4096x256, .f32⟩
  | 86 => ⟨S_, .f32⟩
  | 87 => ⟨S256, .f32⟩
  | 88 => ⟨S1x256, .f32⟩
  | 89 => ⟨S4096x256, .f32⟩
  | 90 => ⟨S4096x256, .f32⟩
  | 91 => ⟨S_, .f32⟩
  | 92 => ⟨S31x256, .f32⟩
  | 93 => ⟨S31x256, .f32⟩
  | 94 => ⟨S_, .f32⟩
  | 95 => ⟨S4126x256, .f32⟩
  | 96 => ⟨S4126x256, .f32⟩
  | 97 => ⟨S4096x256, .f32⟩
  | 98 => ⟨S_, .f32⟩
  | 99 => ⟨S256, .f32⟩
  | 100 => ⟨S1x256, .f32⟩
  | 101 => ⟨S4096x256, .f32⟩
  | 102 => ⟨S4096x256, .f32⟩
  | 103 => ⟨S_, .f32⟩
  | 104 => ⟨S31x256, .f32⟩
  | 105 => ⟨S31x256, .f32⟩
  | 106 => ⟨S_, .f32⟩
  | 107 => ⟨S4126x256, .f32⟩
  | 108 => ⟨S4126x256, .f32⟩
  | 109 => ⟨S4096x256, .f32⟩
  | 110 => ⟨S_, .f32⟩
  | 111 => ⟨S256, .f32⟩
  | 112 => ⟨S1x256, .f32⟩
  | 113 => ⟨S4096x256, .f32⟩
  | 114 => ⟨S4096x256, .f32⟩
  | 115 => ⟨S_, .f32⟩
  | 116 => ⟨S31x256, .f32⟩
  | 117 => ⟨S31x256, .f32⟩
  | 118 => ⟨S_, .f32⟩
  | 119 => ⟨S4126x256, .f32⟩
  | 120 => ⟨S4126x256, .f32⟩
  | 121 => ⟨S4096x256, .f32⟩
  | 122 => ⟨S_, .f32⟩
  | 123 => ⟨S256, .f32⟩
  | 124 => ⟨S1x256, .f32⟩
  | 125 => ⟨S4096x256, .f32⟩
  | 126 => ⟨S4096x256, .f32⟩
  | 127 => ⟨S_, .f32⟩
  | _ => ⟨S4096x3456, .f32⟩

abbrev hbmTy0_4 (i : Nat) : BufTy := match i % 128 with
  | 0 => ⟨S31x256, .f32⟩
  | 1 => ⟨S31x256, .f32⟩
  | 2 => ⟨S_, .f32⟩
  | 3 => ⟨S4126x256, .f32⟩
  | 4 => ⟨S4126x256, .f32⟩
  | 5 => ⟨S4096x256, .f32⟩
  | 6 => ⟨S_, .f32⟩
  | 7 => ⟨S256, .f32⟩
  | 8 => ⟨S1x256, .f32⟩
  | 9 => ⟨S4096x256, .f32⟩
  | 10 => ⟨S4096x256, .f32⟩
  | 11 => ⟨S_, .f32⟩
  | 12 => ⟨S31x256, .f32⟩
  | 13 => ⟨S31x256, .f32⟩
  | 14 => ⟨S_, .f32⟩
  | 15 => ⟨S4126x256, .f32⟩
  | 16 => ⟨S4126x256, .f32⟩
  | 17 => ⟨S4096x256, .f32⟩
  | 18 => ⟨S_, .f32⟩
  | 19 => ⟨S256, .f32⟩
  | 20 => ⟨S1x256, .f32⟩
  | 21 => ⟨S4096x256, .f32⟩
  | 22 => ⟨S4096x256, .f32⟩
  | 23 => ⟨S_, .f32⟩
  | 24 => ⟨S31x256, .f32⟩
  | 25 => ⟨S31x256, .f32⟩
  | 26 => ⟨S_, .f32⟩
  | 27 => ⟨S4126x256, .f32⟩
  | 28 => ⟨S4126x256, .f32⟩
  | 29 => ⟨S4096x256, .f32⟩
  | 30 => ⟨S_, .f32⟩
  | 31 => ⟨S256, .f32⟩
  | 32 => ⟨S1x256, .f32⟩
  | 33 => ⟨S4096x256, .f32⟩
  | 34 => ⟨S4096x256, .f32⟩
  | 35 => ⟨S_, .f32⟩
  | 36 => ⟨S31x256, .f32⟩
  | 37 => ⟨S31x256, .f32⟩
  | 38 => ⟨S_, .f32⟩
  | 39 => ⟨S4126x256, .f32⟩
  | 40 => ⟨S4126x256, .f32⟩
  | 41 => ⟨S4096x256, .f32⟩
  | 42 => ⟨S_, .f32⟩
  | 43 => ⟨S256, .f32⟩
  | 44 => ⟨S1x256, .f32⟩
  | 45 => ⟨S4096x256, .f32⟩
  | 46 => ⟨S4096x256, .f32⟩
  | 47 => ⟨S_, .f32⟩
  | 48 => ⟨S31x256, .f32⟩
  | 49 => ⟨S31x256, .f32⟩
  | 50 => ⟨S_, .f32⟩
  | 51 => ⟨S4126x256, .f32⟩
  | 52 => ⟨S4126x256, .f32⟩
  | 53 => ⟨S4096x256, .f32⟩
  | 54 => ⟨S_, .f32⟩
  | 55 => ⟨S256, .f32⟩
  | 56 => ⟨S1x256, .f32⟩
  | 57 => ⟨S4096x256, .f32⟩
  | 58 => ⟨S4096x256, .f32⟩
  | 59 => ⟨S_, .f32⟩
  | 60 => ⟨S31x256, .f32⟩
  | 61 => ⟨S31x256, .f32⟩
  | 62 => ⟨S_, .f32⟩
  | 63 => ⟨S4126x256, .f32⟩
  | 64 => ⟨S4126x256, .f32⟩
  | 65 => ⟨S4096x256, .f32⟩
  | 66 => ⟨S_, .f32⟩
  | 67 => ⟨S256, .f32⟩
  | 68 => ⟨S1x256, .f32⟩
  | 69 => ⟨S4096x256, .f32⟩
  | 70 => ⟨S4096x256, .f32⟩
  | 71 => ⟨S_, .f32⟩
  | 72 => ⟨S31x256, .f32⟩
  | 73 => ⟨S31x256, .f32⟩
  | 74 => ⟨S_, .f32⟩
  | 75 => ⟨S4126x256, .f32⟩
  | 76 => ⟨S4126x256, .f32⟩
  | 77 => ⟨S4096x256, .f32⟩
  | 78 => ⟨S_, .f32⟩
  | 79 => ⟨S256, .f32⟩
  | 80 => ⟨S1x256, .f32⟩
  | 81 => ⟨S4096x256, .f32⟩
  | 82 => ⟨S4096x256, .f32⟩
  | 83 => ⟨S_, .f32⟩
  | 84 => ⟨S31x256, .f32⟩
  | 85 => ⟨S31x256, .f32⟩
  | 86 => ⟨S_, .f32⟩
  | 87 => ⟨S4126x256, .f32⟩
  | 88 => ⟨S4126x256, .f32⟩
  | 89 => ⟨S4096x256, .f32⟩
  | 90 => ⟨S_, .f32⟩
  | 91 => ⟨S256, .f32⟩
  | 92 => ⟨S1x256, .f32⟩
  | 93 => ⟨S4096x256, .f32⟩
  | 94 => ⟨S4096x256, .f32⟩
  | 95 => ⟨S_, .f32⟩
  | 96 => ⟨S31x256, .f32⟩
  | 97 => ⟨S31x256, .f32⟩
  | 98 => ⟨S_, .f32⟩
  | 99 => ⟨S4126x256, .f32⟩
  | 100 => ⟨S4126x256, .f32⟩
  | 101 => ⟨S4096x256, .f32⟩
  | 102 => ⟨S_, .f32⟩
  | 103 => ⟨S256, .f32⟩
  | 104 => ⟨S1x256, .f32⟩
  | 105 => ⟨S4096x256, .f32⟩
  | 106 => ⟨S4096x256, .f32⟩
  | 107 => ⟨S_, .f32⟩
  | 108 => ⟨S31x256, .f32⟩
  | 109 => ⟨S31x256, .f32⟩
  | 110 => ⟨S_, .f32⟩
  | 111 => ⟨S4126x256, .f32⟩
  | 112 => ⟨S4126x256, .f32⟩
  | 113 => ⟨S4096x256, .f32⟩
  | 114 => ⟨S_, .f32⟩
  | 115 => ⟨S256, .f32⟩
  | 116 => ⟨S1x256, .f32⟩
  | 117 => ⟨S4096x256, .f32⟩
  | 118 => ⟨S4096x256, .f32⟩
  | 119 => ⟨S_, .f32⟩
  | 120 => ⟨S31x256, .f32⟩
  | 121 => ⟨S31x256, .f32⟩
  | 122 => ⟨S_, .f32⟩
  | 123 => ⟨S4126x256, .f32⟩
  | 124 => ⟨S4126x256, .f32⟩
  | 125 => ⟨S4096x256, .f32⟩
  | 126 => ⟨S_, .f32⟩
  | 127 => ⟨S256, .f32⟩
  | _ => ⟨S4096x3456, .f32⟩

abbrev hbmTy0_5 (i : Nat) : BufTy := match i % 128 with
  | 0 => ⟨S1x256, .f32⟩
  | 1 => ⟨S4096x256, .f32⟩
  | 2 => ⟨S4096x256, .f32⟩
  | 3 => ⟨S_, .f32⟩
  | 4 => ⟨S31x256, .f32⟩
  | 5 => ⟨S31x256, .f32⟩
  | 6 => ⟨S_, .f32⟩
  | 7 => ⟨S4126x256, .f32⟩
  | 8 => ⟨S4126x256, .f32⟩
  | 9 => ⟨S4096x256, .f32⟩
  | 10 => ⟨S_, .f32⟩
  | 11 => ⟨S256, .f32⟩
  | 12 => ⟨S1x256, .f32⟩
  | 13 => ⟨S4096x256, .f32⟩
  | 14 => ⟨S4096x256, .f32⟩
  | 15 => ⟨S_, .f32⟩
  | 16 => ⟨S31x256, .f32⟩
  | 17 => ⟨S31x256, .f32⟩
  | 18 => ⟨S_, .f32⟩
  | 19 => ⟨S4126x256, .f32⟩
  | 20 => ⟨S4126x256, .f32⟩
  | 21 => ⟨S4096x256, .f32⟩
  | 22 => ⟨S_, .f32⟩
  | 23 => ⟨S256, .f32⟩
  | 24 => ⟨S1x256, .f32⟩
  | 25 => ⟨S4096x256, .f32⟩
  | 26 => ⟨S4096x256, .f32⟩
  | 27 => ⟨S_, .f32⟩
  | 28 => ⟨S31x256, .f32⟩
  | 29 => ⟨S31x256, .f32⟩
  | 30 => ⟨S_, .f32⟩
  | 31 => ⟨S4126x256, .f32⟩
  | 32 => ⟨S4126x256, .f32⟩
  | 33 => ⟨S4096x256, .f32⟩
  | 34 => ⟨S_, .f32⟩
  | 35 => ⟨S256, .f32⟩
  | 36 => ⟨S1x256, .f32⟩
  | 37 => ⟨S4096x256, .f32⟩
  | 38 => ⟨S4096x256, .f32⟩
  | 39 => ⟨S_, .f32⟩
  | 40 => ⟨S31x256, .f32⟩
  | 41 => ⟨S31x256, .f32⟩
  | 42 => ⟨S_, .f32⟩
  | 43 => ⟨S4126x256, .f32⟩
  | 44 => ⟨S4126x256, .f32⟩
  | 45 => ⟨S4096x256, .f32⟩
  | 46 => ⟨S_, .f32⟩
  | 47 => ⟨S256, .f32⟩
  | 48 => ⟨S1x256, .f32⟩
  | 49 => ⟨S4096x256, .f32⟩
  | 50 => ⟨S4096x256, .f32⟩
  | 51 => ⟨S_, .f32⟩
  | 52 => ⟨S31x256, .f32⟩
  | 53 => ⟨S31x256, .f32⟩
  | 54 => ⟨S_, .f32⟩
  | 55 => ⟨S4126x256, .f32⟩
  | 56 => ⟨S4126x256, .f32⟩
  | 57 => ⟨S4096x256, .f32⟩
  | 58 => ⟨S_, .f32⟩
  | 59 => ⟨S256, .f32⟩
  | 60 => ⟨S1x256, .f32⟩
  | 61 => ⟨S4096x256, .f32⟩
  | 62 => ⟨S4096x256, .f32⟩
  | 63 => ⟨S_, .f32⟩
  | 64 => ⟨S31x256, .f32⟩
  | 65 => ⟨S31x256, .f32⟩
  | 66 => ⟨S_, .f32⟩
  | 67 => ⟨S4126x256, .f32⟩
  | 68 => ⟨S4126x256, .f32⟩
  | 69 => ⟨S4096x256, .f32⟩
  | 70 => ⟨S_, .f32⟩
  | 71 => ⟨S256, .f32⟩
  | 72 => ⟨S1x256, .f32⟩
  | 73 => ⟨S4096x256, .f32⟩
  | 74 => ⟨S4096x256, .f32⟩
  | 75 => ⟨S_, .f32⟩
  | 76 => ⟨S31x256, .f32⟩
  | 77 => ⟨S31x256, .f32⟩
  | 78 => ⟨S_, .f32⟩
  | 79 => ⟨S4126x256, .f32⟩
  | 80 => ⟨S4126x256, .f32⟩
  | 81 => ⟨S4096x256, .f32⟩
  | 82 => ⟨S_, .f32⟩
  | 83 => ⟨S256, .f32⟩
  | 84 => ⟨S1x256, .f32⟩
  | 85 => ⟨S4096x256, .f32⟩
  | 86 => ⟨S4096x256, .f32⟩
  | 87 => ⟨S_, .f32⟩
  | 88 => ⟨S31x256, .f32⟩
  | 89 => ⟨S31x256, .f32⟩
  | 90 => ⟨S_, .f32⟩
  | 91 => ⟨S4126x256, .f32⟩
  | 92 => ⟨S4126x256, .f32⟩
  | 93 => ⟨S4096x256, .f32⟩
  | 94 => ⟨S_, .f32⟩
  | 95 => ⟨S256, .f32⟩
  | 96 => ⟨S1x256, .f32⟩
  | 97 => ⟨S4096x256, .f32⟩
  | 98 => ⟨S4096x256, .f32⟩
  | 99 => ⟨S_, .f32⟩
  | 100 => ⟨S31x256, .f32⟩
  | 101 => ⟨S31x256, .f32⟩
  | 102 => ⟨S_, .f32⟩
  | 103 => ⟨S4126x256, .f32⟩
  | 104 => ⟨S4126x256, .f32⟩
  | 105 => ⟨S4096x256, .f32⟩
  | 106 => ⟨S_, .f32⟩
  | 107 => ⟨S256, .f32⟩
  | 108 => ⟨S1x256, .f32⟩
  | 109 => ⟨S4096x256, .f32⟩
  | 110 => ⟨S4096x256, .f32⟩
  | 111 => ⟨S_, .f32⟩
  | 112 => ⟨S31x256, .f32⟩
  | 113 => ⟨S31x256, .f32⟩
  | 114 => ⟨S_, .f32⟩
  | 115 => ⟨S4126x256, .f32⟩
  | 116 => ⟨S4126x256, .f32⟩
  | 117 => ⟨S30x256, .f32⟩
  | 118 => ⟨S4096x256, .f32⟩
  | 119 => ⟨S4096x256, .f32⟩
  | 120 => ⟨S4096x256, .f32⟩
  | 121 => ⟨S4096x256, .f32⟩
  | 122 => ⟨S4096x768, .f32⟩
  | 123 => ⟨S4096x768, .bf16⟩
  | 124 => ⟨S4096x1024, .f32⟩
  | 125 => ⟨S4096x1024, .bf16⟩
  | 126 => ⟨S_, .i32⟩
  | 127 => ⟨S_, .f32⟩
  | _ => ⟨S4096x3456, .f32⟩

abbrev hbmTy0_6 (i : Nat) : BufTy := match i % 128 with
  | 0 => ⟨S32x256, .f32⟩
  | 1 => ⟨S_, .i32⟩
  | 2 => ⟨S_, .f32⟩
  | 3 => ⟨S8x256, .f32⟩
  | _ => ⟨S4096x3456, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x3456, .f32⟩

abbrev bufTy : (tb : Table) → Fin (tcTables nBuf tb) → BufTy
  | .hbm, ⟨i, _⟩ => hbmTy i
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_cst_4 : Ref sig .tc := ⟨.hbm, 191, rfl⟩
abbrev main_v176 : Ref sig .tc := ⟨.hbm, 192, rfl⟩
abbrev main_v177 : Ref sig .tc := ⟨.hbm, 193, rfl⟩
abbrev main_cst_5 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_cst_6 : Ref sig .tc := ⟨.hbm, 200, rfl⟩
abbrev main_v183 : Ref sig .tc := ⟨.hbm, 201, rfl⟩
abbrev main_v184 : Ref sig .tc := ⟨.hbm, 202, rfl⟩
abbrev main_cst_7 : Ref sig .tc := ⟨.hbm, 203, rfl⟩
abbrev main_v185 : Ref sig .tc := ⟨.hbm, 204, rfl⟩
abbrev main_v186 : Ref sig .tc := ⟨.hbm, 205, rfl⟩
abbrev main_cst_8 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_cst_9 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_call0_v0 : Ref sig .tc := ⟨.hbm, 220, rfl⟩
abbrev main_call0_v1 : Ref sig .tc := ⟨.hbm, 221, rfl⟩
abbrev main_call0_cst : Ref sig .tc := ⟨.hbm, 222, rfl⟩
abbrev main_call0_v2 : Ref sig .tc := ⟨.hbm, 223, rfl⟩
abbrev main_call0_v3 : Ref sig .tc := ⟨.hbm, 224, rfl⟩
abbrev main_call0_cst_0 : Ref sig .tc := ⟨.hbm, 225, rfl⟩
abbrev main_call0_v4 : Ref sig .tc := ⟨.hbm, 226, rfl⟩
abbrev main_v199_2 : Ref sig .tc := ⟨.hbm, 227, rfl⟩
abbrev main_call0_cst_1 : Ref sig .tc := ⟨.hbm, 228, rfl⟩
abbrev main_call0_v6 : Ref sig .tc := ⟨.hbm, 229, rfl⟩
abbrev main_call0_v7 : Ref sig .tc := ⟨.hbm, 230, rfl⟩
abbrev main_v199_1 : Ref sig .tc := ⟨.hbm, 231, rfl⟩
abbrev main_v199_0 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_call1_v0 : Ref sig .tc := ⟨.hbm, 236, rfl⟩
abbrev main_call1_v1 : Ref sig .tc := ⟨.hbm, 237, rfl⟩
abbrev main_call1_cst : Ref sig .tc := ⟨.hbm, 238, rfl⟩
abbrev main_call1_v2 : Ref sig .tc := ⟨.hbm, 239, rfl⟩
abbrev main_call1_v3 : Ref sig .tc := ⟨.hbm, 240, rfl⟩
abbrev main_call1_cst_0 : Ref sig .tc := ⟨.hbm, 241, rfl⟩
abbrev main_call1_v4 : Ref sig .tc := ⟨.hbm, 242, rfl⟩
abbrev main_v203_2 : Ref sig .tc := ⟨.hbm, 243, rfl⟩
abbrev main_call1_cst_1 : Ref sig .tc := ⟨.hbm, 244, rfl⟩
abbrev main_call1_v6 : Ref sig .tc := ⟨.hbm, 245, rfl⟩
abbrev main_call1_v7 : Ref sig .tc := ⟨.hbm, 246, rfl⟩
abbrev main_v203_1 : Ref sig .tc := ⟨.hbm, 247, rfl⟩
abbrev main_v203_0 : Ref sig .tc := ⟨.hbm, 248, rfl⟩
abbrev main_v204 : Ref sig .tc := ⟨.hbm, 249, rfl⟩
abbrev main_v205 : Ref sig .tc := ⟨.hbm, 250, rfl⟩
abbrev main_cst_10 : Ref sig .tc := ⟨.hbm, 251, rfl⟩
abbrev main_v206 : Ref sig .tc := ⟨.hbm, 252, rfl⟩
abbrev main_v207 : Ref sig .tc := ⟨.hbm, 253, rfl⟩
abbrev main_cst_11 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_call2_v0 : Ref sig .tc := ⟨.hbm, 271, rfl⟩
abbrev main_call2_v1 : Ref sig .tc := ⟨.hbm, 272, rfl⟩
abbrev main_call2_cst : Ref sig .tc := ⟨.hbm, 273, rfl⟩
abbrev main_call2_v2 : Ref sig .tc := ⟨.hbm, 274, rfl⟩
abbrev main_call2_v3 : Ref sig .tc := ⟨.hbm, 275, rfl⟩
abbrev main_call2_cst_0 : Ref sig .tc := ⟨.hbm, 276, rfl⟩
abbrev main_call2_v4 : Ref sig .tc := ⟨.hbm, 277, rfl⟩
abbrev main_v224_2 : Ref sig .tc := ⟨.hbm, 278, rfl⟩
abbrev main_call2_cst_1 : Ref sig .tc := ⟨.hbm, 279, rfl⟩
abbrev main_call2_v6 : Ref sig .tc := ⟨.hbm, 280, rfl⟩
abbrev main_call2_v7 : Ref sig .tc := ⟨.hbm, 281, rfl⟩
abbrev main_v224_1 : Ref sig .tc := ⟨.hbm, 282, rfl⟩
abbrev main_v224_0 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_call3_v0 : Ref sig .tc := ⟨.hbm, 287, rfl⟩
abbrev main_call3_v1 : Ref sig .tc := ⟨.hbm, 288, rfl⟩
abbrev main_call3_v2 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_cst_12 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_cst_13 : Ref sig .tc := ⟨.hbm, 299, rfl⟩
abbrev main_v236 : Ref sig .tc := ⟨.hbm, 300, rfl⟩
abbrev main_cst_14 : Ref sig .tc := ⟨.hbm, 301, rfl⟩
abbrev main_v237 : Ref sig .tc := ⟨.hbm, 302, rfl⟩
abbrev main_v238 : Ref sig .tc := ⟨.hbm, 303, rfl⟩
abbrev main_cst_15 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_cst_16 : Ref sig .tc := ⟨.hbm, 309, rfl⟩
abbrev main_v243 : Ref sig .tc := ⟨.hbm, 310, rfl⟩
abbrev main_v244 : Ref sig .tc := ⟨.hbm, 311, rfl⟩
abbrev main_cst_17 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_cst_18 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_cst_19 : Ref sig .tc := ⟨.hbm, 321, rfl⟩
abbrev main_v252 : Ref sig .tc := ⟨.hbm, 322, rfl⟩
abbrev main_v253 : Ref sig .tc := ⟨.hbm, 323, rfl⟩
abbrev main_cst_20 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_call4_v0 : Ref sig .tc := ⟨.hbm, 333, rfl⟩
abbrev main_call4_v1 : Ref sig .tc := ⟨.hbm, 334, rfl⟩
abbrev main_call4_v2 : Ref sig .tc := ⟨.hbm, 335, rfl⟩
abbrev main_v262 : Ref sig .tc := ⟨.hbm, 336, rfl⟩
abbrev main_cst_21 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_call5_v0 : Ref sig .tc := ⟨.hbm, 343, rfl⟩
abbrev main_call5_v1 : Ref sig .tc := ⟨.hbm, 344, rfl⟩
abbrev main_call5_v2 : Ref sig .tc := ⟨.hbm, 345, rfl⟩
abbrev main_v268 : Ref sig .tc := ⟨.hbm, 346, rfl⟩
abbrev main_cst_22 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_cst_23 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_cst_24 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_cst_25 : Ref sig .tc := ⟨.hbm, 363, rfl⟩
abbrev main_v282 : Ref sig .tc := ⟨.hbm, 364, rfl⟩
abbrev main_v283 : Ref sig .tc := ⟨.hbm, 365, rfl⟩
abbrev main_cst_26 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_cst_27 : Ref sig .tc := ⟨.hbm, 374, rfl⟩
abbrev main_v291 : Ref sig .tc := ⟨.hbm, 375, rfl⟩
abbrev main_v292 : Ref sig .tc := ⟨.hbm, 376, rfl⟩
abbrev main_cst_28 : Ref sig .tc := ⟨.hbm, 377, rfl⟩
abbrev main_v293 : Ref sig .tc := ⟨.hbm, 378, rfl⟩
abbrev main_v294 : Ref sig .tc := ⟨.hbm, 379, rfl⟩
abbrev main_cst_29 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_cst_30 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_cst_31 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_cst_32 : Ref sig .tc := ⟨.hbm, 393, rfl⟩
abbrev main_v305 : Ref sig .tc := ⟨.hbm, 394, rfl⟩
abbrev main_cst_33 : Ref sig .tc := ⟨.hbm, 395, rfl⟩
abbrev main_v306 : Ref sig .tc := ⟨.hbm, 396, rfl⟩
abbrev main_v307 : Ref sig .tc := ⟨.hbm, 397, rfl⟩
abbrev main_cst_34 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_cst_35 : Ref sig .tc := ⟨.hbm, 403, rfl⟩
abbrev main_v312 : Ref sig .tc := ⟨.hbm, 404, rfl⟩
abbrev main_v313 : Ref sig .tc := ⟨.hbm, 405, rfl⟩
abbrev main_cst_36 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_cst_37 : Ref sig .tc := ⟨.hbm, 410, rfl⟩
abbrev main_v317 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_cst_38 : Ref sig .tc := ⟨.hbm, 415, rfl⟩
abbrev main_v321 : Ref sig .tc := ⟨.hbm, 416, rfl⟩
abbrev main_v322 : Ref sig .tc := ⟨.hbm, 417, rfl⟩
abbrev main_cst_39 : Ref sig .tc := ⟨.hbm, 418, rfl⟩
abbrev main_v323 : Ref sig .tc := ⟨.hbm, 419, rfl⟩
abbrev main_v324 : Ref sig .tc := ⟨.hbm, 420, rfl⟩
abbrev main_v325 : Ref sig .tc := ⟨.hbm, 421, rfl⟩
abbrev main_cst_40 : Ref sig .tc := ⟨.hbm, 422, rfl⟩
abbrev main_v326 : Ref sig .tc := ⟨.hbm, 423, rfl⟩
abbrev main_v327 : Ref sig .tc := ⟨.hbm, 424, rfl⟩
abbrev main_v328 : Ref sig .tc := ⟨.hbm, 425, rfl⟩
abbrev main_v329 : Ref sig .tc := ⟨.hbm, 426, rfl⟩
abbrev main_cst_41 : Ref sig .tc := ⟨.hbm, 427, rfl⟩
abbrev main_v330 : Ref sig .tc := ⟨.hbm, 428, rfl⟩
abbrev main_v331 : Ref sig .tc := ⟨.hbm, 429, rfl⟩
abbrev main_cst_42 : Ref sig .tc := ⟨.hbm, 430, rfl⟩
abbrev main_v332 : Ref sig .tc := ⟨.hbm, 431, rfl⟩
abbrev main_v333 : Ref sig .tc := ⟨.hbm, 432, rfl⟩
abbrev main_v334 : Ref sig .tc := ⟨.hbm, 433, rfl⟩
abbrev main_cst_43 : Ref sig .tc := ⟨.hbm, 434, rfl⟩
abbrev main_v335 : Ref sig .tc := ⟨.hbm, 435, rfl⟩
abbrev main_v336 : Ref sig .tc := ⟨.hbm, 436, rfl⟩
abbrev main_v337 : Ref sig .tc := ⟨.hbm, 437, rfl⟩
abbrev main_v338 : Ref sig .tc := ⟨.hbm, 438, rfl⟩
abbrev main_cst_44 : Ref sig .tc := ⟨.hbm, 439, rfl⟩
abbrev main_v339 : Ref sig .tc := ⟨.hbm, 440, rfl⟩
abbrev main_v340 : Ref sig .tc := ⟨.hbm, 441, rfl⟩
abbrev main_cst_45 : Ref sig .tc := ⟨.hbm, 442, rfl⟩
abbrev main_v341 : Ref sig .tc := ⟨.hbm, 443, rfl⟩
abbrev main_v342 : Ref sig .tc := ⟨.hbm, 444, rfl⟩
abbrev main_v343 : Ref sig .tc := ⟨.hbm, 445, rfl⟩
abbrev main_cst_46 : Ref sig .tc := ⟨.hbm, 446, rfl⟩
abbrev main_v344 : Ref sig .tc := ⟨.hbm, 447, rfl⟩
abbrev main_v345 : Ref sig .tc := ⟨.hbm, 448, rfl⟩
abbrev main_v346 : Ref sig .tc := ⟨.hbm, 449, rfl⟩
abbrev main_v347 : Ref sig .tc := ⟨.hbm, 450, rfl⟩
abbrev main_cst_47 : Ref sig .tc := ⟨.hbm, 451, rfl⟩
abbrev main_v348 : Ref sig .tc := ⟨.hbm, 452, rfl⟩
abbrev main_v349 : Ref sig .tc := ⟨.hbm, 453, rfl⟩
abbrev main_cst_48 : Ref sig .tc := ⟨.hbm, 454, rfl⟩
abbrev main_v350 : Ref sig .tc := ⟨.hbm, 455, rfl⟩
abbrev main_v351 : Ref sig .tc := ⟨.hbm, 456, rfl⟩
abbrev main_v352 : Ref sig .tc := ⟨.hbm, 457, rfl⟩
abbrev main_cst_49 : Ref sig .tc := ⟨.hbm, 458, rfl⟩
abbrev main_v353 : Ref sig .tc := ⟨.hbm, 459, rfl⟩
abbrev main_v354 : Ref sig .tc := ⟨.hbm, 460, rfl⟩
abbrev main_v355 : Ref sig .tc := ⟨.hbm, 461, rfl⟩
abbrev main_v356 : Ref sig .tc := ⟨.hbm, 462, rfl⟩
abbrev main_cst_50 : Ref sig .tc := ⟨.hbm, 463, rfl⟩
abbrev main_v357 : Ref sig .tc := ⟨.hbm, 464, rfl⟩
abbrev main_v358 : Ref sig .tc := ⟨.hbm, 465, rfl⟩
abbrev main_cst_51 : Ref sig .tc := ⟨.hbm, 466, rfl⟩
abbrev main_v359 : Ref sig .tc := ⟨.hbm, 467, rfl⟩
abbrev main_v360 : Ref sig .tc := ⟨.hbm, 468, rfl⟩
abbrev main_v361 : Ref sig .tc := ⟨.hbm, 469, rfl⟩
abbrev main_cst_52 : Ref sig .tc := ⟨.hbm, 470, rfl⟩
abbrev main_v362 : Ref sig .tc := ⟨.hbm, 471, rfl⟩
abbrev main_v363 : Ref sig .tc := ⟨.hbm, 472, rfl⟩
abbrev main_v364 : Ref sig .tc := ⟨.hbm, 473, rfl⟩
abbrev main_v365 : Ref sig .tc := ⟨.hbm, 474, rfl⟩
abbrev main_cst_53 : Ref sig .tc := ⟨.hbm, 475, rfl⟩
abbrev main_v366 : Ref sig .tc := ⟨.hbm, 476, rfl⟩
abbrev main_v367 : Ref sig .tc := ⟨.hbm, 477, rfl⟩
abbrev main_cst_54 : Ref sig .tc := ⟨.hbm, 478, rfl⟩
abbrev main_v368 : Ref sig .tc := ⟨.hbm, 479, rfl⟩
abbrev main_v369 : Ref sig .tc := ⟨.hbm, 480, rfl⟩
abbrev main_v370 : Ref sig .tc := ⟨.hbm, 481, rfl⟩
abbrev main_cst_55 : Ref sig .tc := ⟨.hbm, 482, rfl⟩
abbrev main_v371 : Ref sig .tc := ⟨.hbm, 483, rfl⟩
abbrev main_v372 : Ref sig .tc := ⟨.hbm, 484, rfl⟩
abbrev main_v373 : Ref sig .tc := ⟨.hbm, 485, rfl⟩
abbrev main_v374 : Ref sig .tc := ⟨.hbm, 486, rfl⟩
abbrev main_cst_56 : Ref sig .tc := ⟨.hbm, 487, rfl⟩
abbrev main_v375 : Ref sig .tc := ⟨.hbm, 488, rfl⟩
abbrev main_v376 : Ref sig .tc := ⟨.hbm, 489, rfl⟩
abbrev main_cst_57 : Ref sig .tc := ⟨.hbm, 490, rfl⟩
abbrev main_v377 : Ref sig .tc := ⟨.hbm, 491, rfl⟩
abbrev main_v378 : Ref sig .tc := ⟨.hbm, 492, rfl⟩
abbrev main_v379 : Ref sig .tc := ⟨.hbm, 493, rfl⟩
abbrev main_cst_58 : Ref sig .tc := ⟨.hbm, 494, rfl⟩
abbrev main_v380 : Ref sig .tc := ⟨.hbm, 495, rfl⟩
abbrev main_v381 : Ref sig .tc := ⟨.hbm, 496, rfl⟩
abbrev main_v382 : Ref sig .tc := ⟨.hbm, 497, rfl⟩
abbrev main_v383 : Ref sig .tc := ⟨.hbm, 498, rfl⟩
abbrev main_cst_59 : Ref sig .tc := ⟨.hbm, 499, rfl⟩
abbrev main_v384 : Ref sig .tc := ⟨.hbm, 500, rfl⟩
abbrev main_v385 : Ref sig .tc := ⟨.hbm, 501, rfl⟩
abbrev main_cst_60 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_cst_61 : Ref sig .tc := ⟨.hbm, 506, rfl⟩
abbrev main_v389 : Ref sig .tc := ⟨.hbm, 507, rfl⟩
abbrev main_v390 : Ref sig .tc := ⟨.hbm, 508, rfl⟩
abbrev main_v391 : Ref sig .tc := ⟨.hbm, 509, rfl⟩
abbrev main_v392 : Ref sig .tc := ⟨.hbm, 510, rfl⟩
abbrev main_cst_62 : Ref sig .tc := ⟨.hbm, 511, rfl⟩
abbrev main_v393 : Ref sig .tc := ⟨.hbm, 512, rfl⟩
abbrev main_v394 : Ref sig .tc := ⟨.hbm, 513, rfl⟩
abbrev main_cst_63 : Ref sig .tc := ⟨.hbm, 514, rfl⟩
abbrev main_v395 : Ref sig .tc := ⟨.hbm, 515, rfl⟩
abbrev main_v396 : Ref sig .tc := ⟨.hbm, 516, rfl⟩
abbrev main_v397 : Ref sig .tc := ⟨.hbm, 517, rfl⟩
abbrev main_cst_64 : Ref sig .tc := ⟨.hbm, 518, rfl⟩
abbrev main_v398 : Ref sig .tc := ⟨.hbm, 519, rfl⟩
abbrev main_v399 : Ref sig .tc := ⟨.hbm, 520, rfl⟩
abbrev main_v400 : Ref sig .tc := ⟨.hbm, 521, rfl⟩
abbrev main_v401 : Ref sig .tc := ⟨.hbm, 522, rfl⟩
abbrev main_cst_65 : Ref sig .tc := ⟨.hbm, 523, rfl⟩
abbrev main_v402 : Ref sig .tc := ⟨.hbm, 524, rfl⟩
abbrev main_v403 : Ref sig .tc := ⟨.hbm, 525, rfl⟩
abbrev main_cst_66 : Ref sig .tc := ⟨.hbm, 526, rfl⟩
abbrev main_v404 : Ref sig .tc := ⟨.hbm, 527, rfl⟩
abbrev main_v405 : Ref sig .tc := ⟨.hbm, 528, rfl⟩
abbrev main_v406 : Ref sig .tc := ⟨.hbm, 529, rfl⟩
abbrev main_cst_67 : Ref sig .tc := ⟨.hbm, 530, rfl⟩
abbrev main_v407 : Ref sig .tc := ⟨.hbm, 531, rfl⟩
abbrev main_v408 : Ref sig .tc := ⟨.hbm, 532, rfl⟩
abbrev main_v409 : Ref sig .tc := ⟨.hbm, 533, rfl⟩
abbrev main_v410 : Ref sig .tc := ⟨.hbm, 534, rfl⟩
abbrev main_cst_68 : Ref sig .tc := ⟨.hbm, 535, rfl⟩
abbrev main_v411 : Ref sig .tc := ⟨.hbm, 536, rfl⟩
abbrev main_v412 : Ref sig .tc := ⟨.hbm, 537, rfl⟩
abbrev main_cst_69 : Ref sig .tc := ⟨.hbm, 538, rfl⟩
abbrev main_v413 : Ref sig .tc := ⟨.hbm, 539, rfl⟩
abbrev main_v414 : Ref sig .tc := ⟨.hbm, 540, rfl⟩
abbrev main_v415 : Ref sig .tc := ⟨.hbm, 541, rfl⟩
abbrev main_cst_70 : Ref sig .tc := ⟨.hbm, 542, rfl⟩
abbrev main_v416 : Ref sig .tc := ⟨.hbm, 543, rfl⟩
abbrev main_v417 : Ref sig .tc := ⟨.hbm, 544, rfl⟩
abbrev main_v418 : Ref sig .tc := ⟨.hbm, 545, rfl⟩
abbrev main_v419 : Ref sig .tc := ⟨.hbm, 546, rfl⟩
abbrev main_cst_71 : Ref sig .tc := ⟨.hbm, 547, rfl⟩
abbrev main_v420 : Ref sig .tc := ⟨.hbm, 548, rfl⟩
abbrev main_v421 : Ref sig .tc := ⟨.hbm, 549, rfl⟩
abbrev main_cst_72 : Ref sig .tc := ⟨.hbm, 550, rfl⟩
abbrev main_v422 : Ref sig .tc := ⟨.hbm, 551, rfl⟩
abbrev main_v423 : Ref sig .tc := ⟨.hbm, 552, rfl⟩
abbrev main_v424 : Ref sig .tc := ⟨.hbm, 553, rfl⟩
abbrev main_cst_73 : Ref sig .tc := ⟨.hbm, 554, rfl⟩
abbrev main_v425 : Ref sig .tc := ⟨.hbm, 555, rfl⟩
abbrev main_v426 : Ref sig .tc := ⟨.hbm, 556, rfl⟩
abbrev main_v427 : Ref sig .tc := ⟨.hbm, 557, rfl⟩
abbrev main_v428 : Ref sig .tc := ⟨.hbm, 558, rfl⟩
abbrev main_cst_74 : Ref sig .tc := ⟨.hbm, 559, rfl⟩
abbrev main_v429 : Ref sig .tc := ⟨.hbm, 560, rfl⟩
abbrev main_v430 : Ref sig .tc := ⟨.hbm, 561, rfl⟩
abbrev main_cst_75 : Ref sig .tc := ⟨.hbm, 562, rfl⟩
abbrev main_v431 : Ref sig .tc := ⟨.hbm, 563, rfl⟩
abbrev main_v432 : Ref sig .tc := ⟨.hbm, 564, rfl⟩
abbrev main_v433 : Ref sig .tc := ⟨.hbm, 565, rfl⟩
abbrev main_cst_76 : Ref sig .tc := ⟨.hbm, 566, rfl⟩
abbrev main_v434 : Ref sig .tc := ⟨.hbm, 567, rfl⟩
abbrev main_v435 : Ref sig .tc := ⟨.hbm, 568, rfl⟩
abbrev main_v436 : Ref sig .tc := ⟨.hbm, 569, rfl⟩
abbrev main_v437 : Ref sig .tc := ⟨.hbm, 570, rfl⟩
abbrev main_cst_77 : Ref sig .tc := ⟨.hbm, 571, rfl⟩
abbrev main_v438 : Ref sig .tc := ⟨.hbm, 572, rfl⟩
abbrev main_v439 : Ref sig .tc := ⟨.hbm, 573, rfl⟩
abbrev main_cst_78 : Ref sig .tc := ⟨.hbm, 574, rfl⟩
abbrev main_v440 : Ref sig .tc := ⟨.hbm, 575, rfl⟩
abbrev main_v441 : Ref sig .tc := ⟨.hbm, 576, rfl⟩
abbrev main_v442 : Ref sig .tc := ⟨.hbm, 577, rfl⟩
abbrev main_cst_79 : Ref sig .tc := ⟨.hbm, 578, rfl⟩
abbrev main_v443 : Ref sig .tc := ⟨.hbm, 579, rfl⟩
abbrev main_v444 : Ref sig .tc := ⟨.hbm, 580, rfl⟩
abbrev main_v445 : Ref sig .tc := ⟨.hbm, 581, rfl⟩
abbrev main_v446 : Ref sig .tc := ⟨.hbm, 582, rfl⟩
abbrev main_cst_80 : Ref sig .tc := ⟨.hbm, 583, rfl⟩
abbrev main_v447 : Ref sig .tc := ⟨.hbm, 584, rfl⟩
abbrev main_v448 : Ref sig .tc := ⟨.hbm, 585, rfl⟩
abbrev main_cst_81 : Ref sig .tc := ⟨.hbm, 586, rfl⟩
abbrev main_v449 : Ref sig .tc := ⟨.hbm, 587, rfl⟩
abbrev main_v450 : Ref sig .tc := ⟨.hbm, 588, rfl⟩
abbrev main_v451 : Ref sig .tc := ⟨.hbm, 589, rfl⟩
abbrev main_cst_82 : Ref sig .tc := ⟨.hbm, 590, rfl⟩
abbrev main_v452 : Ref sig .tc := ⟨.hbm, 591, rfl⟩
abbrev main_v453 : Ref sig .tc := ⟨.hbm, 592, rfl⟩
abbrev main_v454 : Ref sig .tc := ⟨.hbm, 593, rfl⟩
abbrev main_v455 : Ref sig .tc := ⟨.hbm, 594, rfl⟩
abbrev main_cst_83 : Ref sig .tc := ⟨.hbm, 595, rfl⟩
abbrev main_v456 : Ref sig .tc := ⟨.hbm, 596, rfl⟩
abbrev main_v457 : Ref sig .tc := ⟨.hbm, 597, rfl⟩
abbrev main_cst_84 : Ref sig .tc := ⟨.hbm, 598, rfl⟩
abbrev main_v458 : Ref sig .tc := ⟨.hbm, 599, rfl⟩
abbrev main_v459 : Ref sig .tc := ⟨.hbm, 600, rfl⟩
abbrev main_v460 : Ref sig .tc := ⟨.hbm, 601, rfl⟩
abbrev main_cst_85 : Ref sig .tc := ⟨.hbm, 602, rfl⟩
abbrev main_v461 : Ref sig .tc := ⟨.hbm, 603, rfl⟩
abbrev main_v462 : Ref sig .tc := ⟨.hbm, 604, rfl⟩
abbrev main_v463 : Ref sig .tc := ⟨.hbm, 605, rfl⟩
abbrev main_v464 : Ref sig .tc := ⟨.hbm, 606, rfl⟩
abbrev main_cst_86 : Ref sig .tc := ⟨.hbm, 607, rfl⟩
abbrev main_v465 : Ref sig .tc := ⟨.hbm, 608, rfl⟩
abbrev main_v466 : Ref sig .tc := ⟨.hbm, 609, rfl⟩
abbrev main_cst_87 : Ref sig .tc := ⟨.hbm, 610, rfl⟩
abbrev main_v467 : Ref sig .tc := ⟨.hbm, 611, rfl⟩
abbrev main_v468 : Ref sig .tc := ⟨.hbm, 612, rfl⟩
abbrev main_v469 : Ref sig .tc := ⟨.hbm, 613, rfl⟩
abbrev main_cst_88 : Ref sig .tc := ⟨.hbm, 614, rfl⟩
abbrev main_v470 : Ref sig .tc := ⟨.hbm, 615, rfl⟩
abbrev main_v471 : Ref sig .tc := ⟨.hbm, 616, rfl⟩
abbrev main_v472 : Ref sig .tc := ⟨.hbm, 617, rfl⟩
abbrev main_v473 : Ref sig .tc := ⟨.hbm, 618, rfl⟩
abbrev main_cst_89 : Ref sig .tc := ⟨.hbm, 619, rfl⟩
abbrev main_v474 : Ref sig .tc := ⟨.hbm, 620, rfl⟩
abbrev main_v475 : Ref sig .tc := ⟨.hbm, 621, rfl⟩
abbrev main_cst_90 : Ref sig .tc := ⟨.hbm, 622, rfl⟩
abbrev main_v476 : Ref sig .tc := ⟨.hbm, 623, rfl⟩
abbrev main_v477 : Ref sig .tc := ⟨.hbm, 624, rfl⟩
abbrev main_v478 : Ref sig .tc := ⟨.hbm, 625, rfl⟩
abbrev main_cst_91 : Ref sig .tc := ⟨.hbm, 626, rfl⟩
abbrev main_v479 : Ref sig .tc := ⟨.hbm, 627, rfl⟩
abbrev main_v480 : Ref sig .tc := ⟨.hbm, 628, rfl⟩
abbrev main_v481 : Ref sig .tc := ⟨.hbm, 629, rfl⟩
abbrev main_v482 : Ref sig .tc := ⟨.hbm, 630, rfl⟩
abbrev main_cst_92 : Ref sig .tc := ⟨.hbm, 631, rfl⟩
abbrev main_v483 : Ref sig .tc := ⟨.hbm, 632, rfl⟩
abbrev main_v484 : Ref sig .tc := ⟨.hbm, 633, rfl⟩
abbrev main_cst_93 : Ref sig .tc := ⟨.hbm, 634, rfl⟩
abbrev main_v485 : Ref sig .tc := ⟨.hbm, 635, rfl⟩
abbrev main_v486 : Ref sig .tc := ⟨.hbm, 636, rfl⟩
abbrev main_v487 : Ref sig .tc := ⟨.hbm, 637, rfl⟩
abbrev main_cst_94 : Ref sig .tc := ⟨.hbm, 638, rfl⟩
abbrev main_v488 : Ref sig .tc := ⟨.hbm, 639, rfl⟩
abbrev main_v489 : Ref sig .tc := ⟨.hbm, 640, rfl⟩
abbrev main_v490 : Ref sig .tc := ⟨.hbm, 641, rfl⟩
abbrev main_v491 : Ref sig .tc := ⟨.hbm, 642, rfl⟩
abbrev main_cst_95 : Ref sig .tc := ⟨.hbm, 643, rfl⟩
abbrev main_v492 : Ref sig .tc := ⟨.hbm, 644, rfl⟩
abbrev main_v493 : Ref sig .tc := ⟨.hbm, 645, rfl⟩
abbrev main_cst_96 : Ref sig .tc := ⟨.hbm, 646, rfl⟩
abbrev main_v494 : Ref sig .tc := ⟨.hbm, 647, rfl⟩
abbrev main_v495 : Ref sig .tc := ⟨.hbm, 648, rfl⟩
abbrev main_v496 : Ref sig .tc := ⟨.hbm, 649, rfl⟩
abbrev main_cst_97 : Ref sig .tc := ⟨.hbm, 650, rfl⟩
abbrev main_v497 : Ref sig .tc := ⟨.hbm, 651, rfl⟩
abbrev main_v498 : Ref sig .tc := ⟨.hbm, 652, rfl⟩
abbrev main_v499 : Ref sig .tc := ⟨.hbm, 653, rfl⟩
abbrev main_v500 : Ref sig .tc := ⟨.hbm, 654, rfl⟩
abbrev main_cst_98 : Ref sig .tc := ⟨.hbm, 655, rfl⟩
abbrev main_v501 : Ref sig .tc := ⟨.hbm, 656, rfl⟩
abbrev main_v502 : Ref sig .tc := ⟨.hbm, 657, rfl⟩
abbrev main_cst_99 : Ref sig .tc := ⟨.hbm, 658, rfl⟩
abbrev main_v503 : Ref sig .tc := ⟨.hbm, 659, rfl⟩
abbrev main_v504 : Ref sig .tc := ⟨.hbm, 660, rfl⟩
abbrev main_v505 : Ref sig .tc := ⟨.hbm, 661, rfl⟩
abbrev main_cst_100 : Ref sig .tc := ⟨.hbm, 662, rfl⟩
abbrev main_v506 : Ref sig .tc := ⟨.hbm, 663, rfl⟩
abbrev main_v507 : Ref sig .tc := ⟨.hbm, 664, rfl⟩
abbrev main_v508 : Ref sig .tc := ⟨.hbm, 665, rfl⟩
abbrev main_v509 : Ref sig .tc := ⟨.hbm, 666, rfl⟩
abbrev main_cst_101 : Ref sig .tc := ⟨.hbm, 667, rfl⟩
abbrev main_v510 : Ref sig .tc := ⟨.hbm, 668, rfl⟩
abbrev main_v511 : Ref sig .tc := ⟨.hbm, 669, rfl⟩
abbrev main_cst_102 : Ref sig .tc := ⟨.hbm, 670, rfl⟩
abbrev main_v512 : Ref sig .tc := ⟨.hbm, 671, rfl⟩
abbrev main_v513 : Ref sig .tc := ⟨.hbm, 672, rfl⟩
abbrev main_v514 : Ref sig .tc := ⟨.hbm, 673, rfl⟩
abbrev main_cst_103 : Ref sig .tc := ⟨.hbm, 674, rfl⟩
abbrev main_v515 : Ref sig .tc := ⟨.hbm, 675, rfl⟩
abbrev main_v516 : Ref sig .tc := ⟨.hbm, 676, rfl⟩
abbrev main_v517 : Ref sig .tc := ⟨.hbm, 677, rfl⟩
abbrev main_v518 : Ref sig .tc := ⟨.hbm, 678, rfl⟩
abbrev main_cst_104 : Ref sig .tc := ⟨.hbm, 679, rfl⟩
abbrev main_v519 : Ref sig .tc := ⟨.hbm, 680, rfl⟩
abbrev main_v520 : Ref sig .tc := ⟨.hbm, 681, rfl⟩
abbrev main_cst_105 : Ref sig .tc := ⟨.hbm, 682, rfl⟩
abbrev main_v521 : Ref sig .tc := ⟨.hbm, 683, rfl⟩
abbrev main_v522 : Ref sig .tc := ⟨.hbm, 684, rfl⟩
abbrev main_v523 : Ref sig .tc := ⟨.hbm, 685, rfl⟩
abbrev main_cst_106 : Ref sig .tc := ⟨.hbm, 686, rfl⟩
abbrev main_v524 : Ref sig .tc := ⟨.hbm, 687, rfl⟩
abbrev main_v525 : Ref sig .tc := ⟨.hbm, 688, rfl⟩
abbrev main_v526 : Ref sig .tc := ⟨.hbm, 689, rfl⟩
abbrev main_v527 : Ref sig .tc := ⟨.hbm, 690, rfl⟩
abbrev main_cst_107 : Ref sig .tc := ⟨.hbm, 691, rfl⟩
abbrev main_v528 : Ref sig .tc := ⟨.hbm, 692, rfl⟩
abbrev main_v529 : Ref sig .tc := ⟨.hbm, 693, rfl⟩
abbrev main_cst_108 : Ref sig .tc := ⟨.hbm, 694, rfl⟩
abbrev main_v530 : Ref sig .tc := ⟨.hbm, 695, rfl⟩
abbrev main_v531 : Ref sig .tc := ⟨.hbm, 696, rfl⟩
abbrev main_v532 : Ref sig .tc := ⟨.hbm, 697, rfl⟩
abbrev main_cst_109 : Ref sig .tc := ⟨.hbm, 698, rfl⟩
abbrev main_v533 : Ref sig .tc := ⟨.hbm, 699, rfl⟩
abbrev main_v534 : Ref sig .tc := ⟨.hbm, 700, rfl⟩
abbrev main_v535 : Ref sig .tc := ⟨.hbm, 701, rfl⟩
abbrev main_v536 : Ref sig .tc := ⟨.hbm, 702, rfl⟩
abbrev main_cst_110 : Ref sig .tc := ⟨.hbm, 703, rfl⟩
abbrev main_v537 : Ref sig .tc := ⟨.hbm, 704, rfl⟩
abbrev main_v538 : Ref sig .tc := ⟨.hbm, 705, rfl⟩
abbrev main_cst_111 : Ref sig .tc := ⟨.hbm, 706, rfl⟩
abbrev main_v539 : Ref sig .tc := ⟨.hbm, 707, rfl⟩
abbrev main_v540 : Ref sig .tc := ⟨.hbm, 708, rfl⟩
abbrev main_v541 : Ref sig .tc := ⟨.hbm, 709, rfl⟩
abbrev main_cst_112 : Ref sig .tc := ⟨.hbm, 710, rfl⟩
abbrev main_v542 : Ref sig .tc := ⟨.hbm, 711, rfl⟩
abbrev main_v543 : Ref sig .tc := ⟨.hbm, 712, rfl⟩
abbrev main_v544 : Ref sig .tc := ⟨.hbm, 713, rfl⟩
abbrev main_v545 : Ref sig .tc := ⟨.hbm, 714, rfl⟩
abbrev main_cst_113 : Ref sig .tc := ⟨.hbm, 715, rfl⟩
abbrev main_v546 : Ref sig .tc := ⟨.hbm, 716, rfl⟩
abbrev main_v547 : Ref sig .tc := ⟨.hbm, 717, rfl⟩
abbrev main_cst_114 : Ref sig .tc := ⟨.hbm, 718, rfl⟩
abbrev main_v548 : Ref sig .tc := ⟨.hbm, 719, rfl⟩
abbrev main_v549 : Ref sig .tc := ⟨.hbm, 720, rfl⟩
abbrev main_v550 : Ref sig .tc := ⟨.hbm, 721, rfl⟩
abbrev main_cst_115 : Ref sig .tc := ⟨.hbm, 722, rfl⟩
abbrev main_v551 : Ref sig .tc := ⟨.hbm, 723, rfl⟩
abbrev main_v552 : Ref sig .tc := ⟨.hbm, 724, rfl⟩
abbrev main_v553 : Ref sig .tc := ⟨.hbm, 725, rfl⟩
abbrev main_v554 : Ref sig .tc := ⟨.hbm, 726, rfl⟩
abbrev main_cst_116 : Ref sig .tc := ⟨.hbm, 727, rfl⟩
abbrev main_v555 : Ref sig .tc := ⟨.hbm, 728, rfl⟩
abbrev main_v556 : Ref sig .tc := ⟨.hbm, 729, rfl⟩
abbrev main_cst_117 : Ref sig .tc := ⟨.hbm, 730, rfl⟩
abbrev main_v557 : Ref sig .tc := ⟨.hbm, 731, rfl⟩
abbrev main_v558 : Ref sig .tc := ⟨.hbm, 732, rfl⟩
abbrev main_v559 : Ref sig .tc := ⟨.hbm, 733, rfl⟩
abbrev main_cst_118 : Ref sig .tc := ⟨.hbm, 734, rfl⟩
abbrev main_v560 : Ref sig .tc := ⟨.hbm, 735, rfl⟩
abbrev main_v561 : Ref sig .tc := ⟨.hbm, 736, rfl⟩
abbrev main_v562 : Ref sig .tc := ⟨.hbm, 737, rfl⟩
abbrev main_v563 : Ref sig .tc := ⟨.hbm, 738, rfl⟩
abbrev main_cst_119 : Ref sig .tc := ⟨.hbm, 739, rfl⟩
abbrev main_v564 : Ref sig .tc := ⟨.hbm, 740, rfl⟩
abbrev main_v565 : Ref sig .tc := ⟨.hbm, 741, rfl⟩
abbrev main_cst_120 : Ref sig .tc := ⟨.hbm, 742, rfl⟩
abbrev main_v566 : Ref sig .tc := ⟨.hbm, 743, rfl⟩
abbrev main_v567 : Ref sig .tc := ⟨.hbm, 744, rfl⟩
abbrev main_v568 : Ref sig .tc := ⟨.hbm, 745, rfl⟩
abbrev main_cst_121 : Ref sig .tc := ⟨.hbm, 746, rfl⟩
abbrev main_v569 : Ref sig .tc := ⟨.hbm, 747, rfl⟩
abbrev main_v570 : Ref sig .tc := ⟨.hbm, 748, rfl⟩
abbrev main_v571 : Ref sig .tc := ⟨.hbm, 749, rfl⟩
abbrev main_v572 : Ref sig .tc := ⟨.hbm, 750, rfl⟩
abbrev main_cst_122 : Ref sig .tc := ⟨.hbm, 751, rfl⟩
abbrev main_v573 : Ref sig .tc := ⟨.hbm, 752, rfl⟩
abbrev main_v574 : Ref sig .tc := ⟨.hbm, 753, rfl⟩
abbrev main_cst_123 : Ref sig .tc := ⟨.hbm, 754, rfl⟩
abbrev main_v575 : Ref sig .tc := ⟨.hbm, 755, rfl⟩
abbrev main_v576 : Ref sig .tc := ⟨.hbm, 756, rfl⟩
abbrev main_v577 : Ref sig .tc := ⟨.hbm, 757, rfl⟩
abbrev main_v578 : Ref sig .tc := ⟨.hbm, 758, rfl⟩
abbrev main_v579 : Ref sig .tc := ⟨.hbm, 759, rfl⟩
abbrev main_v580 : Ref sig .tc := ⟨.hbm, 760, rfl⟩
abbrev main_v581 : Ref sig .tc := ⟨.hbm, 761, rfl⟩
abbrev main_v582 : Ref sig .tc := ⟨.hbm, 762, rfl⟩
abbrev main_v583 : Ref sig .tc := ⟨.hbm, 763, rfl⟩
abbrev main_v584 : Ref sig .tc := ⟨.hbm, 764, rfl⟩
abbrev main_v585 : Ref sig .tc := ⟨.hbm, 765, rfl⟩
abbrev main_c : Ref sig .tc := ⟨.hbm, 766, rfl⟩
abbrev main_call6_v0 : Ref sig .tc := ⟨.hbm, 767, rfl⟩
abbrev main_v586 : Ref sig .tc := ⟨.hbm, 768, rfl⟩
abbrev main_c_124 : Ref sig .tc := ⟨.hbm, 769, rfl⟩
abbrev main_call7_v0 : Ref sig .tc := ⟨.hbm, 770, rfl⟩
abbrev main_v587 : Ref sig .tc := ⟨.hbm, 771, rfl⟩

abbrev nD : Nat := 1
abbrev τ : Topo := Topo.v7x

variable {F : FTy → Type} [FloatOps F]
-- ==== KernelX.lean ====
abbrev S4096x768 : Shape := ⟨2, ![4096, 768]⟩
abbrev S4096x512 : Shape := ⟨2, ![4096, 512]⟩
abbrev S4096x1024 : Shape := ⟨2, ![4096, 1024]⟩
abbrev S4096x256 : Shape := ⟨2, ![4096, 256]⟩
abbrev S4096x128 : Shape := ⟨2, ![4096, 128]⟩
abbrev S1024x3456 : Shape := ⟨2, ![1024, 3456]⟩
abbrev S1x1024 : Shape := ⟨2, ![1, 1024]⟩
abbrev S512x768 : Shape := ⟨2, ![512, 768]⟩
abbrev S512x512 : Shape := ⟨2, ![512, 512]⟩
abbrev S512x1024 : Shape := ⟨2, ![512, 1024]⟩
abbrev S512x256 : Shape := ⟨2, ![512, 256]⟩
abbrev S512x128 : Shape := ⟨2, ![512, 128]⟩
abbrev S512x3456 : Shape := ⟨2, ![512, 3456]⟩
abbrev S512 : Shape := ⟨1, ![512]⟩
abbrev S512x1 : Shape := ⟨2, ![512, 1]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S4096x768, .bf16⟩
  | .hbm, ⟨1, _⟩ => ⟨S4096x512, .bf16⟩
  | .hbm, ⟨2, _⟩ => ⟨S4096x1024, .bf16⟩
  | .hbm, ⟨3, _⟩ => ⟨S4096x768, .bf16⟩
  | .hbm, ⟨4, _⟩ => ⟨S4096x256, .bf16⟩
  | .hbm, ⟨5, _⟩ => ⟨S4096x128, .bf16⟩
  | .hbm, ⟨6, _⟩ => ⟨S1024x3456, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x768, .bf16⟩
  | .local _ .vmem, ⟨7, _⟩ => ⟨S512x768, .bf16⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S1024x3456, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RefXIdeal.lean ====
abbrev S4096x768 : Shape := ⟨2, ![4096, 768]⟩
abbrev S4096x512 : Shape := ⟨2, ![4096, 512]⟩
abbrev S4096x1024 : Shape := ⟨2, ![4096, 1024]⟩
abbrev S4096x256 : Shape := ⟨2, ![4096, 256]⟩
abbrev S4096x128 : Shape := ⟨2, ![4096, 128]⟩
abbrev S1024x3456 : Shape := ⟨2, ![1024, 3456]⟩
abbrev S1x1024 : Shape := ⟨2, ![1, 1024]⟩
abbrev S4096x3456 : Shape := ⟨2, ![4096, 3456]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x512, .bf16⟩
  | .hbm, ⟨2, _⟩ => ⟨S4096x1024, .bf16⟩
  | .hbm, ⟨3, _⟩ => ⟨S4096x768, .bf16⟩
  | .hbm, ⟨4, _⟩ => ⟨S4096x256, .bf16⟩
  | .hbm, ⟨5, _⟩ => ⟨S4096x128, .bf16⟩
  | .hbm, ⟨6, _⟩ => ⟨S1024x3456, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x3456, .bf16⟩
  | .hbm, ⟨11, _⟩ => ⟨S4096x3456, .f32⟩
  | .hbm, ⟨12, _⟩ => ⟨S1024x3456, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x3456, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== KernelW.lean ====
abbrev S4096x1024 : Shape := ⟨2, ![4096, 1024]⟩
abbrev S1x1024 : Shape := ⟨2, ![1, 1024]⟩
abbrev S4096x768 : Shape := ⟨2, ![4096, 768]⟩
abbrev S4096x512 : Shape := ⟨2, ![4096, 512]⟩
abbrev S4096x256 : Shape := ⟨2, ![4096, 256]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1024x3456 : Shape := ⟨2, ![1024, 3456]⟩
abbrev S512x1024 : Shape := ⟨2, ![512, 1024]⟩
abbrev S512x768 : Shape := ⟨2, ![512, 768]⟩
abbrev S512x512 : Shape := ⟨2, ![512, 512]⟩
abbrev S512x256 : Shape := ⟨2, ![512, 256]⟩
abbrev S512x128 : Shape := ⟨2, ![512, 128]⟩
abbrev S1024x768 : Shape := ⟨2, ![1024, 768]⟩
abbrev S1024x512 : Shape := ⟨2, ![1024, 512]⟩
abbrev S1024x1024 : Shape := ⟨2, ![1024, 1024]⟩
abbrev S1024x256 : Shape := ⟨2, ![1024, 256]⟩
abbrev S1024x128 : Shape := ⟨2, ![1024, 128]⟩

abbrev nBuf : Space → Nat
  | .hbm => 25
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x768, .bf16⟩
  | .hbm, ⟨3, _⟩ => ⟨S4096x512, .bf16⟩
  | .hbm, ⟨4, _⟩ => ⟨S4096x1024, .bf16⟩
  | .hbm, ⟨5, _⟩ => ⟨S4096x768, .bf16⟩
  | .hbm, ⟨6, _⟩ => ⟨S4096x256, .bf16⟩
  | .hbm, ⟨7, _⟩ => ⟨S4096x128, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x3456, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x768, .bf16⟩
  | .local _ .vmem, ⟨9, _⟩ => ⟨S512x768, .bf16⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | .local _ .vmem, ⟨14, _⟩ => ⟨S1024x3456, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3456 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefWIdeal.lean ====
abbrev S4096x1024 : Shape := ⟨2, ![4096, 1024]⟩
abbrev S1x1024 : Shape := ⟨2, ![1, 1024]⟩
abbrev S4096x768 : Shape := ⟨2, ![4096, 768]⟩
abbrev S4096x512 : Shape := ⟨2, ![4096, 512]⟩
abbrev S4096x256 : Shape := ⟨2, ![4096, 256]⟩
abbrev S4096x128 : Shape := ⟨2, ![4096, 128]⟩
abbrev S4096x3456 : Shape := ⟨2, ![4096, 3456]⟩
abbrev S_ : Shape := ⟨0, ![]⟩
abbrev S1024x3456 : Shape := ⟨2, ![1024, 3456]⟩
abbrev S4096 : Shape := ⟨1, ![4096]⟩
abbrev S4096x1 : Shape := ⟨2, ![4096, 1]⟩
abbrev S3456x1024 : Shape := ⟨2, ![3456, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x768, .bf16⟩
  | .hbm, ⟨3, _⟩ => ⟨S4096x512, .bf16⟩
  | .hbm, ⟨4, _⟩ => ⟨S4096x1024, .bf16⟩
  | .hbm, ⟨5, _⟩ => ⟨S4096x768, .bf16⟩
  | .hbm, ⟨6, _⟩ => ⟨S4096x256, .bf16⟩
  | .hbm, ⟨7, _⟩ => ⟨S4096x128, .bf16⟩
  | .hbm, ⟨8, _⟩ => ⟨S4096x3456, .bf16⟩
  | .hbm, ⟨9, _⟩ => ⟨S4096x3456, .f32⟩
  | .hbm, ⟨10, _⟩ => ⟨S_, .f32⟩
  | .hbm, ⟨11, _⟩ => ⟨S1024x3456, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x3456, .f32⟩
  | .hbm, ⟨28, _⟩ => ⟨S3456x1024, .f32⟩
  | .hbm, ⟨29, _⟩ => ⟨S1024x3456, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== KernelO.lean ====
abbrev S4096x1024 : Shape := ⟨2, ![4096, 1024]⟩
abbrev S4096x256 : Shape := ⟨2, ![4096, 256]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 11
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .bf16⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RefOIdeal.lean ====
abbrev S4096x1024 : Shape := ⟨2, ![4096, 1024]⟩
abbrev S4096x256 : Shape := ⟨2, ![4096, 256]⟩
abbrev S1024x1024 : Shape := ⟨2, ![1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S4096x1024, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KernelIn.lean ====
abbrev S4096x1024 : Shape := ⟨2, ![4096, 1024]⟩
abbrev S1x1024 : Shape := ⟨2, ![1, 1024]⟩
abbrev S1024x3456 : Shape := ⟨2, ![1024, 3456]⟩
abbrev S4096x3456 : Shape := ⟨2, ![4096, 3456]⟩
abbrev S512x1024 : Shape := ⟨2, ![512, 1024]⟩
abbrev S512x3456 : Shape := ⟨2, ![512, 3456]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3456, .bf16⟩
  | .hbm, ⟨3, _⟩ => ⟨S4096x3456, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x3456, .f32⟩
  | .local _ .vmem, ⟨5, _⟩ => ⟨S512x3456, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefInIdeal.lean ====
abbrev S4096x1024 : Shape := ⟨2, ![4096, 1024]⟩
abbrev S1x1024 : Shape := ⟨2, ![1, 1024]⟩
abbrev S1024x3456 : Shape := ⟨2, ![1024, 3456]⟩
abbrev S_ : Shape := ⟨0, ![]⟩
abbrev S4096 : Shape := ⟨1, ![4096]⟩
abbrev S4096x1 : Shape := ⟨2, ![4096, 1]⟩
abbrev S4096x3456 : Shape := ⟨2, ![4096, 3456]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3456, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x3456, .f32⟩
  | .hbm, ⟨19, _⟩ => ⟨S4096x3456, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelOut.lean ====
abbrev S4096x1024 : Shape := ⟨2, ![4096, 1024]⟩
abbrev S4096x256 : Shape := ⟨2, ![4096, 256]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .bf16⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefOutIdeal.lean ====
abbrev S4096x1024 : Shape := ⟨2, ![4096, 1024]⟩
abbrev S4096x256 : Shape := ⟨2, ![4096, 256]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== KernelLoss.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefLossIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== KernelAC.lean ====
abbrev S4096x3456 : Shape := ⟨2, ![4096, 3456]⟩
abbrev S31x256 : Shape := ⟨2, ![31, 256]⟩
abbrev S1x256 : Shape := ⟨2, ![1, 256]⟩
abbrev S256x256 : Shape := ⟨2, ![256, 256]⟩
abbrev S3x256 : Shape := ⟨2, ![3, 256]⟩
abbrev S_ : Shape := ⟨0, ![]⟩
abbrev S32x256 : Shape := ⟨2, ![32, 256]⟩
abbrev S8x256 : Shape := ⟨2, ![8, 256]⟩
abbrev S4096x256 : Shape := ⟨2, ![4096, 256]⟩
abbrev S512x256 : Shape := ⟨2, ![512, 256]⟩
abbrev S544x256 : Shape := ⟨2, ![544, 256]⟩
abbrev S542x256 : Shape := ⟨2, ![542, 256]⟩
abbrev S2x256 : Shape := ⟨2, ![2, 256]⟩
abbrev S541x256 : Shape := ⟨2, ![541, 256]⟩
abbrev S540x256 : Shape := ⟨2, ![540, 256]⟩
abbrev S4x256 : Shape := ⟨2, ![4, 256]⟩
abbrev S539x256 : Shape := ⟨2, ![539, 256]⟩
abbrev S5x256 : Shape := ⟨2, ![5, 256]⟩
abbrev S538x256 : Shape := ⟨2, ![538, 256]⟩
abbrev S6x256 : Shape := ⟨2, ![6, 256]⟩
abbrev S537x256 : Shape := ⟨2, ![537, 256]⟩
abbrev S7x256 : Shape := ⟨2, ![7, 256]⟩
abbrev S536x256 : Shape := ⟨2, ![536, 256]⟩
abbrev S535x256 : Shape := ⟨2, ![535, 256]⟩
abbrev S9x256 : Shape := ⟨2, ![9, 256]⟩
abbrev S534x256 : Shape := ⟨2, ![534, 256]⟩
abbrev S10x256 : Shape := ⟨2, ![10, 256]⟩
abbrev S533x256 : Shape := ⟨2, ![533, 256]⟩
abbrev S11x256 : Shape := ⟨2, ![11, 256]⟩
abbrev S532x256 : Shape := ⟨2, ![532, 256]⟩
abbrev S12x256 : Shape := ⟨2, ![12, 256]⟩
abbrev S531x256 : Shape := ⟨2, ![531, 256]⟩
abbrev S13x256 : Shape := ⟨2, ![13, 256]⟩
abbrev S530x256 : Shape := ⟨2, ![530, 256]⟩
abbrev S14x256 : Shape := ⟨2, ![14, 256]⟩
abbrev S529x256 : Shape := ⟨2, ![529, 256]⟩
abbrev S15x256 : Shape := ⟨2, ![15, 256]⟩
abbrev S528x256 : Shape := ⟨2, ![528, 256]⟩
abbrev S16x256 : Shape := ⟨2, ![16, 256]⟩
abbrev S527x256 : Shape := ⟨2, ![527, 256]⟩
abbrev S17x256 : Shape := ⟨2, ![17, 256]⟩
abbrev S526x256 : Shape := ⟨2, ![526, 256]⟩
abbrev S18x256 : Shape := ⟨2, ![18, 256]⟩
abbrev S525x256 : Shape := ⟨2, ![525, 256]⟩
abbrev S19x256 : Shape := ⟨2, ![19, 256]⟩
abbrev S524x256 : Shape := ⟨2, ![524, 256]⟩
abbrev S20x256 : Shape := ⟨2, ![20, 256]⟩
abbrev S523x256 : Shape := ⟨2, ![523, 256]⟩
abbrev S21x256 : Shape := ⟨2, ![21, 256]⟩
abbrev S522x256 : Shape := ⟨2, ![522, 256]⟩
abbrev S22x256 : Shape := ⟨2, ![22, 256]⟩
abbrev S521x256 : Shape := ⟨2, ![521, 256]⟩
abbrev S23x256 : Shape := ⟨2, ![23, 256]⟩
abbrev S520x256 : Shape := ⟨2, ![520, 256]⟩
abbrev S24x256 : Shape := ⟨2, ![24, 256]⟩
abbrev S519x256 : Shape := ⟨2, ![519, 256]⟩
abbrev S25x256 : Shape := ⟨2, ![25, 256]⟩
abbrev S518x256 : Shape := ⟨2, ![518, 256]⟩
abbrev S26x256 : Shape := ⟨2, ![26, 256]⟩
abbrev S517x256 : Shape := ⟨2, ![517, 256]⟩
abbrev S27x256 : Shape := ⟨2, ![27, 256]⟩
abbrev S516x256 : Shape := ⟨2, ![516, 256]⟩
abbrev S28x256 : Shape := ⟨2, ![28, 256]⟩
abbrev S515x256 : Shape := ⟨2, ![515, 256]⟩
abbrev S29x256 : Shape := ⟨2, ![29, 256]⟩
abbrev S514x256 : Shape := ⟨2, ![514, 256]⟩
abbrev S30x256 : Shape := ⟨2, ![30, 256]⟩
abbrev S513x256 : Shape := ⟨2, ![513, 256]⟩
abbrev S512 : Shape := ⟨1, ![512]⟩
abbrev S512x1 : Shape := ⟨2, ![512, 1]⟩

abbrev nBuf : Space → Nat
  | .hbm => 17
  | .vmem => 33
  | .smem => 0
  | _ => 0

abbrev bufTy : (tb : Table) → Fin (tcTables nBuf tb) → BufTy
  | .hbm, ⟨0, _⟩ => ⟨S4096x3456, .f32⟩
  | .hbm, ⟨1, _⟩ => ⟨S31x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S256x256, .f32⟩
  | .hbm, ⟨6, _⟩ => ⟨S1x256, .f32⟩
  | .hbm, ⟨7, _⟩ => ⟨S3x256, .f32⟩
  | .hbm, ⟨8, _⟩ => ⟨S_, .i32⟩
  | .hbm, ⟨9, _⟩ => ⟨S_, .f32⟩
  | .hbm, ⟨10, _⟩ => ⟨S32x256, .f32⟩
  | .hbm, ⟨11, _⟩ => ⟨S256x256, .bf16⟩
  | .hbm, ⟨12, _⟩ => ⟨S_, .i32⟩
  | .hbm, ⟨13, _⟩ => ⟨S_, .f32⟩
  | .hbm, ⟨14, _⟩ => ⟨S8x256, .f32⟩
  | .hbm, ⟨15, _⟩ => ⟨S4096x256, .f32⟩
  | .hbm, ⟨16, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | .local _ .vmem, ⟨22, _⟩ => ⟨S32x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S256x256, .bf16⟩
  | .local _ .vmem, ⟨27, _⟩ => ⟨S1x256, .f32⟩
  | .local _ .vmem, ⟨28, _⟩ => ⟨S8x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_10 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RefACIdeal.lean ====
abbrev S4096x3456 : Shape := ⟨2, ![4096, 3456]⟩
abbrev S31x256 : Shape := ⟨2, ![31, 256]⟩
abbrev S1x256 : Shape := ⟨2, ![1, 256]⟩
abbrev S256x256 : Shape := ⟨2, ![256, 256]⟩
abbrev S3x256 : Shape := ⟨2, ![3, 256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S4096 : Shape := ⟨1, ![4096]⟩
abbrev S4096x1 : Shape := ⟨2, ![4096, 1]⟩
abbrev S2x256 : Shape := ⟨2, ![2, 256]⟩
abbrev S4098x256 : Shape := ⟨2, ![4098, 256]⟩

abbrev nBuf : Space → Nat
  | .hbm => 259
  | .vmem => 0
  | .smem => 0
  | _ => 0

abbrev hbmTy0_0 (i : Nat) : BufTy := match i % 128 with
  | 0 => ⟨S4096x3456, .f32⟩
  | 1 => ⟨S31x256, .f32⟩
  | 2 => ⟨S1x256, .f32⟩
  | 3 => ⟨S1x256, .f32⟩
  | 4 => ⟨S1x256, .f32⟩
  | 5 => ⟨S256x256, .f32⟩
  | 6 => ⟨S1x256, .f32⟩
  | 7 => ⟨S3x256, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S4096x256, .f32⟩
  | 17 => ⟨S_, .f32⟩
  | 18 => ⟨S4096x256, .f32⟩
  | 19 => ⟨S4096x256, .f32⟩
  | 20 => ⟨S_, .f32⟩
  | 21 => ⟨S4096x256, .f32⟩
  | 22 => ⟨S4096x256, .f32⟩
  | 23 => ⟨S4096x256, .f32⟩
  | 24 => ⟨S_, .f32⟩
  | 25 => ⟨S30x256, .f32⟩
  | 26 => ⟨S4126x256, .f32⟩
  | 27 => ⟨S4096x256, .f32⟩
  | 28 => ⟨S1x256, .f32⟩
  | 29 => ⟨S4096x256, .f32⟩
  | 30 => ⟨S4096x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S4096x256, .f32⟩
  | 42 => ⟨S1x256, .f32⟩
  | 43 => ⟨S4096x256, .f32⟩
  | 44 => ⟨S4096x256, .f32⟩
  | 45 => ⟨S4096x256, .f32⟩
  | 46 => ⟨S4096x256, .f32⟩
  | 47 => ⟨S1x256, .f32⟩
  | 48 => ⟨S4096x256, .f32⟩
  | 49 => ⟨S4096x256, .f32⟩
  | 50 => ⟨S4096x256, .f32⟩
  | 51 => ⟨S4096x256, .f32⟩
  | 52 => ⟨S1x256, .f32⟩
  | 53 => ⟨S4096x256, .f32⟩
  | 54 => ⟨S4096x256, .f32⟩
  | 55 => ⟨S4096x256, .f32⟩
  | 56 => ⟨S4096x256, .f32⟩
  | 57 => ⟨S1x256, .f32⟩
  | 58 => ⟨S4096x256, .f32⟩
  | 59 => ⟨S4096x256, .f32⟩
  | 60 => ⟨S4096x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S1x256, .f32⟩
  | 68 => ⟨S4096x256, .f32⟩
  | 69 => ⟨S4096x256, .f32⟩
  | 70 => ⟨S4096x256, .f32⟩
  | 71 => ⟨S4096x256, .f32⟩
  | 72 => ⟨S1x256, .f32⟩
  | 73 => ⟨S4096x256, .f32⟩
  | 74 => ⟨S4096x256, .f32⟩
  | 75 => ⟨S4096x256, .f32⟩
  | 76 => ⟨S4096x256, .f32⟩
  | 77 => ⟨S1x256, .f32⟩
  | 78 => ⟨S4096x256, .f32⟩
  | 79 => ⟨S4096x256, .f32⟩
  | 80 => ⟨S4096x256, .f32⟩
  | 81 => ⟨S4096x256, .f32⟩
  | 82 => ⟨S1x256, .f32⟩
  | 83 => ⟨S4096x256, .f32⟩
  | 84 => ⟨S4096x256, .f32⟩
  | 85 => ⟨S4096x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x256, .f32⟩
  | 93 => ⟨S4096x256, .f32⟩
  | 94 => ⟨S4096x256, .f32⟩
  | 95 => ⟨S4096x256, .f32⟩
  | 96 => ⟨S4096x256, .f32⟩
  | 97 => ⟨S1x256, .f32⟩
  | 98 => ⟨S4096x256, .f32⟩
  | 99 => ⟨S4096x256, .f32⟩
  | 100 => ⟨S4096x256, .f32⟩
  | 101 => ⟨S4096x256, .f32⟩
  | 102 => ⟨S1x256, .f32⟩
  | 103 => ⟨S4096x256, .f32⟩
  | 104 => ⟨S4096x256, .f32⟩
  | 105 => ⟨S4096x256, .f32⟩
  | 106 => ⟨S4096x256, .f32⟩
  | 107 => ⟨S1x256, .f32⟩
  | 108 => ⟨S4096x256, .f32⟩
  | 109 => ⟨S4096x256, .f32⟩
  | 110 => ⟨S4096x256, .f32⟩
  | 111 => ⟨S4096x256, .f32⟩
  | 112 => ⟨S1x256, .f32⟩
  | 113 => ⟨S4096x256, .f32⟩
  | 114 => ⟨S4096x256, .f32⟩
  | 115 => ⟨S4096x256, .f32⟩
  | 116 => ⟨S4096x256, .f32⟩
  | 117 => ⟨S1x256, .f32⟩
  | 118 => ⟨S4096x256, .f32⟩
  | 119 => ⟨S4096x256, .f32⟩
  | 120 => ⟨S4096x256, .f32⟩
  | 121 => ⟨S4096x256, .f32⟩
  | 122 => ⟨S1x256, .f32⟩
  | 123 => ⟨S4096x256, .f32⟩
  | 124 => ⟨S4096x256, .f32⟩
  | 125 => ⟨S4096x256, .f32⟩
  | 126 => ⟨S4096x256, .f32⟩
  | 127 => ⟨S1x256, .f32⟩
  | _ => ⟨S4096x3456, .f32⟩

abbrev hbmTy0_1 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S1x256, .f32⟩
  | 15 => ⟨S4096x256, .f32⟩
  | 16 => ⟨S4096x256, .f32⟩
  | 17 => ⟨S4096x256, .f32⟩
  | 18 => ⟨S4096x256, .f32⟩
  | 19 => ⟨S1x256, .f32⟩
  | 20 => ⟨S4096x256, .f32⟩
  | 21 => ⟨S4096x256, .f32⟩
  | 22 => ⟨S4096x256, .f32⟩
  | 23 => ⟨S4096x256, .f32⟩
  | 24 => ⟨S1x256, .f32⟩
  | 25 => ⟨S4096x256, .f32⟩
  | 26 => ⟨S4096x256, .f32⟩
  | 27 => ⟨S4096x256, .f32⟩
  | 28 => ⟨S4096x256, .f32⟩
  | 29 => ⟨S1x256, .f32⟩
  | 30 => ⟨S4096x256, .f32⟩
  | 31 => ⟨S4096x256, .f32⟩
  | 32 => ⟨S4096x256, .f32⟩
  | 33 => ⟨S4096x256, .f32⟩
  | 34 => ⟨S1x256, .f32⟩
  | 35 => ⟨S4096x256, .f32⟩
  | 36 => ⟨S4096x256, .f32⟩
  | 37 => ⟨S4096x256, .f32⟩
  | 38 => ⟨S4096x256, .f32⟩
  | 39 => ⟨S1x256, .f32⟩
  | 40 => ⟨S4096x256, .f32⟩
  | 41 => ⟨S4096x256, .f32⟩
  | 42 => ⟨S4096x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S1x256, .f32⟩
  | 50 => ⟨S4096x256, .f32⟩
  | 51 => ⟨S4096x256, .f32⟩
  | 52 => ⟨S4096x256, .f32⟩
  | 53 => ⟨S4096x256, .f32⟩
  | 54 => ⟨S4096x256, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S4096x256, .f32⟩
  | 62 => ⟨S4096x256, .f32⟩
  | 63 => ⟨S4096x256, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x1, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S4096x256, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S_, .f32⟩
  | 86 => ⟨S4096x256, .f32⟩
  | 87 => ⟨S4096x256, .f32⟩
  | 88 => ⟨S4096x256, .f32⟩
  | 89 => ⟨S4096x256, .f32⟩
  | 90 => ⟨S4096x256, .f32⟩
  | 91 => ⟨S4096x256, .f32⟩
  | 92 => ⟨S4096x256, .f32⟩
  | 93 => ⟨S4096x256, .f32⟩
  | 94 => ⟨S_, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S4096x256, .f32⟩
  | 101 => ⟨S4096x256, .f32⟩
  | 102 => ⟨S4096x256, .f32⟩
  | 103 => ⟨S_, .f32⟩
  | 104 => ⟨S2x256, .f32⟩
  | 105 => ⟨S4098x256, .f32⟩
  | 106 => ⟨S4096x256, .f32⟩
  | 107 => ⟨S1x256, .f32⟩
  | 108 => ⟨S4096x256, .f32⟩
  | 109 => ⟨S4096x256, .f32⟩
  | 110 => ⟨S4096x256, .f32⟩
  | 111 => ⟨S1x256, .f32⟩
  | 112 => ⟨S4096x256, .f32⟩
  | 113 => ⟨S4096x256, .f32⟩
  | 114 => ⟨S4096x256, .f32⟩
  | 115 => ⟨S4096x256, .f32⟩
  | 116 => ⟨S1x256, .f32⟩
  | 117 => ⟨S4096x256, .f32⟩
  | 118 => ⟨S4096x256, .f32⟩
  | 119 => ⟨S4096x256, .f32⟩
  | 120 => ⟨S4096x256, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S_, .f32⟩
  | 127 => ⟨S4096x256, .f32⟩
  | _ => ⟨S4096x3456, .f32⟩

abbrev hbmTy0_2 (i : Nat) : BufTy := match i % 128 with
  | 0 => ⟨S4096x256, .f32⟩
  | 1 => ⟨S4096x256, .f32⟩
  | 2 => ⟨S4096x256, .f32⟩
  | _ => ⟨S4096x3456, .f32⟩

abbrev hbmTy (i : Nat) : BufTy := match i / 128 with
  | 0 => hbmTy0_0 i
  | 1 => hbmTy0_1 i
  | 2 => hbmTy0_2 i
  | _ => ⟨S4096x3456, .f32⟩

abbrev bufTy : (tb : Table) → Fin (tcTables nBuf tb) → BufTy
  | .hbm, ⟨i, _⟩ => hbmTy i
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_cst_2 : Ref sig .tc := ⟨.hbm, 183, rfl⟩
abbrev main_v172 : Ref sig .tc := ⟨.hbm, 184, rfl⟩
abbrev main_v173 : Ref sig .tc := ⟨.hbm, 185, rfl⟩
abbrev main_cst_3 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_cst_4 : Ref sig .tc := ⟨.hbm, 192, rfl⟩
abbrev main_v179 : Ref sig .tc := ⟨.hbm, 193, rfl⟩
abbrev main_v180 : Ref sig .tc := ⟨.hbm, 194, rfl⟩
abbrev main_cst_5 : Ref sig .tc := ⟨.hbm, 195, rfl⟩
abbrev main_v181 : Ref sig .tc := ⟨.hbm, 196, rfl⟩
abbrev main_v182 : Ref sig .tc := ⟨.hbm, 197, rfl⟩
abbrev main_cst_6 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_call0_v0 : Ref sig .tc := ⟨.hbm, 208, rfl⟩
abbrev main_call0_v1 : Ref sig .tc := ⟨.hbm, 209, rfl⟩
abbrev main_call0_cst : Ref sig .tc := ⟨.hbm, 210, rfl⟩
abbrev main_call0_v2 : Ref sig .tc := ⟨.hbm, 211, rfl⟩
abbrev main_call0_v3 : Ref sig .tc := ⟨.hbm, 212, rfl⟩
abbrev main_call0_cst_0 : Ref sig .tc := ⟨.hbm, 213, rfl⟩
abbrev main_call0_v4 : Ref sig .tc := ⟨.hbm, 214, rfl⟩
abbrev main_call0_v5 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_call1_v0 : Ref sig .tc := ⟨.hbm, 220, rfl⟩
abbrev main_call1_v1 : Ref sig .tc := ⟨.hbm, 221, rfl⟩
abbrev main_call1_cst : Ref sig .tc := ⟨.hbm, 222, rfl⟩
abbrev main_call1_v2 : Ref sig .tc := ⟨.hbm, 223, rfl⟩
abbrev main_call1_v3 : Ref sig .tc := ⟨.hbm, 224, rfl⟩
abbrev main_call1_cst_0 : Ref sig .tc := ⟨.hbm, 225, rfl⟩
abbrev main_call1_v4 : Ref sig .tc := ⟨.hbm, 226, rfl⟩
abbrev main_call1_v5 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_cst_7 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_call2_v0 : Ref sig .tc := ⟨.hbm, 249, rfl⟩
abbrev main_call2_v1 : Ref sig .tc := ⟨.hbm, 250, rfl⟩
abbrev main_call2_cst : Ref sig .tc := ⟨.hbm, 251, rfl⟩
abbrev main_call2_v2 : Ref sig .tc := ⟨.hbm, 252, rfl⟩
abbrev main_call2_v3 : Ref sig .tc := ⟨.hbm, 253, rfl⟩
abbrev main_call2_cst_0 : Ref sig .tc := ⟨.hbm, 254, rfl⟩
abbrev main_call2_v4 : Ref sig .tc := ⟨.hbm, 255, rfl⟩
abbrev main_call2_v5 : Ref sig .tc := ⟨.hbm, 256, rfl⟩
abbrev main_v216 : Ref sig .tc := ⟨.hbm, 257, rfl⟩
abbrev main_v217 : Ref sig .tc := ⟨.hbm, 258, rfl⟩

abbrev nD : Nat := 1
abbrev τ : Topo := Topo.v7x

variable {F : FTy → Type} [FloatOps F]
-- ==== Proof.Frame.RunA.lean ====
/-
The kernel body run at the first grid point, where the carried rows and the accumulators are cleared.
-/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S8x256 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x768 .bf16) (harg21 : arg21.IsWhole) (arg22 : Memref sig .tc .vmem S512x1024 .bf16) (harg22 : arg22.IsWhole) (arg23 : Memref sig .tc .vmem S32x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S256x256 .f32) (harg27 : arg27.IsWhole) (arg28 : Memref sig .tc .vmem S1x256 .f32) (harg28 : arg28.IsWhole) (arg29 : Memref sig .tc .vmem S8x256 .f32) (harg29 : arg29.IsWhole) (arg30 : Memref sig .tc .vmem S4x32x256 .f32) (harg30 : arg30.IsWhole) (hc0 : cond0_0 i)
    (x0 : Vec F S512x256 .f32) (x1 : Vec F S512x256 .f32) (x2 : Vec F S512x256 .f32) (x3 : Vec F S32x256 .f32) (x4 : Vec F S32x256 .f32) (x5 : Vec F S512x256 .f32) (x6 : Vec F S512x256 .f32) (x7 : Vec F S512x256 .f32) (x8 : Vec F S512x256 .f32) (x9 : Vec F S32x256 .f32) (x10 : Vec F S32x256 .f32) (x11 : Vec F S32x256 .f32) (x12 : Vec F S1x256 .f32) (x13 : Vec F S1x256 .f32) (x14 : Vec F S1x256 .f32) (x15 : Vec F S256x256 .bf16) (x16 : Vec F S1x256 .f32) (x17 : Vec F S8x256 .f32) (x18 : Vec F S512x256 .f32) (x19 : Vec F S512x256 .f32) :
    Σ' (L20 : List (View.Piece (Elt F) S512x768 .bf16)), Σ' (L21 : List (View.Piece (Elt F) S512x1024 .bf16)), Σ' (L22 : List (View.Piece (Elt F) S32x256 .f32)), Σ' (L23 : List (View.Piece (Elt F) S1x256 .f32)), Σ' (L24 : List (View.Piece (Elt F) S1x256 .f32)), Σ' (L25 : List (View.Piece (Elt F) S1x256 .f32)), Σ' (L26 : List (View.Piece (Elt F) S256x256 .f32)), Σ' (L27 : List (View.Piece (Elt F) S1x256 .f32)), Σ' (L28 : List (View.Piece (Elt F) S8x256 .f32)), { LS0 : List (View.Piece (Elt F) S4x32x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f LS0)) -∗ K ⟨⟩))
          ⊢ wp frame (wpE (defs₀ (F := F)) Variants.none c none) E (cc0_ac_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, ?_, ?_, fun E K => ?run⟩
  case run =>
    simp only [cc0_ac_bwd_eq_skeleton]; unfold cc0_ac_bwd_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iexists _; iexact HS0

end Cert.KernelIdeal.Gen

end
-- ==== Proof.Frame.Covers.lean ====
/-
What the body's stores leave in each result's buffer, and that they fill it.
-/
module

public import proofs.«01_k».proof.Proof.Frame.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S8x256 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x768 .bf16) (harg21 : arg21.IsWhole) (arg22 : Memref sig .tc .vmem S512x1024 .bf16) (harg22 : arg22.IsWhole) (arg23 : Memref sig .tc .vmem S32x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S256x256 .f32) (harg27 : arg27.IsWhole) (arg28 : Memref sig .tc .vmem S1x256 .f32) (harg28 : arg28.IsWhole) (arg29 : Memref sig .tc .vmem S8x256 .f32) (harg29 : arg29.IsWhole) (arg30 : Memref sig .tc .vmem S4x32x256 .f32) (harg30 : arg30.IsWhole) (hc0 : cond0_0 i)
    (x0 : Vec F S512x256 .f32) (x1 : Vec F S512x256 .f32) (x2 : Vec F S512x256 .f32) (x3 : Vec F S32x256 .f32) (x4 : Vec F S32x256 .f32) (x5 : Vec F S512x256 .f32) (x6 : Vec F S512x256 .f32) (x7 : Vec F S512x256 .f32) (x8 : Vec F S512x256 .f32) (x9 : Vec F S32x256 .f32) (x10 : Vec F S32x256 .f32) (x11 : Vec F S32x256 .f32) (x12 : Vec F S1x256 .f32) (x13 : Vec F S1x256 .f32) (x14 : Vec F S1x256 .f32) (x15 : Vec F S256x256 .bf16) (x16 : Vec F S1x256 .f32) (x17 : Vec F S8x256 .f32) (x18 : Vec F S512x256 .f32) (x19 : Vec F S512x256 .f32)

/-- Case A's pieces for output 20 tile its block (3 stores of `S512x256`, checked by the kernel's evaluation: Lib/Ring.lean `Piece.tiledL`, linear in the pieces, through a loop's `@[irreducible]` trip theorem too), so they cover it. -/
theorem cover0_A_20 (y : S512x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).1 S512x256.size (by sl_kernel_rfl) y

/-- What case A leaves in output 20's staging buffer: its pieces read back over junk. -/
def out0_A_20 : Vec F S512x768 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).1)

/-- Case A's pieces for output 21 tile its block (4 stores of `S512x256`, checked by the kernel's evaluation: Lib/Ring.lean `Piece.tiledL`, linear in the pieces, through a loop's `@[irreducible]` trip theorem too), so they cover it. -/
theorem cover0_A_21 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.1 S512x256.size (by sl_kernel_rfl) y

/-- What case A leaves in output 21's staging buffer: its pieces read back over junk. -/
def out0_A_21 : Vec F S512x1024 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.1)

/-- Case A's pieces for output 22 tile its block (2 stores of `S32x256`, checked by the kernel's evaluation: Lib/Ring.lean `Piece.tiledL`, linear in the pieces, through a loop's `@[irreducible]` trip theorem too), so they cover it. -/
theorem cover0_A_22 (y : S32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.1 S32x256.size (by sl_kernel_rfl) y

/-- What case A leaves in output 22's staging buffer: its pieces read back over junk. -/
def out0_A_22 : Vec F S32x256 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.1)

/-- Case A's pieces for output 23 tile its block (2 stores of `S1x256`, checked by the kernel's evaluation: Lib/Ring.lean `Piece.tiledL`, linear in the pieces, through a loop's `@[irreducible]` trip theorem too), so they cover it. -/
theorem cover0_A_23 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.1 S1x256.size (by sl_kernel_rfl) y

/-- What case A leaves in output 23's staging buffer: its pieces read back over junk. -/
def out0_A_23 : Vec F S1x256 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.1)

/-- Case A's pieces for output 24 tile its block (2 stores of `S1x256`, checked by the kernel's evaluation: Lib/Ring.lean `Piece.tiledL`, linear in the pieces, through a loop's `@[irreducible]` trip theorem too), so they cover it. -/
theorem cover0_A_24 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.1 S1x256.size (by sl_kernel_rfl) y

/-- What case A leaves in output 24's staging buffer: its pieces read back over junk. -/
def out0_A_24 : Vec F S1x256 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.1)

/-- Case A's pieces for output 25 tile its block (2 stores of `S1x256`, checked by the kernel's evaluation: Lib/Ring.lean `Piece.tiledL`, linear in the pieces, through a loop's `@[irreducible]` trip theorem too), so they cover it. -/
theorem cover0_A_25 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.1 S1x256.size (by sl_kernel_rfl) y

/-- What case A leaves in output 25's staging buffer: its pieces read back over junk. -/
def out0_A_25 : Vec F S1x256 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.1)

/-- Case A's pieces for output 26 tile its block (2 stores of `S256x256`, checked by the kernel's evaluation: Lib/Ring.lean `Piece.tiledL`, linear in the pieces, through a loop's `@[irreducible]` trip theorem too), so they cover it. -/
theorem cover0_A_26 (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.1 S256x256.size (by sl_kernel_rfl) y

/-- What case A leaves in output 26's staging buffer: its pieces read back over junk. -/
def out0_A_26 : Vec F S256x256 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.1)

/-- Case A's pieces for output 27 tile its block (2 stores of `S1x256`, checked by the kernel's evaluation: Lib/Ring.lean `Piece.tiledL`, linear in the pieces, through a loop's `@[irreducible]` trip theorem too), so they cover it. -/
theorem cover0_A_27 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.2.1 S1x256.size (by sl_kernel_rfl) y

/-- What case A leaves in output 27's staging buffer: its pieces read back over junk. -/
def out0_A_27 : Vec F S1x256 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.2.1)

/-- Case A's pieces for output 28 tile its block (2 stores of `S8x256`, checked by the kernel's evaluation: Lib/Ring.lean `Piece.tiledL`, linear in the pieces, through a loop's `@[irreducible]` trip theorem too), so they cover it. -/
theorem cover0_A_28 (y : S8x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.2.2.1 S8x256.size (by sl_kernel_rfl) y

/-- What case A leaves in output 28's staging buffer: its pieces read back over junk. -/
def out0_A_28 : Vec F S8x256 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.2.2.1)

/-- Case A's pieces for scratch `arg30`, which the kernel carries between points, cover it: one of them a store of the WHOLE buffer (Lib/Ring.lean `sl_whole_mem`). -/
theorem scover0_A_0 (y : S4x32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.2.2.2.1 (by sl_whole_mem) y

/-- What case A leaves in scratch `arg30`: its pieces read back over junk. -/
def sout0_A_0 : Vec F S4x32x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19).2.2.2.2.2.2.2.2.2.1)

end

section

variable (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S8x256 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x768 .bf16) (harg21 : arg21.IsWhole) (arg22 : Memref sig .tc .vmem S512x1024 .bf16) (harg22 : arg22.IsWhole) (arg23 : Memref sig .tc .vmem S32x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S256x256 .f32) (harg27 : arg27.IsWhole) (arg28 : Memref sig .tc .vmem S1x256 .f32) (harg28 : arg28.IsWhole) (arg29 : Memref sig .tc .vmem S8x256 .f32) (harg29 : arg29.IsWhole) (arg30 : Memref sig .tc .vmem S4x32x256 .f32) (harg30 : arg30.IsWhole) (hc0 : ¬cond0_0 i)
    (x0 : Vec F S512x256 .f32) (x1 : Vec F S512x256 .f32) (x2 : Vec F S512x256 .f32) (x3 : Vec F S32x256 .f32) (x4 : Vec F S32x256 .f32) (x5 : Vec F S512x256 .f32) (x6 : Vec F S512x256 .f32) (x7 : Vec F S512x256 .f32) (x8 : Vec F S512x256 .f32) (x9 : Vec F S32x256 .f32) (x10 : Vec F S32x256 .f32) (x11 : Vec F S32x256 .f32) (x12 : Vec F S1x256 .f32) (x13 : Vec F S1x256 .f32) (x14 : Vec F S1x256 .f32) (x15 : Vec F S256x256 .bf16) (x16 : Vec F S1x256 .f32) (x17 : Vec F S8x256 .f32) (x18 : Vec F S512x256 .f32) (x19 : Vec F S512x256 .f32) (xo22 : Vec F S32x256 .f32) (xo23 : Vec F S1x256 .f32) (xo24 : Vec F S1x256 .f32) (xo25 : Vec F S1x256 .f32) (xo26 : Vec F S256x256 .f32) (xo27 : Vec F S1x256 .f32) (xo28 : Vec F S8x256 .f32) (xs0 : Vec F S4x32x256 .f32)

/-- Case B's pieces for output 20 tile its block (3 stores of `S512x256`, checked by the kernel's evaluation: Lib/Ring.lean `Piece.tiledL`, linear in the pieces, through a loop's `@[irreducible]` trip theorem too), so they cover it. -/
theorem cover0_B_20 (y : S512x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).1 S512x256.size (by sl_kernel_rfl) y

/-- What case B leaves in output 20's staging buffer: its pieces read back over junk. -/
def out0_B_20 : Vec F S512x768 .bf16 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).1)

/-- Case B's pieces for output 21 tile its block (4 stores of `S512x256`, checked by the kernel's evaluation: Lib/Ring.lean `Piece.tiledL`, linear in the pieces, through a loop's `@[irreducible]` trip theorem too), so they cover it. -/
theorem cover0_B_21 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.1 S512x256.size (by sl_kernel_rfl) y

/-- What case B leaves in output 21's staging buffer: its pieces read back over junk. -/
def out0_B_21 : Vec F S512x1024 .bf16 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.1)

/-- Case B's pieces for output 22 tile its block (1 store of `S32x256`, checked by the kernel's evaluation: Lib/Ring.lean `Piece.tiledL`, linear in the pieces, through a loop's `@[irreducible]` trip theorem too), so they cover it. -/
theorem cover0_B_22 (y : S32x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.1 S32x256.size (by sl_kernel_rfl) y

/-- What case B leaves in output 22's staging buffer: its pieces read back over junk. -/
def out0_B_22 : Vec F S32x256 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.1)

/-- Case B's pieces for output 23 tile its block (1 store of `S1x256`, checked by the kernel's evaluation: Lib/Ring.lean `Piece.tiledL`, linear in the pieces, through a loop's `@[irreducible]` trip theorem too), so they cover it. -/
theorem cover0_B_23 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.1 S1x256.size (by sl_kernel_rfl) y

/-- What case B leaves in output 23's staging buffer: its pieces read back over junk. -/
def out0_B_23 : Vec F S1x256 .f32 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.1)

/-- Case B's pieces for output 24 tile its block (1 store of `S1x256`, checked by the kernel's evaluation: Lib/Ring.lean `Piece.tiledL`, linear in the pieces, through a loop's `@[irreducible]` trip theorem too), so they cover it. -/
theorem cover0_B_24 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.1 S1x256.size (by sl_kernel_rfl) y

/-- What case B leaves in output 24's staging buffer: its pieces read back over junk. -/
def out0_B_24 : Vec F S1x256 .f32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.1)

/-- Case B's pieces for output 25 tile its block (1 store of `S1x256`, checked by the kernel's evaluation: Lib/Ring.lean `Piece.tiledL`, linear in the pieces, through a loop's `@[irreducible]` trip theorem too), so they cover it. -/
theorem cover0_B_25 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.1 S1x256.size (by sl_kernel_rfl) y

/-- What case B leaves in output 25's staging buffer: its pieces read back over junk. -/
def out0_B_25 : Vec F S1x256 .f32 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.1)

/-- Case B's pieces for output 26 tile its block (1 store of `S256x256`, checked by the kernel's evaluation: Lib/Ring.lean `Piece.tiledL`, linear in the pieces, through a loop's `@[irreducible]` trip theorem too), so they cover it. -/
theorem cover0_B_26 (y : S256x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.1 S256x256.size (by sl_kernel_rfl) y

/-- What case B leaves in output 26's staging buffer: its pieces read back over junk. -/
def out0_B_26 : Vec F S256x256 .f32 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.1)

/-- Case B's pieces for output 27 tile its block (1 store of `S1x256`, checked by the kernel's evaluation: Lib/Ring.lean `Piece.tiledL`, linear in the pieces, through a loop's `@[irreducible]` trip theorem too), so they cover it. -/
theorem cover0_B_27 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.2.1 S1x256.size (by sl_kernel_rfl) y

/-- What case B leaves in output 27's staging buffer: its pieces read back over junk. -/
def out0_B_27 : Vec F S1x256 .f32 :=
  VO0_27.read (Elt F) (VO0_27.writes (Elt F) VO0_27.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.2.1)

/-- Case B's pieces for output 28 tile its block (1 store of `S8x256`, checked by the kernel's evaluation: Lib/Ring.lean `Piece.tiledL`, linear in the pieces, through a loop's `@[irreducible]` trip theorem too), so they cover it. -/
theorem cover0_B_28 (y : S8x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.2.2.1 S8x256.size (by sl_kernel_rfl) y

/-- What case B leaves in output 28's staging buffer: its pieces read back over junk. -/
def out0_B_28 : Vec F S8x256 .f32 :=
  VO0_28.read (Elt F) (VO0_28.writes (Elt F) VO0_28.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.2.2.1)

/-- Case B's pieces for scratch `arg30`, which the kernel carries between points, cover it: 4 pieces of `S1x32x256` tiling it (Lib/Ring.lean `Piece.tiledL`). -/
theorem scover0_B_0 (y : S4x32x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.2.2.2.1 S1x32x256.size (by sl_kernel_rfl) y

/-- What case B leaves in scratch `arg30`: its pieces read back over junk. -/
def sout0_B_0 : Vec F S4x32x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0).2.2.2.2.2.2.2.2.2.1)

/-! ## What the outputs hold after each point -/

end

end Cert.KernelIdeal.Gen
-- ==== Proof.Frame.Frame.lean ====
/-
The launch run point by point, and the frame claim.
-/
module

public import proofs.«01_k».proof.Proof.Frame.Covers
public import Idealize.ShloMosaic.Lib.Claim

@[expose] public section

set_option maxRecDepth 16384
set_option maxHeartbeats 20000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A sequence's first tile: what the outputs' staging buffers and the carried scratch hold after it. -/
abbrev stepA (c : Dev nD) (t : Fin cfg0.N) (h0 : t.val % 8 = 0) : Vec F S512x768 .bf16 × Vec F S512x1024 .bf16 × Vec F S32x256 .f32 × Vec F S1x256 .f32 × Vec F S1x256 .f32 × Vec F S1x256 .f32 × Vec F S256x256 .f32 × Vec F S1x256 .f32 × Vec F S8x256 .f32 × Vec F S4x32x256 .f32 :=
  (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t))
/-- A later tile, over what the point before left, `p`. -/
abbrev stepB (c : Dev nD) (t : Fin cfg0.N) (h0 : ¬t.val % 8 = 0) (p : Vec F S512x768 .bf16 × Vec F S512x1024 .bf16 × Vec F S32x256 .f32 × Vec F S1x256 .f32 × Vec F S1x256 .f32 × Vec F S1x256 .f32 × Vec F S256x256 .f32 × Vec F S1x256 .f32 × Vec F S8x256 .f32 × Vec F S4x32x256 .f32) : Vec F S512x768 .bf16 × Vec F S512x1024 .bf16 × Vec F S32x256 .f32 × Vec F S1x256 .f32 × Vec F S1x256 .f32 × Vec F S1x256 .f32 × Vec F S256x256 .f32 × Vec F S1x256 .f32 × Vec F S8x256 .f32 × Vec F S4x32x256 .f32 :=
  (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2, out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2, out0_B_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) p.2.2.1 p.2.2.2.1 p.2.2.2.2.1 p.2.2.2.2.2.1 p.2.2.2.2.2.2.1 p.2.2.2.2.2.2.2.1 p.2.2.2.2.2.2.2.2.1 p.2.2.2.2.2.2.2.2.2)
/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x768 .bf16 × Vec F S512x1024 .bf16 × Vec F S32x256 .f32 × Vec F S1x256 .f32 × Vec F S1x256 .f32 × Vec F S1x256 .f32 × Vec F S256x256 .f32 × Vec F S1x256 .f32 × Vec F S8x256 .f32 × Vec F S4x32x256 .f32
  | 0, hn => stepA m c ⟨0, hn⟩ (Nat.zero_mod _)
  | n + 1, hn =>
    if h0 : (n + 1) % 8 = 0 then
      stepA m c ⟨n + 1, hn⟩ h0
    else
      stepB m c ⟨n + 1, hn⟩ h0 (outsAt0 c n (Nat.lt_of_succ_lt hn))

/-- `outsAt0` at a point of case A: that case's contents. -/
theorem outsAt0_A (c : Dev nD) (t : Fin cfg0.N) (h0 : t.val % 8 = 0) :
    outsAt0 m c t.val t.isLt = (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => X0_10 m c t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨21, _⟩ => (outsAt0 m c t.val t.isLt).2.1
    | ⟨22, _⟩ => (outsAt0 m c t.val t.isLt).2.2.1
    | ⟨23, _⟩ => (outsAt0 m c t.val t.isLt).2.2.2.1
    | ⟨24, _⟩ => (outsAt0 m c t.val t.isLt).2.2.2.2.1
    | ⟨25, _⟩ => (outsAt0 m c t.val t.isLt).2.2.2.2.2.1
    | ⟨26, _⟩ => (outsAt0 m c t.val t.isLt).2.2.2.2.2.2.1
    | ⟨27, _⟩ => (outsAt0 m c t.val t.isLt).2.2.2.2.2.2.2.1
    | ⟨28, _⟩ => (outsAt0 m c t.val t.isLt).2.2.2.2.2.2.2.2.1
    | ⟨_ + 29, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t.val t.isLt).1 := by dsimp only [dats]
theorem after0_21 (c : Dev nD) (t : Fin cfg0.N) : (dats m 0 c).after 21 t = (outsAt0 m c t.val t.isLt).2.1 := by dsimp only [dats]
theorem after0_22 (c : Dev nD) (t : Fin cfg0.N) : (dats m 0 c).after 22 t = (outsAt0 m c t.val t.isLt).2.2.1 := by dsimp only [dats]
theorem after0_23 (c : Dev nD) (t : Fin cfg0.N) : (dats m 0 c).after 23 t = (outsAt0 m c t.val t.isLt).2.2.2.1 := by dsimp only [dats]
theorem after0_24 (c : Dev nD) (t : Fin cfg0.N) : (dats m 0 c).after 24 t = (outsAt0 m c t.val t.isLt).2.2.2.2.1 := by dsimp only [dats]
theorem after0_25 (c : Dev nD) (t : Fin cfg0.N) : (dats m 0 c).after 25 t = (outsAt0 m c t.val t.isLt).2.2.2.2.2.1 := by dsimp only [dats]
theorem after0_26 (c : Dev nD) (t : Fin cfg0.N) : (dats m 0 c).after 26 t = (outsAt0 m c t.val t.isLt).2.2.2.2.2.2.1 := by dsimp only [dats]
theorem after0_27 (c : Dev nD) (t : Fin cfg0.N) : (dats m 0 c).after 27 t = (outsAt0 m c t.val t.isLt).2.2.2.2.2.2.2.1 := by dsimp only [dats]
theorem after0_28 (c : Dev nD) (t : Fin cfg0.N) : (dats m 0 c).after 28 t = (outsAt0 m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
/-- At a point of case B output 22's current staging buffer holds what the body left at the point before: the point is
    not the first, the buffer was not written back between (`flush0_22`), the window is live and uncut (Lib/Pipeline/Frame.lean
    `Dat.before_out_kept`). -/
theorem before0_22_B (c : Dev nD) (t : Fin cfg0.N) (h0 : ¬t.val % 8 = 0) (d) :
    (dats m 0 c).before 22 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 22 rfl t (by omega) (Bool.eq_false_iff.mpr fun h => by have := (flush0_22 _).mp h; dsimp only at this; omega)
    (fun _ => rfl) (fun _ _ => rfl)]
  dsimp only [dats]
/-- At a point of case B output 23's current staging buffer holds what the body left at the point before: the point is
    not the first, the buffer was not written back between (`flush0_23`), the window is live and uncut (Lib/Pipeline/Frame.lean
    `Dat.before_out_kept`). -/
theorem before0_23_B (c : Dev nD) (t : Fin cfg0.N) (h0 : ¬t.val % 8 = 0) (d) :
    (dats m 0 c).before 23 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 23 rfl t (by omega) (Bool.eq_false_iff.mpr fun h => by have := (flush0_23 _).mp h; dsimp only at this; omega)
    (fun _ => rfl) (fun _ _ => rfl)]
  dsimp only [dats]
/-- At a point of case B output 24's current staging buffer holds what the body left at the point before: the point is
    not the first, the buffer was not written back between (`flush0_24`), the window is live and uncut (Lib/Pipeline/Frame.lean
    `Dat.before_out_kept`). -/
theorem before0_24_B (c : Dev nD) (t : Fin cfg0.N) (h0 : ¬t.val % 8 = 0) (d) :
    (dats m 0 c).before 24 t d = (outsAt0 m c (t.val - 1) (Nat.lt_of_le_of_lt (Nat.sub_le _ _) t.isLt)).2.2.2.2.1 := by
  have hN : t.val < 8 := lt_of_lt_of_eq t.isLt (show cfg0.N = 8 from N_0)
  rw [Dat.before_out_kept _ 24 rfl t (by omega) (Bool.eq_false_iff.mpr fun h => by have := (flush0_24 _).mp h; dsimp only at this; omega)
    (fun _ => rfl) (fun _ _ => rfl)]
  dsimp only [dats]
/-- At a point of case B output 25's current staging buffer holds what the body left at the point before: the point is
    not the first, the buffer was not written back between (`flush0_25`), the window is live and uncut (Lib/Pipeline/Frame.lean
    `Dat.before_out_kept`). -/
theorem before0_25_B (c : Dev nD) (t : Fin cfg0.N) (h0 : ¬t.val % 8 = 0) (d) :
    (dats m 0 c).before 25 t d = (outsAt0 m c (t.val - 1) (Nat.lt_of_le_of_lt (Nat.sub_le _ _) t.isLt)).2.2.2.2.2.1 := by
  have hN : t.val < 8 := lt_of_lt_of_eq t.isLt (show cfg0.N = 8 from N_0)
  rw [Dat.before_out_kept _ 25 rfl t (by omega) (Bool.eq_false_iff.mpr fun h => by have := (flush0_25 _).mp h; dsimp only at this; omega)
    (fun _ => rfl) (fun _ _ => rfl)]
  dsimp only [dats]
/-- At a point of case B output 26's current staging buffer holds what the body left at the point before: the point is
    not the first, the buffer was not written back between (`flush0_26`), the window is live and uncut (Lib/Pipeline/Frame.lean
    `Dat.before_out_kept`). -/
theorem before0_26_B (c : Dev nD) (t : Fin cfg0.N) (h0 : ¬t.val % 8 = 0) (d) :
    (dats m 0 c).before 26 t d = (outsAt0 m c (t.val - 1) (Nat.lt_of_le_of_lt (Nat.sub_le _ _) t.isLt)).2.2.2.2.2.2.1 := by
  have hN : t.val < 8 := lt_of_lt_of_eq t.isLt (show cfg0.N = 8 from N_0)
  rw [Dat.before_out_kept _ 26 rfl t (by omega) (Bool.eq_false_iff.mpr fun h => by have := (flush0_26 _).mp h; dsimp only at this; omega)
    (fun _ => rfl) (fun _ _ => rfl)]
  dsimp only [dats]
/-- At a point of case B output 27's current staging buffer holds what the body left at the point before: the point is
    not the first, the buffer was not written back between (`flush0_27`), the window is live and uncut (Lib/Pipeline/Frame.lean
    `Dat.before_out_kept`). -/
theorem before0_27_B (c : Dev nD) (t : Fin cfg0.N) (h0 : ¬t.val % 8 = 0) (d) :
    (dats m 0 c).before 27 t d = (outsAt0 m c (t.val - 1) (Nat.lt_of_le_of_lt (Nat.sub_le _ _) t.isLt)).2.2.2.2.2.2.2.1 := by
  have hN : t.val < 8 := lt_of_lt_of_eq t.isLt (show cfg0.N = 8 from N_0)
  rw [Dat.before_out_kept _ 27 rfl t (by omega) (Bool.eq_false_iff.mpr fun h => by have := (flush0_27 _).mp h; dsimp only at this; omega)
    (fun _ => rfl) (fun _ _ => rfl)]
  dsimp only [dats]
/-- At a point of case B output 28's current staging buffer holds what the body left at the point before: the point is
    not the first, the buffer was not written back between (`flush0_28`), the window is live and uncut (Lib/Pipeline/Frame.lean
    `Dat.before_out_kept`). -/
theorem before0_28_B (c : Dev nD) (t : Fin cfg0.N) (h0 : ¬t.val % 8 = 0) (d) :
    (dats m 0 c).before 28 t d = (outsAt0 m c (t.val - 1) (Nat.lt_of_le_of_lt (Nat.sub_le _ _) t.isLt)).2.2.2.2.2.2.2.2.1 := by
  have hN : t.val < 8 := lt_of_lt_of_eq t.isLt (show cfg0.N = 8 from N_0)
  rw [Dat.before_out_kept _ 28 rfl t (by omega) (Bool.eq_false_iff.mpr fun h => by have := (flush0_28 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 448000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold out0_A_20 out0_A_21 out0_A_22 out0_A_23 out0_A_24 out0_A_25 out0_A_26 out0_A_27 out0_A_28 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [HS0]; · iexact HS0
      iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H26]
      · unfold owns; iexists _; isplitr
        swap; · iexact H26
        ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H27]
      · unfold owns; iexists _; isplitr
        swap; · iexact H27
        ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H28
      ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      simp only [before0_22_B m c t h0, before0_23_B m c t h0, before0_24_B m c t h0, before0_25_B m c t h0, before0_26_B m c t h0, before0_27_B m c t h0, before0_28_B m c t h0]
      unfold out0_B_20 out0_B_21 out0_B_22 out0_B_23 out0_B_24 out0_B_25 out0_B_26 out0_B_27 out0_B_28 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (X0_0 m c t) (X0_1 m c t) (X0_2 m c t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) _ _ _ _ _ _ _ _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      isplitl [H21]; · iexists _; iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [HS0]; · iexact HS0
      iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H26]
      · unfold owns; iexists _; isplitr
        swap; · iexact H26
        ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H27]
      · unfold owns; iexists _; isplitr
        swap; · iexact H27
        ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H28
      ipureintro; exact View.read_writes_of_cover _ _ _ _ _ (cover0_B_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame over any float values: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.FrameBits.lean ====
/-
The frame of the program over machine words, from the one run: the program and its idealization have the same text, so
their body tables and their `main`s are equal.
-/
module

public import proofs.«01_k».proof.Defs
public import proofs.«01_k».proof.Proof.Gen.Kernel
public import proofs.«01_k».proof.Proof.Frame.Frame

@[expose] public section

set_option maxRecDepth 65536
set_option backward.isDefEq.respectTransparency false
set_option maxHeartbeats 40000000

noncomputable section

namespace Cert.Proof

open Idealize.ShloMosaic Idealize.SL.Sem

/-- The kernel's body tables are equal. -/
theorem defs_eq0 : Cert.Kernel.defs₀ (F := Bits) = Cert.KernelIdeal.defs₀ (F := Bits) := by
  funext p l a
  match p, l, a with
  | .tc, 0, (t, s) => rfl
  | .tc, ⟨_ + 1, h⟩, _ => exact absurd h (Nat.not_lt.2 (Nat.le_add_left _ _))
  | .scScalar _, _, _ => rfl
  | .scVector _ _, _, _ => rfl

/-- The programs' body tables are equal. -/
theorem defs_eq : Cert.Kernel.defs (F := Bits) = Cert.KernelIdeal.defs (F := Bits) := by
  unfold Cert.Kernel.defs Cert.KernelIdeal.defs
  rw [defs_eq0]
  rfl

/-- The programs are equal. -/
theorem main_eq : Cert.Kernel.main (F := Bits) = Cert.KernelIdeal.main (F := Bits) := rfl

/-- The kernel's frame. -/
theorem frame_kernel : Cert.quiescent_Kernel := by
  intro m ρ _
  rw [defs_eq, main_eq]
  exact Cert.KernelIdeal.Gen.frame (F := Bits) m ρ

end Cert.Proof

end
-- ==== Proof.Ops.lean ====
/-
Reading the kernel's row operations at an index. A block of rows is a two-dimensional array with 256 channels; `rd x r c` reads row `r`,
channel `c` of it, and zero beyond its last row. Rolled windows, padded blocks, row broadcasts, row and column sums and the
"write into row `k`" selections are read here once, for every height.
-/
module

public import Idealize.ShloMosaic.Lib.Pointwise
public import Idealize.ShloMosaic.Lib.Pipeline.Value
public import Idealize.ShloMosaic.PureOps.Ideal.Laws

@[expose] public section

noncomputable section

namespace Cert.Rows

open Idealize.ShloMosaic

/-- Row `r`, channel `c` of a block of `n` rows; zero beyond the last row. -/
def rd {n : ℕ} (x : FVec Ideal ⟨2, ![n, 256]⟩ .f32) (r : ℕ) (c : Fin 256) : EReal :=
  if h : r < n then x (ix2 ⟨r, h⟩ c) else 0

theorem rd_of_lt {n : ℕ} (x : FVec Ideal ⟨2, ![n, 256]⟩ .f32) (r : ℕ) (h : r < n) (c : Fin 256) : rd x r c = x (ix2 ⟨r, h⟩ c) := dif_pos h

theorem rd_val {n : ℕ} (x : FVec Ideal ⟨2, ![n, 256]⟩ .f32) (r : Fin n) (c : Fin 256) : rd x r.val c = x (ix2 r c) := dif_pos r.isLt

section Elementwise
variable {s : Shape} {φ : FTy}
theorem add_at (x y : FVec Ideal s φ) (i : s.Idx) : addf x y i = (x i + y i : EReal) := rfl
theorem mul_at (x y : FVec Ideal s φ) (i : s.Idx) : mulf x y i = (x i * y i : EReal) := rfl
theorem sub_at (x y : FVec Ideal s φ) (i : s.Idx) : subf x y i = (x i - y i : EReal) := rfl
theorem div_at (x y : FVec Ideal s φ) (i : s.Idx) : divf x y i = Ideal.div (x i) (y i) := rfl
theorem sig_at (x : FVec Ideal s φ) (i : s.Idx) : logistic x i = Ideal.logistic (x i) := rfl
theorem rsqrt_at (x : FVec Ideal s φ) (i : s.Idx) : rsqrt x i = Ideal.rsqrt (x i) := rfl
theorem word_at (w : BitVec φ.bits) (i : s.Idx) : broadcast s (Scalar.ofBits (F := Ideal) φ w) i = Ideal.ofBits φ w := rfl
theorem zero_at (i : s.Idx) : broadcast s (Scalar.ofBits (F := Ideal) .f32 0x00000000#32) i = (0 : EReal) := Ideal.ofBits_zero_f32
theorem one_at (i : s.Idx) : broadcast s (Scalar.ofBits (F := Ideal) .f32 0x3F800000#32) i = (1 : EReal) := Ideal.ofBits_one_f32
end Elementwise

/-- A slice of whole rows starting at row `o`. -/
theorem slice_rows {n m o : ℕ} (x : FVec Ideal ⟨2, ![n, 256]⟩ .f32) (h : Shape.Slices ⟨2, ![n, 256]⟩ ![o, 0] ⟨2, ![m, 256]⟩)
    (r : Fin m) (c : Fin 256) : extractStridedSlice ⟨2, ![m, 256]⟩ ![o, 0] x h (ix2 r c) = rd x (r.val + o) c := by
  have hb : r.val + o < n := by
    have h0 := h.2 0
    have : o + m ≤ n := h0
    have := r.isLt; omega
  rw [rd_of_lt x _ hb]
  exact extractStridedSlice_apply ![o, 0] x h (ix2 r c) (ix2 ⟨r.val + o, hb⟩ c) (fun a => match a with
    | ⟨0, _⟩ => by show r.val + o = o + r.val; omega
    | ⟨1, _⟩ => by show c.val = 0 + c.val; omega)

/-- The upper part of two stacked blocks. -/
theorem cat_left {a b n : ℕ} (x : FVec Ideal ⟨2, ![a, 256]⟩ .f32) (y : FVec Ideal ⟨2, ![b, 256]⟩ .f32)
    (h : Shape.Concatenates [⟨2, ![a, 256]⟩, ⟨2, ![b, 256]⟩] ⟨2, ![n, 256]⟩ 0) (r : Fin n) (c : Fin 256) (hr : r.val < a) :
    concatenate ⟨2, ![n, 256]⟩ 0 [⟨⟨2, ![a, 256]⟩, x⟩, ⟨⟨2, ![b, 256]⟩, y⟩] h (ix2 r c) = rd x r.val c := by
  rw [rd_of_lt x _ hr]
  exact concatenate_pair_apply_left 0 x y h (ix2 r c) rfl (ix2 ⟨r.val, hr⟩ c) (fun b => match b with
    | ⟨0, _⟩ => rfl
    | ⟨1, _⟩ => rfl)

/-- The lower part of two stacked blocks. -/
theorem cat_right {a b n : ℕ} (x : FVec Ideal ⟨2, ![a, 256]⟩ .f32) (y : FVec Ideal ⟨2, ![b, 256]⟩ .f32)
    (h : Shape.Concatenates [⟨2, ![a, 256]⟩, ⟨2, ![b, 256]⟩] ⟨2, ![n, 256]⟩ 0) (r : Fin n) (c : Fin 256) (hr : a ≤ r.val) :
    concatenate ⟨2, ![n, 256]⟩ 0 [⟨⟨2, ![a, 256]⟩, x⟩, ⟨⟨2, ![b, 256]⟩, y⟩] h (ix2 r c) = rd y (r.val - a) c := by
  have hn : a + b = n := by
    have := h.2.2; simpa using this
  have hb : r.val - a < b := by have := r.isLt; omega
  rw [rd_of_lt y _ hb]
  exact concatenate_pair_apply_right 0 x y h (ix2 r c) rfl rfl (ix2 ⟨r.val - a, hb⟩ c) (fun b => match b with
    | ⟨0, _⟩ => fun hne => absurd rfl hne
    | ⟨1, _⟩ => fun _ => rfl) (by show r.val - a + a = r.val; omega)

/-- Two stacked blocks. -/
theorem cat_rows {a b n : ℕ} (x : FVec Ideal ⟨2, ![a, 256]⟩ .f32) (y : FVec Ideal ⟨2, ![b, 256]⟩ .f32)
    (h : Shape.Concatenates [⟨2, ![a, 256]⟩, ⟨2, ![b, 256]⟩] ⟨2, ![n, 256]⟩ 0) (r : Fin n) (c : Fin 256) :
    concatenate ⟨2, ![n, 256]⟩ 0 [⟨⟨2, ![a, 256]⟩, x⟩, ⟨⟨2, ![b, 256]⟩, y⟩] h (ix2 r c)
      = if r.val < a then rd x r.val c else rd y (r.val - a) c := by
  by_cases hr : r.val < a
  · rw [if_pos hr, cat_left x y h r c hr]
  · rw [if_neg hr, cat_right x y h r c (by omega)]

/-- The first 512 rows of a window rolled up by `o` rows. -/
theorem roll_up {a b o : ℕ} (x : FVec Ideal ⟨2, ![544, 256]⟩ .f32)
    (h1 : Shape.Slices ⟨2, ![544, 256]⟩ ![o, 0] ⟨2, ![a, 256]⟩) (h2 : Shape.Slices ⟨2, ![544, 256]⟩ ![0, 0] ⟨2, ![b, 256]⟩)
    (h : Shape.Concatenates [⟨2, ![a, 256]⟩, ⟨2, ![b, 256]⟩] ⟨2, ![544, 256]⟩ 0)
    (hs : Shape.Slices ⟨2, ![544, 256]⟩ ![0, 0] ⟨2, ![512, 256]⟩) (r : Fin 512) (c : Fin 256) (ha : 512 ≤ a) :
    extractStridedSlice ⟨2, ![512, 256]⟩ ![0, 0] (concatenate ⟨2, ![544, 256]⟩ 0
      [⟨⟨2, ![a, 256]⟩, extractStridedSlice ⟨2, ![a, 256]⟩ ![o, 0] x h1⟩, ⟨⟨2, ![b, 256]⟩, extractStridedSlice ⟨2, ![b, 256]⟩ ![0, 0] x h2⟩] h) hs (ix2 r c)
      = rd x (r.val + o) c := by
  have hr : r.val < a := by have := r.isLt; omega
  have hn : r.val + 0 < 544 := by have := r.isLt; omega
  rw [slice_rows, rd_of_lt _ _ hn, cat_left _ _ h _ c (by exact hr), rd_of_lt _ _ (by exact hr), slice_rows]
  rfl

/-- A window of 544 rows, the last 32 of them zero, rolled down by `o ≤ 32` rows: row `u` reads row `u - o` of the block. -/
theorem roll_down {a b : ℕ} (D : FVec Ideal ⟨2, ![512, 256]⟩ .f32) (Z : FVec Ideal ⟨2, ![32, 256]⟩ .f32) (hZ : ∀ i, Z i = 0)
    (hp : Shape.Concatenates [⟨2, ![512, 256]⟩, ⟨2, ![32, 256]⟩] ⟨2, ![544, 256]⟩ 0)
    (h1 : Shape.Slices ⟨2, ![544, 256]⟩ ![b, 0] ⟨2, ![a, 256]⟩) (h2 : Shape.Slices ⟨2, ![544, 256]⟩ ![0, 0] ⟨2, ![b, 256]⟩)
    (h : Shape.Concatenates [⟨2, ![a, 256]⟩, ⟨2, ![b, 256]⟩] ⟨2, ![544, 256]⟩ 0) (u : Fin 544) (c : Fin 256) (ha : a ≤ 32) :
    concatenate ⟨2, ![544, 256]⟩ 0
      [⟨⟨2, ![a, 256]⟩, extractStridedSlice ⟨2, ![a, 256]⟩ ![b, 0] (concatenate ⟨2, ![544, 256]⟩ 0 [⟨⟨2, ![512, 256]⟩, D⟩, ⟨⟨2, ![32, 256]⟩, Z⟩] hp) h1⟩,
       ⟨⟨2, ![b, 256]⟩, extractStridedSlice ⟨2, ![b, 256]⟩ ![0, 0] (concatenate ⟨2, ![544, 256]⟩ 0 [⟨⟨2, ![512, 256]⟩, D⟩, ⟨⟨2, ![32, 256]⟩, Z⟩] hp) h2⟩] h (ix2 u c)
      = if a ≤ u.val then rd D (u.val - a) c else 0 := by
  have hn : a + b = 544 := by have := h.2.2; simpa using this
  have key : ∀ s : ℕ, (hs : s < 544) → rd (concatenate ⟨2, ![544, 256]⟩ 0 [⟨⟨2, ![512, 256]⟩, D⟩, ⟨⟨2, ![32, 256]⟩, Z⟩] hp) s c = rd D s c := by
    intro s hs
    rw [rd_of_lt _ _ hs, cat_rows]
    by_cases hD : s < 512
    · rw [if_pos hD]
    · rw [if_neg hD]
      unfold rd
      rw [dif_neg hD]
      split
      · exact hZ _
      · rfl
  have hu := u.isLt
  by_cases hr : a ≤ u.val
  · rw [if_pos hr, cat_right _ _ h u c hr, rd_of_lt _ _ (show u.val - a < b by omega), slice_rows, key _ (by simp only []; omega)]
    rfl
  · rw [if_neg hr, cat_left _ _ h u c (by omega), rd_of_lt _ _ (show u.val < a by omega), slice_rows, key _ (by simp only []; omega)]
    unfold rd
    rw [dif_neg (by simp only []; omega)]

/-- One row, `k`, of a block repeated over `n` rows. -/
theorem bcast_row {n m k : ℕ} (w : FVec Ideal ⟨2, ![m, 256]⟩ .f32) (h : Shape.Slices ⟨2, ![m, 256]⟩ ![k, 0] ⟨2, ![1, 256]⟩)
    (hb : Shape.Broadcasts ⟨2, ![1, 256]⟩ ⟨2, ![n, 256]⟩) (r : Fin n) (c : Fin 256) :
    broadcastTo ⟨2, ![n, 256]⟩ (extractStridedSlice ⟨2, ![1, 256]⟩ ![k, 0] w h) hb (ix2 r c) = rd w k c := by
  have e : broadcastTo ⟨2, ![n, 256]⟩ (extractStridedSlice ⟨2, ![1, 256]⟩ ![k, 0] w h) hb (ix2 r c)
      = extractStridedSlice ⟨2, ![1, 256]⟩ ![k, 0] w h (ix2 0 c) := by
    pointwise []
  rw [e, slice_rows]
  show rd w (0 + k) c = _
  rw [Nat.zero_add]

/-- A single row repeated over `n` rows. -/
theorem bcast_one {n : ℕ} (w : FVec Ideal ⟨2, ![1, 256]⟩ .f32)
    (hb : Shape.Broadcasts ⟨2, ![1, 256]⟩ ⟨2, ![n, 256]⟩) (r : Fin n) (c : Fin 256) :
    broadcastTo ⟨2, ![n, 256]⟩ w hb (ix2 r c) = w (ix2 0 c) := by
  pointwise []

/-- A single column repeated over the channels. -/
theorem bcast_col (w : FVec Ideal ⟨2, ![512, 1]⟩ .f32)
    (hb : Shape.Broadcasts ⟨2, ![512, 1]⟩ ⟨2, ![512, 256]⟩) (r : Fin 512) (c : Fin 256) :
    broadcastTo ⟨2, ![512, 256]⟩ w hb (ix2 r c) = w (ix2 r 0) := by
  pointwise []

/-- The sum of a block's rows, as a single row. -/
theorem sum_rows (x : FVec Ideal ⟨2, ![512, 256]⟩ .f32) (hr : Shape.Reduces ⟨2, ![512, 256]⟩ [0] ⟨1, ![256]⟩) (hk) (hi)
    (hc : Shape.ShapeCasts ⟨1, ![256]⟩ ⟨2, ![1, 256]⟩) (z : Fin 1) (c : Fin 256) :
    shapeCast ⟨2, ![1, 256]⟩ (multiReduction .add [0] ⟨1, ![256]⟩ x 0x00000000#32 hr hk hi) hc (ix2 z c) = ∑ r : Fin 512, x (ix2 r c) := by
  pointwise []

/-- The sum over a block's channels, as a single column. -/
theorem sum_chan (x : FVec Ideal ⟨2, ![512, 256]⟩ .f32) (hr : Shape.Reduces ⟨2, ![512, 256]⟩ [1] ⟨1, ![512]⟩) (hk) (hi)
    (hc : Shape.ShapeCasts ⟨1, ![512]⟩ ⟨2, ![512, 1]⟩) (r : Fin 512) (z : Fin 1) :
    shapeCast ⟨2, ![512, 1]⟩ (multiReduction .add [1] ⟨1, ![512]⟩ x 0x00000000#32 hr hk hi) hc (ix2 r z) = ∑ k : Fin 256, x (ix2 r k) := by
  pointwise []

/-- The sum over a single column is the column. -/
theorem sum_one (x : FVec Ideal ⟨2, ![512, 1]⟩ .f32) (hr : Shape.Reduces ⟨2, ![512, 1]⟩ [1] ⟨1, ![512]⟩) (hk) (hi)
    (hc : Shape.ShapeCasts ⟨1, ![512]⟩ ⟨2, ![512, 1]⟩) (r : Fin 512) (z : Fin 1) :
    shapeCast ⟨2, ![512, 1]⟩ (multiReduction .add [1] ⟨1, ![512]⟩ x 0x00000000#32 hr hk hi) hc (ix2 r z) = x (ix2 r 0) := by
  pointwise []
  exact Fin.sum_univ_one _

/-- Writing a row `v` into row `k` of an otherwise zero block. -/
theorem put_row {n : ℕ} (k : ℕ) (hk : k < 2 ^ 32) (hn : n ≤ 2 ^ 31) (hi : Shape.Iotas ⟨2, ![n, 256]⟩ .tc 32 [0]) (v : FVec Ideal ⟨2, ![1, 256]⟩ .f32)
    (hc : Shape.ShapeCasts ⟨2, ![1, 256]⟩ ⟨2, ![1, 256]⟩) (hb : Shape.Broadcasts ⟨2, ![1, 256]⟩ ⟨2, ![n, 256]⟩) (j : Fin n) (c : Fin 256) :
    select (cmpi .eq (iota .tc ⟨2, ![n, 256]⟩ 32 [0] hi) (broadcast ⟨2, ![n, 256]⟩ (BitVec.ofNat 32 k)))
      (broadcastTo ⟨2, ![n, 256]⟩ (shapeCast ⟨2, ![1, 256]⟩ v hc) hb) (broadcast ⟨2, ![n, 256]⟩ (Scalar.ofBits (F := Ideal) .f32 0x00000000#32)) (ix2 j c)
      = if j.val = k then v (ix2 0 c) else 0 := by
  pointwise []
  unfold Scalar.select
  have e : IntOp.cmpi .eq (BitVec.ofNat 32 j.val) (BitVec.ofNat 32 k) = BitVec.ofBool (decide (BitVec.ofNat 32 j.val = BitVec.ofNat 32 k)) := by
    show BitVec.ofBool (_ == _) = _
    rw [beq_eq_decide]
  rw [e]
  have hj := j.isLt
  by_cases h : j.val = k
  · rw [if_pos h, h, if_pos (by simp)]
  · rw [if_neg h, if_neg]
    have hne : BitVec.ofNat 32 j.val ≠ BitVec.ofNat 32 k := by
      intro e
      have := congrArg BitVec.toNat e
      rw [BitVec.toNat_ofNat, BitVec.toNat_ofNat, Nat.mod_eq_of_lt (by omega), Nat.mod_eq_of_lt hk] at this
      exact h this
    simp [hne]

end Cert.Rows
-- ==== Proof.Spec.lean ====
/-
The gradient of the Conformer convolution branch and of the short convolution branch, written over the tokens of the sequence.
A column is a function of the token (a natural number; zero outside the sequence) and of the channel. The names follow the
mathematics: `glu` is `val · σ(gate)`, `y` the causal convolution, `xc`, `rs`, `xn` the layer norm, `u` its affine image, `z` the
pointwise product, and `dz`, `du`, `dn`, `dy` the gradients that come back through them.
-/
module

public import proofs.«01_k».proof.Proof.Ops

@[expose] public section

noncomputable section

namespace Cert.Rows

open Idealize.ShloMosaic

/-- The arguments: the seven columns of the projection and the two upstream gradients by token and channel, and the weights. -/
structure Data where
  val : ℕ → Fin 256 → EReal
  gate : ℕ → Fin 256 → EReal
  az : ℕ → Fin 256 → EReal
  cb : ℕ → Fin 256 → EReal
  cc : ℕ → Fin 256 → EReal
  cx : ℕ → Fin 256 → EReal
  cz : ℕ → Fin 256 → EReal
  ya : ℕ → Fin 256 → EReal
  yc : ℕ → Fin 256 → EReal
  w : ℕ → Fin 256 → EReal
  b : Fin 256 → EReal
  g : Fin 256 → EReal
  e : Fin 256 → EReal
  p : Fin 256 → Fin 256 → EReal
  q : Fin 256 → EReal
  s : ℕ → Fin 256 → EReal

/-- A column read 32 tokens later, so that the 32 tokens before the sequence have a place; they are zero. -/
def late (f : ℕ → Fin 256 → EReal) (n : ℕ) (c : Fin 256) : EReal := if 32 ≤ n then f (n - 32) c else 0

/-- The logistic function's derivative. -/
def dsig (x : EReal) : EReal := Ideal.logistic x * (1 - Ideal.logistic x)

/-- The gradient of `x · σ(x)` times an upstream gradient. -/
def dsilu (x ct : EReal) : EReal := ct * Ideal.logistic x + (x * ct) * dsig x

/-- The number of channels, and the layer norm's two constants, as the programs write them. -/
def k256 : EReal := Ideal.ofBits .f32 0x43800000#32
def eps : EReal := Ideal.ofBits .f32 0x358637BD#32
def mhalf : EReal := Ideal.ofBits .f32 0xBF000000#32

namespace Data

variable (d : Data)

/-- The gated column, 32 tokens late. -/
def glu (n : ℕ) (c : Fin 256) : EReal := late d.val n c * Ideal.logistic (late d.gate n c)
/-- The causal convolution with its bias. -/
def y (t : ℕ) (c : Fin 256) : EReal := (∑ k ∈ Finset.range 31, d.glu (t + (2 + k)) c * d.w k c) + d.b c
/-- The row less its mean. -/
def xc (t : ℕ) (c : Fin 256) : EReal := d.y t c - Ideal.div (∑ k, d.y t k) k256
/-- The variance and the small constant. -/
def var (t : ℕ) : EReal := Ideal.div (∑ k, d.xc t k * d.xc t k) k256 + eps
def rs (t : ℕ) : EReal := Ideal.rsqrt (d.var t)
/-- The derivative of `rs` by the variance. -/
def drs (t : ℕ) : EReal := mhalf * Ideal.div (d.rs t) (d.var t)
def xn (t : ℕ) (c : Fin 256) : EReal := d.xc t c * d.rs t
def u (t : ℕ) (c : Fin 256) : EReal := d.xn t c * d.g c + d.e c
/-- The swish of the normalised row. -/
def su (t : ℕ) (c : Fin 256) : EReal := d.u t c * Ideal.logistic (d.u t c)
def z (t : ℕ) (c : Fin 256) : EReal := (∑ k, d.su t k * d.p k c) + d.q c
/-- The gradient of the pointwise product's result. -/
def dz (t : ℕ) (c : Fin 256) : EReal := d.ya t c * (d.az t c * Ideal.logistic (d.az t c))
/-- The gradient of the gating column of the Conformer branch. -/
def daz (t : ℕ) (c : Fin 256) : EReal := dsilu (d.az t c) (d.z t c * d.ya t c)
def dsu (t : ℕ) (c : Fin 256) : EReal := ∑ k, d.dz t k * d.p c k
def du (t : ℕ) (c : Fin 256) : EReal := dsilu (d.u t c) (d.dsu t c)
def dn (t : ℕ) (c : Fin 256) : EReal := d.du t c * d.g c
/-- The gradient of the variance, divided by the number of channels. -/
def dvar (t : ℕ) : EReal := Ideal.div ((∑ k, d.xc t k * d.dn t k) * d.drs t) k256
/-- The gradient of the centred row. -/
def dxc (t : ℕ) (c : Fin 256) : EReal := d.dn t c * d.rs t + d.xc t c * d.dvar t + d.dvar t * d.xc t c
/-- The gradient of the convolution's result. -/
def dy (t : ℕ) (c : Fin 256) : EReal := d.dxc t c + Ideal.div (∑ k, -d.dxc t k) k256

/-- The product under the short convolution, 32 tokens late. -/
def cu (n : ℕ) (c : Fin 256) : EReal := late d.cc n c * late d.cx n c
def cy (t : ℕ) (c : Fin 256) : EReal := ∑ k ∈ Finset.range 3, d.cu (t + (30 + k)) c * d.s k c
/-- The gradient of the short branch before its gate. -/
def dcg (t : ℕ) (c : Fin 256) : EReal := d.yc t c * (d.cz t c * Ideal.logistic (d.cz t c))
def dcz (t : ℕ) (c : Fin 256) : EReal := dsilu (d.cz t c) (d.cb t c * d.cy t c * d.yc t c)
def dcy (t : ℕ) (c : Fin 256) : EReal := d.cb t c * d.dcg t c
def dcb (t : ℕ) (c : Fin 256) : EReal := d.dcg t c * d.cy t c

/-- A gradient carried back through a causal convolution of `K` taps: row `n` (32 tokens late) takes tap `k` from the row `o + k` before it.
    `f` gives the result's gradient on the tokens `a ≤ t < b` that are summed. -/
def back (f : ℕ → Fin 256 → EReal) (w : ℕ → Fin 256 → EReal) (o K a b n : ℕ) (c : Fin 256) : EReal :=
  ∑ k ∈ Finset.range K, (if o + k ≤ n ∧ a ≤ n - (o + k) ∧ n - (o + k) < b then f (n - (o + k)) c else 0) * w k c

/-- The gradient of the gated column, over the whole sequence. -/
def dglu (n : ℕ) (c : Fin 256) : EReal := back d.dy d.w 2 31 0 4096 n c
def dcu (n : ℕ) (c : Fin 256) : EReal := back d.dcy d.s 30 3 0 4096 n c

/-! ### The results -/

/-- The gradients of the two factors of the gated column, and of the two factors under the short convolution. -/
def dval (t : ℕ) (c : Fin 256) : EReal := d.dglu (t + 32) c * Ideal.logistic (d.gate t c)
def dgate (t : ℕ) (c : Fin 256) : EReal := (d.val t c * d.dglu (t + 32) c) * dsig (d.gate t c)
def dcc (t : ℕ) (c : Fin 256) : EReal := d.dcu (t + 32) c * d.cx t c
def dcx (t : ℕ) (c : Fin 256) : EReal := d.cc t c * d.dcu (t + 32) c

/-- The channel of a column. -/
def _root_.Cert.Rows.ch {n : ℕ} (q : Fin n) : Fin 256 := ⟨q.val % 256, Nat.mod_lt _ (by decide)⟩

/-- The gradients of the first branch's three columns side by side, and of the short branch's four. -/
def out0 (t : ℕ) (q : Fin 768) : EReal := if q.val < 256 then d.dval t (ch q) else if q.val < 512 then d.dgate t (ch q) else d.daz t (ch q)
def out1 (t : ℕ) (q : Fin 1024) : EReal :=
  if q.val < 256 then d.dcb t (ch q) else if q.val < 512 then d.dcc t (ch q) else if q.val < 768 then d.dcx t (ch q) else d.dcz t (ch q)

/-- The gradients of the weights: the convolution's taps and bias, the layer norm's gain and offset, the pointwise weight and bias, the short taps. -/
def gw (j : ℕ) (c : Fin 256) : EReal := if j < 31 then ∑ t : Fin 4096, d.dy t.val c * d.glu (t.val + (2 + j)) c else 0
def gb (c : Fin 256) : EReal := ∑ t : Fin 4096, d.dy t.val c
def gg (c : Fin 256) : EReal := ∑ t : Fin 4096, d.xn t.val c * d.du t.val c
def ge (c : Fin 256) : EReal := ∑ t : Fin 4096, d.du t.val c
def gp (a c : Fin 256) : EReal := ∑ t : Fin 4096, d.su t.val a * d.dz t.val c
def gq (c : Fin 256) : EReal := ∑ t : Fin 4096, d.dz t.val c
def gs (j : ℕ) (c : Fin 256) : EReal := if j < 3 then ∑ t : Fin 4096, d.dcy t.val c * d.cu (t.val + (30 + j)) c else 0

end Data

end Cert.Rows
-- ==== Proof.Tile.lean ====
/-
One tile of the kernel: the blocks it loads, and the values its body computes from them, one definition for each value the program
names. The definitions say nothing new; they give each value of the body a name over the loaded blocks.
-/
module

public import proofs.«01_k».proof.Proof.Gen.KernelIdeal.Skeleton
public import proofs.«01_k».proof.Proof.Spec

@[expose] public section

noncomputable section

namespace Cert.KernelIdeal.Tile

open Idealize.ShloMosaic Cert.KernelIdeal Cert.KernelIdeal.Gen

/-- The blocks one grid point loads: the columns with their halos, the weights and the two upstream gradients. -/
structure Blk where
  ic : grid0.Coords
  x0 : FVec Ideal S512x256 .f32
  x1 : FVec Ideal S512x256 .f32
  x2 : FVec Ideal S512x256 .f32
  x3 : FVec Ideal S32x256 .f32
  x4 : FVec Ideal S32x256 .f32
  x5 : FVec Ideal S512x256 .f32
  x6 : FVec Ideal S512x256 .f32
  x7 : FVec Ideal S512x256 .f32
  x8 : FVec Ideal S512x256 .f32
  x9 : FVec Ideal S32x256 .f32
  x10 : FVec Ideal S32x256 .f32
  x11 : FVec Ideal S32x256 .f32
  x12 : FVec Ideal S1x256 .f32
  x13 : FVec Ideal S1x256 .f32
  x14 : FVec Ideal S1x256 .f32
  x15 : FVec Ideal S256x256 .bf16
  x16 : FVec Ideal S1x256 .f32
  x17 : FVec Ideal S8x256 .f32
  x18 : FVec Ideal S512x256 .f32
  x19 : FVec Ideal S512x256 .f32

namespace Blk

variable (b : Blk)

/-- One where the tile has a tile before it, zero at the sequence's start. -/
def v5 := k0_pay10 (F := Ideal) b.ic
/-- The window of the first branch's value column. -/
def v10 := k0_pay11 (F := Ideal) b.ic b.x3 b.x0
/-- The window of its gate column. -/
def v15 := k0_pay12 (F := Ideal) b.ic b.x4 b.x1
/-- The window of the short branch's first factor. -/
def v22 := k0_pay13 (F := Ideal) b.ic b.x9 b.x6
/-- The window of its second factor. -/
def v27 := k0_pay14 (F := Ideal) b.ic b.x10 b.x7
def v30 := k0_pay15 (F := Ideal) b.x11
def v36 := k0_pay16 (F := Ideal) b.x15
def v39 := k0_pay17 (F := Ideal) b.x17
def v40 := k0_pay18 (F := Ideal) b.v15
def v43 := k0_pay19 (F := Ideal) b.v15
/-- The gated window. -/
def v44 := k0_pay20 (F := Ideal) b.v10 b.v15
def v75 := k0_pay21 (F := Ideal) b.v10 b.v15 b.v30
def v76 := k0_pay22 (F := Ideal) b.v10 b.v15
def v77 := k0_pay23 (F := Ideal) b.v10 b.v15
def v131 := k0_pay24 (F := Ideal) b.v30 b.v44 b.v75 b.v76 b.v77
def v135 := k0_pay25 (F := Ideal) b.v44
def v137 := k0_pay26 (F := Ideal) b.v30
def v195 := k0_pay27 (F := Ideal) b.v30 b.v44 b.v131 b.v135 b.v137
def v196 := k0_pay28 (F := Ideal) b.v44
def v197 := k0_pay29 (F := Ideal) b.v44
def v251 := k0_pay30 (F := Ideal) b.v30 b.v44 b.v195 b.v196 b.v197
def v255 := k0_pay31 (F := Ideal) b.v44
def v257 := k0_pay32 (F := Ideal) b.v30
/-- The centred rows of the convolution. -/
def v296 := k0_pay33 (F := Ideal) b.v30 b.x12 b.v44 b.v251 b.v255 b.v257
/-- The variance. -/
def v303 := k0_pay34 (F := Ideal) b.v30 b.x12 b.v44 b.v251 b.v255 b.v257
/-- The reciprocal deviation. -/
def v304 := k0_pay35 (F := Ideal) b.v30 b.x12 b.v44 b.v251 b.v255 b.v257
def v307 := k0_pay36 (F := Ideal) b.v30 b.x12 b.v44 b.v251 b.v255 b.v257
def v309 := k0_pay37 (F := Ideal) b.v30 b.x12 b.v44 b.v251 b.v255 b.v257
def v311 := k0_pay38 (F := Ideal) b.v30 b.x12 b.x13 b.v44 b.v251 b.v255 b.v257
/-- The affine layer norm. -/
def v313 := k0_pay39 (F := Ideal) b.x14 b.v311
def v314 := k0_pay40 (F := Ideal) b.x14 b.v311
def v317 := k0_pay41 (F := Ideal) b.x14 b.v311
def v318 := k0_pay42 (F := Ideal) b.x14 b.v311
/-- The pointwise product. -/
def v323 := k0_pay43 (F := Ideal) b.x14 b.v36 b.x16 b.v311
def v324 := k0_pay44 (F := Ideal) b.x2
def v327 := k0_pay45 (F := Ideal) b.x2
def v328 := k0_pay46 (F := Ideal) b.x2
def v329 := k0_pay47 (F := Ideal) b.v22 b.v27
/-- The short convolution. -/
def v349 := k0_pay48 (F := Ideal) b.v22 b.v27 b.v39
def v351 := k0_pay49 (F := Ideal) b.x8
def v359 := k0_pay50 (F := Ideal) b.x8 b.x19
def v363 := k0_pay51 (F := Ideal) b.x5 b.v22 b.v27 b.x8 b.v39 b.x19
/-- The gradient of the short convolution's result. -/
def v364 := k0_pay52 (F := Ideal) b.x5 b.v359
def v365 := k0_pay53 (F := Ideal) b.v349 b.v359
def v367 := k0_pay54 (F := Ideal) b.x5 b.v359
def v396 := k0_pay55 (F := Ideal) b.x5 b.v39 b.v359
def v410 := k0_pay56 (F := Ideal) b.x5 b.v329 b.v359
def v413 := k0_pay57 (F := Ideal) b.x5 b.v359
def v415 := k0_pay58 (F := Ideal) b.v39
/-- The gradient carried back to the short branch's window. -/
def v417 := k0_pay59 (F := Ideal) b.v396 b.v413 b.v415
/-- The gradient of the short convolution's taps. -/
def v428 := k0_pay60 (F := Ideal) b.v329 b.v364 (iota .tc S8x256 32 [0] iota_S8x256_d0_w32) b.v410
def v429 := k0_pay61 (F := Ideal) b.v22 b.v396 b.v413 b.v415
def v430 := k0_pay62 (F := Ideal) b.v27 b.v396 b.v413 b.v415
def v432 := k0_pay63 (F := Ideal) b.v328 b.x18
def v436 := k0_pay64 (F := Ideal) b.x2 b.v323 b.v324 b.v327 b.x18
def v438 := k0_pay65 (F := Ideal) b.v328 b.x18
def v441 := k0_pay66 (F := Ideal) b.v328 b.x18
/-- The gradient of the pointwise weight. -/
def v443 := k0_pay67 (F := Ideal) b.v318 b.v328 b.x18
def v447 := k0_pay68 (F := Ideal) b.v36 b.v313 b.v314 b.v317 b.v328 b.x18
def v449 := k0_pay69 (F := Ideal) b.v36 b.v313 b.v314 b.v317 b.v328 b.x18
def v452 := k0_pay70 (F := Ideal) b.v36 b.v309 b.v313 b.v314 b.v317 b.v328 b.x18
def v454 := k0_pay71 (F := Ideal) b.x13 b.v36 b.v313 b.v314 b.v317 b.v328 b.x18
def v459 := k0_pay72 (F := Ideal) b.x13 b.v36 b.v304 b.v313 b.v314 b.v317 b.v328 b.x18
def v464 := k0_pay73 (F := Ideal) b.x13 b.v36 b.v296 b.v307 b.v313 b.v314 b.v317 b.v328 b.x18
/-- The gradient of the convolution's result. -/
def v479 := k0_pay74 (F := Ideal) b.v296 b.v459 b.v464
def v481 := k0_pay75 (F := Ideal) b.v296 b.v459 b.v464
def v483 := k0_pay76 (F := Ideal) b.v296 b.v459 b.v464
def v505 := k0_pay77 (F := Ideal) b.v44 b.v296 b.v459 b.v464
def v512 := k0_pay78 (F := Ideal) b.v30 b.v296 b.v459 b.v464
def v513 := k0_pay79 (F := Ideal) b.v44
def v514 := k0_pay80 (F := Ideal) b.v44
def v547 := k0_pay81 (F := Ideal) b.v44 b.v479 (iota .tc S32x256 32 [0] iota_S32x256_d0_w32) b.v505 b.v513 b.v514
def v554 := k0_pay82 (F := Ideal) b.v30 b.v483 b.v512
def v560 (_ : Blk) := k0_pay83 (iota .tc S32x256 32 [0] iota_S32x256_d0_w32)
def v565 := k0_pay84 (F := Ideal) b.v44 b.v479
def v610 := k0_pay85 (F := Ideal) b.v44 b.v479 (iota .tc S32x256 32 [0] iota_S32x256_d0_w32) b.v547 b.v560 (Scalar.ofBits (F := Ideal) .f32 0x00000000#32) b.v565
def v617 := k0_pay86 (F := Ideal) b.v30 b.v483 b.v554
def v618 := k0_pay87 (F := Ideal) b.v44
def v619 := k0_pay88 (F := Ideal) b.v44
def v652 := k0_pay89 (F := Ideal) b.v44 b.v479 (iota .tc S32x256 32 [0] iota_S32x256_d0_w32) b.v610 b.v618 b.v619
def v659 := k0_pay90 (F := Ideal) b.v30 b.v483 b.v617
def v665 (_ : Blk) := k0_pay91 (iota .tc S32x256 32 [0] iota_S32x256_d0_w32)
def v670 := k0_pay92 (F := Ideal) b.v44 b.v479
def v715 := k0_pay93 (F := Ideal) b.v44 b.v479 (iota .tc S32x256 32 [0] iota_S32x256_d0_w32) b.v652 b.v665 (Scalar.ofBits (F := Ideal) .f32 0x00000000#32) b.v670
def v722 := k0_pay94 (F := Ideal) b.v30 b.v483 b.v659
def v723 := k0_pay95 (F := Ideal) b.v44
def v724 := k0_pay96 (F := Ideal) b.v44
def v757 := k0_pay97 (F := Ideal) b.v44 b.v479 (iota .tc S32x256 32 [0] iota_S32x256_d0_w32) b.v715 b.v723 b.v724
def v764 := k0_pay98 (F := Ideal) b.v30 b.v483 b.v722
def v770 (_ : Blk) := k0_pay99 (iota .tc S32x256 32 [0] iota_S32x256_d0_w32)
def v775 := k0_pay100 (F := Ideal) b.v44 b.v479
def v820 := k0_pay101 (F := Ideal) b.v44 b.v479 (iota .tc S32x256 32 [0] iota_S32x256_d0_w32) b.v757 b.v770 (Scalar.ofBits (F := Ideal) .f32 0x00000000#32) b.v775
def v827 := k0_pay102 (F := Ideal) b.v30 b.v483 b.v764
def v828 := k0_pay103 (F := Ideal) b.v44
def v829 := k0_pay104 (F := Ideal) b.v44
def v862 := k0_pay105 (F := Ideal) b.v44 b.v479 (iota .tc S32x256 32 [0] iota_S32x256_d0_w32) b.v820 b.v828 b.v829
def v869 := k0_pay106 (F := Ideal) b.v30 b.v483 b.v827
def v875 (_ : Blk) := k0_pay107 (iota .tc S32x256 32 [0] iota_S32x256_d0_w32)
def v880 := k0_pay108 (F := Ideal) b.v44 b.v479
def v925 := k0_pay109 (F := Ideal) b.v44 b.v479 (iota .tc S32x256 32 [0] iota_S32x256_d0_w32) b.v862 b.v875 (Scalar.ofBits (F := Ideal) .f32 0x00000000#32) b.v880
def v932 := k0_pay110 (F := Ideal) b.v30 b.v483 b.v869
def v933 := k0_pay111 (F := Ideal) b.v44
def v934 := k0_pay112 (F := Ideal) b.v44
def v967 := k0_pay113 (F := Ideal) b.v44 b.v479 (iota .tc S32x256 32 [0] iota_S32x256_d0_w32) b.v925 b.v933 b.v934
def v974 := k0_pay114 (F := Ideal) b.v30 b.v483 b.v932
def v980 (_ : Blk) := k0_pay115 (iota .tc S32x256 32 [0] iota_S32x256_d0_w32)
def v985 := k0_pay116 (F := Ideal) b.v44 b.v479
def v1030 := k0_pay117 (F := Ideal) b.v44 b.v479 (iota .tc S32x256 32 [0] iota_S32x256_d0_w32) b.v967 b.v980 (Scalar.ofBits (F := Ideal) .f32 0x00000000#32) b.v985
def v1037 := k0_pay118 (F := Ideal) b.v30 b.v483 b.v974
def v1038 := k0_pay119 (F := Ideal) b.v44
def v1039 := k0_pay120 (F := Ideal) b.v44
def v1072 := k0_pay121 (F := Ideal) b.v44 b.v479 (iota .tc S32x256 32 [0] iota_S32x256_d0_w32) b.v1030 b.v1038 b.v1039
def v1079 := k0_pay122 (F := Ideal) b.v30 b.v483 b.v1037
def v1085 (_ : Blk) := k0_pay123 (iota .tc S32x256 32 [0] iota_S32x256_d0_w32)
def v1090 := k0_pay124 (F := Ideal) b.v44 b.v479
/-- The gradient carried back to the gated window. -/
def v1121 := k0_pay125 (F := Ideal) b.v30 b.v483 b.v1079
/-- The gradient of the convolution's taps. -/
def v1132 := k0_pay126 (F := Ideal) b.v44 b.v479 (iota .tc S32x256 32 [0] iota_S32x256_d0_w32) b.v1072 b.v1085 (Scalar.ofBits (F := Ideal) .f32 0x00000000#32) b.v1090
def v1134 := k0_pay127 (F := Ideal) b.v30 b.v40 b.v483 b.v1079
def v1135 := k0_pay128 (F := Ideal) b.v10 b.v30 b.v43 b.v483 b.v1079

end Blk

end Cert.KernelIdeal.Tile
-- ==== Proof.Point.lean ====
/-
What the body leaves in each result's block and in the carried scratch, at the first grid point and at a later one.
-/
module

public import proofs.«01_k».proof.Proof.Frame.Covers
public import proofs.«01_k».proof.Proof.Tile
public import Idealize.ShloMosaic.Lib.Pipeline.ValueKit
public import Idealize.ShloMosaic.Lib.Pipeline.ReadBack

@[expose] public section

set_option maxRecDepth 16384
set_option maxHeartbeats 20000000
set_option backward.isDefEq.respectTransparency false

noncomputable section

namespace Cert.KernelIdeal.Tile

open Idealize.ShloMosaic Idealize.ShloMosaic.TcCoe Cert.KernelIdeal Cert.KernelIdeal.Gen Cert.Rows

/-- The rows that a slot of the carried scratch holds. -/
abbrev Slot := FVec Ideal S1x32x256 .f32

/-- The block of the first three gradient columns, from the tile and the rows carried for the first two. -/
def block20 (b : Blk) (k0 k1 : Slot) : FVec Ideal S512x768 .bf16 := View.canon (s := S512x768) (e := .bf16) (Val := Elt Ideal) [
  ⟨Rect.unit (s := S512x768) ![0, 512] S512x256.size inb_S512x768_S512x256_0_512, k0_pay135 b.v436⟩,
  ⟨Rect.unit (s := S512x768) ![0, 256] S512x256.size inb_S512x768_S512x256_0_256, k0_pay134 b.v1135 k1⟩,
  ⟨Rect.unit (s := S512x768) ![0, 0] S512x256.size inb_S512x768_S512x256_0_0, k0_pay132 b.v1134 (k0_pay129 k0)⟩]

/-- The block of the other four. -/
def block21 (b : Blk) (k2 k3 : Slot) : FVec Ideal S512x1024 .bf16 := View.canon (s := S512x1024) (e := .bf16) (Val := Elt Ideal) [
  ⟨Rect.unit (s := S512x1024) ![0, 768] S512x256.size inb_S512x1024_S512x256_0_768, k0_pay143 b.v363⟩,
  ⟨Rect.unit (s := S512x1024) ![0, 512] S512x256.size inb_S512x1024_S512x256_0_512, k0_pay142 b.v429 k3⟩,
  ⟨Rect.unit (s := S512x1024) ![0, 256] S512x256.size inb_S512x1024_S512x256_0_256, k0_pay140 b.v430 (k0_pay137 k2)⟩,
  ⟨Rect.unit (s := S512x1024) ![0, 0] S512x256.size inb_S512x1024_S512x256_0_0, k0_pay136 b.v365⟩]

/-- The four stores into the carried scratch. -/
def slots (b : Blk) : List (View.Piece (Elt Ideal) S4x32x256 .f32) := [
  ⟨Rect.unit (s := S4x32x256) ![3, 0, 0] S1x32x256.size inb_S4x32x256_S1x32x256_3_0_0, k0_pay141 b.v429⟩,
  ⟨Rect.unit (s := S4x32x256) ![2, 0, 0] S1x32x256.size inb_S4x32x256_S1x32x256_2_0_0, k0_pay139 (k0_pay138 b.v430)⟩,
  ⟨Rect.unit (s := S4x32x256) ![1, 0, 0] S1x32x256.size inb_S4x32x256_S1x32x256_1_0_0, k0_pay133 b.v1135⟩,
  ⟨Rect.unit (s := S4x32x256) ![0, 0, 0] S1x32x256.size inb_S4x32x256_S1x32x256_0_0_0, k0_pay131 (k0_pay130 b.v30 b.v40 b.v483 b.v1079)⟩]

/-- What a slot of the carried scratch holds. -/
abbrev slot0 (X : FVec Ideal S4x32x256 .f32) : Slot := View.ld (Val := Elt Ideal) (e' := .f32) X (Rect.unit (s := S4x32x256) ![0, 0, 0] S1x32x256.size inb_S4x32x256_S1x32x256_0_0_0)
abbrev slot1 (X : FVec Ideal S4x32x256 .f32) : Slot := View.ld (Val := Elt Ideal) (e' := .f32) X (Rect.unit (s := S4x32x256) ![1, 0, 0] S1x32x256.size inb_S4x32x256_S1x32x256_1_0_0)
abbrev slot2 (X : FVec Ideal S4x32x256 .f32) : Slot := View.ld (Val := Elt Ideal) (e' := .f32) X (Rect.unit (s := S4x32x256) ![2, 0, 0] S1x32x256.size inb_S4x32x256_S1x32x256_2_0_0)
abbrev slot3 (X : FVec Ideal S4x32x256 .f32) : Slot := View.ld (Val := Elt Ideal) (e' := .f32) X (Rect.unit (s := S4x32x256) ![3, 0, 0] S1x32x256.size inb_S4x32x256_S1x32x256_3_0_0)

/-! ## A slot read back after the scratch is zeroed and the slots before it are written -/

section Zeroed

variable (v : View sig .tc .vmem S4x32x256 .f32)

theorem read0 : v.readCov (Val := Elt Ideal) [⟨Rect.unit ![0, 0, 0] S4x32x256.size inb_S4x32x256_S4x32x256_0_0_0, k0_pay2 (F := Ideal)⟩]
    (Rect.unit (s := S4x32x256) ![0, 0, 0] S1x32x256.size inb_S4x32x256_S1x32x256_0_0_0).toLoadRect = slot0 (k0_pay2 (F := Ideal)) := by
  rw [View.readCov_fill _ _ _ _ _ (by decide)]

theorem read1 (w0 : Slot) : v.readCov (Val := Elt Ideal) [⟨Rect.unit ![0, 0, 0] S1x32x256.size inb_S4x32x256_S1x32x256_0_0_0, w0⟩, ⟨Rect.unit ![0, 0, 0] S4x32x256.size inb_S4x32x256_S4x32x256_0_0_0, k0_pay2 (F := Ideal)⟩]
    (Rect.unit (s := S4x32x256) ![1, 0, 0] S1x32x256.size inb_S4x32x256_S1x32x256_1_0_0).toLoadRect = slot1 (k0_pay2 (F := Ideal)) := by
  rw [View.readCov_skip _ _ _ _ _ (by decide), View.readCov_fill _ _ _ _ _ (by decide)]

theorem read2 (w0 w1 : Slot) : v.readCov (Val := Elt Ideal) [⟨Rect.unit ![1, 0, 0] S1x32x256.size inb_S4x32x256_S1x32x256_1_0_0, w1⟩, ⟨Rect.unit ![0, 0, 0] S1x32x256.size inb_S4x32x256_S1x32x256_0_0_0, w0⟩, ⟨Rect.unit ![0, 0, 0] S4x32x256.size inb_S4x32x256_S4x32x256_0_0_0, k0_pay2 (F := Ideal)⟩]
    (Rect.unit (s := S4x32x256) ![2, 0, 0] S1x32x256.size inb_S4x32x256_S1x32x256_2_0_0).toLoadRect = slot2 (k0_pay2 (F := Ideal)) := by
  rw [View.readCov_skip _ _ _ _ _ (by decide), View.readCov_skip _ _ _ _ _ (by decide), View.readCov_fill _ _ _ _ _ (by decide)]

theorem read3 (w0 w1 w2 : Slot) : v.readCov (Val := Elt Ideal) [⟨Rect.unit ![2, 0, 0] S1x32x256.size inb_S4x32x256_S1x32x256_2_0_0, w2⟩, ⟨Rect.unit ![1, 0, 0] S1x32x256.size inb_S4x32x256_S1x32x256_1_0_0, w1⟩, ⟨Rect.unit ![0, 0, 0] S1x32x256.size inb_S4x32x256_S1x32x256_0_0_0, w0⟩, ⟨Rect.unit ![0, 0, 0] S4x32x256.size inb_S4x32x256_S4x32x256_0_0_0, k0_pay2 (F := Ideal)⟩]
    (Rect.unit (s := S4x32x256) ![3, 0, 0] S1x32x256.size inb_S4x32x256_S1x32x256_3_0_0).toLoadRect = slot3 (k0_pay2 (F := Ideal)) := by
  rw [View.readCov_skip _ _ _ _ _ (by decide), View.readCov_skip _ _ _ _ _ (by decide), View.readCov_skip _ _ _ _ _ (by decide), View.readCov_fill _ _ _ _ _ (by decide)]

end Zeroed

/-! ## The first point -/

section First

variable (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S8x256 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x768 .bf16) (harg21 : arg21.IsWhole) (arg22 : Memref sig .tc .vmem S512x1024 .bf16) (harg22 : arg22.IsWhole) (arg23 : Memref sig .tc .vmem S32x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S256x256 .f32) (harg27 : arg27.IsWhole) (arg28 : Memref sig .tc .vmem S1x256 .f32) (harg28 : arg28.IsWhole) (arg29 : Memref sig .tc .vmem S8x256 .f32) (harg29 : arg29.IsWhole) (arg30 : Memref sig .tc .vmem S4x32x256 .f32) (harg30 : arg30.IsWhole) (hc0 : cond0_0 i)
    (x0 : Vec Ideal S512x256 .f32) (x1 : Vec Ideal S512x256 .f32) (x2 : Vec Ideal S512x256 .f32) (x3 : Vec Ideal S32x256 .f32) (x4 : Vec Ideal S32x256 .f32) (x5 : Vec Ideal S512x256 .f32) (x6 : Vec Ideal S512x256 .f32) (x7 : Vec Ideal S512x256 .f32) (x8 : Vec Ideal S512x256 .f32) (x9 : Vec Ideal S32x256 .f32) (x10 : Vec Ideal S32x256 .f32) (x11 : Vec Ideal S32x256 .f32) (x12 : Vec Ideal S1x256 .f32) (x13 : Vec Ideal S1x256 .f32) (x14 : Vec Ideal S1x256 .f32) (x15 : Vec Ideal S256x256 .bf16) (x16 : Vec Ideal S1x256 .f32) (x17 : Vec Ideal S8x256 .f32) (x18 : Vec Ideal S512x256 .f32) (x19 : Vec Ideal S512x256 .f32)

theorem first22 : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = k0_pay144 (Blk.mk i x0 x1 x2 x3 x4 x5 x6 x7 x8 x9 x10 x11 x12 x13 x14 x15 x16 x17 x18 x19).v1132 (k0_pay3 (F := Ideal)) := by
  frame_out
  rfl
theorem first23 : out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = k0_pay145 (Blk.mk i x0 x1 x2 x3 x4 x5 x6 x7 x8 x9 x10 x11 x12 x13 x14 x15 x16 x17 x18 x19).v481 (k0_pay4 (F := Ideal)) := by
  frame_out
  rfl
theorem first24 : out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = k0_pay147 (Blk.mk i x0 x1 x2 x3 x4 x5 x6 x7 x8 x9 x10 x11 x12 x13 x14 x15 x16 x17 x18 x19).v452 (k0_pay146 (k0_pay5 (F := Ideal))) := by
  frame_out
  rfl
theorem first25 : out0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = k0_pay148 (Blk.mk i x0 x1 x2 x3 x4 x5 x6 x7 x8 x9 x10 x11 x12 x13 x14 x15 x16 x17 x18 x19).v449 (k0_pay6 (F := Ideal)) := by
  frame_out
  rfl
theorem first26 : out0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = k0_pay149 (Blk.mk i x0 x1 x2 x3 x4 x5 x6 x7 x8 x9 x10 x11 x12 x13 x14 x15 x16 x17 x18 x19).v443 (k0_pay7 (F := Ideal)) := by
  frame_out
  rfl
theorem first27 : out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = k0_pay150 (Blk.mk i x0 x1 x2 x3 x4 x5 x6 x7 x8 x9 x10 x11 x12 x13 x14 x15 x16 x17 x18 x19).v438 (k0_pay8 (F := Ideal)) := by
  frame_out
  rfl
theorem first28 : out0_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = k0_pay1 (Blk.mk i x0 x1 x2 x3 x4 x5 x6 x7 x8 x9 x10 x11 x12 x13 x14 x15 x16 x17 x18 x19).v428 (k0_pay151 (k0_pay9 (F := Ideal))) := by
  frame_out
  rfl
theorem first20 : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = block20 (Blk.mk i x0 x1 x2 x3 x4 x5 x6 x7 x8 x9 x10 x11 x12 x13 x14 x15 x16 x17 x18 x19) (slot0 (k0_pay2 (F := Ideal))) (slot1 (k0_pay2 (F := Ideal))) := by
  frame_out
  exact congrArg₂ (block20 (Blk.mk i x0 x1 x2 x3 x4 x5 x6 x7 x8 x9 x10 x11 x12 x13 x14 x15 x16 x17 x18 x19)) (read0 arg30.view) (read1 arg30.view _)
theorem first21 : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = block21 (Blk.mk i x0 x1 x2 x3 x4 x5 x6 x7 x8 x9 x10 x11 x12 x13 x14 x15 x16 x17 x18 x19) (slot2 (k0_pay2 (F := Ideal))) (slot3 (k0_pay2 (F := Ideal))) := by
  frame_out
  exact congrArg₂ (block21 (Blk.mk i x0 x1 x2 x3 x4 x5 x6 x7 x8 x9 x10 x11 x12 x13 x14 x15 x16 x17 x18 x19)) (read2 arg30.view _ _) (read3 arg30.view _ _ _)
theorem firstS : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 = View.canon (slots (Blk.mk i x0 x1 x2 x3 x4 x5 x6 x7 x8 x9 x10 x11 x12 x13 x14 x15 x16 x17 x18 x19) ++ [⟨Rect.unit ![0, 0, 0] S4x32x256.size inb_S4x32x256_S4x32x256_0_0_0, k0_pay2 (F := Ideal)⟩]) := by
  frame_out
  rfl

end First

/-! ## A later point -/

section Later

variable (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S8x256 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x768 .bf16) (harg21 : arg21.IsWhole) (arg22 : Memref sig .tc .vmem S512x1024 .bf16) (harg22 : arg22.IsWhole) (arg23 : Memref sig .tc .vmem S32x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S256x256 .f32) (harg27 : arg27.IsWhole) (arg28 : Memref sig .tc .vmem S1x256 .f32) (harg28 : arg28.IsWhole) (arg29 : Memref sig .tc .vmem S8x256 .f32) (harg29 : arg29.IsWhole) (arg30 : Memref sig .tc .vmem S4x32x256 .f32) (harg30 : arg30.IsWhole) (hc0 : ¬cond0_0 i)
    (x0 : Vec Ideal S512x256 .f32) (x1 : Vec Ideal S512x256 .f32) (x2 : Vec Ideal S512x256 .f32) (x3 : Vec Ideal S32x256 .f32) (x4 : Vec Ideal S32x256 .f32) (x5 : Vec Ideal S512x256 .f32) (x6 : Vec Ideal S512x256 .f32) (x7 : Vec Ideal S512x256 .f32) (x8 : Vec Ideal S512x256 .f32) (x9 : Vec Ideal S32x256 .f32) (x10 : Vec Ideal S32x256 .f32) (x11 : Vec Ideal S32x256 .f32) (x12 : Vec Ideal S1x256 .f32) (x13 : Vec Ideal S1x256 .f32) (x14 : Vec Ideal S1x256 .f32) (x15 : Vec Ideal S256x256 .bf16) (x16 : Vec Ideal S1x256 .f32) (x17 : Vec Ideal S8x256 .f32) (x18 : Vec Ideal S512x256 .f32) (x19 : Vec Ideal S512x256 .f32) (xo22 : Vec Ideal S32x256 .f32) (xo23 : Vec Ideal S1x256 .f32) (xo24 : Vec Ideal S1x256 .f32) (xo25 : Vec Ideal S1x256 .f32) (xo26 : Vec Ideal S256x256 .f32) (xo27 : Vec Ideal S1x256 .f32) (xo28 : Vec Ideal S8x256 .f32) (xs0 : Vec Ideal S4x32x256 .f32)

theorem later22 : out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = k0_pay144 (Blk.mk i x0 x1 x2 x3 x4 x5 x6 x7 x8 x9 x10 x11 x12 x13 x14 x15 x16 x17 x18 x19).v1132 xo22 := by
  frame_out
  rfl
theorem later23 : out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = k0_pay145 (Blk.mk i x0 x1 x2 x3 x4 x5 x6 x7 x8 x9 x10 x11 x12 x13 x14 x15 x16 x17 x18 x19).v481 xo23 := by
  frame_out
  rfl
theorem later24 : out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = k0_pay147 (Blk.mk i x0 x1 x2 x3 x4 x5 x6 x7 x8 x9 x10 x11 x12 x13 x14 x15 x16 x17 x18 x19).v452 (k0_pay146 xo24) := by
  frame_out
  rfl
theorem later25 : out0_B_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = k0_pay148 (Blk.mk i x0 x1 x2 x3 x4 x5 x6 x7 x8 x9 x10 x11 x12 x13 x14 x15 x16 x17 x18 x19).v449 xo25 := by
  frame_out
  rfl
theorem later26 : out0_B_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = k0_pay149 (Blk.mk i x0 x1 x2 x3 x4 x5 x6 x7 x8 x9 x10 x11 x12 x13 x14 x15 x16 x17 x18 x19).v443 xo26 := by
  frame_out
  rfl
theorem later27 : out0_B_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = k0_pay150 (Blk.mk i x0 x1 x2 x3 x4 x5 x6 x7 x8 x9 x10 x11 x12 x13 x14 x15 x16 x17 x18 x19).v438 xo27 := by
  frame_out
  rfl
theorem later28 : out0_B_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = k0_pay1 (Blk.mk i x0 x1 x2 x3 x4 x5 x6 x7 x8 x9 x10 x11 x12 x13 x14 x15 x16 x17 x18 x19).v428 (k0_pay151 xo28) := by
  frame_out
  rfl
theorem later20 : out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = block20 (Blk.mk i x0 x1 x2 x3 x4 x5 x6 x7 x8 x9 x10 x11 x12 x13 x14 x15 x16 x17 x18 x19) (slot0 xs0) (slot1 xs0) := by
  frame_out
  rfl
theorem later21 : out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = block21 (Blk.mk i x0 x1 x2 x3 x4 x5 x6 x7 x8 x9 x10 x11 x12 x13 x14 x15 x16 x17 x18 x19) (slot2 xs0) (slot3 xs0) := by
  frame_out
  rfl
theorem laterS : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 x17 x18 x19 xo22 xo23 xo24 xo25 xo26 xo27 xo28 xs0 = View.canon (slots (Blk.mk i x0 x1 x2 x3 x4 x5 x6 x7 x8 x9 x10 x11 x12 x13 x14 x15 x16 x17 x18 x19)) := by
  frame_out
  rfl

end Later

end Cert.KernelIdeal.Tile
-- ==== Proof.TileOk.lean ====
/-
What it means for one tile's blocks to come from the columns and the weights, and the products and casts of the body read at an index.
-/
module

public import proofs.«01_k».proof.Proof.Tile

@[expose] public section

set_option maxRecDepth 16384
set_option backward.isDefEq.respectTransparency false

noncomputable section

namespace Cert.KernelIdeal.Tile

open Idealize.ShloMosaic Cert.KernelIdeal Cert.KernelIdeal.Gen Cert.Rows

/-- The blocks are tile `i`'s: rows `512 i` and on of each column, the 32 rows before them where there is a tile before, and the weights. -/
structure Ok (b : Blk) (d : Data) (i : ℕ) : Prop where
  hi : i < 8
  ic : (b.ic 0).val = 7 - i
  x0 : ∀ (r : Fin 512) (c : Fin 256), b.x0 (ix2 r c) = d.val (512 * i + r.val) c
  x1 : ∀ (r : Fin 512) (c : Fin 256), b.x1 (ix2 r c) = d.gate (512 * i + r.val) c
  x2 : ∀ (r : Fin 512) (c : Fin 256), b.x2 (ix2 r c) = d.az (512 * i + r.val) c
  x3 : 0 < i → ∀ (r : Fin 32) (c : Fin 256), b.x3 (ix2 r c) = d.val (512 * i + r.val - 32) c
  x4 : 0 < i → ∀ (r : Fin 32) (c : Fin 256), b.x4 (ix2 r c) = d.gate (512 * i + r.val - 32) c
  x5 : ∀ (r : Fin 512) (c : Fin 256), b.x5 (ix2 r c) = d.cb (512 * i + r.val) c
  x6 : ∀ (r : Fin 512) (c : Fin 256), b.x6 (ix2 r c) = d.cc (512 * i + r.val) c
  x7 : ∀ (r : Fin 512) (c : Fin 256), b.x7 (ix2 r c) = d.cx (512 * i + r.val) c
  x8 : ∀ (r : Fin 512) (c : Fin 256), b.x8 (ix2 r c) = d.cz (512 * i + r.val) c
  x9 : 0 < i → ∀ (r : Fin 32) (c : Fin 256), b.x9 (ix2 r c) = d.cc (512 * i + r.val - 32) c
  x10 : 0 < i → ∀ (r : Fin 32) (c : Fin 256), b.x10 (ix2 r c) = d.cx (512 * i + r.val - 32) c
  x11 : ∀ (k : Fin 32) (c : Fin 256), k.val < 31 → b.x11 (ix2 k c) = d.w k.val c
  x12 : ∀ c : Fin 256, b.x12 (ix2 0 c) = d.b c
  x13 : ∀ c : Fin 256, b.x13 (ix2 0 c) = d.g c
  x14 : ∀ c : Fin 256, b.x14 (ix2 0 c) = d.e c
  x15 : ∀ a c : Fin 256, b.x15 (ix2 a c) = d.p a c
  x16 : ∀ c : Fin 256, b.x16 (ix2 0 c) = d.q c
  x17 : ∀ (k : Fin 8) (c : Fin 256), k.val < 3 → b.x17 (ix2 k c) = d.s k.val c
  x18 : ∀ (r : Fin 512) (c : Fin 256), b.x18 (ix2 r c) = d.ya (512 * i + r.val) c
  x19 : ∀ (r : Fin 512) (c : Fin 256), b.x19 (ix2 r c) = d.yc (512 * i + r.val) c

/-- The product of the swished rows with the pointwise weight. -/
theorem mm_rows (x : FVec Ideal S512x256 .bf16) (y : FVec Ideal S256x256 .bf16) (r : Fin 512) (c : Fin 256) :
    matmul dot_S512x256_S256x256_S512x256_1_0_0_1_n_n none x y (constant S512x256 .f32 0x00000000#32) (ix2 r c)
      = ∑ k : Fin 256, x (ix2 r k) * y (ix2 k c) := by
  pointwise []

/-- The product with the pointwise weight's transpose. -/
theorem mm_back (x : FVec Ideal S512x256 .bf16) (y : FVec Ideal S256x256 .bf16) (r : Fin 512) (c : Fin 256) :
    matmul dot_S512x256_S256x256_S512x256_1_1_0_0_n_n none x y (constant S512x256 .f32 0x00000000#32) (ix2 r c)
      = ∑ k : Fin 256, x (ix2 r k) * y (ix2 c k) := by
  pointwise []

/-- The product over a tile's rows. -/
theorem mm_weight (x : FVec Ideal S512x256 .bf16) (y : FVec Ideal S512x256 .bf16) (a c : Fin 256) :
    matmul dot_S512x256_S512x256_S256x256_0_0_1_1_n_n none x y (constant S256x256 .f32 0x00000000#32) (ix2 a c)
      = ∑ r : Fin 512, x (ix2 r a) * y (ix2 r c) := by
  pointwise []

/-- The factor of the rows before a tile: one where there is a tile before it, zero otherwise. -/
theorem Ok.v5 {b : Blk} {d : Data} {i : ℕ} (h : Ok b d i) : b.v5 = if 0 < i then (1 : EReal) else 0 := by
  have hi := h.hi
  unfold Blk.v5 k0_pay10
  dsimp only
  rw [h.ic]
  rw [Ideal.scalar_sitofp_def]
  interval_cases i <;> simp [Scalar.cmpi, Scalar.extui, IntOp.cmpi]

/-- A window: 32 rows of the tile before, then the tile. -/
theorem Ok.window {b : Blk} {d : Data} {i : ℕ} (h : Ok b d i) (x : FVec Ideal S32x256 .f32) (y : FVec Ideal S512x256 .f32)
    (f : ℕ → Fin 256 → EReal) (hx : 0 < i → ∀ (r : Fin 32) (c : Fin 256), x (ix2 r c) = f (512 * i + r.val - 32) c)
    (hy : ∀ (r : Fin 512) (c : Fin 256), y (ix2 r c) = f (512 * i + r.val) c) (hc) (u : Fin 544) (c : Fin 256) :
    concatenate S544x256 0 [⟨S32x256, mulf x (broadcast S32x256 b.v5)⟩, ⟨S512x256, y⟩] hc (ix2 u c) = late f (512 * i + u.val) c := by
  have hu := u.isLt
  refine (cat_rows (a := 32) (b := 512) (n := 544) _ _ hc u c).trans ?_
  unfold late
  by_cases h32 : u.val < 32
  · rw [if_pos h32, rd_of_lt _ _ h32, mul_at, show broadcast S32x256 b.v5 (ix2 ⟨u.val, h32⟩ c) = b.v5 from rfl, h.v5]
    by_cases hi : 0 < i
    · rw [if_pos hi, if_pos (by omega), hx hi, mul_one]
    · rw [if_neg hi, if_neg (by omega), mul_zero]
  · rw [if_neg h32, if_pos (by omega), rd_of_lt _ _ (by omega), hy]
    congr 1
    show 512 * i + (u.val - 32) = _
    omega

end Cert.KernelIdeal.Tile
-- ==== Proof.TileConv.lean ====
/-
The causal convolutions of one tile, read at a row and a channel: the value of the window's convolution is the sum over its taps.
-/
module

public import proofs.«01_k».proof.Proof.Tile

@[expose] public section

set_option maxRecDepth 16384
set_option backward.isDefEq.respectTransparency false

noncomputable section

namespace Cert.KernelIdeal.Tile.Blk

open Idealize.ShloMosaic Cert.KernelIdeal Cert.KernelIdeal.Gen Cert.Rows

variable (b : Blk)

/-- One tap of the convolution, and of the short convolution. -/
def tap (r : Fin 512) (c : Fin 256) (k : ℕ) : EReal := rd b.v44 (r.val + (2 + k)) c * rd b.v30 k c
def stap (r : Fin 512) (c : Fin 256) (k : ℕ) : EReal := rd b.v329 (r.val + (30 + k)) c * rd b.v39 k c

theorem v44_eq : k0_pay20 b.v10 b.v15 = b.v44 := rfl
theorem v329_eq : k0_pay47 b.v22 b.v27 = b.v329 := rfl

theorem v75_read (r : Fin 512) (c : Fin 256) : b.v75 (ix2 r c) = ∑ k ∈ Finset.range 4, b.tap r c k := by
  unfold v75 k0_pay21
  simp only [v44_eq, v329_eq, add_at, mul_at, roll_up, slice_rows (o := 32), bcast_row, Nat.reduceLeDiff, Nat.reduceAdd, Finset.sum_range_succ, Finset.sum_range_zero, zero_add, tap, stap]

theorem v131_read (r : Fin 512) (c : Fin 256) : b.v131 (ix2 r c) = ∑ k ∈ Finset.range 11, b.tap r c k := by
  unfold v131 k0_pay24 v76 k0_pay22 v77 k0_pay23
  simp only [v44_eq, v329_eq, add_at, mul_at, roll_up, slice_rows (o := 32), bcast_row, Nat.reduceLeDiff, Nat.reduceAdd, Finset.sum_range_succ, Finset.sum_range_zero, zero_add, tap, stap, v75_read]

theorem v195_read (r : Fin 512) (c : Fin 256) : b.v195 (ix2 r c) = ∑ k ∈ Finset.range 19, b.tap r c k := by
  unfold v195 k0_pay27 v135 k0_pay25 v137 k0_pay26
  simp only [v44_eq, v329_eq, add_at, mul_at, roll_up, slice_rows (o := 32), bcast_row, Nat.reduceLeDiff, Nat.reduceAdd, Finset.sum_range_succ, Finset.sum_range_zero, zero_add, tap, stap, v131_read]

theorem v251_read (r : Fin 512) (c : Fin 256) : b.v251 (ix2 r c) = ∑ k ∈ Finset.range 26, b.tap r c k := by
  unfold v251 k0_pay30 v196 k0_pay28 v197 k0_pay29
  simp only [v44_eq, v329_eq, add_at, mul_at, roll_up, slice_rows (o := 32), bcast_row, Nat.reduceLeDiff, Nat.reduceAdd, Finset.sum_range_succ, Finset.sum_range_zero, zero_add, tap, stap, v195_read]

/-- The convolution's row with its bias. -/
def conv (r : Fin 512) (c : Fin 256) : EReal := (∑ k ∈ Finset.range 31, b.tap r c k) + b.x12 (ix2 0 c)

theorem v296_read (r : Fin 512) (c : Fin 256) : b.v296 (ix2 r c) = b.conv r c - Ideal.div (∑ k, b.conv r k) k256 := by
  unfold v296 k0_pay33 v255 v257 k0_pay31 k0_pay32
  simp only [v44_eq, v329_eq, add_at, mul_at, roll_up, slice_rows (o := 32), bcast_row, Nat.reduceLeDiff, Nat.reduceAdd, Finset.sum_range_succ, Finset.sum_range_zero, zero_add, tap, stap, sub_at, div_at, bcast_one, bcast_col, sum_chan, word_at, v251_read, conv, k256]
  rw [sum_chan]
  refine congrArg₂ (· - ·) ?_ (congrArg₂ Ideal.div (Finset.sum_congr rfl fun k _ => ?_) rfl)
  · simp only [slice_rows, Fin.val_zero, zero_add]
  simp only [add_at, mul_at, roll_up, slice_rows (o := 32), bcast_row, bcast_one, Nat.reduceLeDiff, Nat.reduceAdd, v251_read, Finset.sum_range_succ, Finset.sum_range_zero, zero_add, tap]
  simp only [slice_rows, Fin.val_zero, zero_add]

theorem v349_read (r : Fin 512) (c : Fin 256) : b.v349 (ix2 r c) = ∑ k ∈ Finset.range 3, b.stap r c k := by
  unfold v349 k0_pay48
  simp only [v44_eq, v329_eq, add_at, mul_at, roll_up, slice_rows (o := 32), bcast_row, Nat.reduceLeDiff, Nat.reduceAdd, Finset.sum_range_succ, Finset.sum_range_zero, zero_add, tap, stap]

end Cert.KernelIdeal.Tile.Blk
-- ==== Proof.TileRows.lean ====
/-
The row-by-row values of one tile: each value of the body, read at a row and a channel, is the specification's function at the row's
token.
-/
module

public import proofs.«01_k».proof.Proof.TileOk
public import proofs.«01_k».proof.Proof.TileConv

@[expose] public section

set_option maxRecDepth 16384
set_option backward.isDefEq.respectTransparency false

noncomputable section

namespace Cert.KernelIdeal.Tile.Ok

open Idealize.ShloMosaic Cert.KernelIdeal Cert.KernelIdeal.Gen Cert.Rows

variable {b : Blk} {d : Data} {i : ℕ} (h : Ok b d i)
include h

/-! ## The windows -/

theorem v10 (u : Fin 544) (c : Fin 256) : b.v10 (ix2 u c) = late d.val (512 * i + u.val) c := h.window _ _ _ h.x3 h.x0 concatenates_S32x256_S512x256_S544x256_d0 u c
theorem v15 (u : Fin 544) (c : Fin 256) : b.v15 (ix2 u c) = late d.gate (512 * i + u.val) c := h.window _ _ _ h.x4 h.x1 concatenates_S32x256_S512x256_S544x256_d0 u c
theorem v22 (u : Fin 544) (c : Fin 256) : b.v22 (ix2 u c) = late d.cc (512 * i + u.val) c := h.window _ _ _ h.x9 h.x6 concatenates_S32x256_S512x256_S544x256_d0 u c
theorem v27 (u : Fin 544) (c : Fin 256) : b.v27 (ix2 u c) = late d.cx (512 * i + u.val) c := h.window _ _ _ h.x10 h.x7 concatenates_S32x256_S512x256_S544x256_d0 u c

theorem v40 (u : Fin 544) (c : Fin 256) : b.v40 (ix2 u c) = Ideal.logistic (late d.gate (512 * i + u.val) c) := by
  rw [← h.v15]; rfl

theorem v43 (u : Fin 544) (c : Fin 256) : b.v43 (ix2 u c) = dsig (late d.gate (512 * i + u.val) c) := by
  have e : b.v43 (ix2 u c) = b.v40 (ix2 u c) * (broadcast S544x256 (Scalar.ofBits (F := Ideal) .f32 0x3F800000#32) (ix2 u c) - b.v40 (ix2 u c)) := rfl
  rw [e, one_at, h.v40]; rfl

theorem v44 (u : Fin 544) (c : Fin 256) : b.v44 (ix2 u c) = d.glu (512 * i + u.val) c := by
  have e : b.v44 (ix2 u c) = b.v10 (ix2 u c) * b.v40 (ix2 u c) := rfl
  rw [e, h.v10, h.v40]; rfl

theorem v329 (u : Fin 544) (c : Fin 256) : b.v329 (ix2 u c) = d.cu (512 * i + u.val) c := by
  have e : b.v329 (ix2 u c) = b.v22 (ix2 u c) * b.v27 (ix2 u c) := rfl
  rw [e, h.v22, h.v27]; rfl

theorem rd44 (u : ℕ) (hu : u < 544) (c : Fin 256) : rd b.v44 u c = d.glu (512 * i + u) c := by
  rw [rd_of_lt _ _ hu, h.v44]
theorem rd329 (u : ℕ) (hu : u < 544) (c : Fin 256) : rd b.v329 u c = d.cu (512 * i + u) c := by
  rw [rd_of_lt _ _ hu, h.v329]

theorem rd30 (k : ℕ) (hk : k < 31) (c : Fin 256) : rd b.v30 k c = d.w k c := by
  rw [rd_of_lt _ _ (by omega)]
  exact (congrFun (shapeCast_self _ _) _).trans (h.x11 ⟨k, by omega⟩ c hk)
theorem rd39 (k : ℕ) (hk : k < 3) (c : Fin 256) : rd b.v39 k c = d.s k c := by
  rw [rd_of_lt _ _ (by omega)]
  exact (congrFun (shapeCast_self _ _) _).trans (h.x17 ⟨k, by omega⟩ c hk)
theorem v36 (a c : Fin 256) : b.v36 (ix2 a c) = d.p a c := by
  exact (congrFun (shapeCast_self _ _) _).trans (h.x15 a c)

/-! ## The convolutions -/

theorem conv (r : Fin 512) (c : Fin 256) : b.conv r c = d.y (512 * i + r.val) c := by
  have hr := r.isLt
  unfold Blk.conv Data.y
  rw [h.x12]
  congr 1
  refine Finset.sum_congr rfl fun k hk => ?_
  have hk' := Finset.mem_range.1 hk
  unfold Blk.tap
  rw [h.rd44 _ (by omega), h.rd30 k hk', ← Nat.add_assoc]

theorem v349 (r : Fin 512) (c : Fin 256) : b.v349 (ix2 r c) = d.cy (512 * i + r.val) c := by
  have hr := r.isLt
  rw [Blk.v349_read]
  unfold Data.cy
  refine Finset.sum_congr rfl fun k hk => ?_
  have hk' := Finset.mem_range.1 hk
  unfold Blk.stap
  rw [h.rd329 _ (by omega), h.rd39 k hk', ← Nat.add_assoc]

/-! ## The layer norm -/

theorem v296 (r : Fin 512) (c : Fin 256) : b.v296 (ix2 r c) = d.xc (512 * i + r.val) c := by
  rw [Blk.v296_read]
  simp only [h.conv]
  rfl

theorem v303 (r : Fin 512) (z : Fin 1) : b.v303 (ix2 r z) = d.var (512 * i + r.val) := by
  have e : b.v303 (ix2 r z) = Ideal.div (shapeCast S512x1 (multiReduction .add [1] S512 (mulf b.v296 b.v296) 0x00000000#32 reduces_S512x256_S512 (.inl rfl) rfl)
      shapeCasts_S512_S512x1 (ix2 r z)) k256 + eps := rfl
  rw [e, sum_chan]
  simp only [mul_at, h.v296]
  rfl

theorem v304 (r : Fin 512) (z : Fin 1) : b.v304 (ix2 r z) = d.rs (512 * i + r.val) := by
  have e : b.v304 (ix2 r z) = Ideal.rsqrt (b.v303 (ix2 r z)) := rfl
  rw [e, h.v303]; rfl

theorem v307 (r : Fin 512) (z : Fin 1) : b.v307 (ix2 r z) = d.drs (512 * i + r.val) := by
  have e : b.v307 (ix2 r z) = mhalf * Ideal.div (b.v304 (ix2 r z)) (b.v303 (ix2 r z)) := rfl
  rw [e, h.v303, h.v304]; rfl

theorem v309 (r : Fin 512) (c : Fin 256) : b.v309 (ix2 r c) = d.xn (512 * i + r.val) c := by
  have e : b.v309 (ix2 r c) = b.v296 (ix2 r c) * broadcastTo S512x256 b.v304 broadcasts_S512x1_S512x256 (ix2 r c) := rfl
  rw [e, bcast_col, h.v296, h.v304]; rfl

theorem v313 (r : Fin 512) (c : Fin 256) : b.v313 (ix2 r c) = d.u (512 * i + r.val) c := by
  have e : b.v313 (ix2 r c) = b.v309 (ix2 r c) * broadcastTo S512x256 b.x13 broadcasts_S1x256_S512x256 (ix2 r c)
      + broadcastTo S512x256 b.x14 broadcasts_S1x256_S512x256 (ix2 r c) := rfl
  rw [e, bcast_one, bcast_one, h.v309, h.x13, h.x14]; rfl

theorem v314 (r : Fin 512) (c : Fin 256) : b.v314 (ix2 r c) = Ideal.logistic (d.u (512 * i + r.val) c) := by
  rw [← h.v313]; rfl

theorem v317 (r : Fin 512) (c : Fin 256) : b.v317 (ix2 r c) = dsig (d.u (512 * i + r.val) c) := by
  have e : b.v317 (ix2 r c) = b.v314 (ix2 r c) * (broadcast S512x256 (Scalar.ofBits (F := Ideal) .f32 0x3F800000#32) (ix2 r c) - b.v314 (ix2 r c)) := rfl
  rw [e, one_at, h.v314]; rfl

theorem v318 (r : Fin 512) (c : Fin 256) : b.v318 (ix2 r c) = d.su (512 * i + r.val) c := by
  have e : b.v318 (ix2 r c) = b.v313 (ix2 r c) * b.v314 (ix2 r c) := rfl
  rw [e, h.v313, h.v314]; rfl

/-! ## The pointwise product and its gate -/

theorem v323 (r : Fin 512) (c : Fin 256) : b.v323 (ix2 r c) = d.z (512 * i + r.val) c := by
  have e : b.v323 (ix2 r c) = matmul dot_S512x256_S256x256_S512x256_1_0_0_1_n_n none (truncf .bf16 b.v318 bitsLt_bf16_f32 : FVec Ideal S512x256 .bf16)
      (truncf .bf16 b.v36 bitsLt_bf16_f32 : FVec Ideal S256x256 .bf16) (constant S512x256 .f32 0x00000000#32) (ix2 r c)
      + broadcastTo S512x256 b.x16 broadcasts_S1x256_S512x256 (ix2 r c) := rfl
  rw [e, mm_rows, bcast_one, h.x16]
  have e2 : ∀ k, (truncf .bf16 b.v318 bitsLt_bf16_f32 : FVec Ideal S512x256 .bf16) (ix2 r k) * (truncf .bf16 b.v36 bitsLt_bf16_f32 : FVec Ideal S256x256 .bf16) (ix2 k c)
      = d.su (512 * i + r.val) k * d.p k c := fun k => by rw [← h.v318, ← h.v36]; rfl
  simp only [e2]
  rfl

theorem v324 (r : Fin 512) (c : Fin 256) : b.v324 (ix2 r c) = Ideal.logistic (d.az (512 * i + r.val) c) := by
  rw [← h.x2]; rfl

theorem v327 (r : Fin 512) (c : Fin 256) : b.v327 (ix2 r c) = dsig (d.az (512 * i + r.val) c) := by
  have e : b.v327 (ix2 r c) = b.v324 (ix2 r c) * (broadcast S512x256 (Scalar.ofBits (F := Ideal) .f32 0x3F800000#32) (ix2 r c) - b.v324 (ix2 r c)) := rfl
  rw [e, one_at, h.v324]; rfl

theorem v432 (r : Fin 512) (c : Fin 256) : b.v432 (ix2 r c) = d.dz (512 * i + r.val) c := by
  have e : b.v432 (ix2 r c) = b.x18 (ix2 r c) * (b.x2 (ix2 r c) * b.v324 (ix2 r c)) := rfl
  rw [e, h.x18, h.x2, h.v324]; rfl

theorem v436 (r : Fin 512) (c : Fin 256) : b.v436 (ix2 r c) = d.daz (512 * i + r.val) c := by
  have e : b.v436 (ix2 r c) = (b.v323 (ix2 r c) * b.x18 (ix2 r c)) * b.v324 (ix2 r c)
      + (b.x2 (ix2 r c) * (b.v323 (ix2 r c) * b.x18 (ix2 r c))) * b.v327 (ix2 r c) := rfl
  rw [e, h.x18, h.x2, h.v324, h.v327, h.v323]; rfl

/-! ## The gradient through the layer norm -/

theorem v447 (r : Fin 512) (c : Fin 256) : b.v447 (ix2 r c) = d.du (512 * i + r.val) c := by
  have e : b.v447 (ix2 r c)
      = matmul dot_S512x256_S256x256_S512x256_1_1_0_0_n_n none (truncf .bf16 b.v432 bitsLt_bf16_f32 : FVec Ideal S512x256 .bf16)
          (truncf .bf16 b.v36 bitsLt_bf16_f32 : FVec Ideal S256x256 .bf16) (constant S512x256 .f32 0x00000000#32) (ix2 r c) * b.v314 (ix2 r c)
        + (b.v313 (ix2 r c) * matmul dot_S512x256_S256x256_S512x256_1_1_0_0_n_n none (truncf .bf16 b.v432 bitsLt_bf16_f32 : FVec Ideal S512x256 .bf16)
          (truncf .bf16 b.v36 bitsLt_bf16_f32 : FVec Ideal S256x256 .bf16) (constant S512x256 .f32 0x00000000#32) (ix2 r c)) * b.v317 (ix2 r c) := rfl
  have e2 : ∀ k, (truncf .bf16 b.v432 bitsLt_bf16_f32 : FVec Ideal S512x256 .bf16) (ix2 r k) * (truncf .bf16 b.v36 bitsLt_bf16_f32 : FVec Ideal S256x256 .bf16) (ix2 c k)
      = d.dz (512 * i + r.val) k * d.p c k := fun k => by rw [← h.v432, ← h.v36]; rfl
  rw [e, mm_back, h.v313, h.v314, h.v317]
  simp only [e2]
  rfl

theorem v454 (r : Fin 512) (c : Fin 256) : b.v454 (ix2 r c) = d.dn (512 * i + r.val) c := by
  have e : b.v454 (ix2 r c) = b.v447 (ix2 r c) * broadcastTo S512x256 b.x13 broadcasts_S1x256_S512x256 (ix2 r c) := rfl
  rw [e, bcast_one, h.v447, h.x13]; rfl

theorem v459 (r : Fin 512) (c : Fin 256) : b.v459 (ix2 r c) = d.dn (512 * i + r.val) c * d.rs (512 * i + r.val) := by
  have e : b.v459 (ix2 r c) = b.v454 (ix2 r c) * broadcastTo S512x256 b.v304 broadcasts_S512x1_S512x256 (ix2 r c) := rfl
  rw [e, bcast_col, h.v454, h.v304]

theorem v464 (r : Fin 512) (z : Fin 1) : b.v464 (ix2 r z) = d.dvar (512 * i + r.val) := by
  have e : b.v464 = shapeCast S512x1 (multiReduction .add [1] S512 (divf (mulf (shapeCast S512x1 (multiReduction .add [1] S512 (mulf b.v296 b.v454) 0x00000000#32
      reduces_S512x256_S512 (.inl rfl) rfl) shapeCasts_S512_S512x1) b.v307) (broadcast S512x1 (Scalar.ofBits (F := Ideal) .f32 0x43800000#32)))
      0x00000000#32 reduces_S512x1_S512 (.inl rfl) rfl) shapeCasts_S512_S512x1 := rfl
  rw [e, sum_one, div_at, mul_at, sum_chan, h.v307]
  simp only [mul_at, h.v296, h.v454]
  rfl

/-- The gradient of the centred row, before the mean's part. -/
theorem v469 (r : Fin 512) (c : Fin 256) :
    (addf (addf b.v459 (mulf b.v296 (broadcastTo S512x256 b.v464 broadcasts_S512x1_S512x256))) (mulf (broadcastTo S512x256 b.v464 broadcasts_S512x1_S512x256) b.v296)
      : FVec Ideal S512x256 .f32) (ix2 r c) = d.dxc (512 * i + r.val) c := by
  rw [add_at, add_at, mul_at, mul_at, bcast_col, h.v459, h.v296, h.v464]; rfl

theorem v479 (r : Fin 512) (c : Fin 256) : b.v479 (ix2 r c) = d.dy (512 * i + r.val) c := by
  have e : b.v479 = addf (addf (addf b.v459 (mulf b.v296 (broadcastTo S512x256 b.v464 broadcasts_S512x1_S512x256))) (mulf (broadcastTo S512x256 b.v464 broadcasts_S512x1_S512x256) b.v296))
      (broadcastTo S512x256 (shapeCast S512x1 (multiReduction .add [1] S512 (divf (shapeCast S512x1 (multiReduction .add [1] S512
        (subf (broadcast S512x256 (Scalar.ofBits (F := Ideal) .f32 0x00000000#32))
          (addf (addf b.v459 (mulf b.v296 (broadcastTo S512x256 b.v464 broadcasts_S512x1_S512x256))) (mulf (broadcastTo S512x256 b.v464 broadcasts_S512x1_S512x256) b.v296)))
        0x00000000#32 reduces_S512x256_S512 (.inl rfl) rfl) shapeCasts_S512_S512x1) (broadcast S512x1 (Scalar.ofBits (F := Ideal) .f32 0x43800000#32)))
        0x00000000#32 reduces_S512x1_S512 (.inl rfl) rfl) shapeCasts_S512_S512x1) broadcasts_S512x1_S512x256) := rfl
  rw [e, add_at, bcast_col, sum_one, div_at, sum_chan, h.v469]
  simp only [sub_at, zero_at, h.v469, zero_sub]
  rfl

/-! ## The short branch -/

theorem v351 (r : Fin 512) (c : Fin 256) : b.v351 (ix2 r c) = Ideal.logistic (d.cz (512 * i + r.val) c) := by
  rw [← h.x8]; rfl

theorem v359 (r : Fin 512) (c : Fin 256) : b.v359 (ix2 r c) = d.dcg (512 * i + r.val) c := by
  have e : b.v359 (ix2 r c) = b.x19 (ix2 r c) * (b.x8 (ix2 r c) * b.v351 (ix2 r c)) := rfl
  rw [e, h.x19, h.x8, h.v351]; rfl

theorem v363 (r : Fin 512) (c : Fin 256) : b.v363 (ix2 r c) = d.dcz (512 * i + r.val) c := by
  have e : b.v363 (ix2 r c) = (b.x5 (ix2 r c) * b.v349 (ix2 r c) * b.x19 (ix2 r c)) * b.v351 (ix2 r c)
      + (b.x8 (ix2 r c) * (b.x5 (ix2 r c) * b.v349 (ix2 r c) * b.x19 (ix2 r c)))
        * (b.v351 (ix2 r c) * (broadcast S512x256 (Scalar.ofBits (F := Ideal) .f32 0x3F800000#32) (ix2 r c) - b.v351 (ix2 r c))) := rfl
  rw [e, one_at, h.x19, h.x8, h.x5, h.v351, h.v349]; rfl

theorem v364 (r : Fin 512) (c : Fin 256) : b.v364 (ix2 r c) = d.dcy (512 * i + r.val) c := by
  have e : b.v364 (ix2 r c) = b.x5 (ix2 r c) * b.v359 (ix2 r c) := rfl
  rw [e, h.x5, h.v359]; rfl

theorem v365 (r : Fin 512) (c : Fin 256) : b.v365 (ix2 r c) = d.dcb (512 * i + r.val) c := by
  have e : b.v365 (ix2 r c) = b.v359 (ix2 r c) * b.v349 (ix2 r c) := rfl
  rw [e, h.v349, h.v359]; rfl

end Cert.KernelIdeal.Tile.Ok
-- ==== Proof.TileBack.lean ====
/-
The gradients carried back to one tile's windows through its convolutions, read at a row of the window and a channel.
-/
module

public import proofs.«01_k».proof.Proof.Tile

@[expose] public section

set_option maxRecDepth 16384
set_option backward.isDefEq.respectTransparency false

noncomputable section

namespace Cert.KernelIdeal.Tile.Blk

open Idealize.ShloMosaic Cert.KernelIdeal Cert.KernelIdeal.Gen Cert.Rows

variable (b : Blk)

/-- One tap of the gradient carried back to the gated window, and to the short branch's window. -/
def btap (u : Fin 544) (c : Fin 256) (k : ℕ) : EReal := (if 2 + k ≤ u.val then rd b.v479 (u.val - (2 + k)) c else 0) * rd b.v30 k c
def sbtap (u : Fin 544) (c : Fin 256) (k : ℕ) : EReal := (if 30 + k ≤ u.val then rd b.v364 (u.val - (30 + k)) c else 0) * rd b.v39 k c

theorem v483_eq : k0_pay76 b.v296 b.v459 b.v464 = b.v483 := rfl
theorem v367_eq : k0_pay54 b.x5 b.v359 = b.v367 := rfl

theorem roll483 {a e : ℕ} (h1 : Shape.Slices ⟨2, ![544, 256]⟩ ![e, 0] ⟨2, ![a, 256]⟩) (h2 : Shape.Slices ⟨2, ![544, 256]⟩ ![0, 0] ⟨2, ![e, 256]⟩)
    (h : Shape.Concatenates [⟨2, ![a, 256]⟩, ⟨2, ![e, 256]⟩] ⟨2, ![544, 256]⟩ 0) (u : Fin 544) (c : Fin 256) (ha : a ≤ 32) :
    concatenate ⟨2, ![544, 256]⟩ 0
      [⟨⟨2, ![a, 256]⟩, extractStridedSlice ⟨2, ![a, 256]⟩ ![e, 0] b.v483 h1⟩, ⟨⟨2, ![e, 256]⟩, extractStridedSlice ⟨2, ![e, 256]⟩ ![0, 0] b.v483 h2⟩] h (ix2 u c)
      = if a ≤ u.val then rd b.v479 (u.val - a) c else 0 :=
  roll_down b.v479 (broadcast S32x256 (Scalar.ofBits (F := Ideal) .f32 0x00000000#32)) (fun _ => Ideal.ofBits_zero_f32) concatenates_S512x256_S32x256_S544x256_d0 h1 h2 h u c ha

theorem roll367 {a e : ℕ} (h1 : Shape.Slices ⟨2, ![544, 256]⟩ ![e, 0] ⟨2, ![a, 256]⟩) (h2 : Shape.Slices ⟨2, ![544, 256]⟩ ![0, 0] ⟨2, ![e, 256]⟩)
    (h : Shape.Concatenates [⟨2, ![a, 256]⟩, ⟨2, ![e, 256]⟩] ⟨2, ![544, 256]⟩ 0) (u : Fin 544) (c : Fin 256) (ha : a ≤ 32) :
    concatenate ⟨2, ![544, 256]⟩ 0
      [⟨⟨2, ![a, 256]⟩, extractStridedSlice ⟨2, ![a, 256]⟩ ![e, 0] b.v367 h1⟩, ⟨⟨2, ![e, 256]⟩, extractStridedSlice ⟨2, ![e, 256]⟩ ![0, 0] b.v367 h2⟩] h (ix2 u c)
      = if a ≤ u.val then rd b.v364 (u.val - a) c else 0 :=
  roll_down b.v364 (broadcast S32x256 (Scalar.ofBits (F := Ideal) .f32 0x00000000#32)) (fun _ => Ideal.ofBits_zero_f32) concatenates_S512x256_S32x256_S544x256_d0 h1 h2 h u c ha

theorem v512_read (u : Fin 544) (c : Fin 256) : b.v512 (ix2 u c) = ∑ k ∈ Finset.range 2, b.btap u c k := by
  have e : k0_pay76 b.v296 b.v459 b.v464 = b.v483 := rfl
  unfold v512 k0_pay78
  simp only [e, v483_eq, v367_eq, add_at, mul_at, bcast_row, Nat.reduceLeDiff, Nat.reduceAdd, btap, sbtap, Finset.sum_range_succ, Finset.sum_range_zero, zero_add, roll483]

theorem v554_read (u : Fin 544) (c : Fin 256) : b.v554 (ix2 u c) = ∑ k ∈ Finset.range 4, b.btap u c k := by
  unfold v554 k0_pay82
  simp only [v483_eq, v367_eq, add_at, mul_at, bcast_row, Nat.reduceLeDiff, Nat.reduceAdd, btap, sbtap, Finset.sum_range_succ, Finset.sum_range_zero, zero_add, roll483, v512_read]

theorem v617_read (u : Fin 544) (c : Fin 256) : b.v617 (ix2 u c) = ∑ k ∈ Finset.range 7, b.btap u c k := by
  unfold v617 k0_pay86
  simp only [v483_eq, v367_eq, add_at, mul_at, bcast_row, Nat.reduceLeDiff, Nat.reduceAdd, btap, sbtap, Finset.sum_range_succ, Finset.sum_range_zero, zero_add, roll483, v554_read]

theorem v659_read (u : Fin 544) (c : Fin 256) : b.v659 (ix2 u c) = ∑ k ∈ Finset.range 9, b.btap u c k := by
  unfold v659 k0_pay90
  simp only [v483_eq, v367_eq, add_at, mul_at, bcast_row, Nat.reduceLeDiff, Nat.reduceAdd, btap, sbtap, Finset.sum_range_succ, Finset.sum_range_zero, zero_add, roll483, v617_read]

theorem v722_read (u : Fin 544) (c : Fin 256) : b.v722 (ix2 u c) = ∑ k ∈ Finset.range 12, b.btap u c k := by
  unfold v722 k0_pay94
  simp only [v483_eq, v367_eq, add_at, mul_at, bcast_row, Nat.reduceLeDiff, Nat.reduceAdd, btap, sbtap, Finset.sum_range_succ, Finset.sum_range_zero, zero_add, roll483, v659_read]

theorem v764_read (u : Fin 544) (c : Fin 256) : b.v764 (ix2 u c) = ∑ k ∈ Finset.range 14, b.btap u c k := by
  unfold v764 k0_pay98
  simp only [v483_eq, v367_eq, add_at, mul_at, bcast_row, Nat.reduceLeDiff, Nat.reduceAdd, btap, sbtap, Finset.sum_range_succ, Finset.sum_range_zero, zero_add, roll483, v722_read]

theorem v827_read (u : Fin 544) (c : Fin 256) : b.v827 (ix2 u c) = ∑ k ∈ Finset.range 17, b.btap u c k := by
  unfold v827 k0_pay102
  simp only [v483_eq, v367_eq, add_at, mul_at, bcast_row, Nat.reduceLeDiff, Nat.reduceAdd, btap, sbtap, Finset.sum_range_succ, Finset.sum_range_zero, zero_add, roll483, v764_read]

theorem v869_read (u : Fin 544) (c : Fin 256) : b.v869 (ix2 u c) = ∑ k ∈ Finset.range 19, b.btap u c k := by
  unfold v869 k0_pay106
  simp only [v483_eq, v367_eq, add_at, mul_at, bcast_row, Nat.reduceLeDiff, Nat.reduceAdd, btap, sbtap, Finset.sum_range_succ, Finset.sum_range_zero, zero_add, roll483, v827_read]

theorem v932_read (u : Fin 544) (c : Fin 256) : b.v932 (ix2 u c) = ∑ k ∈ Finset.range 22, b.btap u c k := by
  unfold v932 k0_pay110
  simp only [v483_eq, v367_eq, add_at, mul_at, bcast_row, Nat.reduceLeDiff, Nat.reduceAdd, btap, sbtap, Finset.sum_range_succ, Finset.sum_range_zero, zero_add, roll483, v869_read]

theorem v974_read (u : Fin 544) (c : Fin 256) : b.v974 (ix2 u c) = ∑ k ∈ Finset.range 24, b.btap u c k := by
  unfold v974 k0_pay114
  simp only [v483_eq, v367_eq, add_at, mul_at, bcast_row, Nat.reduceLeDiff, Nat.reduceAdd, btap, sbtap, Finset.sum_range_succ, Finset.sum_range_zero, zero_add, roll483, v932_read]

theorem v1037_read (u : Fin 544) (c : Fin 256) : b.v1037 (ix2 u c) = ∑ k ∈ Finset.range 27, b.btap u c k := by
  unfold v1037 k0_pay118
  simp only [v483_eq, v367_eq, add_at, mul_at, bcast_row, Nat.reduceLeDiff, Nat.reduceAdd, btap, sbtap, Finset.sum_range_succ, Finset.sum_range_zero, zero_add, roll483, v974_read]

theorem v1079_read (u : Fin 544) (c : Fin 256) : b.v1079 (ix2 u c) = ∑ k ∈ Finset.range 29, b.btap u c k := by
  unfold v1079 k0_pay122
  simp only [v483_eq, v367_eq, add_at, mul_at, bcast_row, Nat.reduceLeDiff, Nat.reduceAdd, btap, sbtap, Finset.sum_range_succ, Finset.sum_range_zero, zero_add, roll483, v1037_read]

theorem v1121_read (u : Fin 544) (c : Fin 256) : b.v1121 (ix2 u c) = ∑ k ∈ Finset.range 31, b.btap u c k := by
  unfold v1121 k0_pay125
  simp only [v483_eq, v367_eq, add_at, mul_at, bcast_row, Nat.reduceLeDiff, Nat.reduceAdd, btap, sbtap, Finset.sum_range_succ, Finset.sum_range_zero, zero_add, roll483, v1079_read]

theorem v396_read (u : Fin 544) (c : Fin 256) : b.v396 (ix2 u c) = ∑ k ∈ Finset.range 2, b.sbtap u c k := by
  have e : k0_pay54 b.x5 b.v359 = b.v367 := rfl
  unfold v396 k0_pay55
  simp only [e, v483_eq, v367_eq, add_at, mul_at, bcast_row, Nat.reduceLeDiff, Nat.reduceAdd, btap, sbtap, Finset.sum_range_succ, Finset.sum_range_zero, zero_add, roll367]

theorem v417_read (u : Fin 544) (c : Fin 256) : b.v417 (ix2 u c) = ∑ k ∈ Finset.range 3, b.sbtap u c k := by
  have e : k0_pay54 b.x5 b.v359 = b.v367 := rfl
  unfold v417 k0_pay59 v413 k0_pay57 v415 k0_pay58
  simp only [e, v483_eq, v367_eq, add_at, mul_at, bcast_row, Nat.reduceLeDiff, Nat.reduceAdd, btap, sbtap, Finset.sum_range_succ, Finset.sum_range_zero, zero_add, roll367, v396_read]

end Cert.KernelIdeal.Tile.Blk
-- ==== Proof.TileTaps.lean ====
/-
The gradients of the two convolutions' taps that one tile contributes, read at a tap and a channel.
-/
module

public import proofs.«01_k».proof.Proof.Tile

@[expose] public section

set_option maxRecDepth 16384
set_option backward.isDefEq.respectTransparency false

noncomputable section

namespace Cert.KernelIdeal.Tile.Blk

open Idealize.ShloMosaic Cert.KernelIdeal Cert.KernelIdeal.Gen Cert.Rows

variable (b : Blk)

/-- What the tile contributes to tap `k` of the convolution, and of the short convolution. -/
def wtap (c : Fin 256) (k : ℕ) : EReal := ∑ r : Fin 512, b.v479 (ix2 r c) * rd b.v44 (r.val + (2 + k)) c
def swtap (c : Fin 256) (k : ℕ) : EReal := ∑ r : Fin 512, b.v364 (ix2 r c) * rd b.v329 (r.val + (30 + k)) c

/-- The sum of a block's rows, as the body writes it. -/
theorem rowsum (x : FVec Ideal S512x256 .f32) (z : Fin 1) (c : Fin 256) : shapeCast S1x256
    (multiReduction .add [0] S256 x (0x00000000#32) reduces_S512x256_S256 (.inl rfl) rfl) shapeCasts_S256_S1x256 (ix2 z c) = ∑ r : Fin 512, x (ix2 r c) :=
  sum_rows x _ _ _ _ z c

theorem v505_read (j : Fin 32) (c : Fin 256) : b.v505 (ix2 j c) = ∑ k ∈ Finset.range 1, if j.val = k then b.wtap c k else 0 := by
  have e : k0_pay74 b.v296 b.v459 b.v464 = b.v479 := rfl
  unfold v505 k0_pay77
  simp only [e, add_at, mul_at, roll_up, slice_rows (o := 32), Nat.reduceAdd, wtap, swtap, rowsum, zero_at, Nat.reduceLeDiff, Finset.sum_range_succ, Finset.sum_range_zero, zero_add, put_row (n := 32) 0 (by decide) (by decide)]
  rw [rowsum]
  simp only [add_at, mul_at, roll_up, slice_rows (o := 32), Nat.reduceAdd, Nat.reduceLeDiff]

theorem v547_read (j : Fin 32) (c : Fin 256) : b.v547 (ix2 j c) = ∑ k ∈ Finset.range 3, if j.val = k then b.wtap c k else 0 := by
  unfold v547 k0_pay81 v513 k0_pay79 v514 k0_pay80
  simp only [add_at, mul_at, roll_up, slice_rows (o := 32), Nat.reduceAdd, wtap, swtap, rowsum, zero_at, Nat.reduceLeDiff, Finset.sum_range_succ, Finset.sum_range_zero, zero_add, v505_read, put_row (n := 32) 1 (by decide) (by decide), put_row (n := 32) 2 (by decide) (by decide)]
  rw [rowsum, rowsum]
  simp only [add_at, mul_at, roll_up, slice_rows (o := 32), Nat.reduceAdd, Nat.reduceLeDiff]

theorem v610_read (j : Fin 32) (c : Fin 256) : b.v610 (ix2 j c) = ∑ k ∈ Finset.range 6, if j.val = k then b.wtap c k else 0 := by
  unfold v610 k0_pay85 v560 k0_pay83 v565 k0_pay84
  simp only [add_at, mul_at, roll_up, slice_rows (o := 32), Nat.reduceAdd, wtap, swtap, rowsum, zero_at, Nat.reduceLeDiff, Finset.sum_range_succ, Finset.sum_range_zero, zero_add, v547_read, put_row (n := 32) 3 (by decide) (by decide), put_row (n := 32) 4 (by decide) (by decide), put_row (n := 32) 5 (by decide) (by decide)]
  rw [rowsum, rowsum, rowsum]
  simp only [add_at, mul_at, roll_up, slice_rows (o := 32), Nat.reduceAdd, Nat.reduceLeDiff]

theorem v652_read (j : Fin 32) (c : Fin 256) : b.v652 (ix2 j c) = ∑ k ∈ Finset.range 8, if j.val = k then b.wtap c k else 0 := by
  unfold v652 k0_pay89 v618 k0_pay87 v619 k0_pay88
  simp only [add_at, mul_at, roll_up, slice_rows (o := 32), Nat.reduceAdd, wtap, swtap, rowsum, zero_at, Nat.reduceLeDiff, Finset.sum_range_succ, Finset.sum_range_zero, zero_add, v610_read, put_row (n := 32) 6 (by decide) (by decide), put_row (n := 32) 7 (by decide) (by decide)]
  rw [rowsum, rowsum]
  simp only [add_at, mul_at, roll_up, slice_rows (o := 32), Nat.reduceAdd, Nat.reduceLeDiff]

theorem v715_read (j : Fin 32) (c : Fin 256) : b.v715 (ix2 j c) = ∑ k ∈ Finset.range 11, if j.val = k then b.wtap c k else 0 := by
  unfold v715 k0_pay93 v665 k0_pay91 v670 k0_pay92
  simp only [add_at, mul_at, roll_up, slice_rows (o := 32), Nat.reduceAdd, wtap, swtap, rowsum, zero_at, Nat.reduceLeDiff, Finset.sum_range_succ, Finset.sum_range_zero, zero_add, v652_read, put_row (n := 32) 8 (by decide) (by decide), put_row (n := 32) 9 (by decide) (by decide), put_row (n := 32) 10 (by decide) (by decide)]
  rw [rowsum, rowsum, rowsum]
  simp only [add_at, mul_at, roll_up, slice_rows (o := 32), Nat.reduceAdd, Nat.reduceLeDiff]

theorem v757_read (j : Fin 32) (c : Fin 256) : b.v757 (ix2 j c) = ∑ k ∈ Finset.range 13, if j.val = k then b.wtap c k else 0 := by
  unfold v757 k0_pay97 v723 k0_pay95 v724 k0_pay96
  simp only [add_at, mul_at, roll_up, slice_rows (o := 32), Nat.reduceAdd, wtap, swtap, rowsum, zero_at, Nat.reduceLeDiff, Finset.sum_range_succ, Finset.sum_range_zero, zero_add, v715_read, put_row (n := 32) 11 (by decide) (by decide), put_row (n := 32) 12 (by decide) (by decide)]
  rw [rowsum, rowsum]
  simp only [add_at, mul_at, roll_up, slice_rows (o := 32), Nat.reduceAdd, Nat.reduceLeDiff]

theorem v820_read (j : Fin 32) (c : Fin 256) : b.v820 (ix2 j c) = ∑ k ∈ Finset.range 16, if j.val = k then b.wtap c k else 0 := by
  unfold v820 k0_pay101 v770 k0_pay99 v775 k0_pay100
  simp only [add_at, mul_at, roll_up, slice_rows (o := 32), Nat.reduceAdd, wtap, swtap, rowsum, zero_at, Nat.reduceLeDiff, Finset.sum_range_succ, Finset.sum_range_zero, zero_add, v757_read, put_row (n := 32) 13 (by decide) (by decide), put_row (n := 32) 14 (by decide) (by decide), put_row (n := 32) 15 (by decide) (by decide)]
  rw [rowsum, rowsum, rowsum]
  simp only [add_at, mul_at, roll_up, slice_rows (o := 32), Nat.reduceAdd, Nat.reduceLeDiff]

theorem v862_read (j : Fin 32) (c : Fin 256) : b.v862 (ix2 j c) = ∑ k ∈ Finset.range 18, if j.val = k then b.wtap c k else 0 := by
  unfold v862 k0_pay105 v828 k0_pay103 v829 k0_pay104
  simp only [add_at, mul_at, roll_up, slice_rows (o := 32), Nat.reduceAdd, wtap, swtap, rowsum, zero_at, Nat.reduceLeDiff, Finset.sum_range_succ, Finset.sum_range_zero, zero_add, v820_read, put_row (n := 32) 16 (by decide) (by decide), put_row (n := 32) 17 (by decide) (by decide)]
  rw [rowsum, rowsum]
  simp only [add_at, mul_at, roll_up, slice_rows (o := 32), Nat.reduceAdd, Nat.reduceLeDiff]

theorem v925_read (j : Fin 32) (c : Fin 256) : b.v925 (ix2 j c) = ∑ k ∈ Finset.range 21, if j.val = k then b.wtap c k else 0 := by
  unfold v925 k0_pay109 v875 k0_pay107 v880 k0_pay108
  simp only [add_at, mul_at, roll_up, slice_rows (o := 32), Nat.reduceAdd, wtap, swtap, rowsum, zero_at, Nat.reduceLeDiff, Finset.sum_range_succ, Finset.sum_range_zero, zero_add, v862_read, put_row (n := 32) 18 (by decide) (by decide), put_row (n := 32) 19 (by decide) (by decide), put_row (n := 32) 20 (by decide) (by decide)]
  rw [rowsum, rowsum, rowsum]
  simp only [add_at, mul_at, roll_up, slice_rows (o := 32), Nat.reduceAdd, Nat.reduceLeDiff]

theorem v967_read (j : Fin 32) (c : Fin 256) : b.v967 (ix2 j c) = ∑ k ∈ Finset.range 23, if j.val = k then b.wtap c k else 0 := by
  unfold v967 k0_pay113 v933 k0_pay111 v934 k0_pay112
  simp only [add_at, mul_at, roll_up, slice_rows (o := 32), Nat.reduceAdd, wtap, swtap, rowsum, zero_at, Nat.reduceLeDiff, Finset.sum_range_succ, Finset.sum_range_zero, zero_add, v925_read, put_row (n := 32) 21 (by decide) (by decide), put_row (n := 32) 22 (by decide) (by decide)]
  rw [rowsum, rowsum]
  simp only [add_at, mul_at, roll_up, slice_rows (o := 32), Nat.reduceAdd, Nat.reduceLeDiff]

theorem v1030_read (j : Fin 32) (c : Fin 256) : b.v1030 (ix2 j c) = ∑ k ∈ Finset.range 26, if j.val = k then b.wtap c k else 0 := by
  unfold v1030 k0_pay117 v980 k0_pay115 v985 k0_pay116
  simp only [add_at, mul_at, roll_up, slice_rows (o := 32), Nat.reduceAdd, wtap, swtap, rowsum, zero_at, Nat.reduceLeDiff, Finset.sum_range_succ, Finset.sum_range_zero, zero_add, v967_read, put_row (n := 32) 23 (by decide) (by decide), put_row (n := 32) 24 (by decide) (by decide), put_row (n := 32) 25 (by decide) (by decide)]
  rw [rowsum, rowsum, rowsum]
  simp only [add_at, mul_at, roll_up, slice_rows (o := 32), Nat.reduceAdd, Nat.reduceLeDiff]

theorem v1072_read (j : Fin 32) (c : Fin 256) : b.v1072 (ix2 j c) = ∑ k ∈ Finset.range 28, if j.val = k then b.wtap c k else 0 := by
  unfold v1072 k0_pay121 v1038 k0_pay119 v1039 k0_pay120
  simp only [add_at, mul_at, roll_up, slice_rows (o := 32), Nat.reduceAdd, wtap, swtap, rowsum, zero_at, Nat.reduceLeDiff, Finset.sum_range_succ, Finset.sum_range_zero, zero_add, v1030_read, put_row (n := 32) 26 (by decide) (by decide), put_row (n := 32) 27 (by decide) (by decide)]
  rw [rowsum, rowsum]
  simp only [add_at, mul_at, roll_up, slice_rows (o := 32), Nat.reduceAdd, Nat.reduceLeDiff]

theorem v1132_read (j : Fin 32) (c : Fin 256) : b.v1132 (ix2 j c) = ∑ k ∈ Finset.range 31, if j.val = k then b.wtap c k else 0 := by
  unfold v1132 k0_pay126 v1085 k0_pay123 v1090 k0_pay124
  simp only [add_at, mul_at, roll_up, slice_rows (o := 32), Nat.reduceAdd, wtap, swtap, rowsum, zero_at, Nat.reduceLeDiff, Finset.sum_range_succ, Finset.sum_range_zero, zero_add, v1072_read, put_row (n := 32) 28 (by decide) (by decide), put_row (n := 32) 29 (by decide) (by decide), put_row (n := 32) 30 (by decide) (by decide)]
  rw [rowsum, rowsum, rowsum]
  simp only [add_at, mul_at, roll_up, slice_rows (o := 32), Nat.reduceAdd, Nat.reduceLeDiff]

theorem v410_read (j : Fin 8) (c : Fin 256) : b.v410 (ix2 j c) = ∑ k ∈ Finset.range 2, if j.val = k then b.swtap c k else 0 := by
  have e : k0_pay52 b.x5 b.v359 = b.v364 := rfl
  unfold v410 k0_pay56
  simp only [e, add_at, mul_at, roll_up, slice_rows (o := 32), Nat.reduceAdd, wtap, swtap, rowsum, zero_at, Nat.reduceLeDiff, Finset.sum_range_succ, Finset.sum_range_zero, zero_add, put_row (n := 8) 0 (by decide) (by decide), put_row (n := 8) 1 (by decide) (by decide)]
  rw [rowsum, rowsum]
  simp only [add_at, mul_at, roll_up, slice_rows (o := 32), Nat.reduceAdd, wtap, swtap, rowsum, zero_at, Nat.reduceLeDiff, Finset.sum_range_succ, Finset.sum_range_zero, zero_add]

theorem v428_read (j : Fin 8) (c : Fin 256) : b.v428 (ix2 j c) = ∑ k ∈ Finset.range 3, if j.val = k then b.swtap c k else 0 := by
  unfold v428 k0_pay60
  simp only [add_at, mul_at, roll_up, slice_rows (o := 32), Nat.reduceAdd, wtap, swtap, rowsum, zero_at, Nat.reduceLeDiff, Finset.sum_range_succ, Finset.sum_range_zero, zero_add, v410_read, put_row (n := 8) 2 (by decide) (by decide)]
  rw [rowsum]
  simp only [add_at, mul_at, roll_up, slice_rows (o := 32), Nat.reduceAdd, wtap, swtap, rowsum, zero_at, Nat.reduceLeDiff, Finset.sum_range_succ, Finset.sum_range_zero, zero_add]

end Cert.KernelIdeal.Tile.Blk
-- ==== Proof.TileOut.lean ====
/-
What one tile contributes to each result: the gradients carried back to its windows, and its sums over the rows.
-/
module

public import proofs.«01_k».proof.Proof.TileRows
public import proofs.«01_k».proof.Proof.TileBack
public import proofs.«01_k».proof.Proof.TileTaps

@[expose] public section

set_option maxRecDepth 16384
set_option backward.isDefEq.respectTransparency false

noncomputable section

namespace Cert.KernelIdeal.Tile.Ok

open Idealize.ShloMosaic Cert.KernelIdeal Cert.KernelIdeal.Gen Cert.Rows

variable {b : Blk} {d : Data} {i : ℕ} (h : Ok b d i)
include h

/-- Gradient rows of the tile, read `a` rows before row `u` of its window. -/
theorem shifted (x : FVec Ideal S512x256 .f32) (f : ℕ → Fin 256 → EReal) (hx : ∀ (r : Fin 512) (c : Fin 256), x (ix2 r c) = f (512 * i + r.val) c)
    (a u : ℕ) (c : Fin 256) :
    (if a ≤ u then rd x (u - a) c else 0)
      = if a ≤ 512 * i + u ∧ 512 * i ≤ 512 * i + u - a ∧ 512 * i + u - a < 512 * i + 512 then f (512 * i + u - a) c else 0 := by
  by_cases hu : a ≤ u
  · rw [if_pos hu]
    by_cases hr : u - a < 512
    · rw [rd_of_lt _ _ hr, hx, if_pos ⟨by omega, by omega, by omega⟩]
      congr 1
      show 512 * i + (u - a) = _
      omega
    · rw [if_neg (by omega)]
      exact dif_neg hr
  · rw [if_neg hu, if_neg (by omega)]

theorem v1121 (u : Fin 544) (c : Fin 256) : b.v1121 (ix2 u c) = Data.back d.dy d.w 2 31 (512 * i) (512 * i + 512) (512 * i + u.val) c := by
  rw [Blk.v1121_read]
  unfold Data.back
  refine Finset.sum_congr rfl fun k hk => ?_
  unfold Blk.btap
  rw [h.rd30 k (Finset.mem_range.1 hk), h.shifted _ _ h.v479]

theorem v417 (u : Fin 544) (c : Fin 256) : b.v417 (ix2 u c) = Data.back d.dcy d.s 30 3 (512 * i) (512 * i + 512) (512 * i + u.val) c := by
  rw [Blk.v417_read]
  unfold Data.back
  refine Finset.sum_congr rfl fun k hk => ?_
  unfold Blk.sbtap
  rw [h.rd39 k (Finset.mem_range.1 hk), h.shifted _ _ h.v364]

/-! ## The four gradients whose rows reach back into the tile before -/

theorem v1134 (u : Fin 544) (c : Fin 256) : b.v1134 (ix2 u c)
    = Data.back d.dy d.w 2 31 (512 * i) (512 * i + 512) (512 * i + u.val) c * Ideal.logistic (late d.gate (512 * i + u.val) c) := by
  have e : b.v1134 (ix2 u c) = b.v1121 (ix2 u c) * b.v40 (ix2 u c) := rfl
  rw [e, h.v1121, h.v40]

theorem v1135 (u : Fin 544) (c : Fin 256) : b.v1135 (ix2 u c)
    = (late d.val (512 * i + u.val) c * Data.back d.dy d.w 2 31 (512 * i) (512 * i + 512) (512 * i + u.val) c) * dsig (late d.gate (512 * i + u.val) c) := by
  have e : b.v1135 (ix2 u c) = (b.v10 (ix2 u c) * b.v1121 (ix2 u c)) * b.v43 (ix2 u c) := rfl
  rw [e, h.v1121, h.v43, h.v10]

theorem v430 (u : Fin 544) (c : Fin 256) : b.v430 (ix2 u c)
    = Data.back d.dcy d.s 30 3 (512 * i) (512 * i + 512) (512 * i + u.val) c * late d.cx (512 * i + u.val) c := by
  have e : b.v430 (ix2 u c) = b.v417 (ix2 u c) * b.v27 (ix2 u c) := rfl
  rw [e, h.v417, h.v27]

theorem v429 (u : Fin 544) (c : Fin 256) : b.v429 (ix2 u c)
    = late d.cc (512 * i + u.val) c * Data.back d.dcy d.s 30 3 (512 * i) (512 * i + 512) (512 * i + u.val) c := by
  have e : b.v429 (ix2 u c) = b.v22 (ix2 u c) * b.v417 (ix2 u c) := rfl
  rw [e, h.v417, h.v22]

/-! ## The sums over the tile's rows -/

theorem v1132 (j : Fin 32) (c : Fin 256) : b.v1132 (ix2 j c)
    = if j.val < 31 then ∑ r : Fin 512, d.dy (512 * i + r.val) c * d.glu (512 * i + r.val + (2 + j.val)) c else 0 := by
  rw [Blk.v1132_read, Finset.sum_ite_eq]
  simp only [Finset.mem_range]
  by_cases hj : j.val < 31
  · rw [if_pos hj, if_pos hj]
    unfold Blk.wtap
    refine Finset.sum_congr rfl fun r _ => ?_
    have := r.isLt
    rw [h.v479, h.rd44 _ (by omega), Nat.add_assoc]
  · rw [if_neg hj, if_neg hj]

theorem v428 (j : Fin 8) (c : Fin 256) : b.v428 (ix2 j c)
    = if j.val < 3 then ∑ r : Fin 512, d.dcy (512 * i + r.val) c * d.cu (512 * i + r.val + (30 + j.val)) c else 0 := by
  rw [Blk.v428_read, Finset.sum_ite_eq]
  simp only [Finset.mem_range]
  by_cases hj : j.val < 3
  · rw [if_pos hj, if_pos hj]
    unfold Blk.swtap
    refine Finset.sum_congr rfl fun r _ => ?_
    have := r.isLt
    rw [h.v364, h.rd329 _ (by omega), Nat.add_assoc]
  · rw [if_neg hj, if_neg hj]

theorem v438 (c : Fin 256) : b.v438 (ix2 0 c) = ∑ r : Fin 512, d.dz (512 * i + r.val) c := by
  refine (Blk.rowsum b.v432 0 c).trans ?_
  simp only [h.v432]

theorem v449 (c : Fin 256) : b.v449 (ix2 0 c) = ∑ r : Fin 512, d.du (512 * i + r.val) c := by
  refine (Blk.rowsum b.v447 0 c).trans ?_
  simp only [h.v447]

theorem v452 (c : Fin 256) : b.v452 (ix2 0 c) = ∑ r : Fin 512, d.xn (512 * i + r.val) c * d.du (512 * i + r.val) c := by
  refine (Blk.rowsum (mulf b.v309 b.v447) 0 c).trans ?_
  simp only [mul_at, h.v447, h.v309]

theorem v481 (c : Fin 256) : b.v481 (ix2 0 c) = ∑ r : Fin 512, d.dy (512 * i + r.val) c := by
  refine (Blk.rowsum b.v479 0 c).trans ?_
  simp only [h.v479]

theorem v443 (a c : Fin 256) : b.v443 (ix2 a c) = ∑ r : Fin 512, d.su (512 * i + r.val) a * d.dz (512 * i + r.val) c := by
  have e : b.v443 (ix2 a c) = matmul dot_S512x256_S512x256_S256x256_0_0_1_1_n_n none (truncf .bf16 b.v318 bitsLt_bf16_f32 : FVec Ideal S512x256 .bf16)
      (truncf .bf16 b.v432 bitsLt_bf16_f32 : FVec Ideal S512x256 .bf16) (constant S256x256 .f32 0x00000000#32) (ix2 a c) := rfl
  have e2 : ∀ r, (truncf .bf16 b.v318 bitsLt_bf16_f32 : FVec Ideal S512x256 .bf16) (ix2 r a) * (truncf .bf16 b.v432 bitsLt_bf16_f32 : FVec Ideal S512x256 .bf16) (ix2 r c)
      = d.su (512 * i + r.val) a * d.dz (512 * i + r.val) c := fun r => by rw [← h.v318, ← h.v432]; rfl
  rw [e, mm_weight]
  simp only [e2]

end Cert.KernelIdeal.Tile.Ok
-- ==== Proof.PointValue.lean ====
/-
The blocks of the two column results, the carried rows and the running sums, read at an index.
-/
module

public import proofs.«01_k».proof.Proof.Point
public import proofs.«01_k».proof.Proof.TileOut

@[expose] public section

set_option maxRecDepth 16384
set_option backward.isDefEq.respectTransparency false

noncomputable section

namespace Cert.KernelIdeal.Tile

open Idealize.ShloMosaic Idealize.ShloMosaic.TcCoe Cert.KernelIdeal Cert.KernelIdeal.Gen Cert.Rows

/-- The rows carried from the tile after this one fall on this tile's last 32. -/
def tail (k : Slot) (r : Fin 512) (c : Fin 256) : EReal := if h : 480 ≤ r.val then k (ix3 0 ⟨r.val - 480, by omega⟩ c) else 0

theorem drop_axis (x : Slot) (r : Fin 32) (c : Fin 256) : shapeCast S32x256 x shapeCasts_S1x32x256_S32x256 (ix2 r c) = x (ix3 0 r c) := by
  pointwise []

theorem add_axis (x : FVec Ideal S32x256 .f32) (z : Fin 1) (r : Fin 32) (c : Fin 256) : shapeCast S1x32x256 x shapeCasts_S32x256_S1x32x256 (ix3 z r c) = x (ix2 r c) := by
  pointwise []

theorem carried (k : Slot) (r : Fin 512) (c : Fin 256) : concatenate S512x256 0
    [⟨S480x256, broadcast S480x256 (Scalar.ofBits (F := Ideal) .f32 0x00000000#32)⟩, ⟨S32x256, shapeCast S32x256 k shapeCasts_S1x32x256_S32x256⟩]
    concatenates_S480x256_S32x256_S512x256_d0 (ix2 r c) = tail k r c := by
  refine (cat_rows (a := 480) (b := 32) (n := 512) _ _ _ r c).trans ?_
  have hr := r.isLt
  unfold tail
  by_cases h : r.val < 480
  · rw [if_pos h, dif_neg (by omega), rd_of_lt _ _ h]
    exact Ideal.ofBits_zero_f32
  · rw [if_neg h, dif_pos (by omega), rd_of_lt _ _ (by omega), drop_axis]

theorem settled (x : FVec Ideal S544x256 .f32) (k : Slot) (r : Fin 512) (c : Fin 256) :
    extractStridedSlice S512x256 ![32, 0] x slices_S544x256_o32_0_S512x256 (ix2 r c) + tail k r c = x (ix2 ⟨r.val + 32, by omega⟩ c) + tail k r c := by
  rw [slice_rows (o := 32), rd_of_lt _ _ (by omega)]

theorem pay132_at (x : FVec Ideal S544x256 .f32) (k : Slot) (r : Fin 512) (c : Fin 256) :
    k0_pay132 x (k0_pay129 k) (ix2 r c) = x (ix2 ⟨r.val + 32, by omega⟩ c) + tail k r c :=
  (congrArg (extractStridedSlice S512x256 ![32, 0] x slices_S544x256_o32_0_S512x256 (ix2 r c) + ·) (carried k r c)).trans (settled x k r c)

theorem pay134_at (x : FVec Ideal S544x256 .f32) (k : Slot) (r : Fin 512) (c : Fin 256) :
    k0_pay134 x k (ix2 r c) = x (ix2 ⟨r.val + 32, by omega⟩ c) + tail k r c :=
  (congrArg (extractStridedSlice S512x256 ![32, 0] x slices_S544x256_o32_0_S512x256 (ix2 r c) + ·) (carried k r c)).trans (settled x k r c)

theorem pay140_at (x : FVec Ideal S544x256 .f32) (k : Slot) (r : Fin 512) (c : Fin 256) :
    k0_pay140 x (k0_pay137 k) (ix2 r c) = x (ix2 ⟨r.val + 32, by omega⟩ c) + tail k r c :=
  (congrArg (extractStridedSlice S512x256 ![32, 0] x slices_S544x256_o32_0_S512x256 (ix2 r c) + ·) (carried k r c)).trans (settled x k r c)

theorem pay142_at (x : FVec Ideal S544x256 .f32) (k : Slot) (r : Fin 512) (c : Fin 256) :
    k0_pay142 x k (ix2 r c) = x (ix2 ⟨r.val + 32, by omega⟩ c) + tail k r c :=
  (congrArg (extractStridedSlice S512x256 ![32, 0] x slices_S544x256_o32_0_S512x256 (ix2 r c) + ·) (carried k r c)).trans (settled x k r c)

/-! ## The column results -/

theorem block20_at (b : Blk) (k0 k1 : Slot) (r : Fin 512) (q : Fin 768) : block20 b k0 k1 (ix2 r q)
    = if q.val < 256 then b.v1134 (ix2 ⟨r.val + 32, by omega⟩ (ch q)) + tail k0 r (ch q)
      else if q.val < 512 then b.v1135 (ix2 ⟨r.val + 32, by omega⟩ (ch q)) + tail k1 r (ch q)
      else b.v436 (ix2 r (ch q)) := by
  unfold block20
  canon_tiles x h
  · obtain ⟨r', c', rfl⟩ : ∃ (r' : Fin 512) (c' : Fin 256), x = ix2 r' c' := ⟨x 0, x 1, by funext a; fin_cases a <;> rfl⟩
    have e0 : r' = r := Fin.ext h0.symm
    have e1 : ch q = c' := Fin.ext (by change q.val = 512 + c'.val at h1; show q.val % 256 = c'.val; have := c'.isLt; omega)
    have hq : q.val = 512 + c'.val := h1
    rw [if_neg (by omega), if_neg (by omega), e0, e1]
    rfl
  · obtain ⟨r', c', rfl⟩ : ∃ (r' : Fin 512) (c' : Fin 256), x = ix2 r' c' := ⟨x 0, x 1, by funext a; fin_cases a <;> rfl⟩
    have e0 : r' = r := Fin.ext h0.symm
    have hq : q.val = 256 + c'.val := h1
    have hc := c'.isLt
    have e1 : ch q = c' := Fin.ext (by show q.val % 256 = c'.val; omega)
    rw [if_neg (by omega), if_pos (by omega), e1, pay134_at]
    subst e0
    rfl
  · obtain ⟨r', c', rfl⟩ : ∃ (r' : Fin 512) (c' : Fin 256), x = ix2 r' c' := ⟨x 0, x 1, by funext a; fin_cases a <;> rfl⟩
    have e0 : r' = r := Fin.ext h0.symm
    have hq : q.val = c'.val := h1
    have hc := c'.isLt
    have e1 : ch q = c' := Fin.ext (by show q.val % 256 = c'.val; omega)
    rw [if_pos (by omega), e1, pay132_at]
    subst e0
    rfl

theorem block21_at (b : Blk) (k2 k3 : Slot) (r : Fin 512) (q : Fin 1024) : block21 b k2 k3 (ix2 r q)
    = if q.val < 256 then b.v365 (ix2 r (ch q))
      else if q.val < 512 then b.v430 (ix2 ⟨r.val + 32, by omega⟩ (ch q)) + tail k2 r (ch q)
      else if q.val < 768 then b.v429 (ix2 ⟨r.val + 32, by omega⟩ (ch q)) + tail k3 r (ch q)
      else b.v363 (ix2 r (ch q)) := by
  unfold block21
  canon_tiles x h
  all_goals
    obtain ⟨r', c', rfl⟩ : ∃ (r' : Fin 512) (c' : Fin 256), x = ix2 r' c' := ⟨x 0, x 1, by funext a; fin_cases a <;> rfl⟩
    have e0 : r' = r := Fin.ext h0.symm
    subst e0
    have hc := c'.isLt
  · have hq : q.val = 768 + c'.val := h1
    have e1 : ch q = c' := Fin.ext (by show q.val % 256 = c'.val; omega)
    rw [if_neg (by omega), if_neg (by omega), if_neg (by omega), e1]
    rfl
  · have hq : q.val = 512 + c'.val := h1
    have e1 : ch q = c' := Fin.ext (by show q.val % 256 = c'.val; omega)
    rw [if_neg (by omega), if_neg (by omega), if_pos (by omega), e1, pay142_at]
  · have hq : q.val = 256 + c'.val := h1
    have e1 : ch q = c' := Fin.ext (by show q.val % 256 = c'.val; omega)
    rw [if_neg (by omega), if_pos (by omega), e1, pay140_at]
  · have hq : q.val = c'.val := h1
    have e1 : ch q = c' := Fin.ext (by show q.val % 256 = c'.val; omega)
    rw [if_pos (by omega), e1]
    rfl

/-! ## The carried rows -/

section Stores

variable (w0 w1 w2 w3 : Slot) (L : List (View.Piece (Elt Ideal) S4x32x256 .f32))

/-- The four slots stored over any earlier stores. -/
abbrev stored : FVec Ideal S4x32x256 .f32 := View.canon (s := S4x32x256) (e := .f32) (Val := Elt Ideal)
  (⟨(Rect.unit (s := S4x32x256) ![3, 0, 0] S1x32x256.size inb_S4x32x256_S1x32x256_3_0_0), w3⟩ :: ⟨(Rect.unit (s := S4x32x256) ![2, 0, 0] S1x32x256.size inb_S4x32x256_S1x32x256_2_0_0), w2⟩ :: ⟨(Rect.unit (s := S4x32x256) ![1, 0, 0] S1x32x256.size inb_S4x32x256_S1x32x256_1_0_0), w1⟩ :: ⟨(Rect.unit (s := S4x32x256) ![0, 0, 0] S1x32x256.size inb_S4x32x256_S1x32x256_0_0_0), w0⟩ :: L)

theorem slot3_stored : slot3 (stored w0 w1 w2 w3 L) = w3 := by
  funext x
  exact (View.canon_cons_emb (Val := Elt Ideal) (e := .f32) (Rect.unit (s := S4x32x256) ![3, 0, 0] S1x32x256.size inb_S4x32x256_S1x32x256_3_0_0) w3 _ x)

theorem slot2_stored : slot2 (stored w0 w1 w2 w3 L) = w2 := by
  funext x
  exact ((View.canon_cons_of_not_mem (⟨(Rect.unit (s := S4x32x256) ![3, 0, 0] S1x32x256.size inb_S4x32x256_S1x32x256_3_0_0), w3⟩ : View.Piece (Elt Ideal) S4x32x256 .f32) _ (LoadRect.idx_not_mem_of_disj (B := (Rect.unit (s := S4x32x256) ![2, 0, 0] S1x32x256.size inb_S4x32x256_S1x32x256_2_0_0).toLoadRect) (show LoadRect.disj (Rect.unit (s := S4x32x256) ![3, 0, 0] S1x32x256.size inb_S4x32x256_S1x32x256_3_0_0) (Rect.unit (s := S4x32x256) ![2, 0, 0] S1x32x256.size inb_S4x32x256_S1x32x256_2_0_0).toLoadRect = true by decide) x)).trans
    (View.canon_cons_emb (Val := Elt Ideal) (e := .f32) (Rect.unit (s := S4x32x256) ![2, 0, 0] S1x32x256.size inb_S4x32x256_S1x32x256_2_0_0) w2 _ x))

theorem slot1_stored : slot1 (stored w0 w1 w2 w3 L) = w1 := by
  funext x
  exact ((View.canon_cons_of_not_mem (⟨(Rect.unit (s := S4x32x256) ![3, 0, 0] S1x32x256.size inb_S4x32x256_S1x32x256_3_0_0), w3⟩ : View.Piece (Elt Ideal) S4x32x256 .f32) _ (LoadRect.idx_not_mem_of_disj (B := (Rect.unit (s := S4x32x256) ![1, 0, 0] S1x32x256.size inb_S4x32x256_S1x32x256_1_0_0).toLoadRect) (show LoadRect.disj (Rect.unit (s := S4x32x256) ![3, 0, 0] S1x32x256.size inb_S4x32x256_S1x32x256_3_0_0) (Rect.unit (s := S4x32x256) ![1, 0, 0] S1x32x256.size inb_S4x32x256_S1x32x256_1_0_0).toLoadRect = true by decide) x)).trans
    ((View.canon_cons_of_not_mem (⟨(Rect.unit (s := S4x32x256) ![2, 0, 0] S1x32x256.size inb_S4x32x256_S1x32x256_2_0_0), w2⟩ : View.Piece (Elt Ideal) S4x32x256 .f32) _ (LoadRect.idx_not_mem_of_disj (B := (Rect.unit (s := S4x32x256) ![1, 0, 0] S1x32x256.size inb_S4x32x256_S1x32x256_1_0_0).toLoadRect) (show LoadRect.disj (Rect.unit (s := S4x32x256) ![2, 0, 0] S1x32x256.size inb_S4x32x256_S1x32x256_2_0_0) (Rect.unit (s := S4x32x256) ![1, 0, 0] S1x32x256.size inb_S4x32x256_S1x32x256_1_0_0).toLoadRect = true by decide) x)).trans
    (View.canon_cons_emb (Val := Elt Ideal) (e := .f32) (Rect.unit (s := S4x32x256) ![1, 0, 0] S1x32x256.size inb_S4x32x256_S1x32x256_1_0_0) w1 _ x)))

theorem slot0_stored : slot0 (stored w0 w1 w2 w3 L) = w0 := by
  funext x
  exact ((View.canon_cons_of_not_mem (⟨(Rect.unit (s := S4x32x256) ![3, 0, 0] S1x32x256.size inb_S4x32x256_S1x32x256_3_0_0), w3⟩ : View.Piece (Elt Ideal) S4x32x256 .f32) _ (LoadRect.idx_not_mem_of_disj (B := (Rect.unit (s := S4x32x256) ![0, 0, 0] S1x32x256.size inb_S4x32x256_S1x32x256_0_0_0).toLoadRect) (show LoadRect.disj (Rect.unit (s := S4x32x256) ![3, 0, 0] S1x32x256.size inb_S4x32x256_S1x32x256_3_0_0) (Rect.unit (s := S4x32x256) ![0, 0, 0] S1x32x256.size inb_S4x32x256_S1x32x256_0_0_0).toLoadRect = true by decide) x)).trans
    ((View.canon_cons_of_not_mem (⟨(Rect.unit (s := S4x32x256) ![2, 0, 0] S1x32x256.size inb_S4x32x256_S1x32x256_2_0_0), w2⟩ : View.Piece (Elt Ideal) S4x32x256 .f32) _ (LoadRect.idx_not_mem_of_disj (B := (Rect.unit (s := S4x32x256) ![0, 0, 0] S1x32x256.size inb_S4x32x256_S1x32x256_0_0_0).toLoadRect) (show LoadRect.disj (Rect.unit (s := S4x32x256) ![2, 0, 0] S1x32x256.size inb_S4x32x256_S1x32x256_2_0_0) (Rect.unit (s := S4x32x256) ![0, 0, 0] S1x32x256.size inb_S4x32x256_S1x32x256_0_0_0).toLoadRect = true by decide) x)).trans
    ((View.canon_cons_of_not_mem (⟨(Rect.unit (s := S4x32x256) ![1, 0, 0] S1x32x256.size inb_S4x32x256_S1x32x256_1_0_0), w1⟩ : View.Piece (Elt Ideal) S4x32x256 .f32) _ (LoadRect.idx_not_mem_of_disj (B := (Rect.unit (s := S4x32x256) ![0, 0, 0] S1x32x256.size inb_S4x32x256_S1x32x256_0_0_0).toLoadRect) (show LoadRect.disj (Rect.unit (s := S4x32x256) ![1, 0, 0] S1x32x256.size inb_S4x32x256_S1x32x256_1_0_0) (Rect.unit (s := S4x32x256) ![0, 0, 0] S1x32x256.size inb_S4x32x256_S1x32x256_0_0_0).toLoadRect = true by decide) x)).trans
    (View.canon_cons_emb (Val := Elt Ideal) (e := .f32) (Rect.unit (s := S4x32x256) ![0, 0, 0] S1x32x256.size inb_S4x32x256_S1x32x256_0_0_0) w0 _ x))))

end Stores

variable (b : Blk) (L : List (View.Piece (Elt Ideal) S4x32x256 .f32))

theorem slot3_slots : slot3 (View.canon (slots b ++ L)) = k0_pay141 b.v429 := slot3_stored (k0_pay131 (k0_pay130 b.v30 b.v40 b.v483 b.v1079)) (k0_pay133 b.v1135) (k0_pay139 (k0_pay138 b.v430)) (k0_pay141 b.v429) L

theorem slot2_slots : slot2 (View.canon (slots b ++ L)) = k0_pay139 (k0_pay138 b.v430) := slot2_stored (k0_pay131 (k0_pay130 b.v30 b.v40 b.v483 b.v1079)) (k0_pay133 b.v1135) (k0_pay139 (k0_pay138 b.v430)) (k0_pay141 b.v429) L

theorem slot1_slots : slot1 (View.canon (slots b ++ L)) = k0_pay133 b.v1135 := slot1_stored (k0_pay131 (k0_pay130 b.v30 b.v40 b.v483 b.v1079)) (k0_pay133 b.v1135) (k0_pay139 (k0_pay138 b.v430)) (k0_pay141 b.v429) L

theorem slot0_slots : slot0 (View.canon (slots b ++ L)) = k0_pay131 (k0_pay130 b.v30 b.v40 b.v483 b.v1079) := slot0_stored (k0_pay131 (k0_pay130 b.v30 b.v40 b.v483 b.v1079)) (k0_pay133 b.v1135) (k0_pay139 (k0_pay138 b.v430)) (k0_pay141 b.v429) L

theorem head_rows (x : FVec Ideal S544x256 .f32) (r : Fin 32) (c : Fin 256) :
    shapeCast S1x32x256 (extractStridedSlice S32x256 ![0, 0] x slices_S544x256_o0_0_S32x256) shapeCasts_S32x256_S1x32x256 (ix3 0 r c) = x (ix2 ⟨r.val, by omega⟩ c) := by
  rw [add_axis, slice_rows (o := 0), rd_of_lt _ _ (by omega)]
  rfl

theorem tail_zero (r : Fin 512) (c : Fin 256) :
    tail (slot0 (k0_pay2 (F := Ideal))) r c = 0 ∧ tail (slot1 (k0_pay2 (F := Ideal))) r c = 0
      ∧ tail (slot2 (k0_pay2 (F := Ideal))) r c = 0 ∧ tail (slot3 (k0_pay2 (F := Ideal))) r c = 0 := by
  have z : ∀ i, k0_pay2 (F := Ideal) i = (0 : EReal) := fun i => by
    unfold k0_pay2
    rw [shapeCast_self]
    exact Ideal.ofBits_zero_f32
  unfold tail
  by_cases h : 480 ≤ r.val
  · rw [dif_pos h, dif_pos h, dif_pos h, dif_pos h]
    exact ⟨z _, z _, z _, z _⟩
  · rw [dif_neg h, dif_neg h, dif_neg h, dif_neg h]
    exact ⟨rfl, rfl, rfl, rfl⟩

theorem tail_slots (r : Fin 512) (c : Fin 256) :
    tail (slot0 (View.canon (slots b ++ L))) r c = (if h : 480 ≤ r.val then b.v1134 (ix2 ⟨r.val - 480, by omega⟩ c) else 0)
      ∧ tail (slot1 (View.canon (slots b ++ L))) r c = (if h : 480 ≤ r.val then b.v1135 (ix2 ⟨r.val - 480, by omega⟩ c) else 0)
      ∧ tail (slot2 (View.canon (slots b ++ L))) r c = (if h : 480 ≤ r.val then b.v430 (ix2 ⟨r.val - 480, by omega⟩ c) else 0)
      ∧ tail (slot3 (View.canon (slots b ++ L))) r c = (if h : 480 ≤ r.val then b.v429 (ix2 ⟨r.val - 480, by omega⟩ c) else 0) := by
  rw [slot0_slots, slot1_slots, slot2_slots, slot3_slots]
  unfold tail
  by_cases h : 480 ≤ r.val
  · simp only [dif_pos h]
    refine ⟨head_rows b.v1134 _ c, head_rows b.v1135 _ c, head_rows b.v430 _ c, head_rows b.v429 _ c⟩
  · rw [dif_neg h, dif_neg h, dif_neg h, dif_neg h, dif_neg h, dif_neg h, dif_neg h, dif_neg h]
    exact ⟨rfl, rfl, rfl, rfl⟩

/-! ## The running sums -/

theorem pay144_at (x y : FVec Ideal S32x256 .f32) (i : S32x256.Idx) : k0_pay144 x y i = y i + x i := congrArg (· + x i) (congrFun (shapeCast_self y _) i)
theorem pay145_at (x y : FVec Ideal S1x256 .f32) (i : S1x256.Idx) : k0_pay145 x y i = y i + x i := congrArg (· + x i) (congrFun (shapeCast_self y _) i)
theorem pay147_at (x y : FVec Ideal S1x256 .f32) (i : S1x256.Idx) : k0_pay147 x (k0_pay146 y) i = y i + x i := congrArg (· + x i) (congrFun (shapeCast_self y _) i)
theorem pay148_at (x y : FVec Ideal S1x256 .f32) (i : S1x256.Idx) : k0_pay148 x y i = y i + x i := congrArg (· + x i) (congrFun (shapeCast_self y _) i)
theorem pay149_at (x y : FVec Ideal S256x256 .f32) (i : S256x256.Idx) : k0_pay149 x y i = y i + x i := congrArg (· + x i) (congrFun (shapeCast_self y _) i)
theorem pay150_at (x y : FVec Ideal S1x256 .f32) (i : S1x256.Idx) : k0_pay150 x y i = y i + x i := congrArg (· + x i) (congrFun (shapeCast_self y _) i)
theorem pay1_at (x y : FVec Ideal S8x256 .f32) (i : S8x256.Idx) : k0_pay1 x (k0_pay151 y) i = y i + x i := congrArg (· + x i) (congrFun (shapeCast_self y _) i)
theorem pay3_at (i : S32x256.Idx) : k0_pay3 (F := Ideal) i = (0 : EReal) := Ideal.ofBits_zero_f32
theorem pay4_at (i : S1x256.Idx) : k0_pay4 (F := Ideal) i = (0 : EReal) := Ideal.ofBits_zero_f32
theorem pay5_at (i : S1x256.Idx) : k0_pay5 (F := Ideal) i = (0 : EReal) := Ideal.ofBits_zero_f32
theorem pay6_at (i : S1x256.Idx) : k0_pay6 (F := Ideal) i = (0 : EReal) := Ideal.ofBits_zero_f32
theorem pay7_at (i : S256x256.Idx) : k0_pay7 (F := Ideal) i = (0 : EReal) := Ideal.ofBits_zero_f32
theorem pay8_at (i : S1x256.Idx) : k0_pay8 (F := Ideal) i = (0 : EReal) := Ideal.ofBits_zero_f32
theorem pay9_at (i : S8x256.Idx) : k0_pay9 (F := Ideal) i = (0 : EReal) := Ideal.ofBits_zero_f32

end Cert.KernelIdeal.Tile
-- ==== Proof.HostOps.lean ====
/-
Reading the host's row operations at an index: repeated rows, columns and scalars, row and channel sums, and rows put into a zero array.
-/
module

public import proofs.«01_k».proof.Proof.Spec

@[expose] public section

set_option backward.isDefEq.respectTransparency false

noncomputable section

namespace Cert.Rows

open Idealize.ShloMosaic Idealize.ShloMosaic.StableHlo

/-- The columns `o` and on of a wide array, by row and channel; zero beyond the last row. -/
def col {n m : ℕ} (x : FVec Ideal ⟨2, ![n, m]⟩ .f32) (o : ℕ) (ho : o + 256 ≤ m) (t : ℕ) (c : Fin 256) : EReal :=
  if h : t < n then x (ix2 ⟨t, h⟩ ⟨o + c.val, by have := c.isLt; omega⟩) else 0

/-- A slice of 256 columns is the columns. -/
theorem slice_col {n m o : ℕ} (x : FVec Ideal ⟨2, ![n, m]⟩ .f32) (ho : o + 256 ≤ m) (h : Shape.Slices ⟨2, ![n, m]⟩ ![0, o] ⟨2, ![n, 256]⟩)
    (r : Fin n) (c : Fin 256) : extractStridedSlice ⟨2, ![n, 256]⟩ ![0, o] x h (ix2 r c) = col x o ho r.val c := by
  unfold col
  rw [dif_pos r.isLt]
  exact extractStridedSlice_apply ![0, o] x h (ix2 r c) (ix2 r ⟨o + c.val, by have := c.isLt; omega⟩) (fun a => match a with
    | ⟨0, _⟩ => by show r.val = 0 + r.val; omega
    | ⟨1, _⟩ => rfl)

section
variable {n : ℕ}

/-- A repeated row. -/
theorem hrow (x : FVec Ideal ⟨2, ![1, 256]⟩ .f32) (h : Shape.BroadcastsInDim ⟨2, ![1, 256]⟩ ⟨2, ![n, 256]⟩ ![0, 1]) (r : Fin n) (c : Fin 256) :
    broadcastInDim ⟨2, ![n, 256]⟩ ![0, 1] h x (ix2 r c) = x (ix2 0 c) := by
  pointwise []

/-- A repeated column. -/
theorem hcol (x : FVec Ideal ⟨2, ![4096, 1]⟩ .f32) (h : Shape.BroadcastsInDim ⟨2, ![4096, 1]⟩ ⟨2, ![4096, 256]⟩ ![0, 1]) (r : Fin 4096) (c : Fin 256) :
    broadcastInDim ⟨2, ![4096, 256]⟩ ![0, 1] h x (ix2 r c) = x (ix2 r 0) := by
  pointwise []

/-- A vector as a column, and repeated as columns. -/
theorem hcol1 (x : FVec Ideal ⟨1, ![4096]⟩ .f32) (h : Shape.BroadcastsInDim ⟨1, ![4096]⟩ ⟨2, ![4096, 1]⟩ ![0]) (r : Fin 4096) (z : Fin 1) :
    broadcastInDim ⟨2, ![4096, 1]⟩ ![0] h x (ix2 r z) = x (ix1 r) := by
  pointwise []
theorem hcols (x : FVec Ideal ⟨1, ![4096]⟩ .f32) (h : Shape.BroadcastsInDim ⟨1, ![4096]⟩ ⟨2, ![4096, 256]⟩ ![0]) (r : Fin 4096) (c : Fin 256) :
    broadcastInDim ⟨2, ![4096, 256]⟩ ![0] h x (ix2 r c) = x (ix1 r) := by
  pointwise []

/-- A row, and a column, from a vector. -/
theorem hrow_cast (x : FVec Ideal ⟨1, ![256]⟩ .f32) (h : Shape.ShapeCasts ⟨1, ![256]⟩ ⟨2, ![1, 256]⟩) (z : Fin 1) (c : Fin 256) :
    shapeCast ⟨2, ![1, 256]⟩ x h (ix2 z c) = x (ix1 c) := by
  pointwise []
theorem hcol_cast (x : FVec Ideal ⟨1, ![4096]⟩ .f32) (h : Shape.ShapeCasts ⟨1, ![4096]⟩ ⟨2, ![4096, 1]⟩) (r : Fin 4096) (z : Fin 1) :
    shapeCast ⟨2, ![4096, 1]⟩ x h (ix2 r z) = x (ix1 r) := by
  pointwise []

/-- A sum over the channels, over the rows, and over a single column, starting from zero. -/
theorem hsum_chan (x : FVec Ideal ⟨2, ![n, 256]⟩ .f32) (v : FVec Ideal ⟨0, ![]⟩ .f32) (hv : ∀ i, v i = 0)
    (h : Shape.ReducesTo ⟨2, ![n, 256]⟩ [1] ⟨1, ![n]⟩) (hs) (r : Fin n) :
    Host.reduceAdd x v h hs (ix1 r) = ∑ k : Fin 256, x (ix2 r k) := by
  pointwise []
  rw [hv, zero_add]
theorem hsum_rows (x : FVec Ideal ⟨2, ![n, 256]⟩ .f32) (v : FVec Ideal ⟨0, ![]⟩ .f32) (hv : ∀ i, v i = 0)
    (h : Shape.ReducesTo ⟨2, ![n, 256]⟩ [0] ⟨1, ![256]⟩) (hs) (c : Fin 256) :
    Host.reduceAdd x v h hs (ix1 c) = ∑ r : Fin n, x (ix2 r c) := by
  pointwise []
  rw [hv, zero_add]

/-- Rows put into a zero array at row `lo`. -/
theorem hpad {m lo hi : ℕ} (x : FVec Ideal ⟨2, ![m, 256]⟩ .f32) {u : Shape} (v : FVec Ideal u .f32) (hv : ∀ i, v i = 0)
    (h : Shape.Pads ⟨2, ![m, 256]⟩ ![lo, 0] ![hi, 0] ![0, 0] ⟨2, ![n, 256]⟩) (hu) (r : Fin n) (c : Fin 256) :
    pad ⟨2, ![n, 256]⟩ ![lo, 0] ![hi, 0] ![0, 0] x v h hu (ix2 r c) = if lo ≤ r.val then rd x (r.val - lo) c else 0 := by
  by_cases hr : lo ≤ r.val ∧ r.val - lo < m
  · rw [if_pos hr.1, rd_of_lt _ _ hr.2]
    pointwise []
    rw [dif_pos hr]
    congr 1
    funext a
    match a with
    | ⟨0, _⟩ => exact Fin.ext (by show (r.val - lo) / 1 = r.val - lo; omega)
    | ⟨1, _⟩ => exact Fin.ext (by show (c.val - 0) / 1 = c.val; omega)
  · have e : (if lo ≤ r.val then rd x (r.val - lo) c else 0) = 0 := by
      unfold rd
      by_cases h0 : lo ≤ r.val
      · rw [if_pos h0, dif_neg (fun h1 => hr ⟨h0, h1⟩)]
      · rw [if_neg h0]
    rw [e]
    pointwise []
    rw [dif_neg hr, hv]

/-- The sum over a single column is the column. -/
theorem hsum_one (x : FVec Ideal ⟨2, ![4096, 1]⟩ .f32) (v : FVec Ideal ⟨0, ![]⟩ .f32) (hv : ∀ i, v i = 0)
    (h : Shape.ReducesTo ⟨2, ![4096, 1]⟩ [1] ⟨1, ![4096]⟩) (hs) (r : Fin 4096) :
    Host.reduceAdd x v h hs (ix1 r) = x (ix2 r 0) := by
  pointwise []
  rw [hv, zero_add]
  exact Fin.sum_univ_one _

/-- A transposed square. -/
theorem flip_at (x : FVec Ideal ⟨2, ![256, 256]⟩ .f32) (h : Shape.Transposes ⟨2, ![256, 256]⟩ [1, 0] ⟨2, ![256, 256]⟩) (a c : Fin 256) :
    transpose ⟨2, ![256, 256]⟩ [1, 0] x h (ix2 a c) = x (ix2 c a) := by
  pointwise []
end

section Side
variable (x y z w : FVec Ideal ⟨2, ![4096, 256]⟩ .f32)

/-- Three and four blocks of columns side by side. -/
theorem cat3_0 (h) (t : Fin 4096) (q : Fin 768) (h1 : q.val < 256) :
    concatenate ⟨2, ![4096, 768]⟩ 1 [⟨⟨2, ![4096, 256]⟩, x⟩, ⟨⟨2, ![4096, 256]⟩, y⟩, ⟨⟨2, ![4096, 256]⟩, z⟩] h (ix2 t q) = x (ix2 t (ch q)) := by
  have hq := q.isLt
  have e : ch q = ⟨q.val, by omega⟩ := Fin.ext (by show q.val % 256 = q.val; omega)
  rw [e]
  pointwise []
  rw [dif_pos (show q.val < 256 by omega)]
theorem cat3_1 (h) (t : Fin 4096) (q : Fin 768) (h0 : 256 ≤ q.val) (h1 : q.val < 512) :
    concatenate ⟨2, ![4096, 768]⟩ 1 [⟨⟨2, ![4096, 256]⟩, x⟩, ⟨⟨2, ![4096, 256]⟩, y⟩, ⟨⟨2, ![4096, 256]⟩, z⟩] h (ix2 t q) = y (ix2 t (ch q)) := by
  have hq := q.isLt
  have e : ch q = ⟨q.val - 256, by omega⟩ := Fin.ext (by show q.val % 256 = q.val - 256; omega)
  rw [e]
  pointwise []
  rw [dif_neg (show ¬(q.val < 256) by omega)]
  rw [dif_pos (show q.val - 256 < 256 by omega)]
theorem cat3_2 (h) (t : Fin 4096) (q : Fin 768) (h0 : 512 ≤ q.val) :
    concatenate ⟨2, ![4096, 768]⟩ 1 [⟨⟨2, ![4096, 256]⟩, x⟩, ⟨⟨2, ![4096, 256]⟩, y⟩, ⟨⟨2, ![4096, 256]⟩, z⟩] h (ix2 t q) = z (ix2 t (ch q)) := by
  have hq := q.isLt
  have e : ch q = ⟨q.val - 256 - 256, by omega⟩ := Fin.ext (by show q.val % 256 = q.val - 256 - 256; omega)
  rw [e]
  pointwise []
  rw [dif_neg (show ¬(q.val < 256) by omega)]
  rw [dif_neg (show ¬(q.val - 256 < 256) by omega)]
theorem cat4_0 (h) (t : Fin 4096) (q : Fin 1024) (h1 : q.val < 256) :
    concatenate ⟨2, ![4096, 1024]⟩ 1 [⟨⟨2, ![4096, 256]⟩, x⟩, ⟨⟨2, ![4096, 256]⟩, y⟩, ⟨⟨2, ![4096, 256]⟩, z⟩, ⟨⟨2, ![4096, 256]⟩, w⟩] h (ix2 t q) = x (ix2 t (ch q)) := by
  have hq := q.isLt
  have e : ch q = ⟨q.val, by omega⟩ := Fin.ext (by show q.val % 256 = q.val; omega)
  rw [e]
  pointwise []
  rw [dif_pos (show q.val < 256 by omega)]
theorem cat4_1 (h) (t : Fin 4096) (q : Fin 1024) (h0 : 256 ≤ q.val) (h1 : q.val < 512) :
    concatenate ⟨2, ![4096, 1024]⟩ 1 [⟨⟨2, ![4096, 256]⟩, x⟩, ⟨⟨2, ![4096, 256]⟩, y⟩, ⟨⟨2, ![4096, 256]⟩, z⟩, ⟨⟨2, ![4096, 256]⟩, w⟩] h (ix2 t q) = y (ix2 t (ch q)) := by
  have hq := q.isLt
  have e : ch q = ⟨q.val - 256, by omega⟩ := Fin.ext (by show q.val % 256 = q.val - 256; omega)
  rw [e]
  pointwise []
  rw [dif_neg (show ¬(q.val < 256) by omega)]
  rw [dif_pos (show q.val - 256 < 256 by omega)]
theorem cat4_2 (h) (t : Fin 4096) (q : Fin 1024) (h0 : 512 ≤ q.val) (h1 : q.val < 768) :
    concatenate ⟨2, ![4096, 1024]⟩ 1 [⟨⟨2, ![4096, 256]⟩, x⟩, ⟨⟨2, ![4096, 256]⟩, y⟩, ⟨⟨2, ![4096, 256]⟩, z⟩, ⟨⟨2, ![4096, 256]⟩, w⟩] h (ix2 t q) = z (ix2 t (ch q)) := by
  have hq := q.isLt
  have e : ch q = ⟨q.val - 256 - 256, by omega⟩ := Fin.ext (by show q.val % 256 = q.val - 256 - 256; omega)
  rw [e]
  pointwise []
  rw [dif_neg (show ¬(q.val < 256) by omega)]
  rw [dif_neg (show ¬(q.val - 256 < 256) by omega)]
  rw [dif_pos (show q.val - 256 - 256 < 256 by omega)]
theorem cat4_3 (h) (t : Fin 4096) (q : Fin 1024) (h0 : 768 ≤ q.val) :
    concatenate ⟨2, ![4096, 1024]⟩ 1 [⟨⟨2, ![4096, 256]⟩, x⟩, ⟨⟨2, ![4096, 256]⟩, y⟩, ⟨⟨2, ![4096, 256]⟩, z⟩, ⟨⟨2, ![4096, 256]⟩, w⟩] h (ix2 t q) = w (ix2 t (ch q)) := by
  have hq := q.isLt
  have e : ch q = ⟨q.val - 256 - 256 - 256, by omega⟩ := Fin.ext (by show q.val % 256 = q.val - 256 - 256 - 256; omega)
  rw [e]
  pointwise []
  rw [dif_neg (show ¬(q.val < 256) by omega)]
  rw [dif_neg (show ¬(q.val - 256 < 256) by omega)]
  rw [dif_neg (show ¬(q.val - 256 - 256 < 256) by omega)]
end Side

end Cert.Rows
-- ==== Proof.Args.lean ====
/-
What it means for the specification's data to be the ten argument arrays.
-/
module

public import proofs.«01_k».proof.Proof.HostOps

@[expose] public section

noncomputable section

namespace Cert.Rows

open Idealize.ShloMosaic

/-- The seven columns of the projection (256 channels each), the two upstream gradients, and the weights. -/
structure Is (d : Data) (x0 : FVec Ideal ⟨2, ![4096, 3456]⟩ .f32) (x1 : FVec Ideal ⟨2, ![31, 256]⟩ .f32)
    (x2 x3 x4 : FVec Ideal ⟨2, ![1, 256]⟩ .f32) (x5 : FVec Ideal ⟨2, ![256, 256]⟩ .f32) (x6 : FVec Ideal ⟨2, ![1, 256]⟩ .f32)
    (x7 : FVec Ideal ⟨2, ![3, 256]⟩ .f32) (x8 x9 : FVec Ideal ⟨2, ![4096, 256]⟩ .f32) : Prop where
  val : ∀ t c, d.val t c = col x0 0 (by decide) t c
  gate : ∀ t c, d.gate t c = col x0 256 (by decide) t c
  az : ∀ t c, d.az t c = col x0 512 (by decide) t c
  cb : ∀ t c, d.cb t c = col x0 1280 (by decide) t c
  cc : ∀ t c, d.cc t c = col x0 1536 (by decide) t c
  cx : ∀ t c, d.cx t c = col x0 1792 (by decide) t c
  cz : ∀ t c, d.cz t c = col x0 2048 (by decide) t c
  ya : ∀ t c, d.ya t c = rd x8 t c
  yc : ∀ t c, d.yc t c = rd x9 t c
  w : ∀ t c, d.w t c = rd x1 t c
  s : ∀ t c, d.s t c = rd x7 t c
  b : ∀ c, d.b c = x2 (ix2 0 c)
  g : ∀ c, d.g c = x3 (ix2 0 c)
  e : ∀ c, d.e c = x4 (ix2 0 c)
  q : ∀ c, d.q c = x6 (ix2 0 c)
  p : ∀ a c, d.p a c = x5 (ix2 a c)

/-- The data of ten arrays. -/
def ofArrays (x0 : FVec Ideal ⟨2, ![4096, 3456]⟩ .f32) (x1 : FVec Ideal ⟨2, ![31, 256]⟩ .f32)
    (x2 x3 x4 : FVec Ideal ⟨2, ![1, 256]⟩ .f32) (x5 : FVec Ideal ⟨2, ![256, 256]⟩ .f32) (x6 : FVec Ideal ⟨2, ![1, 256]⟩ .f32)
    (x7 : FVec Ideal ⟨2, ![3, 256]⟩ .f32) (x8 x9 : FVec Ideal ⟨2, ![4096, 256]⟩ .f32) : Data where
  val := col x0 0 (by decide)
  gate := col x0 256 (by decide)
  az := col x0 512 (by decide)
  cb := col x0 1280 (by decide)
  cc := col x0 1536 (by decide)
  cx := col x0 1792 (by decide)
  cz := col x0 2048 (by decide)
  ya := rd x8
  yc := rd x9
  w := rd x1
  s := rd x7
  b := fun c => x2 (ix2 0 c)
  g := fun c => x3 (ix2 0 c)
  e := fun c => x4 (ix2 0 c)
  q := fun c => x6 (ix2 0 c)
  p := fun a c => x5 (ix2 a c)

theorem ofArrays_is (x0 : FVec Ideal ⟨2, ![4096, 3456]⟩ .f32) (x1 : FVec Ideal ⟨2, ![31, 256]⟩ .f32)
    (x2 x3 x4 : FVec Ideal ⟨2, ![1, 256]⟩ .f32) (x5 : FVec Ideal ⟨2, ![256, 256]⟩ .f32) (x6 : FVec Ideal ⟨2, ![1, 256]⟩ .f32)
    (x7 : FVec Ideal ⟨2, ![3, 256]⟩ .f32) (x8 x9 : FVec Ideal ⟨2, ![4096, 256]⟩ .f32) : Is (ofArrays x0 x1 x2 x3 x4 x5 x6 x7 x8 x9) x0 x1 x2 x3 x4 x5 x6 x7 x8 x9 := by
  constructor <;> intros <;> rfl

end Cert.Rows
-- ==== Proof.Frame.Value.lean ====
/-
What the frame's run leaves in each result's array and in the arguments.
-/
module

public import proofs.«01_k».proof.Proof.Frame.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v3_0) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v3_1) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v3_2) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v3_3) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v3_4) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v3_5) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v3_6) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v3_7) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v3_8) = (dats m 0 c).arrAt 28 cfg0.N :=
  (h c).1 28

/-- After the frame run, argument `main_arg0` is as launched: input window 10 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 10).trans (((dats m 0 c).arrAt_in 10 rfl _).trans ((A_eq m c 10).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 12 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 12).trans (((dats m 0 c).arrAt_in 12 rfl _).trans ((A_eq m c 12).trans (V_main_arg2 m c)))

/-- After the frame run, argument `main_arg3` is as launched: input window 13 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 13).trans (((dats m 0 c).arrAt_in 13 rfl _).trans ((A_eq m c 13).trans (V_main_arg3 m c)))

/-- After the frame run, argument `main_arg4` is as launched: input window 14 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 14).trans (((dats m 0 c).arrAt_in 14 rfl _).trans ((A_eq m c 14).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 16 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 16).trans (((dats m 0 c).arrAt_in 16 rfl _).trans ((A_eq m c 16).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 18 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 18).trans (((dats m 0 c).arrAt_in 18 rfl _).trans ((A_eq m c 18).trans (V_main_arg8 m c)))

/-- After the frame run, argument `main_arg9` is as launched: input window 19 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 19).trans (((dats m 0 c).arrAt_in 19 rfl _).trans ((A_eq m c 19).trans (V_main_arg9 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 20 cfg0.N
      ∧ r.2.mem ((c : Thread nD τ).loc main_v3_1) = (dats m 0 c).arrAt 21 cfg0.N
      ∧ r.2.mem ((c : Thread nD τ).loc main_v3_2) = (dats m 0 c).arrAt 22 cfg0.N
      ∧ r.2.mem ((c : Thread nD τ).loc main_v3_3) = (dats m 0 c).arrAt 23 cfg0.N
      ∧ r.2.mem ((c : Thread nD τ).loc main_v3_4) = (dats m 0 c).arrAt 24 cfg0.N
      ∧ r.2.mem ((c : Thread nD τ).loc main_v3_5) = (dats m 0 c).arrAt 25 cfg0.N
      ∧ r.2.mem ((c : Thread nD τ).loc main_v3_6) = (dats m 0 c).arrAt 26 cfg0.N
      ∧ r.2.mem ((c : Thread nD τ).loc main_v3_7) = (dats m 0 c).arrAt 27 cfg0.N
      ∧ r.2.mem ((c : Thread nD τ).loc main_v3_8) = (dats m 0 c).arrAt 28 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post20 m r h c,
      post21 m r h c,
      post22 m r h c,
      post23 m r h c,
      post24 m r h c,
      post25 m r h c,
      post26 m r h c,
      post27 m r h c,
      post28 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Value

end
-- ==== Proof.Inputs.lean ====
/-
What the kernel's blocks hold at every grid point: the rows of the arguments' columns.
-/
module

public import proofs.«01_k».proof.Proof.PointValue
public import proofs.«01_k».proof.Proof.Args
public import proofs.«01_k».proof.Proof.Frame.Value
public import Idealize.ShloMosaic.Lib.Pipeline.ValueKit

@[expose] public section

set_option backward.isDefEq.respectTransparency false
set_option maxRecDepth 16384

noncomputable section

namespace Cert.KernelIdeal.Gen

open Idealize.ShloMosaic Idealize.ShloMosaic.TcCoe Idealize.SL.Sem
open Cert.KernelIdeal Cert.Rows

variable (m : (ℓ : Loc nD τ sig) → Buf (Elt Ideal) ℓ)

theorem idx0 : ∀ t : Fin cfg0.N, win0_0.index t = ![7 - t.val, 0] := by decide +kernel
theorem idx1 : ∀ t : Fin cfg0.N, win0_1.index t = ![7 - t.val, 1] := by decide +kernel
theorem idx2 : ∀ t : Fin cfg0.N, win0_2.index t = ![7 - t.val, 2] := by decide +kernel
theorem idx5 : ∀ t : Fin cfg0.N, win0_5.index t = ![7 - t.val, 5] := by decide +kernel
theorem idx6 : ∀ t : Fin cfg0.N, win0_6.index t = ![7 - t.val, 6] := by decide +kernel
theorem idx7 : ∀ t : Fin cfg0.N, win0_7.index t = ![7 - t.val, 7] := by decide +kernel
theorem idx8 : ∀ t : Fin cfg0.N, win0_8.index t = ![7 - t.val, 8] := by decide +kernel
theorem idx3 : ∀ t : Fin cfg0.N, win0_3.index t = ![16 * (7 - t.val) - 1, 0] := by decide +kernel
theorem idx4 : ∀ t : Fin cfg0.N, win0_4.index t = ![16 * (7 - t.val) - 1, 1] := by decide +kernel
theorem idx9 : ∀ t : Fin cfg0.N, win0_9.index t = ![16 * (7 - t.val) - 1, 6] := by decide +kernel
theorem idx10 : ∀ t : Fin cfg0.N, win0_10.index t = ![16 * (7 - t.val) - 1, 7] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0] := by decide +kernel
theorem idx17 : ∀ t : Fin cfg0.N, win0_17.index t = ![0, 0] := by decide +kernel
theorem idx18 : ∀ t : Fin cfg0.N, win0_18.index t = ![7 - t.val, 0] := by decide +kernel
theorem idx19 : ∀ t : Fin cfg0.N, win0_19.index t = ![7 - t.val, 0] := by decide +kernel

theorem blk0 (c : Dev nD) (t : Fin cfg0.N) (r : Fin 512) (q : Fin 256) :
    X0_0 m c t (ix2 r q) = col (m ((c : Thread nD τ).loc main_arg0)) 0 (by decide) (512 * (7 - t.val) + r.val) q := by
  unfold X0_0 Pipeline.Window.fill
  rw [dif_pos (moved0_0 t _)]
  unfold col
  rw [dif_pos (by have := r.isLt; omega), ← V_main_arg0 m c]
  blk_ext [iblk, idx0 t]

theorem blk1 (c : Dev nD) (t : Fin cfg0.N) (r : Fin 512) (q : Fin 256) :
    X0_1 m c t (ix2 r q) = col (m ((c : Thread nD τ).loc main_arg0)) 256 (by decide) (512 * (7 - t.val) + r.val) q := by
  unfold X0_1 Pipeline.Window.fill
  rw [dif_pos (moved0_1 t _)]
  unfold col
  rw [dif_pos (by have := r.isLt; omega), ← V_main_arg0 m c]
  blk_ext [iblk, idx1 t]

theorem blk2 (c : Dev nD) (t : Fin cfg0.N) (r : Fin 512) (q : Fin 256) :
    X0_2 m c t (ix2 r q) = col (m ((c : Thread nD τ).loc main_arg0)) 512 (by decide) (512 * (7 - t.val) + r.val) q := by
  unfold X0_2 Pipeline.Window.fill
  rw [dif_pos (moved0_2 t _)]
  unfold col
  rw [dif_pos (by have := r.isLt; omega), ← V_main_arg0 m c]
  blk_ext [iblk, idx2 t]

theorem blk5 (c : Dev nD) (t : Fin cfg0.N) (r : Fin 512) (q : Fin 256) :
    X0_5 m c t (ix2 r q) = col (m ((c : Thread nD τ).loc main_arg0)) 1280 (by decide) (512 * (7 - t.val) + r.val) q := by
  unfold X0_5 Pipeline.Window.fill
  rw [dif_pos (moved0_5 t _)]
  unfold col
  rw [dif_pos (by have := r.isLt; omega), ← V_main_arg0 m c]
  blk_ext [iblk, idx5 t]

theorem blk6 (c : Dev nD) (t : Fin cfg0.N) (r : Fin 512) (q : Fin 256) :
    X0_6 m c t (ix2 r q) = col (m ((c : Thread nD τ).loc main_arg0)) 1536 (by decide) (512 * (7 - t.val) + r.val) q := by
  unfold X0_6 Pipeline.Window.fill
  rw [dif_pos (moved0_6 t _)]
  unfold col
  rw [dif_pos (by have := r.isLt; omega), ← V_main_arg0 m c]
  blk_ext [iblk, idx6 t]

theorem blk7 (c : Dev nD) (t : Fin cfg0.N) (r : Fin 512) (q : Fin 256) :
    X0_7 m c t (ix2 r q) = col (m ((c : Thread nD τ).loc main_arg0)) 1792 (by decide) (512 * (7 - t.val) + r.val) q := by
  unfold X0_7 Pipeline.Window.fill
  rw [dif_pos (moved0_7 t _)]
  unfold col
  rw [dif_pos (by have := r.isLt; omega), ← V_main_arg0 m c]
  blk_ext [iblk, idx7 t]

theorem blk8 (c : Dev nD) (t : Fin cfg0.N) (r : Fin 512) (q : Fin 256) :
    X0_8 m c t (ix2 r q) = col (m ((c : Thread nD τ).loc main_arg0)) 2048 (by decide) (512 * (7 - t.val) + r.val) q := by
  unfold X0_8 Pipeline.Window.fill
  rw [dif_pos (moved0_8 t _)]
  unfold col
  rw [dif_pos (by have := r.isLt; omega), ← V_main_arg0 m c]
  blk_ext [iblk, idx8 t]

theorem blk3 (c : Dev nD) (t : Fin cfg0.N) (h : t.val < 7) (r : Fin 32) (q : Fin 256) :
    X0_3 m c t (ix2 r q) = col (m ((c : Thread nD τ).loc main_arg0)) 0 (by decide) (512 * (7 - t.val) + r.val - 32) q := by
  unfold X0_3 Pipeline.Window.fill
  rw [dif_pos (moved0_3 t _)]
  unfold col
  rw [dif_pos (by have := r.isLt; omega), ← V_main_arg0 m c]
  blk_ext [iblk, idx3 t]

theorem blk4 (c : Dev nD) (t : Fin cfg0.N) (h : t.val < 7) (r : Fin 32) (q : Fin 256) :
    X0_4 m c t (ix2 r q) = col (m ((c : Thread nD τ).loc main_arg0)) 256 (by decide) (512 * (7 - t.val) + r.val - 32) q := by
  unfold X0_4 Pipeline.Window.fill
  rw [dif_pos (moved0_4 t _)]
  unfold col
  rw [dif_pos (by have := r.isLt; omega), ← V_main_arg0 m c]
  blk_ext [iblk, idx4 t]

theorem blk9 (c : Dev nD) (t : Fin cfg0.N) (h : t.val < 7) (r : Fin 32) (q : Fin 256) :
    X0_9 m c t (ix2 r q) = col (m ((c : Thread nD τ).loc main_arg0)) 1536 (by decide) (512 * (7 - t.val) + r.val - 32) q := by
  unfold X0_9 Pipeline.Window.fill
  rw [dif_pos (moved0_9 t _)]
  unfold col
  rw [dif_pos (by have := r.isLt; omega), ← V_main_arg0 m c]
  blk_ext [iblk, idx9 t]

theorem blk10 (c : Dev nD) (t : Fin cfg0.N) (h : t.val < 7) (r : Fin 32) (q : Fin 256) :
    X0_10 m c t (ix2 r q) = col (m ((c : Thread nD τ).loc main_arg0)) 1792 (by decide) (512 * (7 - t.val) + r.val - 32) q := by
  unfold X0_10 Pipeline.Window.fill
  rw [dif_pos (moved0_10 t _)]
  unfold col
  rw [dif_pos (by have := r.isLt; omega), ← V_main_arg0 m c]
  blk_ext [iblk, idx10 t]

theorem blk12 (c : Dev nD) (t : Fin cfg0.N) (q : Fin 256) :
    (iblk m c 12 t : (cfg0.win 12).block.Idx → _) (ix2 0 q) = m ((c : Thread nD τ).loc main_arg2) (ix2 0 q) := by
  rw [← V_main_arg2 m c]
  blk_ext [iblk, idx12 t]

theorem blk13 (c : Dev nD) (t : Fin cfg0.N) (q : Fin 256) :
    (iblk m c 13 t : (cfg0.win 13).block.Idx → _) (ix2 0 q) = m ((c : Thread nD τ).loc main_arg3) (ix2 0 q) := by
  rw [← V_main_arg3 m c]
  blk_ext [iblk, idx13 t]

theorem blk14 (c : Dev nD) (t : Fin cfg0.N) (q : Fin 256) :
    (iblk m c 14 t : (cfg0.win 14).block.Idx → _) (ix2 0 q) = m ((c : Thread nD τ).loc main_arg4) (ix2 0 q) := by
  rw [← V_main_arg4 m c]
  blk_ext [iblk, idx14 t]

theorem blk16 (c : Dev nD) (t : Fin cfg0.N) (q : Fin 256) :
    (iblk m c 16 t : (cfg0.win 16).block.Idx → _) (ix2 0 q) = m ((c : Thread nD τ).loc main_arg6) (ix2 0 q) := by
  rw [← V_main_arg6 m c]
  blk_ext [iblk, idx16 t]

theorem blk18 (c : Dev nD) (t : Fin cfg0.N) (r : Fin 512) (q : Fin 256) :
    (iblk m c 18 t : (cfg0.win 18).block.Idx → _) (ix2 r q) = rd (m ((c : Thread nD τ).loc main_arg8)) (512 * (7 - t.val) + r.val) q := by
  rw [rd_of_lt _ _ (by have := r.isLt; omega), ← V_main_arg8 m c]
  blk_ext [iblk, idx18 t]

theorem blk19 (c : Dev nD) (t : Fin cfg0.N) (r : Fin 512) (q : Fin 256) :
    (iblk m c 19 t : (cfg0.win 19).block.Idx → _) (ix2 r q) = rd (m ((c : Thread nD τ).loc main_arg9)) (512 * (7 - t.val) + r.val) q := by
  rw [rd_of_lt _ _ (by have := r.isLt; omega), ← V_main_arg9 m c]
  blk_ext [iblk, idx19 t]

theorem blk11 (c : Dev nD) (t : Fin cfg0.N) (k : Fin 32) (h : k.val < 31) (q : Fin 256) :
    (iblk m c 11 t : (cfg0.win 11).block.Idx → _) (ix2 k q) = rd (m ((c : Thread nD τ).loc main_arg1)) k.val q := by
  have e : (V m c main_v0 : S32x256.Idx → _) (ix2 k q) = rd (m ((c : Thread nD τ).loc main_arg1)) k.val q := by
    change pad S32x256 ![0, 0] ![1, 0] ![0, 0] (m ((c : Thread nD τ).loc main_arg1)) (sitofp .f32 (constantI S_ 32 0#32) : FVec Ideal S_ .f32) pads_S31x256_S32x256_010_000 h_S_ (ix2 k q) = _
    have z : ∀ i, (sitofp .f32 (constantI S_ 32 0#32) : FVec Ideal S_ .f32) i = 0 := fun i => by
      show Scalar.sitofp (F := Ideal) .f32 (0#32 : BitVec 32) = (0 : EReal)
      simp [Ideal.scalar_sitofp_def]
    refine (hpad (lo := 0) (hi := 1) (m ((c : Thread nD τ).loc main_arg1)) _ z _ _ k q).trans ?_
    rw [if_pos (Nat.zero_le _), Nat.sub_zero]
  refine Eq.trans ?_ e
  blk_ext [iblk, idx11 t]

theorem blk17 (c : Dev nD) (t : Fin cfg0.N) (k : Fin 8) (h : k.val < 3) (q : Fin 256) :
    (iblk m c 17 t : (cfg0.win 17).block.Idx → _) (ix2 k q) = rd (m ((c : Thread nD τ).loc main_arg7)) k.val q := by
  have e : (V m c main_v2 : S8x256.Idx → _) (ix2 k q) = rd (m ((c : Thread nD τ).loc main_arg7)) k.val q := by
    change pad S8x256 ![0, 0] ![5, 0] ![0, 0] (m ((c : Thread nD τ).loc main_arg7)) (sitofp .f32 (constantI S_ 32 0#32) : FVec Ideal S_ .f32) pads_S3x256_S8x256_050_000 h_S_ (ix2 k q) = _
    have z : ∀ i, (sitofp .f32 (constantI S_ 32 0#32) : FVec Ideal S_ .f32) i = 0 := fun i => by
      show Scalar.sitofp (F := Ideal) .f32 (0#32 : BitVec 32) = (0 : EReal)
      simp [Ideal.scalar_sitofp_def]
    refine (hpad (lo := 0) (hi := 5) (m ((c : Thread nD τ).loc main_arg7)) _ z _ _ k q).trans ?_
    rw [if_pos (Nat.zero_le _), Nat.sub_zero]
  refine Eq.trans ?_ e
  blk_ext [iblk, idx17 t]

theorem blk15 (c : Dev nD) (t : Fin cfg0.N) (a q : Fin 256) :
    (iblk m c 15 t : (cfg0.win 15).block.Idx → _) (ix2 a q) = m ((c : Thread nD τ).loc main_arg5) (ix2 a q) := by
  have e : (V m c main_v1 : S256x256.Idx → _) (ix2 a q) = m ((c : Thread nD τ).loc main_arg5) (ix2 a q) := by
    entry_read
    rfl
  refine Eq.trans ?_ e
  blk_ext [iblk, idx15 t]

end Cert.KernelIdeal.Gen
-- ==== Proof.TileAt.lean ====
/-
Each grid point's blocks are one tile's.
-/
module

public import proofs.«01_k».proof.Proof.Inputs

@[expose] public section

set_option backward.isDefEq.respectTransparency false
set_option maxRecDepth 16384
set_option maxHeartbeats 4000000

noncomputable section

namespace Cert.KernelIdeal.Gen

open Idealize.ShloMosaic Idealize.ShloMosaic.TcCoe Idealize.SL.Sem
open Cert.KernelIdeal Cert.Rows

variable (m : (ℓ : Loc nD τ sig) → Buf (Elt Ideal) ℓ)

/-- The columns and the weights of the launch. -/
abbrev data (c : Dev nD) : Data :=
  ofArrays (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- The blocks of a point. -/
def tile (c : Dev nD) (t : Fin cfg0.N) : Tile.Blk :=
  Tile.Blk.mk (grid0.coords t) (X0_0 m c t) (X0_1 m c t) (X0_2 m c t) (X0_3 m c t) (X0_4 m c t) (X0_5 m c t) (X0_6 m c t) (X0_7 m c t) (X0_8 m c t) (X0_9 m c t) (X0_10 m c t)
    (iblk m c 11 t) (iblk m c 12 t) (iblk m c 13 t) (iblk m c 14 t) (iblk m c 15 t) (iblk m c 16 t) (iblk m c 17 t) (iblk m c 18 t) (iblk m c 19 t)

theorem coord : ∀ t : Fin cfg0.N, (grid0.coords t 0).val = t.val := by decide +kernel

/-- Point `t` works on tile `7 - t`. -/
theorem tile_ok (c : Dev nD) (t : Fin cfg0.N) : Tile.Ok (tile m c t) (data m c) (7 - t.val) := by
  have ht : t.val < 8 := lt_of_lt_of_eq t.isLt N_0
  unfold tile data ofArrays
  constructor
  · omega
  · show (grid0.coords t 0).val = _
    rw [coord]; omega
  · intro r q; exact blk0 m c t r q
  · intro r q; exact blk1 m c t r q
  · intro r q; exact blk2 m c t r q
  · intro h r q; exact blk3 m c t (by omega) r q
  · intro h r q; exact blk4 m c t (by omega) r q
  · intro r q; exact blk5 m c t r q
  · intro r q; exact blk6 m c t r q
  · intro r q; exact blk7 m c t r q
  · intro r q; exact blk8 m c t r q
  · intro h r q; exact blk9 m c t (by omega) r q
  · intro h r q; exact blk10 m c t (by omega) r q
  · intro k q h; exact blk11 m c t k h q
  · intro q; exact blk12 m c t q
  · intro q; exact blk13 m c t q
  · intro q; exact blk14 m c t q
  · intro r q; exact blk15 m c t r q
  · intro q; exact blk16 m c t q
  · intro k q h; exact blk17 m c t k h q
  · intro r q; exact blk18 m c t r q
  · intro r q; exact blk19 m c t r q

end Cert.KernelIdeal.Gen
-- ==== Proof.Total.lean ====
/-
From tiles to the whole sequence: finite data give finite gradients, the rows a convolution's gradient takes from a tile and from the
tile after it add up, and a sum over the tokens is the sum over the tiles.
-/
module

public import proofs.«01_k».proof.Proof.Spec

@[expose] public section

set_option maxRecDepth 16384

noncomputable section

namespace Cert.Rows

open Idealize.ShloMosaic

/-! ## Finite values -/

/-- A finite value. -/
def Real' (x : EReal) : Prop := ∃ r : ℝ, x = (r : EReal)

theorem Real'.of_ne {x : EReal} (h : x ≠ ⊥) (h' : x ≠ ⊤) : Real' x := ⟨x.toReal, (EReal.coe_toReal h' h).symm⟩
theorem Real'.zero : Real' 0 := ⟨0, rfl⟩
theorem Real'.one : Real' 1 := ⟨1, rfl⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.neg {x : EReal} (hx : Real' x) : Real' (-x) := by
  obtain ⟨a, rfl⟩ := hx; exact ⟨-a, (EReal.coe_neg a).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.sum {ι : Type} (s : Finset ι) {f : ι → EReal} (h : ∀ i, Real' (f i)) : Real' (∑ i ∈ s, f i) := by
  classical
  induction s using Finset.induction_on with
  | empty => exact Real'.zero
  | insert a s ha ih => rw [Finset.sum_insert ha]; exact (h a).add ih
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]
theorem Real'.ite {p : Prop} [Decidable p] {x y : EReal} (hx : Real' x) (hy : Real' y) : Real' (if p then x else y) := by
  split <;> assumption
theorem Real'.div {x y : EReal} (hx : Real' x) (hy : Real' y) (h : y ≠ 0) : Real' (Ideal.div x y) := by
  obtain ⟨b, rfl⟩ := hy
  rw [Ideal.div_coe (fun e => h (by rw [e]; rfl))]
  exact hx.mul ⟨_, rfl⟩
theorem Real'.logistic {x : EReal} (hx : Real' x) : Real' (Ideal.logistic x) := by
  obtain ⟨a, rfl⟩ := hx; exact ⟨_, Ideal.logistic_coe a⟩
theorem Real'.dsig {x : EReal} (hx : Real' x) : Real' (dsig x) := hx.logistic.mul (Real'.one.sub hx.logistic)
theorem Real'.dsilu {x y : EReal} (hx : Real' x) (hy : Real' y) : Real' (dsilu x y) := (hy.mul hx.logistic).add ((hx.mul hy).mul hx.dsig)
theorem Real'.late {f : ℕ → Fin 256 → EReal} (h : ∀ t c, Real' (f t c)) (n : ℕ) (c : Fin 256) : Real' (late f n c) := Real'.ite (h _ _) Real'.zero

theorem k256_eq : k256 = ((256 : ℝ) : EReal) := by
  unfold k256; simp [Ideal.ofBits, Ideal.ieee, -EReal.coe_mul]; norm_num
theorem mhalf_real : Real' mhalf := ⟨-(1 / 2), by unfold mhalf; simp [Ideal.ofBits, Ideal.ieee, -EReal.coe_mul]; norm_num⟩
theorem eps_pos : ∃ r : ℝ, 0 < r ∧ eps = (r : EReal) := by
  unfold eps
  refine ⟨_, ?_, by simp [Ideal.ofBits, Ideal.ieee, -EReal.coe_mul]; rfl⟩
  positivity

/-- The arguments are finite. -/
structure Data.Fin' (d : Data) : Prop where
  val : ∀ t c, Real' (d.val t c)
  gate : ∀ t c, Real' (d.gate t c)
  az : ∀ t c, Real' (d.az t c)
  cb : ∀ t c, Real' (d.cb t c)
  cc : ∀ t c, Real' (d.cc t c)
  cx : ∀ t c, Real' (d.cx t c)
  cz : ∀ t c, Real' (d.cz t c)
  ya : ∀ t c, Real' (d.ya t c)
  yc : ∀ t c, Real' (d.yc t c)
  w : ∀ t c, Real' (d.w t c)
  b : ∀ c, Real' (d.b c)
  g : ∀ c, Real' (d.g c)
  e : ∀ c, Real' (d.e c)
  p : ∀ a c, Real' (d.p a c)
  s : ∀ t c, Real' (d.s t c)

namespace Data.Fin'

variable {d : Data} (h : d.Fin')
include h

theorem glu (n : ℕ) (c : Fin 256) : Real' (d.glu n c) := (Real'.late h.val n c).mul (Real'.late h.gate n c).logistic
theorem y (t : ℕ) (c : Fin 256) : Real' (d.y t c) := (Real'.sum _ fun k => (h.glu _ c).mul (h.w k c)).add (h.b c)
theorem k256 : Real' k256 := ⟨_, k256_eq⟩
theorem k256_ne : Rows.k256 ≠ 0 := by
  rw [k256_eq]; exact_mod_cast (by norm_num : (256 : ℝ) ≠ 0)
theorem xc (t : ℕ) (c : Fin 256) : Real' (d.xc t c) := (h.y t c).sub ((Real'.sum _ fun k => h.y t k).div h.k256 h.k256_ne)

/-- The variance with the small constant is a positive number. -/
theorem var_pos (t : ℕ) : ∃ r : ℝ, 0 < r ∧ d.var t = (r : EReal) := by
  obtain ⟨e, he, hee⟩ := eps_pos
  have hx := fun k => h.xc t k
  choose f hf using hx
  refine ⟨(∑ k, f k * f k) * (1 / 256) + e, add_pos_of_nonneg_of_pos (mul_nonneg (Finset.sum_nonneg fun k _ => mul_self_nonneg _) (by norm_num)) he, ?_⟩
  unfold Data.var
  rw [k256_eq, Ideal.div_coe (by norm_num), hee, EReal.coe_add, EReal.coe_mul]
  congr 2
  rw [← coe_sum]
  exact Finset.sum_congr rfl fun k _ => by rw [hf k, EReal.coe_mul]

theorem rs (t : ℕ) : Real' (d.rs t) := by
  obtain ⟨r, hr, e⟩ := h.var_pos t
  unfold Data.rs
  rw [e, Ideal.rsqrt_coe, if_neg hr.not_gt, if_neg hr.ne']
  exact ⟨_, rfl⟩
theorem drs (t : ℕ) : Real' (d.drs t) := by
  obtain ⟨r, hr, e⟩ := h.var_pos t
  refine mhalf_real.mul ((h.rs t).div ⟨r, e⟩ ?_)
  rw [e]
  exact_mod_cast hr.ne'
theorem xn (t : ℕ) (c : Fin 256) : Real' (d.xn t c) := (h.xc t c).mul (h.rs t)
theorem u (t : ℕ) (c : Fin 256) : Real' (d.u t c) := ((h.xn t c).mul (h.g c)).add (h.e c)
theorem dz (t : ℕ) (c : Fin 256) : Real' (d.dz t c) := (h.ya t c).mul ((h.az t c).mul (h.az t c).logistic)
theorem dsu (t : ℕ) (c : Fin 256) : Real' (d.dsu t c) := Real'.sum _ fun k => (h.dz t k).mul (h.p c k)
theorem du (t : ℕ) (c : Fin 256) : Real' (d.du t c) := (h.u t c).dsilu (h.dsu t c)
theorem dn (t : ℕ) (c : Fin 256) : Real' (d.dn t c) := (h.du t c).mul (h.g c)
theorem dvar (t : ℕ) : Real' (d.dvar t) := ((Real'.sum _ fun k => (h.xc t k).mul (h.dn t k)).mul (h.drs t)).div h.k256 h.k256_ne
theorem dxc (t : ℕ) (c : Fin 256) : Real' (d.dxc t c) :=
  (((h.dn t c).mul (h.rs t)).add ((h.xc t c).mul (h.dvar t))).add ((h.dvar t).mul (h.xc t c))
theorem dy (t : ℕ) (c : Fin 256) : Real' (d.dy t c) := (h.dxc t c).add ((Real'.sum _ fun k => (h.dxc t k).neg).div h.k256 h.k256_ne)
theorem dcg (t : ℕ) (c : Fin 256) : Real' (d.dcg t c) := (h.yc t c).mul ((h.cz t c).mul (h.cz t c).logistic)
theorem dcy (t : ℕ) (c : Fin 256) : Real' (d.dcy t c) := (h.cb t c).mul (h.dcg t c)

end Data.Fin'

theorem back_real {f w : ℕ → Fin 256 → EReal} (hf : ∀ t c, Real' (f t c)) (hw : ∀ t c, Real' (w t c)) (o K a b n : ℕ) (c : Fin 256) :
    Real' (Data.back f w o K a b n c) := Real'.sum _ fun k => (Real'.ite (hf _ c) Real'.zero).mul (hw k c)

/-! ## A tile's gradient and the next tile's -/

/-- Row `r` of tile `i` takes from its own tile, and its last 32 rows also from the tile after it. -/
theorem back_split (f w : ℕ → Fin 256 → EReal) (o K i r : ℕ) (c : Fin 256) (hK : o + K ≤ 33) (hi : i < 8) (hr : r < 512) :
    Data.back f w o K 0 4096 (512 * i + r + 32) c = Data.back f w o K (512 * i) (512 * i + 512) (512 * i + r + 32) c
      + (if 480 ≤ r ∧ i < 7 then Data.back f w o K (512 * (i + 1)) (512 * (i + 1) + 512) (512 * i + r + 32) c else 0) := by
  unfold Data.back
  by_cases hc : 480 ≤ r ∧ i < 7
  · rw [if_pos hc, ← Finset.sum_add_distrib]
    refine Finset.sum_congr rfl fun k hk => ?_
    have hk := Finset.mem_range.1 hk
    by_cases h1 : 512 * i + r + 32 - (o + k) < 512 * i + 512
    · rw [if_pos (by omega), if_pos (by omega), if_neg (by omega), zero_mul, add_zero]
    · rw [if_pos (by omega), if_neg (by omega), if_pos (by omega), zero_mul, zero_add]
  · rw [if_neg hc, add_zero]
    refine Finset.sum_congr rfl fun k hk => ?_
    have hk := Finset.mem_range.1 hk
    by_cases h1 : 512 * i + r + 32 - (o + k) < 512 * i + 512
    · rw [if_pos (by omega), if_pos (by omega)]
    · rw [if_neg (by omega), if_neg (by omega)]

theorem real_add_mul {x y z : EReal} (hx : Real' x) (hy : Real' y) (hz : Real' z) : (x + y) * z = x * z + y * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, add_mul]
theorem real_mul_add {x y z : EReal} (hx : Real' x) (hy : Real' y) (hz : Real' z) : z * (x + y) = z * x + z * y := by
  rw [mul_comm, real_add_mul hx hy hz, mul_comm x, mul_comm y]

/-- What a tile writes of a gradient through a convolution: its own rows' part, with the part its last 32 rows get from the tile after it. -/
theorem late_at (f : ℕ → Fin 256 → EReal) (t : ℕ) (c : Fin 256) : late f (t + 32) c = f t c := by
  unfold late
  rw [if_pos (by omega), Nat.add_sub_cancel]

section Settle
variable {d : Data} (h : d.Fin') (i r : ℕ) (c : Fin 256) (hi : i < 8) (hr : r < 512)
include h hi hr

theorem settle_dval : d.dval (512 * i + r) c =
    Data.back d.dy d.w 2 31 (512 * i) (512 * i + 512) (512 * i + (r + 32)) c * Ideal.logistic (late d.gate (512 * i + (r + 32)) c)
    + (if 480 ≤ r ∧ i < 7 then Data.back d.dy d.w 2 31 (512 * (i + 1)) (512 * (i + 1) + 512) (512 * (i + 1) + (r - 480)) c
        * Ideal.logistic (late d.gate (512 * (i + 1) + (r - 480)) c) else 0) := by
  unfold Data.dval Data.dglu
  have e : 512 * i + (r + 32) = 512 * i + r + 32 := by omega
  rw [back_split d.dy d.w 2 31 i r c (by decide) hi hr, e, late_at]
  by_cases hc : 480 ≤ r ∧ i < 7
  · have e' : 512 * (i + 1) + (r - 480) = 512 * i + r + 32 := by omega
    rw [if_pos hc, if_pos hc, e', late_at, real_add_mul (back_real h.dy h.w ..) (back_real h.dy h.w ..) (h.gate _ c).logistic]
  · rw [if_neg hc, if_neg hc, add_zero, add_zero]

theorem settle_dgate : d.dgate (512 * i + r) c =
    (late d.val (512 * i + (r + 32)) c * Data.back d.dy d.w 2 31 (512 * i) (512 * i + 512) (512 * i + (r + 32)) c) * dsig (late d.gate (512 * i + (r + 32)) c)
    + (if 480 ≤ r ∧ i < 7 then (late d.val (512 * (i + 1) + (r - 480)) c * Data.back d.dy d.w 2 31 (512 * (i + 1)) (512 * (i + 1) + 512) (512 * (i + 1) + (r - 480)) c)
        * dsig (late d.gate (512 * (i + 1) + (r - 480)) c) else 0) := by
  unfold Data.dgate Data.dglu
  have e : 512 * i + (r + 32) = 512 * i + r + 32 := by omega
  rw [back_split d.dy d.w 2 31 i r c (by decide) hi hr, e, late_at, late_at]
  by_cases hc : 480 ≤ r ∧ i < 7
  · have e' : 512 * (i + 1) + (r - 480) = 512 * i + r + 32 := by omega
    rw [if_pos hc, if_pos hc, e', late_at, late_at, real_mul_add (back_real h.dy h.w ..) (back_real h.dy h.w ..) (h.val _ c),
      real_add_mul ((h.val _ c).mul (back_real h.dy h.w ..)) ((h.val _ c).mul (back_real h.dy h.w ..)) (h.gate _ c).dsig]
  · rw [if_neg hc, if_neg hc, add_zero, add_zero]

theorem settle_dcc : d.dcc (512 * i + r) c =
    Data.back d.dcy d.s 30 3 (512 * i) (512 * i + 512) (512 * i + (r + 32)) c * late d.cx (512 * i + (r + 32)) c
    + (if 480 ≤ r ∧ i < 7 then Data.back d.dcy d.s 30 3 (512 * (i + 1)) (512 * (i + 1) + 512) (512 * (i + 1) + (r - 480)) c
        * late d.cx (512 * (i + 1) + (r - 480)) c else 0) := by
  unfold Data.dcc Data.dcu
  have e : 512 * i + (r + 32) = 512 * i + r + 32 := by omega
  rw [back_split d.dcy d.s 30 3 i r c (by decide) hi hr, e, late_at]
  by_cases hc : 480 ≤ r ∧ i < 7
  · have e' : 512 * (i + 1) + (r - 480) = 512 * i + r + 32 := by omega
    rw [if_pos hc, if_pos hc, e', late_at, real_add_mul (back_real h.dcy h.s ..) (back_real h.dcy h.s ..) (h.cx _ c)]
  · rw [if_neg hc, if_neg hc, add_zero, add_zero]

theorem settle_dcx : d.dcx (512 * i + r) c =
    late d.cc (512 * i + (r + 32)) c * Data.back d.dcy d.s 30 3 (512 * i) (512 * i + 512) (512 * i + (r + 32)) c
    + (if 480 ≤ r ∧ i < 7 then late d.cc (512 * (i + 1) + (r - 480)) c
        * Data.back d.dcy d.s 30 3 (512 * (i + 1)) (512 * (i + 1) + 512) (512 * (i + 1) + (r - 480)) c else 0) := by
  unfold Data.dcx Data.dcu
  have e : 512 * i + (r + 32) = 512 * i + r + 32 := by omega
  rw [back_split d.dcy d.s 30 3 i r c (by decide) hi hr, e, late_at]
  by_cases hc : 480 ≤ r ∧ i < 7
  · have e' : 512 * (i + 1) + (r - 480) = 512 * i + r + 32 := by omega
    rw [if_pos hc, if_pos hc, e', late_at, real_mul_add (back_real h.dcy h.s ..) (back_real h.dcy h.s ..) (h.cc _ c)]
  · rw [if_neg hc, if_neg hc, add_zero, add_zero]

end Settle

/-! ## Sums over the tokens -/

/-- The tokens, tile by tile from the last tile to the first. -/
theorem sum_tokens (f : ℕ → EReal) : ∑ p : Fin 8, ∑ r : Fin 512, f (512 * (7 - p.val) + r.val) = ∑ t : Fin 4096, f t.val := by
  rw [← Equiv.sum_comp Fin.revPerm (fun p : Fin 8 => ∑ r : Fin 512, f (512 * (7 - p.val) + r.val))]
  have e : ∀ p : Fin 8, 7 - (Fin.revPerm p).val = p.val := fun p => by
    have := p.isLt
    show 7 - (8 - (p.val + 1)) = p.val
    omega
  simp only [e]
  rw [← Fintype.sum_prod_type']
  rw [← Equiv.sum_comp (finProdFinEquiv (m := 8) (n := 512)) (fun t : Fin 4096 => f t.val)]
  refine Finset.sum_congr rfl fun x _ => ?_
  show _ = f (x.2.val + 512 * x.1.val)
  rw [Nat.add_comm]

end Cert.Rows
-- ==== Proof.Arrays.lean ====
/-
What the results' blocks hold after every grid point, and the results' arrays after the run.
-/
module

public import proofs.«01_k».proof.Proof.TileAt
public import proofs.«01_k».proof.Proof.Total

@[expose] public section

set_option backward.isDefEq.respectTransparency false
set_option maxRecDepth 16384
set_option maxHeartbeats 4000000

noncomputable section

namespace Cert.KernelIdeal.Gen

open Idealize.ShloMosaic Idealize.ShloMosaic.TcCoe Idealize.SL.Sem
open Cert.KernelIdeal Cert.Rows

variable (m : (ℓ : Loc nD τ sig) → Buf (Elt Ideal) ℓ)

/-! ## A point's blocks, by the payloads -/

theorem at22_first (c : Dev nD) (t : Fin cfg0.N) (h : t.val % 8 = 0) : (outsAt0 m c t.val t.isLt).2.2.1 = k0_pay144 (tile m c t).v1132 (k0_pay3 (F := Ideal)) := by
  rw [outsAt0_A m c t h]
  dsimp only
  exact Tile.first22 ..
theorem at23_first (c : Dev nD) (t : Fin cfg0.N) (h : t.val % 8 = 0) : (outsAt0 m c t.val t.isLt).2.2.2.1 = k0_pay145 (tile m c t).v481 (k0_pay4 (F := Ideal)) := by
  rw [outsAt0_A m c t h]
  dsimp only
  exact Tile.first23 ..
theorem at24_first (c : Dev nD) (t : Fin cfg0.N) (h : t.val % 8 = 0) : (outsAt0 m c t.val t.isLt).2.2.2.2.1 = k0_pay147 (tile m c t).v452 (k0_pay146 (k0_pay5 (F := Ideal))) := by
  rw [outsAt0_A m c t h]
  dsimp only
  exact Tile.first24 ..
theorem at25_first (c : Dev nD) (t : Fin cfg0.N) (h : t.val % 8 = 0) : (outsAt0 m c t.val t.isLt).2.2.2.2.2.1 = k0_pay148 (tile m c t).v449 (k0_pay6 (F := Ideal)) := by
  rw [outsAt0_A m c t h]
  dsimp only
  exact Tile.first25 ..
theorem at26_first (c : Dev nD) (t : Fin cfg0.N) (h : t.val % 8 = 0) : (outsAt0 m c t.val t.isLt).2.2.2.2.2.2.1 = k0_pay149 (tile m c t).v443 (k0_pay7 (F := Ideal)) := by
  rw [outsAt0_A m c t h]
  dsimp only
  exact Tile.first26 ..
theorem at27_first (c : Dev nD) (t : Fin cfg0.N) (h : t.val % 8 = 0) : (outsAt0 m c t.val t.isLt).2.2.2.2.2.2.2.1 = k0_pay150 (tile m c t).v438 (k0_pay8 (F := Ideal)) := by
  rw [outsAt0_A m c t h]
  dsimp only
  exact Tile.first27 ..
theorem at28_first (c : Dev nD) (t : Fin cfg0.N) (h : t.val % 8 = 0) : (outsAt0 m c t.val t.isLt).2.2.2.2.2.2.2.2.1 = k0_pay1 (tile m c t).v428 (k0_pay151 (k0_pay9 (F := Ideal))) := by
  rw [outsAt0_A m c t h]
  dsimp only
  exact Tile.first28 ..
theorem at20_first (c : Dev nD) (t : Fin cfg0.N) (h : t.val % 8 = 0) : (outsAt0 m c t.val t.isLt).1 = Tile.block20 (tile m c t) (Tile.slot0 k0_pay2) (Tile.slot1 k0_pay2) := by
  rw [outsAt0_A m c t h]
  dsimp only
  exact Tile.first20 ..
theorem at21_first (c : Dev nD) (t : Fin cfg0.N) (h : t.val % 8 = 0) : (outsAt0 m c t.val t.isLt).2.1 = Tile.block21 (tile m c t) (Tile.slot2 k0_pay2) (Tile.slot3 k0_pay2) := by
  rw [outsAt0_A m c t h]
  dsimp only
  exact Tile.first21 ..
theorem atS_first (c : Dev nD) (t : Fin cfg0.N) (h : t.val % 8 = 0) : ∃ L, (outsAt0 m c t.val t.isLt).2.2.2.2.2.2.2.2.2 = View.canon (Tile.slots (tile m c t) ++ L) := by
  rw [outsAt0_A m c t h]
  dsimp only
  exact ⟨_, Tile.firstS ..⟩
theorem at22_later (c : Dev nD) (t : Fin cfg0.N) (h : ¬t.val % 8 = 0) : (outsAt0 m c t.val t.isLt).2.2.1
    = k0_pay144 (tile m c t).v1132 (outsAt0 m c (t.val - 1) (Nat.lt_of_le_of_lt (Nat.sub_le _ _) t.isLt)).2.2.1 := by
  rw [outsAt0_B m c t h]
  dsimp only
  exact Tile.later22 ..
theorem at23_later (c : Dev nD) (t : Fin cfg0.N) (h : ¬t.val % 8 = 0) : (outsAt0 m c t.val t.isLt).2.2.2.1
    = k0_pay145 (tile m c t).v481 (outsAt0 m c (t.val - 1) (Nat.lt_of_le_of_lt (Nat.sub_le _ _) t.isLt)).2.2.2.1 := by
  rw [outsAt0_B m c t h]
  dsimp only
  exact Tile.later23 ..
theorem at24_later (c : Dev nD) (t : Fin cfg0.N) (h : ¬t.val % 8 = 0) : (outsAt0 m c t.val t.isLt).2.2.2.2.1
    = k0_pay147 (tile m c t).v452 (k0_pay146 (outsAt0 m c (t.val - 1) (Nat.lt_of_le_of_lt (Nat.sub_le _ _) t.isLt)).2.2.2.2.1) := by
  rw [outsAt0_B m c t h]
  dsimp only
  exact Tile.later24 ..
theorem at25_later (c : Dev nD) (t : Fin cfg0.N) (h : ¬t.val % 8 = 0) : (outsAt0 m c t.val t.isLt).2.2.2.2.2.1
    = k0_pay148 (tile m c t).v449 (outsAt0 m c (t.val - 1) (Nat.lt_of_le_of_lt (Nat.sub_le _ _) t.isLt)).2.2.2.2.2.1 := by
  rw [outsAt0_B m c t h]
  dsimp only
  exact Tile.later25 ..
theorem at26_later (c : Dev nD) (t : Fin cfg0.N) (h : ¬t.val % 8 = 0) : (outsAt0 m c t.val t.isLt).2.2.2.2.2.2.1
    = k0_pay149 (tile m c t).v443 (outsAt0 m c (t.val - 1) (Nat.lt_of_le_of_lt (Nat.sub_le _ _) t.isLt)).2.2.2.2.2.2.1 := by
  rw [outsAt0_B m c t h]
  dsimp only
  exact Tile.later26 ..
theorem at27_later (c : Dev nD) (t : Fin cfg0.N) (h : ¬t.val % 8 = 0) : (outsAt0 m c t.val t.isLt).2.2.2.2.2.2.2.1
    = k0_pay150 (tile m c t).v438 (outsAt0 m c (t.val - 1) (Nat.lt_of_le_of_lt (Nat.sub_le _ _) t.isLt)).2.2.2.2.2.2.2.1 := by
  rw [outsAt0_B m c t h]
  dsimp only
  exact Tile.later27 ..
theorem at28_later (c : Dev nD) (t : Fin cfg0.N) (h : ¬t.val % 8 = 0) : (outsAt0 m c t.val t.isLt).2.2.2.2.2.2.2.2.1
    = k0_pay1 (tile m c t).v428 (k0_pay151 (outsAt0 m c (t.val - 1) (Nat.lt_of_le_of_lt (Nat.sub_le _ _) t.isLt)).2.2.2.2.2.2.2.2.1) := by
  rw [outsAt0_B m c t h]
  dsimp only
  exact Tile.later28 ..
theorem at20_later (c : Dev nD) (t : Fin cfg0.N) (h : ¬t.val % 8 = 0) : (outsAt0 m c t.val t.isLt).1
    = Tile.block20 (tile m c t) (Tile.slot0 (outsAt0 m c (t.val - 1) (Nat.lt_of_le_of_lt (Nat.sub_le _ _) t.isLt)).2.2.2.2.2.2.2.2.2) (Tile.slot1 (outsAt0 m c (t.val - 1) (Nat.lt_of_le_of_lt (Nat.sub_le _ _) t.isLt)).2.2.2.2.2.2.2.2.2) := by
  rw [outsAt0_B m c t h]
  dsimp only
  exact Tile.later20 ..
theorem at21_later (c : Dev nD) (t : Fin cfg0.N) (h : ¬t.val % 8 = 0) : (outsAt0 m c t.val t.isLt).2.1
    = Tile.block21 (tile m c t) (Tile.slot2 (outsAt0 m c (t.val - 1) (Nat.lt_of_le_of_lt (Nat.sub_le _ _) t.isLt)).2.2.2.2.2.2.2.2.2) (Tile.slot3 (outsAt0 m c (t.val - 1) (Nat.lt_of_le_of_lt (Nat.sub_le _ _) t.isLt)).2.2.2.2.2.2.2.2.2) := by
  rw [outsAt0_B m c t h]
  dsimp only
  exact Tile.later21 ..
theorem atS_later (c : Dev nD) (t : Fin cfg0.N) (h : ¬t.val % 8 = 0) : (outsAt0 m c t.val t.isLt).2.2.2.2.2.2.2.2.2 = View.canon (Tile.slots (tile m c t)) := by
  rw [outsAt0_B m c t h]
  dsimp only
  exact Tile.laterS ..

/-- The scratch a point leaves is its tile's rows before the tile, over whatever it held. -/
theorem atS (c : Dev nD) (t : Fin cfg0.N) : ∃ L, (outsAt0 m c t.val t.isLt).2.2.2.2.2.2.2.2.2 = View.canon (Tile.slots (tile m c t) ++ L) := by
  by_cases h : t.val % 8 = 0
  · exact atS_first m c t h
  · exact ⟨[], by rw [List.append_nil]; exact atS_later m c t h⟩

/-! ## The sums over the tokens -/

theorem sum22 (c : Dev nD) (j : Fin 32) (q : Fin 256) : (outsAt0 m c t0_7.val t0_7.isLt).2.2.1 (ix2 j q) = (data m c).gw j.val q := by
  rw [Pipeline.eq_sum_fin_of_reset_step_apply_last (fun n h => ((outsAt0 m c n h).2.2.1 : S32x256.Idx → EReal)) 8 (fun _ => 0) (fun t i => (tile m c t).v1132 i)
    (fun t h i => (congrFun (at22_first m c t h) i).trans ((Tile.pay144_at _ _ i).trans (congrArg (· + (tile m c t).v1132 i) (Tile.pay3_at i))))
    (fun t h i => (congrFun (at22_later m c t h) i).trans (Tile.pay144_at _ _ i)) (le_of_eq N_0) t0_7 rfl (ix2 j q)]
  simp only [(tile_ok m c _).v1132 j q]
  unfold Data.gw
  by_cases hj : j.val < 31
  · simp only [if_pos hj]
    exact Eq.trans (zero_add _) (sum_tokens (fun n => (data m c).dy n q * (data m c).glu (n + (2 + j.val)) q))
  · simp only [if_neg hj, Finset.sum_const_zero]
    exact zero_add _

theorem sum23 (c : Dev nD) (q : Fin 256) : (outsAt0 m c t0_7.val t0_7.isLt).2.2.2.1 (ix2 0 q) = (data m c).gb q := by
  rw [Pipeline.eq_sum_fin_of_reset_step_apply_last (fun n h => ((outsAt0 m c n h).2.2.2.1 : S1x256.Idx → EReal)) 8 (fun _ => 0) (fun t i => (tile m c t).v481 i)
    (fun t h i => (congrFun (at23_first m c t h) i).trans ((Tile.pay145_at _ _ i).trans (congrArg (· + (tile m c t).v481 i) (Tile.pay4_at i))))
    (fun t h i => (congrFun (at23_later m c t h) i).trans (Tile.pay145_at _ _ i)) (le_of_eq N_0) t0_7 rfl (ix2 0 q)]
  simp only [(tile_ok m c _).v481 q]
  exact Eq.trans (zero_add _) (sum_tokens (fun n => (data m c).dy n q))

theorem sum24 (c : Dev nD) (q : Fin 256) : (outsAt0 m c t0_7.val t0_7.isLt).2.2.2.2.1 (ix2 0 q) = (data m c).gg q := by
  rw [Pipeline.eq_sum_fin_of_reset_step_apply_last (fun n h => ((outsAt0 m c n h).2.2.2.2.1 : S1x256.Idx → EReal)) 8 (fun _ => 0) (fun t i => (tile m c t).v452 i)
    (fun t h i => (congrFun (at24_first m c t h) i).trans ((Tile.pay147_at _ _ i).trans (congrArg (· + (tile m c t).v452 i) (Tile.pay5_at i))))
    (fun t h i => (congrFun (at24_later m c t h) i).trans (Tile.pay147_at _ _ i)) (le_of_eq N_0) t0_7 rfl (ix2 0 q)]
  simp only [(tile_ok m c _).v452 q]
  exact Eq.trans (zero_add _) (sum_tokens (fun n => (data m c).xn n q * (data m c).du n q))

theorem sum25 (c : Dev nD) (q : Fin 256) : (outsAt0 m c t0_7.val t0_7.isLt).2.2.2.2.2.1 (ix2 0 q) = (data m c).ge q := by
  rw [Pipeline.eq_sum_fin_of_reset_step_apply_last (fun n h => ((outsAt0 m c n h).2.2.2.2.2.1 : S1x256.Idx → EReal)) 8 (fun _ => 0) (fun t i => (tile m c t).v449 i)
    (fun t h i => (congrFun (at25_first m c t h) i).trans ((Tile.pay148_at _ _ i).trans (congrArg (· + (tile m c t).v449 i) (Tile.pay6_at i))))
    (fun t h i => (congrFun (at25_later m c t h) i).trans (Tile.pay148_at _ _ i)) (le_of_eq N_0) t0_7 rfl (ix2 0 q)]
  simp only [(tile_ok m c _).v449 q]
  exact Eq.trans (zero_add _) (sum_tokens (fun n => (data m c).du n q))

theorem sum26 (c : Dev nD) (a q : Fin 256) : (outsAt0 m c t0_7.val t0_7.isLt).2.2.2.2.2.2.1 (ix2 a q) = (data m c).gp a q := by
  rw [Pipeline.eq_sum_fin_of_reset_step_apply_last (fun n h => ((outsAt0 m c n h).2.2.2.2.2.2.1 : S256x256.Idx → EReal)) 8 (fun _ => 0) (fun t i => (tile m c t).v443 i)
    (fun t h i => (congrFun (at26_first m c t h) i).trans ((Tile.pay149_at _ _ i).trans (congrArg (· + (tile m c t).v443 i) (Tile.pay7_at i))))
    (fun t h i => (congrFun (at26_later m c t h) i).trans (Tile.pay149_at _ _ i)) (le_of_eq N_0) t0_7 rfl (ix2 a q)]
  simp only [(tile_ok m c _).v443 a q]
  exact Eq.trans (zero_add _) (sum_tokens (fun n => (data m c).su n a * (data m c).dz n q))

theorem sum27 (c : Dev nD) (q : Fin 256) : (outsAt0 m c t0_7.val t0_7.isLt).2.2.2.2.2.2.2.1 (ix2 0 q) = (data m c).gq q := by
  rw [Pipeline.eq_sum_fin_of_reset_step_apply_last (fun n h => ((outsAt0 m c n h).2.2.2.2.2.2.2.1 : S1x256.Idx → EReal)) 8 (fun _ => 0) (fun t i => (tile m c t).v438 i)
    (fun t h i => (congrFun (at27_first m c t h) i).trans ((Tile.pay150_at _ _ i).trans (congrArg (· + (tile m c t).v438 i) (Tile.pay8_at i))))
    (fun t h i => (congrFun (at27_later m c t h) i).trans (Tile.pay150_at _ _ i)) (le_of_eq N_0) t0_7 rfl (ix2 0 q)]
  simp only [(tile_ok m c _).v438 q]
  exact Eq.trans (zero_add _) (sum_tokens (fun n => (data m c).dz n q))

theorem sum28 (c : Dev nD) (j : Fin 8) (q : Fin 256) : (outsAt0 m c t0_7.val t0_7.isLt).2.2.2.2.2.2.2.2.1 (ix2 j q) = (data m c).gs j.val q := by
  rw [Pipeline.eq_sum_fin_of_reset_step_apply_last (fun n h => ((outsAt0 m c n h).2.2.2.2.2.2.2.2.1 : S8x256.Idx → EReal)) 8 (fun _ => 0) (fun t i => (tile m c t).v428 i)
    (fun t h i => (congrFun (at28_first m c t h) i).trans ((Tile.pay1_at _ _ i).trans (congrArg (· + (tile m c t).v428 i) (Tile.pay9_at i))))
    (fun t h i => (congrFun (at28_later m c t h) i).trans (Tile.pay1_at _ _ i)) (le_of_eq N_0) t0_7 rfl (ix2 j q)]
  simp only [(tile_ok m c _).v428 j q]
  unfold Data.gs
  by_cases hj : j.val < 3
  · simp only [if_pos hj]
    exact Eq.trans (zero_add _) (sum_tokens (fun n => (data m c).dcy n q * (data m c).cu (n + (30 + j.val)) q))
  · simp only [if_neg hj, Finset.sum_const_zero]
    exact zero_add _

/-! ## The column results' rows -/

theorem row20 (c : Dev nD) (hd : (data m c).Fin') (t : Fin cfg0.N) (r : Fin 512) (q : Fin 768) :
    (outsAt0 m c t.val t.isLt).1 (ix2 r q) = (data m c).out0 (512 * (7 - t.val) + r.val) q := by
  have ht : t.val < 8 := lt_of_lt_of_eq t.isLt N_0
  have hr := r.isLt
  have ok := tile_ok m c t
  unfold Data.out0
  by_cases h : t.val % 8 = 0
  · have h7 : ¬(480 ≤ r.val ∧ 7 - t.val < 7) := by omega
    rw [at20_first m c t h, Tile.block20_at, (Tile.tail_zero r (ch q)).1, (Tile.tail_zero r (ch q)).2.1, ok.v1134, ok.v1135,
      settle_dval hd (7 - t.val) r.val (ch q) (by omega) hr, settle_dgate hd (7 - t.val) r.val (ch q) (by omega) hr, if_neg h7, if_neg h7, ok.v436]
  · obtain ⟨L, hL⟩ := atS m c ⟨t.val - 1, by have := t.isLt; omega⟩
    have ok' : Tile.Ok (tile m c ⟨t.val - 1, by have := t.isLt; omega⟩) (data m c) (7 - t.val + 1) := by
      have k := tile_ok m c ⟨t.val - 1, by have := t.isLt; omega⟩
      have e : 7 - (⟨t.val - 1, by have := t.isLt; omega⟩ : Fin cfg0.N).val = 7 - t.val + 1 := by show 7 - (t.val - 1) = _; omega
      rwa [e] at k
    have h7 : 7 - t.val < 7 := by omega
    have hc : ∀ (x : 480 ≤ r.val → EReal) (y : EReal), (∀ h, x h = y) → (if h : 480 ≤ r.val then x h else 0) = if 480 ≤ r.val ∧ 7 - t.val < 7 then y else 0 := fun x y hx => by
      by_cases hr' : 480 ≤ r.val
      · rw [dif_pos hr', if_pos ⟨hr', h7⟩, hx hr']
      · rw [dif_neg hr', if_neg (fun h => hr' h.1)]
    have hL' : (outsAt0 m c (t.val - 1) (Nat.lt_of_le_of_lt (Nat.sub_le _ _) t.isLt)).2.2.2.2.2.2.2.2.2 = _ := hL
    have s1 := (Tile.tail_slots (tile m c ⟨t.val - 1, by have := t.isLt; omega⟩) L r (ch q)).1.trans (hc _ (Data.back (data m c).dy (data m c).w 2 31 (512 * (7 - t.val + 1)) (512 * (7 - t.val + 1) + 512) (512 * (7 - t.val + 1) + (r.val - 480)) (ch q) * Ideal.logistic (late (data m c).gate (512 * (7 - t.val + 1) + (r.val - 480)) (ch q))) (fun h => ok'.v1134 _ _))
    have s2 := (Tile.tail_slots (tile m c ⟨t.val - 1, by have := t.isLt; omega⟩) L r (ch q)).2.1.trans (hc _ ((late (data m c).val (512 * (7 - t.val + 1) + (r.val - 480)) (ch q) * Data.back (data m c).dy (data m c).w 2 31 (512 * (7 - t.val + 1)) (512 * (7 - t.val + 1) + 512) (512 * (7 - t.val + 1) + (r.val - 480)) (ch q)) * dsig (late (data m c).gate (512 * (7 - t.val + 1) + (r.val - 480)) (ch q))) (fun h => ok'.v1135 _ _))
    rw [at20_later m c t h, Tile.block20_at, hL', s1, s2, ok.v1134, ok.v1135,
      settle_dval hd (7 - t.val) r.val (ch q) (by omega) hr, settle_dgate hd (7 - t.val) r.val (ch q) (by omega) hr, ok.v436]

theorem row21 (c : Dev nD) (hd : (data m c).Fin') (t : Fin cfg0.N) (r : Fin 512) (q : Fin 1024) :
    (outsAt0 m c t.val t.isLt).2.1 (ix2 r q) = (data m c).out1 (512 * (7 - t.val) + r.val) q := by
  have ht : t.val < 8 := lt_of_lt_of_eq t.isLt N_0
  have hr := r.isLt
  have ok := tile_ok m c t
  unfold Data.out1
  by_cases h : t.val % 8 = 0
  · have h7 : ¬(480 ≤ r.val ∧ 7 - t.val < 7) := by omega
    rw [at21_first m c t h, Tile.block21_at, (Tile.tail_zero r (ch q)).2.2.1, (Tile.tail_zero r (ch q)).2.2.2, ok.v430, ok.v429,
      settle_dcc hd (7 - t.val) r.val (ch q) (by omega) hr, settle_dcx hd (7 - t.val) r.val (ch q) (by omega) hr, if_neg h7, if_neg h7, ok.v365, ok.v363]
  · obtain ⟨L, hL⟩ := atS m c ⟨t.val - 1, by have := t.isLt; omega⟩
    have ok' : Tile.Ok (tile m c ⟨t.val - 1, by have := t.isLt; omega⟩) (data m c) (7 - t.val + 1) := by
      have k := tile_ok m c ⟨t.val - 1, by have := t.isLt; omega⟩
      have e : 7 - (⟨t.val - 1, by have := t.isLt; omega⟩ : Fin cfg0.N).val = 7 - t.val + 1 := by show 7 - (t.val - 1) = _; omega
      rwa [e] at k
    have h7 : 7 - t.val < 7 := by omega
    have hc : ∀ (x : 480 ≤ r.val → EReal) (y : EReal), (∀ h, x h = y) → (if h : 480 ≤ r.val then x h else 0) = if 480 ≤ r.val ∧ 7 - t.val < 7 then y else 0 := fun x y hx => by
      by_cases hr' : 480 ≤ r.val
      · rw [dif_pos hr', if_pos ⟨hr', h7⟩, hx hr']
      · rw [dif_neg hr', if_neg (fun h => hr' h.1)]
    have hL' : (outsAt0 m c (t.val - 1) (Nat.lt_of_le_of_lt (Nat.sub_le _ _) t.isLt)).2.2.2.2.2.2.2.2.2 = _ := hL
    have s1 := (Tile.tail_slots (tile m c ⟨t.val - 1, by have := t.isLt; omega⟩) L r (ch q)).2.2.1.trans (hc _ (Data.back (data m c).dcy (data m c).s 30 3 (512 * (7 - t.val + 1)) (512 * (7 - t.val + 1) + 512) (512 * (7 - t.val + 1) + (r.val - 480)) (ch q) * late (data m c).cx (512 * (7 - t.val + 1) + (r.val - 480)) (ch q)) (fun h => ok'.v430 _ _))
    have s2 := (Tile.tail_slots (tile m c ⟨t.val - 1, by have := t.isLt; omega⟩) L r (ch q)).2.2.2.trans (hc _ (late (data m c).cc (512 * (7 - t.val + 1) + (r.val - 480)) (ch q) * Data.back (data m c).dcy (data m c).s 30 3 (512 * (7 - t.val + 1)) (512 * (7 - t.val + 1) + 512) (512 * (7 - t.val + 1) + (r.val - 480)) (ch q)) (fun h => ok'.v429 _ _))
    rw [at21_later m c t h, Tile.block21_at, hL', s1, s2, ok.v430, ok.v429,
      settle_dcc hd (7 - t.val) r.val (ch q) (by omega) hr, settle_dcx hd (7 - t.val) r.val (ch q) (by omega) hr, ok.v365, ok.v363]

end Cert.KernelIdeal.Gen
-- ==== Proof.Results.lean ====
/-
The results' arrays after the run.
-/
module

public import proofs.«01_k».proof.Proof.Arrays

@[expose] public section

set_option backward.isDefEq.respectTransparency false
set_option maxRecDepth 16384
set_option maxHeartbeats 4000000

noncomputable section

namespace Cert.KernelIdeal.Gen

open Idealize.ShloMosaic Idealize.ShloMosaic.TcCoe Idealize.SL.Sem
open Cert.KernelIdeal Cert.Rows

variable (m : (ℓ : Loc nD τ sig) → Buf (Elt Ideal) ℓ)

theorem idx20 : ∀ t : Fin cfg0.N, win0_20.index t = ![7 - t.val, 0] := by decide +kernel
theorem idx21 : ∀ t : Fin cfg0.N, win0_21.index t = ![7 - t.val, 0] := by decide +kernel
theorem idx22 : ∀ t : Fin cfg0.N, win0_22.index t = ![0, 0] := by decide +kernel
theorem idx23 : ∀ t : Fin cfg0.N, win0_23.index t = ![0, 0] := by decide +kernel
theorem idx24 : ∀ t : Fin cfg0.N, win0_24.index t = ![0, 0] := by decide +kernel
theorem idx25 : ∀ t : Fin cfg0.N, win0_25.index t = ![0, 0] := by decide +kernel
theorem idx26 : ∀ t : Fin cfg0.N, win0_26.index t = ![0, 0] := by decide +kernel
theorem idx27 : ∀ t : Fin cfg0.N, win0_27.index t = ![0, 0] := by decide +kernel
theorem idx28 : ∀ t : Fin cfg0.N, win0_28.index t = ![0, 0] := by decide +kernel

theorem arr20 (c : Dev nD) (hd : (data m c).Fin') :
    (dats m 0 c).arrAt 20 cfg0.N = fun i : S4096x768.Idx => (data m c).out0 (i 0).val (i 1) := by
  refine (dats m 0 c).arrAt_eq_of_covers 20 _ (by decide +kernel) fun t hf y => ?_
  rw [after0_20]
  obtain ⟨r, q, rfl⟩ : ∃ (r : Fin 512) (q : Fin 768), y = ix2 r q := ⟨y 0, y 1, by funext a; fin_cases a <;> rfl⟩
  have e : ((cfg0.win 20).blk t).view.emb (ix2 r q) 1 = q := Fin.ext (by blk_simp [idx20 t])
  rw [e]
  blk_simp [idx20 t]
  refine (row20 m c hd t r q).trans (congrArg (fun n => (data m c).out0 n q) ?_)
  show 512 * (7 - t.val) + r.val = (7 - t.val) * 512 + r.val
  omega

theorem arr21 (c : Dev nD) (hd : (data m c).Fin') :
    (dats m 0 c).arrAt 21 cfg0.N = fun i : S4096x1024.Idx => (data m c).out1 (i 0).val (i 1) := by
  refine (dats m 0 c).arrAt_eq_of_covers 21 _ (by decide +kernel) fun t hf y => ?_
  rw [after0_21]
  obtain ⟨r, q, rfl⟩ : ∃ (r : Fin 512) (q : Fin 1024), y = ix2 r q := ⟨y 0, y 1, by funext a; fin_cases a <;> rfl⟩
  have e : ((cfg0.win 21).blk t).view.emb (ix2 r q) 1 = q := Fin.ext (by blk_simp [idx21 t])
  rw [e]
  blk_simp [idx21 t]
  refine (row21 m c hd t r q).trans (congrArg (fun n => (data m c).out1 n q) ?_)
  show 512 * (7 - t.val) + r.val = (7 - t.val) * 512 + r.val
  omega

theorem arr22 (c : Dev nD) :
    (dats m 0 c).arrAt 22 cfg0.N = fun i : S32x256.Idx => (data m c).gw (i 0).val (i 1) := by
  refine (dats m 0 c).arrAt_eq_of_after_last 22 t0_7 (by decide +kernel) _ fun j => ?_
  rw [after0_22]
  obtain ⟨a, q, rfl⟩ : ∃ (a : Fin 32) (q : Fin 256), j = ix2 a q := ⟨j 0, j 1, by funext a; fin_cases a <;> rfl⟩
  have e : (cfg0.win 22).arr.view.emb (ix2 a q) = ix2 a q := by funext b; fin_cases b <;> exact Fin.ext (by blk_simp)
  rw [e]
  blk_simp [idx22 t0_7]
  refine Eq.trans (congrArg _ ?_) (sum22 m c a q)
  funext b; fin_cases b <;> rfl

theorem arr23 (c : Dev nD) :
    (dats m 0 c).arrAt 23 cfg0.N = fun i : S1x256.Idx => (data m c).gb (i 1) := by
  refine (dats m 0 c).arrAt_eq_of_after_last 23 t0_7 (by decide +kernel) _ fun j => ?_
  rw [after0_23]
  obtain ⟨a, q, rfl⟩ : ∃ (a : Fin 1) (q : Fin 256), j = ix2 a q := ⟨j 0, j 1, by funext a; fin_cases a <;> rfl⟩
  obtain rfl : a = 0 := Subsingleton.elim _ _
  have e : (cfg0.win 23).arr.view.emb (ix2 0 q) = ix2 0 q := by funext b; fin_cases b <;> exact Fin.ext (by blk_simp)
  rw [e]
  blk_simp [idx23 t0_7]
  refine Eq.trans (congrArg _ ?_) (sum23 m c q)
  funext b; fin_cases b <;> rfl

theorem arr24 (c : Dev nD) :
    (dats m 0 c).arrAt 24 cfg0.N = fun i : S1x256.Idx => (data m c).gg (i 1) := by
  refine (dats m 0 c).arrAt_eq_of_after_last 24 t0_7 (by decide +kernel) _ fun j => ?_
  rw [after0_24]
  obtain ⟨a, q, rfl⟩ : ∃ (a : Fin 1) (q : Fin 256), j = ix2 a q := ⟨j 0, j 1, by funext a; fin_cases a <;> rfl⟩
  obtain rfl : a = 0 := Subsingleton.elim _ _
  have e : (cfg0.win 24).arr.view.emb (ix2 0 q) = ix2 0 q := by funext b; fin_cases b <;> exact Fin.ext (by blk_simp)
  rw [e]
  blk_simp [idx24 t0_7]
  refine Eq.trans (congrArg _ ?_) (sum24 m c q)
  funext b; fin_cases b <;> rfl

theorem arr25 (c : Dev nD) :
    (dats m 0 c).arrAt 25 cfg0.N = fun i : S1x256.Idx => (data m c).ge (i 1) := by
  refine (dats m 0 c).arrAt_eq_of_after_last 25 t0_7 (by decide +kernel) _ fun j => ?_
  rw [after0_25]
  obtain ⟨a, q, rfl⟩ : ∃ (a : Fin 1) (q : Fin 256), j = ix2 a q := ⟨j 0, j 1, by funext a; fin_cases a <;> rfl⟩
  obtain rfl : a = 0 := Subsingleton.elim _ _
  have e : (cfg0.win 25).arr.view.emb (ix2 0 q) = ix2 0 q := by funext b; fin_cases b <;> exact Fin.ext (by blk_simp)
  rw [e]
  blk_simp [idx25 t0_7]
  refine Eq.trans (congrArg _ ?_) (sum25 m c q)
  funext b; fin_cases b <;> rfl

theorem arr26 (c : Dev nD) :
    (dats m 0 c).arrAt 26 cfg0.N = fun i : S256x256.Idx => (data m c).gp (i 0) (i 1) := by
  refine (dats m 0 c).arrAt_eq_of_after_last 26 t0_7 (by decide +kernel) _ fun j => ?_
  rw [after0_26]
  obtain ⟨a, q, rfl⟩ : ∃ (a : Fin 256) (q : Fin 256), j = ix2 a q := ⟨j 0, j 1, by funext a; fin_cases a <;> rfl⟩
  have e : (cfg0.win 26).arr.view.emb (ix2 a q) = ix2 a q := by funext b; fin_cases b <;> exact Fin.ext (by blk_simp)
  rw [e]
  blk_simp [idx26 t0_7]
  refine Eq.trans (congrArg _ ?_) (sum26 m c a q)
  funext b; fin_cases b <;> rfl

theorem arr27 (c : Dev nD) :
    (dats m 0 c).arrAt 27 cfg0.N = fun i : S1x256.Idx => (data m c).gq (i 1) := by
  refine (dats m 0 c).arrAt_eq_of_after_last 27 t0_7 (by decide +kernel) _ fun j => ?_
  rw [after0_27]
  obtain ⟨a, q, rfl⟩ : ∃ (a : Fin 1) (q : Fin 256), j = ix2 a q := ⟨j 0, j 1, by funext a; fin_cases a <;> rfl⟩
  obtain rfl : a = 0 := Subsingleton.elim _ _
  have e : (cfg0.win 27).arr.view.emb (ix2 0 q) = ix2 0 q := by funext b; fin_cases b <;> exact Fin.ext (by blk_simp)
  rw [e]
  blk_simp [idx27 t0_7]
  refine Eq.trans (congrArg _ ?_) (sum27 m c q)
  funext b; fin_cases b <;> rfl

theorem arr28 (c : Dev nD) :
    (dats m 0 c).arrAt 28 cfg0.N = fun i : S8x256.Idx => (data m c).gs (i 0).val (i 1) := by
  refine (dats m 0 c).arrAt_eq_of_after_last 28 t0_7 (by decide +kernel) _ fun j => ?_
  rw [after0_28]
  obtain ⟨a, q, rfl⟩ : ∃ (a : Fin 8) (q : Fin 256), j = ix2 a q := ⟨j 0, j 1, by funext a; fin_cases a <;> rfl⟩
  have e : (cfg0.win 28).arr.view.emb (ix2 a q) = ix2 a q := by funext b; fin_cases b <;> exact Fin.ext (by blk_simp)
  rw [e]
  blk_simp [idx28 t0_7]
  refine Eq.trans (congrArg _ ?_) (sum28 m c a q)
  funext b; fin_cases b <;> rfl

end Cert.KernelIdeal.Gen
-- ==== Proof.KernelRun.lean ====
/-
The kernel's run, its results as the specification's functions of its arguments.
-/
module

public import proofs.«01_k».proof.Proof.Results
public import proofs.«01_k».proof.Proof.Frame.Value
public import Idealize.ShloMosaic.Lib.Claim

@[expose] public section

set_option maxRecDepth 16384

noncomputable section

namespace Cert.KernelIdeal.Gen

open Idealize.ShloMosaic Idealize.ShloMosaic.TcCoe Idealize.SL.Sem Cert.KernelIdeal Cert.Rows

variable (m : (ℓ : Loc nD τ sig) → Buf (Elt Ideal) ℓ) (ρ : Dev nD → PrngReg)

/-- Every execution of the kernel on finite arguments ends with the specification's nine results, its arguments unchanged. -/
theorem run_data (hd : ∀ c, (data m c).Fin') : θ_run defs (onTc (τ := τ) (main (F := Ideal))) ⟨m, fun _ => 0, ρ⟩ fun r => ∀ c : Dev nD,
      r.2.mem (c.tc.loc main_v3_0) = (fun i : S4096x768.Idx => (data m c).out0 (i 0).val (i 1))
      ∧ r.2.mem (c.tc.loc main_v3_1) = (fun i : S4096x1024.Idx => (data m c).out1 (i 0).val (i 1))
      ∧ r.2.mem (c.tc.loc main_v3_2) = (fun i : S32x256.Idx => (data m c).gw (i 0).val (i 1))
      ∧ r.2.mem (c.tc.loc main_v3_3) = (fun i : S1x256.Idx => (data m c).gb (i 1))
      ∧ r.2.mem (c.tc.loc main_v3_4) = (fun i : S1x256.Idx => (data m c).gg (i 1))
      ∧ r.2.mem (c.tc.loc main_v3_5) = (fun i : S1x256.Idx => (data m c).ge (i 1))
      ∧ r.2.mem (c.tc.loc main_v3_6) = (fun i : S256x256.Idx => (data m c).gp (i 0) (i 1))
      ∧ r.2.mem (c.tc.loc main_v3_7) = (fun i : S1x256.Idx => (data m c).gq (i 1))
      ∧ r.2.mem (c.tc.loc main_v3_8) = (fun i : S8x256.Idx => (data m c).gs (i 0).val (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) := by
  refine θ_run_mono (Cert.KernelIdeal.Value.run_blocks (F := Ideal) m ρ) fun r hr c => ?_
  obtain ⟨h0, h1, h2, h3, h4, h5, h6, h7, h8, ha⟩ := hr c
  exact ⟨h0.trans (arr20 m c (hd c)), h1.trans (arr21 m c (hd c)), h2.trans (arr22 m c), h3.trans (arr23 m c), h4.trans (arr24 m c), h5.trans (arr25 m c), h6.trans (arr26 m c), h7.trans (arr27 m c), h8.trans (arr28 m c), ha⟩

end Cert.KernelIdeal.Gen

end
-- ==== Proof.RefFwd.lean ====
/-
The reference forward: each value, read at a token and a channel, is the specification's function.
-/
module

public import proofs.«01_k».proof.Proof.Args
public import proofs.«01_k».proof.Proof.Gen.ReferenceIdeal.Read

@[expose] public section

set_option maxRecDepth 16384
set_option backward.isDefEq.respectTransparency false

noncomputable section

namespace Cert.Rows.Is

open Idealize.ShloMosaic Idealize.ShloMosaic.StableHlo Cert.ReferenceIdeal Cert.ReferenceIdeal.Gen Cert.ReferenceIdeal.Read Cert.Rows

variable {d : Data} {x0 : FVec Ideal S4096x3456 .f32} {x1 : FVec Ideal S31x256 .f32} {x2 x3 x4 : FVec Ideal S1x256 .f32}
  {x5 : FVec Ideal S256x256 .f32} {x6 : FVec Ideal S1x256 .f32} {x7 : FVec Ideal S3x256 .f32} {x8 x9 : FVec Ideal S4096x256 .f32}

/-! ## Constants and products at an index -/

theorem scal (s : Shape) (w : BitVec 32) (h : Shape.BroadcastsInDim S_ s ![]) (i : s.Idx) :
    broadcastInDim s ![] h (constant (F := Ideal) S_ .f32 w) i = Ideal.ofBits .f32 w := rfl
theorem scal0 (s : Shape) (h : Shape.BroadcastsInDim S_ s ![]) (i : s.Idx) :
    broadcastInDim s ![] h (constant (F := Ideal) S_ .f32 0x00000000#32) i = (0 : EReal) := Ideal.ofBits_zero_f32
theorem scal1 (s : Shape) (h : Shape.BroadcastsInDim S_ s ![]) (i : s.Idx) :
    broadcastInDim s ![] h (constant (F := Ideal) S_ .f32 0x3F800000#32) i = (1 : EReal) := Ideal.ofBits_one_f32
theorem zero_cst (i : S_.Idx) : constant (F := Ideal) S_ .f32 0x00000000#32 i = (0 : EReal) := Ideal.ofBits_zero_f32

/-- The logistic function and its derivative, as the reference spells them. -/
theorem host_sig (x : FVec Ideal S4096x256 .f32) (i : S4096x256.Idx) :
    Host.divf (broadcastInDim S4096x256 ![] bcast_S_S4096x256 (constant (F := Ideal) S_ .f32 0x3F800000#32))
      (addf (broadcastInDim S4096x256 ![] bcast_S_S4096x256 (constant (F := Ideal) S_ .f32 0x3F800000#32)) (Host.exp (Host.negf x))) i = Ideal.logistic (x i) := by
  show Ideal.div (Ideal.ofBits .f32 0x3F800000#32) (Ideal.ofBits .f32 0x3F800000#32 + Ideal.exp (-(x i))) = _
  rw [Ideal.ofBits_one_f32]
  rfl
theorem host_dsig (x y : FVec Ideal S4096x256 .f32) (i : S4096x256.Idx) (hy : y i = Ideal.logistic (x i)) :
    mulf y (subf (broadcastInDim S4096x256 ![] bcast_S_S4096x256 (constant (F := Ideal) S_ .f32 0x3F800000#32)) y) i = dsig (x i) := by
  show y i * (Ideal.ofBits .f32 0x3F800000#32 - y i) = _
  rw [hy, Ideal.ofBits_one_f32]
  rfl

theorem dot_rows (x : FVec Ideal S4096x256 .f32) (y : FVec Ideal S256x256 .f32) (t : Fin 4096) (c : Fin 256) :
    Host.dotGeneral dot_S4096x256_S256x256_S4096x256_1_0_0_1_n_n none x y (ix2 t c) = ∑ k : Fin 256, x (ix2 t k) * y (ix2 k c) := by
  pointwise []
theorem dot_back (x : FVec Ideal S4096x256 .f32) (y : FVec Ideal S256x256 .f32) (t : Fin 4096) (c : Fin 256) :
    Host.dotGeneral dot_S4096x256_S256x256_S4096x256_1_1_0_0_n_n none x y (ix2 t c) = ∑ k : Fin 256, x (ix2 t k) * y (ix2 c k) := by
  pointwise []
theorem dot_weight (x y : FVec Ideal S4096x256 .f32) (a c : Fin 256) :
    Host.dotGeneral dot_S4096x256_S4096x256_S256x256_0_0_1_1_n_n none x y (ix2 a c) = ∑ t : Fin 4096, x (ix2 t a) * y (ix2 t c) := by
  pointwise []

variable (h : Is d x0 x1 x2 x3 x4 x5 x6 x7 x8 x9)
include h

/-! ## The columns -/

theorem r0 (t : Fin 4096) (c : Fin 256) : (val_main_v0 (F := Ideal) x0) (ix2 t c) = d.val t.val c := by
  rw [h.val]
  exact slice_col (n := 4096) (m := 3456) (o := 0) x0 (by decide) _ t c

theorem r1 (t : Fin 4096) (c : Fin 256) : (val_main_v1 (F := Ideal) x0) (ix2 t c) = d.gate t.val c := by
  rw [h.gate]
  exact slice_col (n := 4096) (m := 3456) (o := 256) x0 (by decide) _ t c

theorem r2 (t : Fin 4096) (c : Fin 256) : (val_main_v2 (F := Ideal) x0) (ix2 t c) = d.az t.val c := by
  rw [h.az]
  exact slice_col (n := 4096) (m := 3456) (o := 512) x0 (by decide) _ t c

theorem r3 (t : Fin 4096) (c : Fin 256) : (val_main_v3 (F := Ideal) x0) (ix2 t c) = d.cb t.val c := by
  rw [h.cb]
  exact slice_col (n := 4096) (m := 3456) (o := 1280) x0 (by decide) _ t c

theorem r4 (t : Fin 4096) (c : Fin 256) : (val_main_v4 (F := Ideal) x0) (ix2 t c) = d.cc t.val c := by
  rw [h.cc]
  exact slice_col (n := 4096) (m := 3456) (o := 1536) x0 (by decide) _ t c

theorem r5 (t : Fin 4096) (c : Fin 256) : (val_main_v5 (F := Ideal) x0) (ix2 t c) = d.cx t.val c := by
  rw [h.cx]
  exact slice_col (n := 4096) (m := 3456) (o := 1792) x0 (by decide) _ t c

theorem r6 (t : Fin 4096) (c : Fin 256) : (val_main_v6 (F := Ideal) x0) (ix2 t c) = d.cz t.val c := by
  rw [h.cz]
  exact slice_col (n := 4096) (m := 3456) (o := 2048) x0 (by decide) _ t c

/-! ## The gated column and its convolution -/

theorem r12 (t : Fin 4096) (c : Fin 256) : (val_main_v12 (F := Ideal) x0) (ix2 t c) = Ideal.logistic (d.gate t.val c) := by
  rw [← h.r1]
  exact host_sig _ _

theorem r15 (t : Fin 4096) (c : Fin 256) : (val_main_v15 (F := Ideal) x0) (ix2 t c) = dsig (d.gate t.val c) := by
  rw [← h.r1]
  exact host_dsig _ _ _ (host_sig _ _)

theorem r16 (t : Fin 4096) (c : Fin 256) : (val_main_v16 (F := Ideal) x0) (ix2 t c) = d.val t.val c * Ideal.logistic (d.gate t.val c) := by
  have e : (val_main_v16 (F := Ideal) x0) (ix2 t c) = (val_main_v0 (F := Ideal) x0) (ix2 t c) * (val_main_v12 (F := Ideal) x0) (ix2 t c) := rfl
  rw [e, h.r0, h.r12]

theorem r18 (n : ℕ) (hn : n < 4126) (c : Fin 256) : rd (val_main_v18 (F := Ideal) x0) n c = d.glu (n + 2) c := by
  rw [rd_of_lt _ _ hn]
  refine (cat_rows (a := 30) (b := 4096) (n := 4126) (val_main_v17 (F := Ideal)) (val_main_v16 (F := Ideal) x0) _ ⟨n, hn⟩ c).trans ?_
  unfold Data.glu late
  by_cases h30 : n < 30
  · rw [if_pos h30, if_neg (by omega), zero_mul, rd_of_lt _ _ h30]
    exact scal0 _ _ _
  · rw [if_neg h30, if_pos (by omega), if_pos (by omega), rd_of_lt _ _ (show n - 30 < 4096 by omega), h.r16, show n + 2 - 32 = n - 30 by omega]

theorem tap (k : ℕ) (hk : k < 31) (hs : Shape.Slices S4126x256 ![k, 0] S4096x256) (hw : Shape.Slices S31x256 ![k, 0] S1x256) (t : Fin 4096) (c : Fin 256) : extractStridedSlice S4096x256 ![k, 0] (val_main_v18 (F := Ideal) x0) hs (ix2 t c)
      * broadcastInDim S4096x256 ![0, 1] bcast_S1x256_S4096x256_0_1 (extractStridedSlice S1x256 ![k, 0] x1 hw) (ix2 t c) = d.glu (t.val + (2 + k)) c * d.w k c := by
  have ht := t.isLt
  have e1 : extractStridedSlice S4096x256 ![k, 0] (val_main_v18 (F := Ideal) x0) hs (ix2 t c) = rd (val_main_v18 (F := Ideal) x0) (t.val + k) c := slice_rows _ _ _ _
  have e2 : broadcastInDim S4096x256 ![0, 1] bcast_S1x256_S4096x256_0_1 (extractStridedSlice S1x256 ![k, 0] x1 hw) (ix2 t c) = rd x1 k c :=
    (hrow _ _ t c).trans ((slice_rows (n := 31) (m := 1) (o := k) x1 hw 0 c).trans (by show rd x1 (0 + k) c = _; rw [Nat.zero_add]))
  rw [e1, e2, h.r18 _ (by omega), h.w, Nat.add_assoc, Nat.add_comm k 2]

theorem r23 (t : Fin 4096) (c : Fin 256) : (val_main_v23 (F := Ideal) x0 x1) (ix2 t c) = ∑ k ∈ Finset.range 1, d.glu (t.val + (2 + k)) c * d.w k c := by
  rw [Finset.sum_range_one]
  exact h.tap 0 (by decide) _ _ t c

theorem r28 (t : Fin 4096) (c : Fin 256) : (val_main_v28 (F := Ideal) x0 x1) (ix2 t c) = ∑ k ∈ Finset.range 2, d.glu (t.val + (2 + k)) c * d.w k c := by
  rw [Finset.sum_range_succ]
  exact congrArg₂ (· + ·) (h.r23 t c) (h.tap 1 (by decide) _ _ t c)

theorem r33 (t : Fin 4096) (c : Fin 256) : (val_main_v33 (F := Ideal) x0 x1) (ix2 t c) = ∑ k ∈ Finset.range 3, d.glu (t.val + (2 + k)) c * d.w k c := by
  rw [Finset.sum_range_succ]
  exact congrArg₂ (· + ·) (h.r28 t c) (h.tap 2 (by decide) _ _ t c)

theorem r38 (t : Fin 4096) (c : Fin 256) : (val_main_v38 (F := Ideal) x0 x1) (ix2 t c) = ∑ k ∈ Finset.range 4, d.glu (t.val + (2 + k)) c * d.w k c := by
  rw [Finset.sum_range_succ]
  exact congrArg₂ (· + ·) (h.r33 t c) (h.tap 3 (by decide) _ _ t c)

theorem r43 (t : Fin 4096) (c : Fin 256) : (val_main_v43 (F := Ideal) x0 x1) (ix2 t c) = ∑ k ∈ Finset.range 5, d.glu (t.val + (2 + k)) c * d.w k c := by
  rw [Finset.sum_range_succ]
  exact congrArg₂ (· + ·) (h.r38 t c) (h.tap 4 (by decide) _ _ t c)

theorem r48 (t : Fin 4096) (c : Fin 256) : (val_main_v48 (F := Ideal) x0 x1) (ix2 t c) = ∑ k ∈ Finset.range 6, d.glu (t.val + (2 + k)) c * d.w k c := by
  rw [Finset.sum_range_succ]
  exact congrArg₂ (· + ·) (h.r43 t c) (h.tap 5 (by decide) _ _ t c)

theorem r53 (t : Fin 4096) (c : Fin 256) : (val_main_v53 (F := Ideal) x0 x1) (ix2 t c) = ∑ k ∈ Finset.range 7, d.glu (t.val + (2 + k)) c * d.w k c := by
  rw [Finset.sum_range_succ]
  exact congrArg₂ (· + ·) (h.r48 t c) (h.tap 6 (by decide) _ _ t c)

theorem r58 (t : Fin 4096) (c : Fin 256) : (val_main_v58 (F := Ideal) x0 x1) (ix2 t c) = ∑ k ∈ Finset.range 8, d.glu (t.val + (2 + k)) c * d.w k c := by
  rw [Finset.sum_range_succ]
  exact congrArg₂ (· + ·) (h.r53 t c) (h.tap 7 (by decide) _ _ t c)

theorem r63 (t : Fin 4096) (c : Fin 256) : (val_main_v63 (F := Ideal) x0 x1) (ix2 t c) = ∑ k ∈ Finset.range 9, d.glu (t.val + (2 + k)) c * d.w k c := by
  rw [Finset.sum_range_succ]
  exact congrArg₂ (· + ·) (h.r58 t c) (h.tap 8 (by decide) _ _ t c)

theorem r68 (t : Fin 4096) (c : Fin 256) : (val_main_v68 (F := Ideal) x0 x1) (ix2 t c) = ∑ k ∈ Finset.range 10, d.glu (t.val + (2 + k)) c * d.w k c := by
  rw [Finset.sum_range_succ]
  exact congrArg₂ (· + ·) (h.r63 t c) (h.tap 9 (by decide) _ _ t c)

theorem r73 (t : Fin 4096) (c : Fin 256) : (val_main_v73 (F := Ideal) x0 x1) (ix2 t c) = ∑ k ∈ Finset.range 11, d.glu (t.val + (2 + k)) c * d.w k c := by
  rw [Finset.sum_range_succ]
  exact congrArg₂ (· + ·) (h.r68 t c) (h.tap 10 (by decide) _ _ t c)

theorem r78 (t : Fin 4096) (c : Fin 256) : (val_main_v78 (F := Ideal) x0 x1) (ix2 t c) = ∑ k ∈ Finset.range 12, d.glu (t.val + (2 + k)) c * d.w k c := by
  rw [Finset.sum_range_succ]
  exact congrArg₂ (· + ·) (h.r73 t c) (h.tap 11 (by decide) _ _ t c)

theorem r83 (t : Fin 4096) (c : Fin 256) : (val_main_v83 (F := Ideal) x0 x1) (ix2 t c) = ∑ k ∈ Finset.range 13, d.glu (t.val + (2 + k)) c * d.w k c := by
  rw [Finset.sum_range_succ]
  exact congrArg₂ (· + ·) (h.r78 t c) (h.tap 12 (by decide) _ _ t c)

theorem r88 (t : Fin 4096) (c : Fin 256) : (val_main_v88 (F := Ideal) x0 x1) (ix2 t c) = ∑ k ∈ Finset.range 14, d.glu (t.val + (2 + k)) c * d.w k c := by
  rw [Finset.sum_range_succ]
  exact congrArg₂ (· + ·) (h.r83 t c) (h.tap 13 (by decide) _ _ t c)

theorem r93 (t : Fin 4096) (c : Fin 256) : (val_main_v93 (F := Ideal) x0 x1) (ix2 t c) = ∑ k ∈ Finset.range 15, d.glu (t.val + (2 + k)) c * d.w k c := by
  rw [Finset.sum_range_succ]
  exact congrArg₂ (· + ·) (h.r88 t c) (h.tap 14 (by decide) _ _ t c)

theorem r98 (t : Fin 4096) (c : Fin 256) : (val_main_v98 (F := Ideal) x0 x1) (ix2 t c) = ∑ k ∈ Finset.range 16, d.glu (t.val + (2 + k)) c * d.w k c := by
  rw [Finset.sum_range_succ]
  exact congrArg₂ (· + ·) (h.r93 t c) (h.tap 15 (by decide) _ _ t c)

theorem r103 (t : Fin 4096) (c : Fin 256) : (val_main_v103 (F := Ideal) x0 x1) (ix2 t c) = ∑ k ∈ Finset.range 17, d.glu (t.val + (2 + k)) c * d.w k c := by
  rw [Finset.sum_range_succ]
  exact congrArg₂ (· + ·) (h.r98 t c) (h.tap 16 (by decide) _ _ t c)

theorem r108 (t : Fin 4096) (c : Fin 256) : (val_main_v108 (F := Ideal) x0 x1) (ix2 t c) = ∑ k ∈ Finset.range 18, d.glu (t.val + (2 + k)) c * d.w k c := by
  rw [Finset.sum_range_succ]
  exact congrArg₂ (· + ·) (h.r103 t c) (h.tap 17 (by decide) _ _ t c)

theorem r113 (t : Fin 4096) (c : Fin 256) : (val_main_v113 (F := Ideal) x0 x1) (ix2 t c) = ∑ k ∈ Finset.range 19, d.glu (t.val + (2 + k)) c * d.w k c := by
  rw [Finset.sum_range_succ]
  exact congrArg₂ (· + ·) (h.r108 t c) (h.tap 18 (by decide) _ _ t c)

theorem r118 (t : Fin 4096) (c : Fin 256) : (val_main_v118 (F := Ideal) x0 x1) (ix2 t c) = ∑ k ∈ Finset.range 20, d.glu (t.val + (2 + k)) c * d.w k c := by
  rw [Finset.sum_range_succ]
  exact congrArg₂ (· + ·) (h.r113 t c) (h.tap 19 (by decide) _ _ t c)

theorem r123 (t : Fin 4096) (c : Fin 256) : (val_main_v123 (F := Ideal) x0 x1) (ix2 t c) = ∑ k ∈ Finset.range 21, d.glu (t.val + (2 + k)) c * d.w k c := by
  rw [Finset.sum_range_succ]
  exact congrArg₂ (· + ·) (h.r118 t c) (h.tap 20 (by decide) _ _ t c)

theorem r128 (t : Fin 4096) (c : Fin 256) : (val_main_v128 (F := Ideal) x0 x1) (ix2 t c) = ∑ k ∈ Finset.range 22, d.glu (t.val + (2 + k)) c * d.w k c := by
  rw [Finset.sum_range_succ]
  exact congrArg₂ (· + ·) (h.r123 t c) (h.tap 21 (by decide) _ _ t c)

theorem r133 (t : Fin 4096) (c : Fin 256) : (val_main_v133 (F := Ideal) x0 x1) (ix2 t c) = ∑ k ∈ Finset.range 23, d.glu (t.val + (2 + k)) c * d.w k c := by
  rw [Finset.sum_range_succ]
  exact congrArg₂ (· + ·) (h.r128 t c) (h.tap 22 (by decide) _ _ t c)

theorem r138 (t : Fin 4096) (c : Fin 256) : (val_main_v138 (F := Ideal) x0 x1) (ix2 t c) = ∑ k ∈ Finset.range 24, d.glu (t.val + (2 + k)) c * d.w k c := by
  rw [Finset.sum_range_succ]
  exact congrArg₂ (· + ·) (h.r133 t c) (h.tap 23 (by decide) _ _ t c)

theorem r143 (t : Fin 4096) (c : Fin 256) : (val_main_v143 (F := Ideal) x0 x1) (ix2 t c) = ∑ k ∈ Finset.range 25, d.glu (t.val + (2 + k)) c * d.w k c := by
  rw [Finset.sum_range_succ]
  exact congrArg₂ (· + ·) (h.r138 t c) (h.tap 24 (by decide) _ _ t c)

theorem r148 (t : Fin 4096) (c : Fin 256) : (val_main_v148 (F := Ideal) x0 x1) (ix2 t c) = ∑ k ∈ Finset.range 26, d.glu (t.val + (2 + k)) c * d.w k c := by
  rw [Finset.sum_range_succ]
  exact congrArg₂ (· + ·) (h.r143 t c) (h.tap 25 (by decide) _ _ t c)

theorem r153 (t : Fin 4096) (c : Fin 256) : (val_main_v153 (F := Ideal) x0 x1) (ix2 t c) = ∑ k ∈ Finset.range 27, d.glu (t.val + (2 + k)) c * d.w k c := by
  rw [Finset.sum_range_succ]
  exact congrArg₂ (· + ·) (h.r148 t c) (h.tap 26 (by decide) _ _ t c)

theorem r158 (t : Fin 4096) (c : Fin 256) : (val_main_v158 (F := Ideal) x0 x1) (ix2 t c) = ∑ k ∈ Finset.range 28, d.glu (t.val + (2 + k)) c * d.w k c := by
  rw [Finset.sum_range_succ]
  exact congrArg₂ (· + ·) (h.r153 t c) (h.tap 27 (by decide) _ _ t c)

theorem r163 (t : Fin 4096) (c : Fin 256) : (val_main_v163 (F := Ideal) x0 x1) (ix2 t c) = ∑ k ∈ Finset.range 29, d.glu (t.val + (2 + k)) c * d.w k c := by
  rw [Finset.sum_range_succ]
  exact congrArg₂ (· + ·) (h.r158 t c) (h.tap 28 (by decide) _ _ t c)

theorem r168 (t : Fin 4096) (c : Fin 256) : (val_main_v168 (F := Ideal) x0 x1) (ix2 t c) = ∑ k ∈ Finset.range 30, d.glu (t.val + (2 + k)) c * d.w k c := by
  rw [Finset.sum_range_succ]
  exact congrArg₂ (· + ·) (h.r163 t c) (h.tap 29 (by decide) _ _ t c)

theorem r173 (t : Fin 4096) (c : Fin 256) : (val_main_v173 (F := Ideal) x0 x1) (ix2 t c) = ∑ k ∈ Finset.range 31, d.glu (t.val + (2 + k)) c * d.w k c := by
  rw [Finset.sum_range_succ]
  exact congrArg₂ (· + ·) (h.r168 t c) (h.tap 30 (by decide) _ _ t c)

theorem r175 (t : Fin 4096) (c : Fin 256) : (val_main_v175 (F := Ideal) x0 x1 x2) (ix2 t c) = d.y t.val c := by
  have e : (val_main_v175 (F := Ideal) x0 x1 x2) (ix2 t c) = (val_main_v173 (F := Ideal) x0 x1) (ix2 t c) + (val_main_v174 (F := Ideal) x2) (ix2 t c) := rfl
  rw [e, h.r173, show (val_main_v174 (F := Ideal) x2) (ix2 t c) = x2 (ix2 0 c) from hrow _ _ t c, ← h.b]
  rfl

/-! ## The layer norm -/

theorem r176 (t : Fin 4096) : (val_main_v176 (F := Ideal) x0 x1 x2) (ix1 t) = ∑ k, d.y t.val k := by
  exact (hsum_chan (val_main_v175 (F := Ideal) x0 x1 x2) (val_main_cst_4 (F := Ideal)) zero_cst _ _ t).trans (Finset.sum_congr rfl fun k _ => h.r175 t k)

theorem r179 (t : Fin 4096) (z : Fin 1) : (val_main_v179 (F := Ideal) x0 x1 x2) (ix2 t z) = Ideal.div (∑ k, d.y t.val k) k256 := by
  have e : (val_main_v179 (F := Ideal) x0 x1 x2) (ix2 t z) = Ideal.div ((val_main_v177 (F := Ideal) x0 x1 x2) (ix2 t z)) k256 := rfl
  rw [e, show (val_main_v177 (F := Ideal) x0 x1 x2) (ix2 t z) = (val_main_v176 (F := Ideal) x0 x1 x2) (ix1 t) from hcol1 _ _ t z, h.r176]

theorem r181 (t : Fin 4096) (c : Fin 256) : (val_main_v181 (F := Ideal) x0 x1 x2) (ix2 t c) = d.xc t.val c := by
  have e : (val_main_v181 (F := Ideal) x0 x1 x2) (ix2 t c) = (val_main_v175 (F := Ideal) x0 x1 x2) (ix2 t c) - (val_main_v180 (F := Ideal) x0 x1 x2) (ix2 t c) := rfl
  rw [e, show (val_main_v180 (F := Ideal) x0 x1 x2) (ix2 t c) = (val_main_v179 (F := Ideal) x0 x1 x2) (ix2 t 0) from hcol _ _ t c, h.r175, h.r179]
  rfl

theorem r183 (t : Fin 4096) : (val_main_v183 (F := Ideal) x0 x1 x2) (ix1 t) = ∑ k, d.xc t.val k * d.xc t.val k := by
  exact (hsum_chan (val_main_v182 (F := Ideal) x0 x1 x2) (val_main_cst_6 (F := Ideal)) zero_cst _ _ t).trans (Finset.sum_congr rfl fun k _ => congrArg₂ (· * ·) (h.r181 t k) (h.r181 t k))

theorem r188 (t : Fin 4096) (z : Fin 1) : (val_main_v188 (F := Ideal) x0 x1 x2) (ix2 t z) = d.var t.val := by
  have e : (val_main_v188 (F := Ideal) x0 x1 x2) (ix2 t z) = Ideal.div ((val_main_v184 (F := Ideal) x0 x1 x2) (ix2 t z)) k256 + eps := rfl
  rw [e, show (val_main_v184 (F := Ideal) x0 x1 x2) (ix2 t z) = (val_main_v183 (F := Ideal) x0 x1 x2) (ix1 t) from hcol1 _ _ t z, h.r183]
  rfl

theorem r189 (t : Fin 4096) (z : Fin 1) : (val_main_v189 (F := Ideal) x0 x1 x2) (ix2 t z) = d.rs t.val := by
  have e : (val_main_v189 (F := Ideal) x0 x1 x2) (ix2 t z) = Ideal.rsqrt ((val_main_v188 (F := Ideal) x0 x1 x2) (ix2 t z)) := rfl
  rw [e, h.r188]
  rfl

theorem r192 (t : Fin 4096) (z : Fin 1) : (val_main_v192 (F := Ideal) x0 x1 x2) (ix2 t z) = d.drs t.val := by
  have e : (val_main_v192 (F := Ideal) x0 x1 x2) (ix2 t z) = mhalf * Ideal.div ((val_main_v189 (F := Ideal) x0 x1 x2) (ix2 t z)) ((val_main_v188 (F := Ideal) x0 x1 x2) (ix2 t z)) := rfl
  rw [e, h.r188, h.r189]
  rfl

theorem r194 (t : Fin 4096) (c : Fin 256) : (val_main_v194 (F := Ideal) x0 x1 x2) (ix2 t c) = d.xn t.val c := by
  have e : (val_main_v194 (F := Ideal) x0 x1 x2) (ix2 t c) = (val_main_v181 (F := Ideal) x0 x1 x2) (ix2 t c) * (val_main_v193 (F := Ideal) x0 x1 x2) (ix2 t c) := rfl
  rw [e, show (val_main_v193 (F := Ideal) x0 x1 x2) (ix2 t c) = (val_main_v189 (F := Ideal) x0 x1 x2) (ix2 t 0) from hcol _ _ t c, h.r181, h.r189]
  rfl

theorem r198 (t : Fin 4096) (c : Fin 256) : (val_main_v198 (F := Ideal) x0 x1 x2 x3 x4) (ix2 t c) = d.u t.val c := by
  have e : (val_main_v198 (F := Ideal) x0 x1 x2 x3 x4) (ix2 t c) = (val_main_v194 (F := Ideal) x0 x1 x2) (ix2 t c) * (val_main_v195 (F := Ideal) x3) (ix2 t c) + (val_main_v197 (F := Ideal) x4) (ix2 t c) := rfl
  rw [e, show (val_main_v195 (F := Ideal) x3) (ix2 t c) = x3 (ix2 0 c) from hrow _ _ t c, show (val_main_v197 (F := Ideal) x4) (ix2 t c) = x4 (ix2 0 c) from hrow _ _ t c, h.r194, ← h.g, ← h.e]
  rfl

theorem r199_2 (t : Fin 4096) (c : Fin 256) : (val_main_v199_2 (F := Ideal) x0 x1 x2 x3 x4) (ix2 t c) = Ideal.logistic (d.u t.val c) := by
  rw [← h.r198]
  exact host_sig _ _

theorem r199_1 (t : Fin 4096) (c : Fin 256) : (val_main_v199_1 (F := Ideal) x0 x1 x2 x3 x4) (ix2 t c) = dsig (d.u t.val c) := by
  rw [← h.r198]
  exact host_dsig _ _ _ (host_sig _ _)

theorem r199_0 (t : Fin 4096) (c : Fin 256) : (val_main_v199_0 (F := Ideal) x0 x1 x2 x3 x4) (ix2 t c) = d.su t.val c := by
  have e : (val_main_v199_0 (F := Ideal) x0 x1 x2 x3 x4) (ix2 t c) = (val_main_v198 (F := Ideal) x0 x1 x2 x3 x4) (ix2 t c) * (val_main_v199_2 (F := Ideal) x0 x1 x2 x3 x4) (ix2 t c) := rfl
  rw [e, h.r198, h.r199_2]
  rfl

/-! ## The pointwise product -/

theorem r202 (t : Fin 4096) (c : Fin 256) : (val_main_v202 (F := Ideal) x0 x1 x2 x3 x4 x5 x6) (ix2 t c) = d.z t.val c := by
  have e : (val_main_v202 (F := Ideal) x0 x1 x2 x3 x4 x5 x6) (ix2 t c) = (val_main_v200 (F := Ideal) x0 x1 x2 x3 x4 x5) (ix2 t c) + (val_main_v201 (F := Ideal) x6) (ix2 t c) := rfl
  rw [e, show (val_main_v201 (F := Ideal) x6) (ix2 t c) = x6 (ix2 0 c) from hrow _ _ t c, show (val_main_v200 (F := Ideal) x0 x1 x2 x3 x4 x5) (ix2 t c) = _ from dot_rows _ _ t c, ← h.q]
  simp only [h.r199_0, ← h.p]
  rfl

theorem r203_2 (t : Fin 4096) (c : Fin 256) : (val_main_v203_2 (F := Ideal) x0) (ix2 t c) = Ideal.logistic (d.az t.val c) := by
  rw [← h.r2]
  exact host_sig _ _

theorem r203_1 (t : Fin 4096) (c : Fin 256) : (val_main_v203_1 (F := Ideal) x0) (ix2 t c) = dsig (d.az t.val c) := by
  rw [← h.r2]
  exact host_dsig _ _ _ (host_sig _ _)

theorem r203_0 (t : Fin 4096) (c : Fin 256) : (val_main_v203_0 (F := Ideal) x0) (ix2 t c) = d.az t.val c * Ideal.logistic (d.az t.val c) := by
  have e : (val_main_v203_0 (F := Ideal) x0) (ix2 t c) = (val_main_v2 (F := Ideal) x0) (ix2 t c) * (val_main_v203_2 (F := Ideal) x0) (ix2 t c) := rfl
  rw [e, h.r2, h.r203_2]

theorem r224_2 (t : Fin 4096) (c : Fin 256) : (val_main_v224_2 (F := Ideal) x0) (ix2 t c) = Ideal.logistic (d.cz t.val c) := by
  rw [← h.r6]
  exact host_sig _ _

theorem r224_1 (t : Fin 4096) (c : Fin 256) : (val_main_v224_1 (F := Ideal) x0) (ix2 t c) = dsig (d.cz t.val c) := by
  rw [← h.r6]
  exact host_dsig _ _ _ (host_sig _ _)

theorem r224_0 (t : Fin 4096) (c : Fin 256) : (val_main_v224_0 (F := Ideal) x0) (ix2 t c) = d.cz t.val c * Ideal.logistic (d.cz t.val c) := by
  have e : (val_main_v224_0 (F := Ideal) x0) (ix2 t c) = (val_main_v6 (F := Ideal) x0) (ix2 t c) * (val_main_v224_2 (F := Ideal) x0) (ix2 t c) := rfl
  rw [e, h.r6, h.r224_2]

/-! ## The short convolution -/

theorem r205 (t : Fin 4096) (c : Fin 256) : (val_main_v205 (F := Ideal) x0) (ix2 t c) = d.cc t.val c * d.cx t.val c := by
  have e : (val_main_v205 (F := Ideal) x0) (ix2 t c) = (val_main_v4 (F := Ideal) x0) (ix2 t c) * (val_main_v5 (F := Ideal) x0) (ix2 t c) := rfl
  rw [e, h.r4, h.r5]

theorem r207 (n : ℕ) (hn : n < 4098) (c : Fin 256) : rd (val_main_v207 (F := Ideal) x0) n c = d.cu (n + 30) c := by
  rw [rd_of_lt _ _ hn]
  refine (cat_rows (a := 2) (b := 4096) (n := 4098) (val_main_v206 (F := Ideal)) (val_main_v205 (F := Ideal) x0) _ ⟨n, hn⟩ c).trans ?_
  unfold Data.cu late
  by_cases h2 : n < 2
  · rw [if_pos h2, if_neg (by omega), zero_mul, rd_of_lt _ _ h2]
    exact scal0 _ _ _
  · rw [if_neg h2, if_pos (by omega), if_pos (by omega), rd_of_lt _ _ (show n - 2 < 4096 by omega), h.r205, show n + 30 - 32 = n - 2 by omega]

theorem stap (k : ℕ) (hk : k < 3) (hs : Shape.Slices S4098x256 ![k, 0] S4096x256) (hw : Shape.Slices S3x256 ![k, 0] S1x256) (t : Fin 4096) (c : Fin 256) : extractStridedSlice S4096x256 ![k, 0] (val_main_v207 (F := Ideal) x0) hs (ix2 t c)
      * broadcastInDim S4096x256 ![0, 1] bcast_S1x256_S4096x256_0_1 (extractStridedSlice S1x256 ![k, 0] x7 hw) (ix2 t c) = d.cu (t.val + (30 + k)) c * d.s k c := by
  have ht := t.isLt
  have e1 : extractStridedSlice S4096x256 ![k, 0] (val_main_v207 (F := Ideal) x0) hs (ix2 t c) = rd (val_main_v207 (F := Ideal) x0) (t.val + k) c := slice_rows _ _ _ _
  have e2 : broadcastInDim S4096x256 ![0, 1] bcast_S1x256_S4096x256_0_1 (extractStridedSlice S1x256 ![k, 0] x7 hw) (ix2 t c) = rd x7 k c :=
    (hrow _ _ t c).trans ((slice_rows (n := 3) (m := 1) (o := k) x7 hw 0 c).trans (by show rd x7 (0 + k) c = _; rw [Nat.zero_add]))
  rw [e1, e2, h.r207 _ (by omega), h.s, Nat.add_assoc, Nat.add_comm k 30]

theorem r222 (t : Fin 4096) (c : Fin 256) : (val_main_v222 (F := Ideal) x0 x7) (ix2 t c) = d.cy t.val c := by
  unfold Data.cy
  rw [Finset.sum_range_succ, Finset.sum_range_succ, Finset.sum_range_one]
  exact congrArg₂ (· + ·) (congrArg₂ (· + ·) (h.stap 0 (by decide) _ _ t c) (h.stap 1 (by decide) _ _ t c)) (h.stap 2 (by decide) _ _ t c)

theorem r9a (t : Fin 4096) (c : Fin 256) : x9 (ix2 t c) = d.yc t.val c := by
  rw [h.yc, rd_val]

theorem r8a (t : Fin 4096) (c : Fin 256) : x8 (ix2 t c) = d.ya t.val c := by
  rw [h.ya, rd_val]

theorem r226 (t : Fin 4096) (c : Fin 256) : (val_main_v226 (F := Ideal) x0 x7 x9) (ix2 t c) = d.cb t.val c * d.cy t.val c * d.yc t.val c := by
  have e : (val_main_v226 (F := Ideal) x0 x7 x9) (ix2 t c) = (val_main_v3 (F := Ideal) x0) (ix2 t c) * (val_main_v222 (F := Ideal) x0 x7) (ix2 t c) * x9 (ix2 t c) := rfl
  rw [e, h.r3, h.r222, h.r9a]

theorem r227 (t : Fin 4096) (c : Fin 256) : (val_main_v227 (F := Ideal) x0 x9) (ix2 t c) = d.dcg t.val c := by
  have e : (val_main_v227 (F := Ideal) x0 x9) (ix2 t c) = x9 (ix2 t c) * (val_main_v224_0 (F := Ideal) x0) (ix2 t c) := rfl
  rw [e, h.r9a, h.r224_0]
  rfl

theorem r228 (t : Fin 4096) (c : Fin 256) : (val_main_v228 (F := Ideal) x0 x7 x9) (ix2 t c) = d.dcz t.val c := by
  have e : (val_main_v228 (F := Ideal) x0 x7 x9) (ix2 t c) = (val_main_v226 (F := Ideal) x0 x7 x9) (ix2 t c) * (val_main_v224_2 (F := Ideal) x0) (ix2 t c) + ((val_main_v6 (F := Ideal) x0) (ix2 t c) * (val_main_v226 (F := Ideal) x0 x7 x9) (ix2 t c)) * (val_main_v224_1 (F := Ideal) x0) (ix2 t c) := rfl
  rw [e, h.r226, h.r224_2, h.r6, h.r224_1]
  rfl

theorem r229 (t : Fin 4096) (c : Fin 256) : (val_main_v229 (F := Ideal) x0 x9) (ix2 t c) = d.dcy t.val c := by
  have e : (val_main_v229 (F := Ideal) x0 x9) (ix2 t c) = (val_main_v3 (F := Ideal) x0) (ix2 t c) * (val_main_v227 (F := Ideal) x0 x9) (ix2 t c) := rfl
  rw [e, h.r3, h.r227]
  rfl

theorem r230 (t : Fin 4096) (c : Fin 256) : (val_main_v230 (F := Ideal) x0 x7 x9) (ix2 t c) = d.dcb t.val c := by
  have e : (val_main_v230 (F := Ideal) x0 x7 x9) (ix2 t c) = (val_main_v227 (F := Ideal) x0 x9) (ix2 t c) * (val_main_v222 (F := Ideal) x0 x7) (ix2 t c) := rfl
  rw [e, h.r227, h.r222]
  rfl

/-! ## The gradient through the pointwise product and the layer norm -/

theorem r260 (t : Fin 4096) (c : Fin 256) : (val_main_v260 (F := Ideal) x0 x1 x2 x3 x4 x5 x6 x8) (ix2 t c) = d.z t.val c * d.ya t.val c := by
  have e : (val_main_v260 (F := Ideal) x0 x1 x2 x3 x4 x5 x6 x8) (ix2 t c) = (val_main_v202 (F := Ideal) x0 x1 x2 x3 x4 x5 x6) (ix2 t c) * x8 (ix2 t c) := rfl
  rw [e, h.r202, h.r8a]

theorem r261 (t : Fin 4096) (c : Fin 256) : (val_main_v261 (F := Ideal) x0 x8) (ix2 t c) = d.dz t.val c := by
  have e : (val_main_v261 (F := Ideal) x0 x8) (ix2 t c) = x8 (ix2 t c) * (val_main_v203_0 (F := Ideal) x0) (ix2 t c) := rfl
  rw [e, h.r8a, h.r203_0]
  rfl

theorem r262 (t : Fin 4096) (c : Fin 256) : (val_main_v262 (F := Ideal) x0 x1 x2 x3 x4 x5 x6 x8) (ix2 t c) = d.daz t.val c := by
  have e : (val_main_v262 (F := Ideal) x0 x1 x2 x3 x4 x5 x6 x8) (ix2 t c) = (val_main_v260 (F := Ideal) x0 x1 x2 x3 x4 x5 x6 x8) (ix2 t c) * (val_main_v203_2 (F := Ideal) x0) (ix2 t c) + ((val_main_v2 (F := Ideal) x0) (ix2 t c) * (val_main_v260 (F := Ideal) x0 x1 x2 x3 x4 x5 x6 x8) (ix2 t c)) * (val_main_v203_1 (F := Ideal) x0) (ix2 t c) := rfl
  rw [e, h.r260, h.r203_2, h.r2, h.r203_1]
  rfl

theorem r267 (t : Fin 4096) (c : Fin 256) : (val_main_v267 (F := Ideal) x0 x5 x8) (ix2 t c) = d.dsu t.val c := by
  rw [show (val_main_v267 (F := Ideal) x0 x5 x8) (ix2 t c) = _ from dot_back _ _ t c]
  simp only [h.r261, ← h.p]
  rfl

theorem r268 (t : Fin 4096) (c : Fin 256) : (val_main_v268 (F := Ideal) x0 x1 x2 x3 x4 x5 x8) (ix2 t c) = d.du t.val c := by
  have e : (val_main_v268 (F := Ideal) x0 x1 x2 x3 x4 x5 x8) (ix2 t c) = (val_main_v267 (F := Ideal) x0 x5 x8) (ix2 t c) * (val_main_v199_2 (F := Ideal) x0 x1 x2 x3 x4) (ix2 t c) + ((val_main_v198 (F := Ideal) x0 x1 x2 x3 x4) (ix2 t c) * (val_main_v267 (F := Ideal) x0 x5 x8) (ix2 t c)) * (val_main_v199_1 (F := Ideal) x0 x1 x2 x3 x4) (ix2 t c) := rfl
  rw [e, h.r267, h.r199_2, h.r198, h.r199_1]
  rfl

theorem r275 (t : Fin 4096) (c : Fin 256) : (val_main_v275 (F := Ideal) x0 x1 x2 x3 x4 x5 x8) (ix2 t c) = d.dn t.val c := by
  have e : (val_main_v275 (F := Ideal) x0 x1 x2 x3 x4 x5 x8) (ix2 t c) = (val_main_v268 (F := Ideal) x0 x1 x2 x3 x4 x5 x8) (ix2 t c) * (val_main_v274 (F := Ideal) x3) (ix2 t c) := rfl
  rw [e, show (val_main_v274 (F := Ideal) x3) (ix2 t c) = x3 (ix2 0 c) from hrow _ _ t c, h.r268, ← h.g]
  rfl

theorem r277 (t : Fin 4096) : (val_main_v277 (F := Ideal) x0 x1 x2 x3 x4 x5 x8) (ix1 t) = ∑ k, d.xc t.val k * d.dn t.val k := by
  exact (hsum_chan (val_main_v276 (F := Ideal) x0 x1 x2 x3 x4 x5 x8) (val_main_cst_24 (F := Ideal)) zero_cst _ _ t).trans (Finset.sum_congr rfl fun k _ => congrArg₂ (· * ·) (h.r181 t k) (h.r275 t k))

theorem r283 (t : Fin 4096) (z : Fin 1) : (val_main_v283 (F := Ideal) x0 x1 x2 x3 x4 x5 x8) (ix2 t z) = d.dvar t.val := by
  have e : (val_main_v283 (F := Ideal) x0 x1 x2 x3 x4 x5 x8) (ix2 t z) = Ideal.div ((val_main_v278 (F := Ideal) x0 x1 x2 x3 x4 x5 x8) (ix2 t z) * (val_main_v192 (F := Ideal) x0 x1 x2) (ix2 t z)) k256 := rfl
  rw [e, show (val_main_v278 (F := Ideal) x0 x1 x2 x3 x4 x5 x8) (ix2 t z) = (val_main_v277 (F := Ideal) x0 x1 x2 x3 x4 x5 x8) (ix1 t) from hcol_cast _ _ t z, h.r277, h.r192]
  rfl

theorem r285 (t : Fin 4096) (c : Fin 256) : (val_main_v285 (F := Ideal) x0 x1 x2 x3 x4 x5 x8) (ix2 t c) = d.dvar t.val := by
  rw [show (val_main_v285 (F := Ideal) x0 x1 x2 x3 x4 x5 x8) (ix2 t c) = (val_main_v284 (F := Ideal) x0 x1 x2 x3 x4 x5 x8) (ix1 t) from hcols _ _ t c, show (val_main_v284 (F := Ideal) x0 x1 x2 x3 x4 x5 x8) (ix1 t) = (val_main_v283 (F := Ideal) x0 x1 x2 x3 x4 x5 x8) (ix2 t 0) from hsum_one _ _ zero_cst _ _ t, h.r283]

theorem r289 (t : Fin 4096) (c : Fin 256) : (val_main_v289 (F := Ideal) x0 x1 x2 x3 x4 x5 x8) (ix2 t c) = d.dxc t.val c := by
  have e : (val_main_v289 (F := Ideal) x0 x1 x2 x3 x4 x5 x8) (ix2 t c) = (val_main_v275 (F := Ideal) x0 x1 x2 x3 x4 x5 x8) (ix2 t c) * (val_main_v279 (F := Ideal) x0 x1 x2) (ix2 t c) + (val_main_v181 (F := Ideal) x0 x1 x2) (ix2 t c) * (val_main_v285 (F := Ideal) x0 x1 x2 x3 x4 x5 x8) (ix2 t c) + (val_main_v285 (F := Ideal) x0 x1 x2 x3 x4 x5 x8) (ix2 t c) * (val_main_v181 (F := Ideal) x0 x1 x2) (ix2 t c) := rfl
  rw [e, show (val_main_v279 (F := Ideal) x0 x1 x2) (ix2 t c) = (val_main_v189 (F := Ideal) x0 x1 x2) (ix2 t 0) from hcol _ _ t c, h.r275, h.r189, h.r181, h.r285]
  rfl

theorem r291 (t : Fin 4096) : (val_main_v291 (F := Ideal) x0 x1 x2 x3 x4 x5 x8) (ix1 t) = ∑ k, -d.dxc t.val k := by
  exact (hsum_chan (val_main_v290 (F := Ideal) x0 x1 x2 x3 x4 x5 x8) (val_main_cst_27 (F := Ideal)) zero_cst _ _ t).trans (Finset.sum_congr rfl fun k _ => congrArg Neg.neg (h.r289 t k))

theorem r297 (t : Fin 4096) (c : Fin 256) : (val_main_v297 (F := Ideal) x0 x1 x2 x3 x4 x5 x8) (ix2 t c) = d.dy t.val c := by
  have e : (val_main_v297 (F := Ideal) x0 x1 x2 x3 x4 x5 x8) (ix2 t c) = (val_main_v289 (F := Ideal) x0 x1 x2 x3 x4 x5 x8) (ix2 t c) + (val_main_v296 (F := Ideal) x0 x1 x2 x3 x4 x5 x8) (ix2 t c) := rfl
  have e2 : (val_main_v294 (F := Ideal) x0 x1 x2 x3 x4 x5 x8) (ix2 t 0) = Ideal.div ((val_main_v292 (F := Ideal) x0 x1 x2 x3 x4 x5 x8) (ix2 t 0)) k256 := rfl
  rw [e, show (val_main_v296 (F := Ideal) x0 x1 x2 x3 x4 x5 x8) (ix2 t c) = (val_main_v295 (F := Ideal) x0 x1 x2 x3 x4 x5 x8) (ix1 t) from hcols _ _ t c, show (val_main_v295 (F := Ideal) x0 x1 x2 x3 x4 x5 x8) (ix1 t) = (val_main_v294 (F := Ideal) x0 x1 x2 x3 x4 x5 x8) (ix2 t 0) from hsum_one _ _ zero_cst _ _ t, e2,
    show (val_main_v292 (F := Ideal) x0 x1 x2 x3 x4 x5 x8) (ix2 t 0) = (val_main_v291 (F := Ideal) x0 x1 x2 x3 x4 x5 x8) (ix1 t) from hcol_cast _ _ t 0, h.r291, h.r289]
  rfl

end Cert.Rows.Is
-- ==== Proof.RefBack.lean ====
/-
The reference's gradients through its convolutions, and its results.
-/
module

public import proofs.«01_k».proof.Proof.RefFwd

@[expose] public section

set_option maxRecDepth 16384
set_option backward.isDefEq.respectTransparency false

noncomputable section

namespace Cert.Rows.Is

open Idealize.ShloMosaic Idealize.ShloMosaic.StableHlo Cert.ReferenceIdeal Cert.ReferenceIdeal.Gen Cert.ReferenceIdeal.Read Cert.Rows

variable {d : Data} {x0 : FVec Ideal S4096x3456 .f32} {x1 : FVec Ideal S31x256 .f32} {x2 x3 x4 : FVec Ideal S1x256 .f32}
  {x5 : FVec Ideal S256x256 .f32} {x6 : FVec Ideal S1x256 .f32} {x7 : FVec Ideal S3x256 .f32} {x8 x9 : FVec Ideal S4096x256 .f32}

variable (h : Is d x0 x1 x2 x3 x4 x5 x6 x7 x8 x9)
include h

/-! ## Through the short convolution -/

theorem sback (k : ℕ) (hp : Shape.Pads S4096x256 ![k, 0] ![2 - k, 0] ![0, 0] S4098x256) (hw : Shape.Slices S3x256 ![k, 0] S1x256) (n : Fin 4098) (c : Fin 256) : pad S4098x256 ![k, 0] ![2 - k, 0] ![0, 0] (mulf (val_main_v229 (F := Ideal) x0 x9) (broadcastInDim S4096x256 ![0, 1] bcast_S1x256_S4096x256_0_1 (extractStridedSlice S1x256 ![k, 0] x7 hw)))
      (constant (F := Ideal) S_ .f32 0x00000000#32) hp h_S_ (ix2 n c)
      = (if 30 + k ≤ n.val + 30 ∧ 0 ≤ n.val + 30 - (30 + k) ∧ n.val + 30 - (30 + k) < 4096 then d.dcy (n.val + 30 - (30 + k)) c else 0) * d.s k c := by
  have hn := n.isLt
  refine (hpad (n := 4098) (m := 4096) _ _ zero_cst hp h_S_ n c).trans ?_
  rw [show n.val + 30 - (30 + k) = n.val - k by omega]
  by_cases hk : k ≤ n.val ∧ n.val - k < 4096
  · rw [if_pos hk.1, if_pos ⟨by omega, by omega, hk.2⟩, rd_of_lt _ _ hk.2, mul_at, h.r229, h.s]
    congr 1
    exact (hrow _ _ _ c).trans ((slice_rows (n := 3) (m := 1) (o := k) x7 hw 0 c).trans (by show rd x7 (0 + k) c = _; rw [Nat.zero_add]))
  · rw [if_neg (show ¬(30 + k ≤ n.val + 30 ∧ 0 ≤ n.val - k ∧ n.val - k < 4096) by omega), zero_mul]
    by_cases h0 : k ≤ n.val
    · rw [if_pos h0]
      exact dif_neg (fun h1 => hk ⟨h0, h1⟩)
    · rw [if_neg h0]

theorem sweight (k : ℕ) (hk : k < 3) (hs : Shape.Slices S4098x256 ![k, 0] S4096x256) (hp : Shape.Pads S1x256 ![k, 0] ![2 - k, 0] ![0, 0] S3x256) (j : Fin 3) (c : Fin 256) : pad S3x256 ![k, 0] ![2 - k, 0] ![0, 0] (shapeCast S1x256 (Host.reduceAdd (mulf (extractStridedSlice S4096x256 ![k, 0] (val_main_v207 (F := Ideal) x0) hs) (val_main_v229 (F := Ideal) x0 x9))
      (constant (F := Ideal) S_ .f32 0x00000000#32) reducesTo_S4096x256_S256_d0 h_S_) shapeCasts_S256_S1x256) (constant (F := Ideal) S_ .f32 0x00000000#32) hp h_S_ (ix2 j c)
      = if j.val = k then ∑ t : Fin 4096, d.dcy t.val c * d.cu (t.val + (30 + k)) c else 0 := by
  refine (hpad (n := 3) (m := 1) _ _ zero_cst hp h_S_ j c).trans ?_
  by_cases hj : j.val = k
  · rw [if_pos hj, if_pos (by omega), rd_of_lt _ _ (show j.val - k < 1 by omega)]
    refine (hrow_cast _ _ _ c).trans ((hsum_rows _ _ zero_cst _ _ c).trans (Finset.sum_congr rfl fun t _ => ?_))
    have ht := t.isLt
    rw [mul_at, h.r229, mul_comm, show extractStridedSlice S4096x256 ![k, 0] (val_main_v207 (F := Ideal) x0) hs (ix2 t c) = rd (val_main_v207 (F := Ideal) x0) (t.val + k) c from slice_rows _ _ _ _,
      h.r207 _ (by omega), Nat.add_assoc, Nat.add_comm k 30]
  · rw [if_neg hj]
    by_cases h0 : k ≤ j.val
    · rw [if_pos h0]
      exact dif_neg (by omega)
    · rw [if_neg h0]

theorem r237 (n : Fin 4098) (c : Fin 256) : (val_main_v237 (F := Ideal) x0 x7 x9) (ix2 n c) = ∑ k ∈ Finset.Ico 2 3, (if 30 + k ≤ n.val + 30 ∧ 0 ≤ n.val + 30 - (30 + k) ∧ n.val + 30 - (30 + k) < 4096 then d.dcy (n.val + 30 - (30 + k)) c else 0) * d.s k c := by
  rw [Finset.sum_Ico_succ_top (by decide), Finset.Ico_self, Finset.sum_empty, zero_add]
  exact h.sback 2 _ _ n c

theorem r236 (j : Fin 3) (c : Fin 256) : (val_main_v236 (F := Ideal) x0 x9) (ix2 j c) = ∑ k ∈ Finset.Ico 2 3, if j.val = k then ∑ t : Fin 4096, d.dcy t.val c * d.cu (t.val + (30 + k)) c else 0 := by
  rw [Finset.sum_Ico_succ_top (by decide), Finset.Ico_self, Finset.sum_empty, zero_add]
  exact h.sweight 2 (by decide) _ _ j c

theorem r246 (n : Fin 4098) (c : Fin 256) : (val_main_v246 (F := Ideal) x0 x7 x9) (ix2 n c) = ∑ k ∈ Finset.Ico 1 3, (if 30 + k ≤ n.val + 30 ∧ 0 ≤ n.val + 30 - (30 + k) ∧ n.val + 30 - (30 + k) < 4096 then d.dcy (n.val + 30 - (30 + k)) c else 0) * d.s k c := by
  rw [Finset.sum_eq_sum_Ico_succ_bot (by decide), add_comm]
  exact congrArg₂ (· + ·) (h.r237 n c) (h.sback 1 _ _ n c)

theorem r244 (j : Fin 3) (c : Fin 256) : (val_main_v244 (F := Ideal) x0 x9) (ix2 j c) = ∑ k ∈ Finset.Ico 1 3, if j.val = k then ∑ t : Fin 4096, d.dcy t.val c * d.cu (t.val + (30 + k)) c else 0 := by
  rw [Finset.sum_eq_sum_Ico_succ_bot (by decide), add_comm]
  exact congrArg₂ (· + ·) (h.r236 j c) (h.sweight 1 (by decide) _ _ j c)

theorem r255 (n : Fin 4098) (c : Fin 256) : (val_main_v255 (F := Ideal) x0 x7 x9) (ix2 n c) = ∑ k ∈ Finset.Ico 0 3, (if 30 + k ≤ n.val + 30 ∧ 0 ≤ n.val + 30 - (30 + k) ∧ n.val + 30 - (30 + k) < 4096 then d.dcy (n.val + 30 - (30 + k)) c else 0) * d.s k c := by
  rw [Finset.sum_eq_sum_Ico_succ_bot (by decide), add_comm]
  exact congrArg₂ (· + ·) (h.r246 n c) (h.sback 0 _ _ n c)

theorem r253 (j : Fin 3) (c : Fin 256) : (val_main_v253 (F := Ideal) x0 x9) (ix2 j c) = ∑ k ∈ Finset.Ico 0 3, if j.val = k then ∑ t : Fin 4096, d.dcy t.val c * d.cu (t.val + (30 + k)) c else 0 := by
  rw [Finset.sum_eq_sum_Ico_succ_bot (by decide), add_comm]
  exact congrArg₂ (· + ·) (h.r244 j c) (h.sweight 0 (by decide) _ _ j c)

/-! ## Through the convolution -/

theorem cback (k : ℕ) (hp : Shape.Pads S4096x256 ![k, 0] ![30 - k, 0] ![0, 0] S4126x256) (hw : Shape.Slices S31x256 ![k, 0] S1x256) (n : Fin 4126) (c : Fin 256) : pad S4126x256 ![k, 0] ![30 - k, 0] ![0, 0] (mulf (val_main_v297 (F := Ideal) x0 x1 x2 x3 x4 x5 x8) (broadcastInDim S4096x256 ![0, 1] bcast_S1x256_S4096x256_0_1 (extractStridedSlice S1x256 ![k, 0] x1 hw)))
      (constant (F := Ideal) S_ .f32 0x00000000#32) hp h_S_ (ix2 n c)
      = (if 2 + k ≤ n.val + 2 ∧ 0 ≤ n.val + 2 - (2 + k) ∧ n.val + 2 - (2 + k) < 4096 then d.dy (n.val + 2 - (2 + k)) c else 0) * d.w k c := by
  have hn := n.isLt
  refine (hpad (n := 4126) (m := 4096) _ _ zero_cst hp h_S_ n c).trans ?_
  rw [show n.val + 2 - (2 + k) = n.val - k by omega]
  by_cases hk : k ≤ n.val ∧ n.val - k < 4096
  · rw [if_pos hk.1, if_pos ⟨by omega, by omega, hk.2⟩, rd_of_lt _ _ hk.2, mul_at, h.r297, h.w]
    congr 1
    exact (hrow _ _ _ c).trans ((slice_rows (n := 31) (m := 1) (o := k) x1 hw 0 c).trans (by show rd x1 (0 + k) c = _; rw [Nat.zero_add]))
  · rw [if_neg (show ¬(2 + k ≤ n.val + 2 ∧ 0 ≤ n.val - k ∧ n.val - k < 4096) by omega), zero_mul]
    by_cases h0 : k ≤ n.val
    · rw [if_pos h0]
      exact dif_neg (fun h1 => hk ⟨h0, h1⟩)
    · rw [if_neg h0]

theorem cweight (k : ℕ) (hk : k < 31) (hs : Shape.Slices S4126x256 ![k, 0] S4096x256) (hp : Shape.Pads S1x256 ![k, 0] ![30 - k, 0] ![0, 0] S31x256) (j : Fin 31) (c : Fin 256) : pad S31x256 ![k, 0] ![30 - k, 0] ![0, 0] (shapeCast S1x256 (Host.reduceAdd (mulf (extractStridedSlice S4096x256 ![k, 0] (val_main_v18 (F := Ideal) x0) hs) (val_main_v297 (F := Ideal) x0 x1 x2 x3 x4 x5 x8))
      (constant (F := Ideal) S_ .f32 0x00000000#32) reducesTo_S4096x256_S256_d0 h_S_) shapeCasts_S256_S1x256) (constant (F := Ideal) S_ .f32 0x00000000#32) hp h_S_ (ix2 j c)
      = if j.val = k then ∑ t : Fin 4096, d.dy t.val c * d.glu (t.val + (2 + k)) c else 0 := by
  refine (hpad (n := 31) (m := 1) _ _ zero_cst hp h_S_ j c).trans ?_
  by_cases hj : j.val = k
  · rw [if_pos hj, if_pos (by omega), rd_of_lt _ _ (show j.val - k < 1 by omega)]
    refine (hrow_cast _ _ _ c).trans ((hsum_rows _ _ zero_cst _ _ c).trans (Finset.sum_congr rfl fun t _ => ?_))
    have ht := t.isLt
    rw [mul_at, h.r297, mul_comm, show extractStridedSlice S4096x256 ![k, 0] (val_main_v18 (F := Ideal) x0) hs (ix2 t c) = rd (val_main_v18 (F := Ideal) x0) (t.val + k) c from slice_rows _ _ _ _,
      h.r18 _ (by omega), Nat.add_assoc, Nat.add_comm k 2]
  · rw [if_neg hj]
    by_cases h0 : k ≤ j.val
    · rw [if_pos h0]
      exact dif_neg (by omega)
    · rw [if_neg h0]

theorem r306 (n : Fin 4126) (c : Fin 256) : (val_main_v306 (F := Ideal) x0 x1 x2 x3 x4 x5 x8) (ix2 n c) = ∑ k ∈ Finset.Ico 30 31, (if 2 + k ≤ n.val + 2 ∧ 0 ≤ n.val + 2 - (2 + k) ∧ n.val + 2 - (2 + k) < 4096 then d.dy (n.val + 2 - (2 + k)) c else 0) * d.w k c := by
  rw [Finset.sum_Ico_succ_top (by decide), Finset.Ico_self, Finset.sum_empty, zero_add]
  exact h.cback 30 _ _ n c

theorem r305 (j : Fin 31) (c : Fin 256) : (val_main_v305 (F := Ideal) x0 x1 x2 x3 x4 x5 x8) (ix2 j c) = ∑ k ∈ Finset.Ico 30 31, if j.val = k then ∑ t : Fin 4096, d.dy t.val c * d.glu (t.val + (2 + k)) c else 0 := by
  rw [Finset.sum_Ico_succ_top (by decide), Finset.Ico_self, Finset.sum_empty, zero_add]
  exact h.cweight 30 (by decide) _ _ j c

theorem r315 (n : Fin 4126) (c : Fin 256) : (val_main_v315 (F := Ideal) x0 x1 x2 x3 x4 x5 x8) (ix2 n c) = ∑ k ∈ Finset.Ico 29 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r306 n c) (h.cback 29 _ _ n c)

theorem r313 (j : Fin 31) (c : Fin 256) : (val_main_v313 (F := Ideal) x0 x1 x2 x3 x4 x5 x8) (ix2 j c) = ∑ k ∈ Finset.Ico 29 31, if j.val = k then ∑ t : Fin 4096, d.dy t.val c * d.glu (t.val + (2 + k)) c else 0 := by
  rw [Finset.sum_eq_sum_Ico_succ_bot (by decide), add_comm]
  exact congrArg₂ (· + ·) (h.r305 j c) (h.cweight 29 (by decide) _ _ j c)

theorem r324 (n : Fin 4126) (c : Fin 256) : (val_main_v324 (F := Ideal) x0 x1 x2 x3 x4 x5 x8) (ix2 n c) = ∑ k ∈ Finset.Ico 28 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r315 n c) (h.cback 28 _ _ n c)

theorem r322 (j : Fin 31) (c : Fin 256) : (val_main_v322 (F := Ideal) x0 x1 x2 x3 x4 x5 x8) (ix2 j c) = ∑ k ∈ Finset.Ico 28 31, if j.val = k then ∑ t : Fin 4096, d.dy t.val c * d.glu (t.val + (2 + k)) c else 0 := by
  rw [Finset.sum_eq_sum_Ico_succ_bot (by decide), add_comm]
  exact congrArg₂ (· + ·) (h.r313 j c) (h.cweight 28 (by decide) _ _ j c)

theorem r333 (n : Fin 4126) (c : Fin 256) : (val_main_v333 (F := Ideal) x0 x1 x2 x3 x4 x5 x8) (ix2 n c) = ∑ k ∈ Finset.Ico 27 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r324 n c) (h.cback 27 _ _ n c)

theorem r331 (j : Fin 31) (c : Fin 256) : (val_main_v331 (F := Ideal) x0 x1 x2 x3 x4 x5 x8) (ix2 j c) = ∑ k ∈ Finset.Ico 27 31, if j.val = k then ∑ t : Fin 4096, d.dy t.val c * d.glu (t.val + (2 + k)) c else 0 := by
  rw [Finset.sum_eq_sum_Ico_succ_bot (by decide), add_comm]
  exact congrArg₂ (· + ·) (h.r322 j c) (h.cweight 27 (by decide) _ _ j c)

theorem r342 (n : Fin 4126) (c : Fin 256) : (val_main_v342 (F := Ideal) x0 x1 x2 x3 x4 x5 x8) (ix2 n c) = ∑ k ∈ Finset.Ico 26 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r333 n c) (h.cback 26 _ _ n c)

theorem r340 (j : Fin 31) (c : Fin 256) : (val_main_v340 (F := Ideal) x0 x1 x2 x3 x4 x5 x8) (ix2 j c) = ∑ k ∈ Finset.Ico 26 31, if j.val = k then ∑ t : Fin 4096, d.dy t.val c * d.glu (t.val + (2 + k)) c else 0 := by
  rw [Finset.sum_eq_sum_Ico_succ_bot (by decide), add_comm]
  exact congrArg₂ (· + ·) (h.r331 j c) (h.cweight 26 (by decide) _ _ j c)

theorem r351 (n : Fin 4126) (c : Fin 256) : (val_main_v351 (F := Ideal) x0 x1 x2 x3 x4 x5 x8) (ix2 n c) = ∑ k ∈ Finset.Ico 25 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r342 n c) (h.cback 25 _ _ n c)

theorem r349 (j : Fin 31) (c : Fin 256) : (val_main_v349 (F := Ideal) x0 x1 x2 x3 x4 x5 x8) (ix2 j c) = ∑ k ∈ Finset.Ico 25 31, if j.val = k then ∑ t : Fin 4096, d.dy t.val c * d.glu (t.val + (2 + k)) c else 0 := by
  rw [Finset.sum_eq_sum_Ico_succ_bot (by decide), add_comm]
  exact congrArg₂ (· + ·) (h.r340 j c) (h.cweight 25 (by decide) _ _ j c)

theorem r360 (n : Fin 4126) (c : Fin 256) : (val_main_v360 (F := Ideal) x0 x1 x2 x3 x4 x5 x8) (ix2 n c) = ∑ k ∈ Finset.Ico 24 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r351 n c) (h.cback 24 _ _ n c)

theorem r358 (j : Fin 31) (c : Fin 256) : (val_main_v358 (F := Ideal) x0 x1 x2 x3 x4 x5 x8) (ix2 j c) = ∑ k ∈ Finset.Ico 24 31, if j.val = k then ∑ t : Fin 4096, d.dy t.val c * d.glu (t.val + (2 + k)) c else 0 := by
  rw [Finset.sum_eq_sum_Ico_succ_bot (by decide), add_comm]
  exact congrArg₂ (· + ·) (h.r349 j c) (h.cweight 24 (by decide) _ _ j c)

theorem r369 (n : Fin 4126) (c : Fin 256) : (val_main_v369 (F := Ideal) x0 x1 x2 x3 x4 x5 x8) (ix2 n c) = ∑ k ∈ Finset.Ico 23 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r360 n c) (h.cback 23 _ _ n c)

theorem r367 (j : Fin 31) (c : Fin 256) : (val_main_v367 (F := Ideal) x0 x1 x2 x3 x4 x5 x8) (ix2 j c) = ∑ k ∈ Finset.Ico 23 31, if j.val = k then ∑ t : Fin 4096, d.dy t.val c * d.glu (t.val + (2 + k)) c else 0 := by
  rw [Finset.sum_eq_sum_Ico_succ_bot (by decide), add_comm]
  exact congrArg₂ (· + ·) (h.r358 j c) (h.cweight 23 (by decide) _ _ j c)

theorem r378 (n : Fin 4126) (c : Fin 256) : (val_main_v378 (F := Ideal) x0 x1 x2 x3 x4 x5 x8) (ix2 n c) = ∑ k ∈ Finset.Ico 22 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r369 n c) (h.cback 22 _ _ n c)

theorem r376 (j : Fin 31) (c : Fin 256) : (val_main_v376 (F := Ideal) x0 x1 x2 x3 x4 x5 x8) (ix2 j c) = ∑ k ∈ Finset.Ico 22 31, if j.val = k then ∑ t : Fin 4096, d.dy t.val c * d.glu (t.val + (2 + k)) c else 0 := by
  rw [Finset.sum_eq_sum_Ico_succ_bot (by decide), add_comm]
  exact congrArg₂ (· + ·) (h.r367 j c) (h.cweight 22 (by decide) _ _ j c)

theorem r387 (n : Fin 4126) (c : Fin 256) : (val_main_v387 (F := Ideal) x0 x1 x2 x3 x4 x5 x8) (ix2 n c) = ∑ k ∈ Finset.Ico 21 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r378 n c) (h.cback 21 _ _ n c)

theorem r385 (j : Fin 31) (c : Fin 256) : (val_main_v385 (F := Ideal) x0 x1 x2 x3 x4 x5 x8) (ix2 j c) = ∑ k ∈ Finset.Ico 21 31, if j.val = k then ∑ t : Fin 4096, d.dy t.val c * d.glu (t.val + (2 + k)) c else 0 := by
  rw [Finset.sum_eq_sum_Ico_succ_bot (by decide), add_comm]
  exact congrArg₂ (· + ·) (h.r376 j c) (h.cweight 21 (by decide) _ _ j c)

theorem r396 (n : Fin 4126) (c : Fin 256) : (val_main_v396 (F := Ideal) x0 x1 x2 x3 x4 x5 x8) (ix2 n c) = ∑ k ∈ Finset.Ico 20 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r387 n c) (h.cback 20 _ _ n c)

theorem r394 (j : Fin 31) (c : Fin 256) : (val_main_v394 (F := Ideal) x0 x1 x2 x3 x4 x5 x8) (ix2 j c) = ∑ k ∈ Finset.Ico 20 31, if j.val = k then ∑ t : Fin 4096, d.dy t.val c * d.glu (t.val + (2 + k)) c else 0 := by
  rw [Finset.sum_eq_sum_Ico_succ_bot (by decide), add_comm]
  exact congrArg₂ (· + ·) (h.r385 j c) (h.cweight 20 (by decide) _ _ j c)

theorem r405 (n : Fin 4126) (c : Fin 256) : (val_main_v405 (F := Ideal) x0 x1 x2 x3 x4 x5 x8) (ix2 n c) = ∑ k ∈ Finset.Ico 19 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r396 n c) (h.cback 19 _ _ n c)

theorem r403 (j : Fin 31) (c : Fin 256) : (val_main_v403 (F := Ideal) x0 x1 x2 x3 x4 x5 x8) (ix2 j c) = ∑ k ∈ Finset.Ico 19 31, if j.val = k then ∑ t : Fin 4096, d.dy t.val c * d.glu (t.val + (2 + k)) c else 0 := by
  rw [Finset.sum_eq_sum_Ico_succ_bot (by decide), add_comm]
  exact congrArg₂ (· + ·) (h.r394 j c) (h.cweight 19 (by decide) _ _ j c)

theorem r414 (n : Fin 4126) (c : Fin 256) : (val_main_v414 (F := Ideal) x0 x1 x2 x3 x4 x5 x8) (ix2 n c) = ∑ k ∈ Finset.Ico 18 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r405 n c) (h.cback 18 _ _ n c)

theorem r412 (j : Fin 31) (c : Fin 256) : (val_main_v412 (F := Ideal) x0 x1 x2 x3 x4 x5 x8) (ix2 j c) = ∑ k ∈ Finset.Ico 18 31, if j.val = k then ∑ t : Fin 4096, d.dy t.val c * d.glu (t.val + (2 + k)) c else 0 := by
  rw [Finset.sum_eq_sum_Ico_succ_bot (by decide), add_comm]
  exact congrArg₂ (· + ·) (h.r403 j c) (h.cweight 18 (by decide) _ _ j c)

theorem r423 (n : Fin 4126) (c : Fin 256) : (val_main_v423 (F := Ideal) x0 x1 x2 x3 x4 x5 x8) (ix2 n c) = ∑ k ∈ Finset.Ico 17 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r414 n c) (h.cback 17 _ _ n c)

theorem r421 (j : Fin 31) (c : Fin 256) : (val_main_v421 (F := Ideal) x0 x1 x2 x3 x4 x5 x8) (ix2 j c) = ∑ k ∈ Finset.Ico 17 31, if j.val = k then ∑ t : Fin 4096, d.dy t.val c * d.glu (t.val + (2 + k)) c else 0 := by
  rw [Finset.sum_eq_sum_Ico_succ_bot (by decide), add_comm]
  exact congrArg₂ (· + ·) (h.r412 j c) (h.cweight 17 (by decide) _ _ j c)

theorem r432 (n : Fin 4126) (c : Fin 256) : (val_main_v432 (F := Ideal) x0 x1 x2 x3 x4 x5 x8) (ix2 n c) = ∑ k ∈ Finset.Ico 16 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r423 n c) (h.cback 16 _ _ n c)

theorem r430 (j : Fin 31) (c : Fin 256) : (val_main_v430 (F := Ideal) x0 x1 x2 x3 x4 x5 x8) (ix2 j c) = ∑ k ∈ Finset.Ico 16 31, if j.val = k then ∑ t : Fin 4096, d.dy t.val c * d.glu (t.val + (2 + k)) c else 0 := by
  rw [Finset.sum_eq_sum_Ico_succ_bot (by decide), add_comm]
  exact congrArg₂ (· + ·) (h.r421 j c) (h.cweight 16 (by decide) _ _ j c)

theorem r441 (n : Fin 4126) (c : Fin 256) : (val_main_v441 (F := Ideal) x0 x1 x2 x3 x4 x5 x8) (ix2 n c) = ∑ k ∈ Finset.Ico 15 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r432 n c) (h.cback 15 _ _ n c)

theorem r439 (j : Fin 31) (c : Fin 256) : (val_main_v439 (F := Ideal) x0 x1 x2 x3 x4 x5 x8) (ix2 j c) = ∑ k ∈ Finset.Ico 15 31, if j.val = k then ∑ t : Fin 4096, d.dy t.val c * d.glu (t.val + (2 + k)) c else 0 := by
  rw [Finset.sum_eq_sum_Ico_succ_bot (by decide), add_comm]
  exact congrArg₂ (· + ·) (h.r430 j c) (h.cweight 15 (by decide) _ _ j c)

theorem r450 (n : Fin 4126) (c : Fin 256) : (val_main_v450 (F := Ideal) x0 x1 x2 x3 x4 x5 x8) (ix2 n c) = ∑ k ∈ Finset.Ico 14 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r441 n c) (h.cback 14 _ _ n c)

theorem r448 (j : Fin 31) (c : Fin 256) : (val_main_v448 (F := Ideal) x0 x1 x2 x3 x4 x5 x8) (ix2 j c) = ∑ k ∈ Finset.Ico 14 31, if j.val = k then ∑ t : Fin 4096, d.dy t.val c * d.glu (t.val + (2 + k)) c else 0 := by
  rw [Finset.sum_eq_sum_Ico_succ_bot (by decide), add_comm]
  exact congrArg₂ (· + ·) (h.r439 j c) (h.cweight 14 (by decide) _ _ j c)

theorem r459 (n : Fin 4126) (c : Fin 256) : (val_main_v459 (F := Ideal) x0 x1 x2 x3 x4 x5 x8) (ix2 n c) = ∑ k ∈ Finset.Ico 13 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r450 n c) (h.cback 13 _ _ n c)

theorem r457 (j : Fin 31) (c : Fin 256) : (val_main_v457 (F := Ideal) x0 x1 x2 x3 x4 x5 x8) (ix2 j c) = ∑ k ∈ Finset.Ico 13 31, if j.val = k then ∑ t : Fin 4096, d.dy t.val c * d.glu (t.val + (2 + k)) c else 0 := by
  rw [Finset.sum_eq_sum_Ico_succ_bot (by decide), add_comm]
  exact congrArg₂ (· + ·) (h.r448 j c) (h.cweight 13 (by decide) _ _ j c)

theorem r468 (n : Fin 4126) (c : Fin 256) : (val_main_v468 (F := Ideal) x0 x1 x2 x3 x4 x5 x8) (ix2 n c) = ∑ k ∈ Finset.Ico 12 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r459 n c) (h.cback 12 _ _ n c)

theorem r466 (j : Fin 31) (c : Fin 256) : (val_main_v466 (F := Ideal) x0 x1 x2 x3 x4 x5 x8) (ix2 j c) = ∑ k ∈ Finset.Ico 12 31, if j.val = k then ∑ t : Fin 4096, d.dy t.val c * d.glu (t.val + (2 + k)) c else 0 := by
  rw [Finset.sum_eq_sum_Ico_succ_bot (by decide), add_comm]
  exact congrArg₂ (· + ·) (h.r457 j c) (h.cweight 12 (by decide) _ _ j c)

theorem r477 (n : Fin 4126) (c : Fin 256) : (val_main_v477 (F := Ideal) x0 x1 x2 x3 x4 x5 x8) (ix2 n c) = ∑ k ∈ Finset.Ico 11 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r468 n c) (h.cback 11 _ _ n c)

theorem r475 (j : Fin 31) (c : Fin 256) : (val_main_v475 (F := Ideal) x0 x1 x2 x3 x4 x5 x8) (ix2 j c) = ∑ k ∈ Finset.Ico 11 31, if j.val = k then ∑ t : Fin 4096, d.dy t.val c * d.glu (t.val + (2 + k)) c else 0 := by
  rw [Finset.sum_eq_sum_Ico_succ_bot (by decide), add_comm]
  exact congrArg₂ (· + ·) (h.r466 j c) (h.cweight 11 (by decide) _ _ j c)

theorem r486 (n : Fin 4126) (c : Fin 256) : (val_main_v486 (F := Ideal) x0 x1 x2 x3 x4 x5 x8) (ix2 n c) = ∑ k ∈ Finset.Ico 10 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r477 n c) (h.cback 10 _ _ n c)

theorem r484 (j : Fin 31) (c : Fin 256) : (val_main_v484 (F := Ideal) x0 x1 x2 x3 x4 x5 x8) (ix2 j c) = ∑ k ∈ Finset.Ico 10 31, if j.val = k then ∑ t : Fin 4096, d.dy t.val c * d.glu (t.val + (2 + k)) c else 0 := by
  rw [Finset.sum_eq_sum_Ico_succ_bot (by decide), add_comm]
  exact congrArg₂ (· + ·) (h.r475 j c) (h.cweight 10 (by decide) _ _ j c)

theorem r495 (n : Fin 4126) (c : Fin 256) : (val_main_v495 (F := Ideal) x0 x1 x2 x3 x4 x5 x8) (ix2 n c) = ∑ k ∈ Finset.Ico 9 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r486 n c) (h.cback 9 _ _ n c)

theorem r493 (j : Fin 31) (c : Fin 256) : (val_main_v493 (F := Ideal) x0 x1 x2 x3 x4 x5 x8) (ix2 j c) = ∑ k ∈ Finset.Ico 9 31, if j.val = k then ∑ t : Fin 4096, d.dy t.val c * d.glu (t.val + (2 + k)) c else 0 := by
  rw [Finset.sum_eq_sum_Ico_succ_bot (by decide), add_comm]
  exact congrArg₂ (· + ·) (h.r484 j c) (h.cweight 9 (by decide) _ _ j c)

theorem r504 (n : Fin 4126) (c : Fin 256) : (val_main_v504 (F := Ideal) x0 x1 x2 x3 x4 x5 x8) (ix2 n c) = ∑ k ∈ Finset.Ico 8 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r495 n c) (h.cback 8 _ _ n c)

theorem r502 (j : Fin 31) (c : Fin 256) : (val_main_v502 (F := Ideal) x0 x1 x2 x3 x4 x5 x8) (ix2 j c) = ∑ k ∈ Finset.Ico 8 31, if j.val = k then ∑ t : Fin 4096, d.dy t.val c * d.glu (t.val + (2 + k)) c else 0 := by
  rw [Finset.sum_eq_sum_Ico_succ_bot (by decide), add_comm]
  exact congrArg₂ (· + ·) (h.r493 j c) (h.cweight 8 (by decide) _ _ j c)

theorem r513 (n : Fin 4126) (c : Fin 256) : (val_main_v513 (F := Ideal) x0 x1 x2 x3 x4 x5 x8) (ix2 n c) = ∑ k ∈ Finset.Ico 7 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r504 n c) (h.cback 7 _ _ n c)

theorem r511 (j : Fin 31) (c : Fin 256) : (val_main_v511 (F := Ideal) x0 x1 x2 x3 x4 x5 x8) (ix2 j c) = ∑ k ∈ Finset.Ico 7 31, if j.val = k then ∑ t : Fin 4096, d.dy t.val c * d.glu (t.val + (2 + k)) c else 0 := by
  rw [Finset.sum_eq_sum_Ico_succ_bot (by decide), add_comm]
  exact congrArg₂ (· + ·) (h.r502 j c) (h.cweight 7 (by decide) _ _ j c)

theorem r522 (n : Fin 4126) (c : Fin 256) : (val_main_v522 (F := Ideal) x0 x1 x2 x3 x4 x5 x8) (ix2 n c) = ∑ k ∈ Finset.Ico 6 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r513 n c) (h.cback 6 _ _ n c)

theorem r520 (j : Fin 31) (c : Fin 256) : (val_main_v520 (F := Ideal) x0 x1 x2 x3 x4 x5 x8) (ix2 j c) = ∑ k ∈ Finset.Ico 6 31, if j.val = k then ∑ t : Fin 4096, d.dy t.val c * d.glu (t.val + (2 + k)) c else 0 := by
  rw [Finset.sum_eq_sum_Ico_succ_bot (by decide), add_comm]
  exact congrArg₂ (· + ·) (h.r511 j c) (h.cweight 6 (by decide) _ _ j c)

theorem r531 (n : Fin 4126) (c : Fin 256) : (val_main_v531 (F := Ideal) x0 x1 x2 x3 x4 x5 x8) (ix2 n c) = ∑ k ∈ Finset.Ico 5 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r522 n c) (h.cback 5 _ _ n c)

theorem r529 (j : Fin 31) (c : Fin 256) : (val_main_v529 (F := Ideal) x0 x1 x2 x3 x4 x5 x8) (ix2 j c) = ∑ k ∈ Finset.Ico 5 31, if j.val = k then ∑ t : Fin 4096, d.dy t.val c * d.glu (t.val + (2 + k)) c else 0 := by
  rw [Finset.sum_eq_sum_Ico_succ_bot (by decide), add_comm]
  exact congrArg₂ (· + ·) (h.r520 j c) (h.cweight 5 (by decide) _ _ j c)

theorem r540 (n : Fin 4126) (c : Fin 256) : (val_main_v540 (F := Ideal) x0 x1 x2 x3 x4 x5 x8) (ix2 n c) = ∑ k ∈ Finset.Ico 4 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r531 n c) (h.cback 4 _ _ n c)

theorem r538 (j : Fin 31) (c : Fin 256) : (val_main_v538 (F := Ideal) x0 x1 x2 x3 x4 x5 x8) (ix2 j c) = ∑ k ∈ Finset.Ico 4 31, if j.val = k then ∑ t : Fin 4096, d.dy t.val c * d.glu (t.val + (2 + k)) c else 0 := by
  rw [Finset.sum_eq_sum_Ico_succ_bot (by decide), add_comm]
  exact congrArg₂ (· + ·) (h.r529 j c) (h.cweight 4 (by decide) _ _ j c)

theorem r549 (n : Fin 4126) (c : Fin 256) : (val_main_v549 (F := Ideal) x0 x1 x2 x3 x4 x5 x8) (ix2 n c) = ∑ k ∈ Finset.Ico 3 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r540 n c) (h.cback 3 _ _ n c)

theorem r547 (j : Fin 31) (c : Fin 256) : (val_main_v547 (F := Ideal) x0 x1 x2 x3 x4 x5 x8) (ix2 j c) = ∑ k ∈ Finset.Ico 3 31, if j.val = k then ∑ t : Fin 4096, d.dy t.val c * d.glu (t.val + (2 + k)) c else 0 := by
  rw [Finset.sum_eq_sum_Ico_succ_bot (by decide), add_comm]
  exact congrArg₂ (· + ·) (h.r538 j c) (h.cweight 3 (by decide) _ _ j c)

theorem r558 (n : Fin 4126) (c : Fin 256) : (val_main_v558 (F := Ideal) x0 x1 x2 x3 x4 x5 x8) (ix2 n c) = ∑ k ∈ Finset.Ico 2 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r549 n c) (h.cback 2 _ _ n c)

theorem r556 (j : Fin 31) (c : Fin 256) : (val_main_v556 (F := Ideal) x0 x1 x2 x3 x4 x5 x8) (ix2 j c) = ∑ k ∈ Finset.Ico 2 31, if j.val = k then ∑ t : Fin 4096, d.dy t.val c * d.glu (t.val + (2 + k)) c else 0 := by
  rw [Finset.sum_eq_sum_Ico_succ_bot (by decide), add_comm]
  exact congrArg₂ (· + ·) (h.r547 j c) (h.cweight 2 (by decide) _ _ j c)

theorem r567 (n : Fin 4126) (c : Fin 256) : (val_main_v567 (F := Ideal) x0 x1 x2 x3 x4 x5 x8) (ix2 n c) = ∑ k ∈ Finset.Ico 1 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r558 n c) (h.cback 1 _ _ n c)

theorem r565 (j : Fin 31) (c : Fin 256) : (val_main_v565 (F := Ideal) x0 x1 x2 x3 x4 x5 x8) (ix2 j c) = ∑ k ∈ Finset.Ico 1 31, if j.val = k then ∑ t : Fin 4096, d.dy t.val c * d.glu (t.val + (2 + k)) c else 0 := by
  rw [Finset.sum_eq_sum_Ico_succ_bot (by decide), add_comm]
  exact congrArg₂ (· + ·) (h.r556 j c) (h.cweight 1 (by decide) _ _ j c)

theorem r576 (n : Fin 4126) (c : Fin 256) : (val_main_v576 (F := Ideal) x0 x1 x2 x3 x4 x5 x8) (ix2 n c) = ∑ k ∈ Finset.Ico 0 31, (if 2 + k ≤ n.val + 2 ∧ 0 ≤ n.val + 2 - (2 + k) ∧ n.val + 2 - (2 + k) < 4096 then d.dy (n.val + 2 - (2 + k)) c else 0) * d.w k c := by
  rw [Finset.sum_eq_sum_Ico_succ_bot (by decide), add_comm]
  exact congrArg₂ (· + ·) (h.r567 n c) (h.cback 0 _ _ n c)

theorem r574 (j : Fin 31) (c : Fin 256) : (val_main_v574 (F := Ideal) x0 x1 x2 x3 x4 x5 x8) (ix2 j c) = ∑ k ∈ Finset.Ico 0 31, if j.val = k then ∑ t : Fin 4096, d.dy t.val c * d.glu (t.val + (2 + k)) c else 0 := by
  rw [Finset.sum_eq_sum_Ico_succ_bot (by decide), add_comm]
  exact congrArg₂ (· + ·) (h.r565 j c) (h.cweight 0 (by decide) _ _ j c)

/-! ## The gradients of the columns -/

theorem r578 (t : Fin 4096) (c : Fin 256) : (val_main_v578 (F := Ideal) x0 x1 x2 x3 x4 x5 x8) (ix2 t c) = d.dglu (t.val + 32) c := by
  have ht := t.isLt
  have e : (val_main_v578 (F := Ideal) x0 x1 x2 x3 x4 x5 x8) (ix2 t c) = rd (val_main_v576 (F := Ideal) x0 x1 x2 x3 x4 x5 x8) (t.val + 30) c := slice_rows _ _ _ _
  rw [e, rd_of_lt _ _ (show t.val + 30 < 4126 by omega), h.r576, ← Finset.range_eq_Ico]
  rfl

theorem r257 (t : Fin 4096) (c : Fin 256) : (val_main_v257 (F := Ideal) x0 x7 x9) (ix2 t c) = d.dcu (t.val + 32) c := by
  have ht := t.isLt
  have e : (val_main_v257 (F := Ideal) x0 x7 x9) (ix2 t c) = rd (val_main_v255 (F := Ideal) x0 x7 x9) (t.val + 2) c := slice_rows _ _ _ _
  rw [e, rd_of_lt _ _ (show t.val + 2 < 4098 by omega), h.r255, ← Finset.range_eq_Ico]
  rfl

theorem r580 (t : Fin 4096) (c : Fin 256) : (val_main_v580 (F := Ideal) x0 x1 x2 x3 x4 x5 x8) (ix2 t c) = d.dval t.val c := by
  have e : (val_main_v580 (F := Ideal) x0 x1 x2 x3 x4 x5 x8) (ix2 t c) = (val_main_v578 (F := Ideal) x0 x1 x2 x3 x4 x5 x8) (ix2 t c) * (val_main_v12 (F := Ideal) x0) (ix2 t c) := rfl
  rw [e, h.r578, h.r12]
  rfl

theorem r581 (t : Fin 4096) (c : Fin 256) : (val_main_v581 (F := Ideal) x0 x1 x2 x3 x4 x5 x8) (ix2 t c) = d.dgate t.val c := by
  have e : (val_main_v581 (F := Ideal) x0 x1 x2 x3 x4 x5 x8) (ix2 t c) = ((val_main_v0 (F := Ideal) x0) (ix2 t c) * (val_main_v578 (F := Ideal) x0 x1 x2 x3 x4 x5 x8) (ix2 t c)) * (val_main_v15 (F := Ideal) x0) (ix2 t c) := rfl
  rw [e, h.r578, h.r15, h.r0]
  rfl

theorem r258 (t : Fin 4096) (c : Fin 256) : (val_main_v258 (F := Ideal) x0 x7 x9) (ix2 t c) = d.dcx t.val c := by
  have e : (val_main_v258 (F := Ideal) x0 x7 x9) (ix2 t c) = (val_main_v4 (F := Ideal) x0) (ix2 t c) * (val_main_v257 (F := Ideal) x0 x7 x9) (ix2 t c) := rfl
  rw [e, h.r4, h.r257]
  rfl

theorem r259 (t : Fin 4096) (c : Fin 256) : (val_main_v259 (F := Ideal) x0 x7 x9) (ix2 t c) = d.dcc t.val c := by
  have e : (val_main_v259 (F := Ideal) x0 x7 x9) (ix2 t c) = (val_main_v257 (F := Ideal) x0 x7 x9) (ix2 t c) * (val_main_v5 (F := Ideal) x0) (ix2 t c) := rfl
  rw [e, h.r5, h.r257]
  rfl

theorem r583 (t : Fin 4096) (q : Fin 768) : (val_main_v583 (F := Ideal) x0 x1 x2 x3 x4 x5 x6 x8) (ix2 t q) = d.out0 t.val q := by
  have hq := q.isLt
  have e : (val_main_v583 (F := Ideal) x0 x1 x2 x3 x4 x5 x6 x8) (ix2 t q) = (val_main_v582 (F := Ideal) x0 x1 x2 x3 x4 x5 x6 x8) (ix2 t q) := rfl
  rw [e]
  unfold Data.out0
  by_cases h1 : q.val < 256
  · rw [if_pos h1, show (val_main_v582 (F := Ideal) x0 x1 x2 x3 x4 x5 x6 x8) (ix2 t q) = (val_main_v580 (F := Ideal) x0 x1 x2 x3 x4 x5 x8) (ix2 t (ch q)) from cat3_0 _ _ _ _ t q h1, h.r580]
  · rw [if_neg h1]
    by_cases h2 : q.val < 512
    · rw [if_pos h2, show (val_main_v582 (F := Ideal) x0 x1 x2 x3 x4 x5 x6 x8) (ix2 t q) = (val_main_v581 (F := Ideal) x0 x1 x2 x3 x4 x5 x8) (ix2 t (ch q)) from cat3_1 _ _ _ _ t q (by omega) h2, h.r581]
    · rw [if_neg h2, show (val_main_v582 (F := Ideal) x0 x1 x2 x3 x4 x5 x6 x8) (ix2 t q) = (val_main_v262 (F := Ideal) x0 x1 x2 x3 x4 x5 x6 x8) (ix2 t (ch q)) from cat3_2 _ _ _ _ t q (by omega), h.r262]

theorem r585 (t : Fin 4096) (q : Fin 1024) : (val_main_v585 (F := Ideal) x0 x7 x9) (ix2 t q) = d.out1 t.val q := by
  have hq := q.isLt
  have e : (val_main_v585 (F := Ideal) x0 x7 x9) (ix2 t q) = (val_main_v584 (F := Ideal) x0 x7 x9) (ix2 t q) := rfl
  rw [e]
  unfold Data.out1
  by_cases h1 : q.val < 256
  · rw [if_pos h1, show (val_main_v584 (F := Ideal) x0 x7 x9) (ix2 t q) = (val_main_v230 (F := Ideal) x0 x7 x9) (ix2 t (ch q)) from cat4_0 _ _ _ _ _ t q h1, h.r230]
  · rw [if_neg h1]
    by_cases h2 : q.val < 512
    · rw [if_pos h2, show (val_main_v584 (F := Ideal) x0 x7 x9) (ix2 t q) = (val_main_v259 (F := Ideal) x0 x7 x9) (ix2 t (ch q)) from cat4_1 _ _ _ _ _ t q (by omega) h2, h.r259]
    · rw [if_neg h2]
      by_cases h3 : q.val < 768
      · rw [if_pos h3, show (val_main_v584 (F := Ideal) x0 x7 x9) (ix2 t q) = (val_main_v258 (F := Ideal) x0 x7 x9) (ix2 t (ch q)) from cat4_2 _ _ _ _ _ t q (by omega) h3, h.r258]
      · rw [if_neg h3, show (val_main_v584 (F := Ideal) x0 x7 x9) (ix2 t q) = (val_main_v228 (F := Ideal) x0 x7 x9) (ix2 t (ch q)) from cat4_3 _ _ _ _ _ t q (by omega), h.r228]

/-! ## The gradients of the weights -/

theorem r586 (j : Fin 32) (c : Fin 256) : (val_main_v586 (F := Ideal) x0 x1 x2 x3 x4 x5 x8) (ix2 j c) = d.gw j.val c := by
  have hz : ∀ i, (val_main_call6_v0 (F := Ideal)) i = (0 : EReal) := fun i => by
    show (((0#32 : BitVec 32).toInt : ℝ) : EReal) = 0
    simp
  refine (hpad (n := 32) (m := 31) (val_main_v574 (F := Ideal) x0 x1 x2 x3 x4 x5 x8) (val_main_call6_v0 (F := Ideal)) hz _ h_S_ j c).trans ?_
  rw [if_pos (Nat.zero_le _), Nat.sub_zero]
  unfold Data.gw
  by_cases hj : j.val < 31
  · rw [if_pos hj, rd_of_lt _ _ hj, h.r574, Finset.sum_ite_eq, if_pos (Finset.mem_Ico.2 ⟨Nat.zero_le _, hj⟩)]
  · rw [if_neg hj]
    exact dif_neg hj

theorem r587 (j : Fin 8) (c : Fin 256) : (val_main_v587 (F := Ideal) x0 x9) (ix2 j c) = d.gs j.val c := by
  have hz : ∀ i, (val_main_call7_v0 (F := Ideal)) i = (0 : EReal) := fun i => by
    show (((0#32 : BitVec 32).toInt : ℝ) : EReal) = 0
    simp
  refine (hpad (n := 8) (m := 3) (val_main_v253 (F := Ideal) x0 x9) (val_main_call7_v0 (F := Ideal)) hz _ h_S_ j c).trans ?_
  rw [if_pos (Nat.zero_le _), Nat.sub_zero]
  unfold Data.gs
  by_cases hj : j.val < 3
  · rw [if_pos hj, rd_of_lt _ _ hj, h.r253, Finset.sum_ite_eq, if_pos (Finset.mem_Ico.2 ⟨Nat.zero_le _, hj⟩)]
  · rw [if_neg hj]
    exact dif_neg hj

theorem r299 (z : Fin 1) (c : Fin 256) : (val_main_v299 (F := Ideal) x0 x1 x2 x3 x4 x5 x8) (ix2 z c) = d.gb c := by
  exact (hrow_cast _ _ z c).trans ((hsum_rows (val_main_v297 (F := Ideal) x0 x1 x2 x3 x4 x5 x8) (val_main_cst_30 (F := Ideal)) zero_cst _ _ c).trans (Finset.sum_congr rfl fun t _ => h.r297 t c))

theorem r273 (z : Fin 1) (c : Fin 256) : (val_main_v273 (F := Ideal) x0 x1 x2 x3 x4 x5 x8) (ix2 z c) = d.gg c := by
  exact (hrow_cast _ _ z c).trans ((hsum_rows (val_main_v271 (F := Ideal) x0 x1 x2 x3 x4 x5 x8) (val_main_cst_23 (F := Ideal)) zero_cst _ _ c).trans (Finset.sum_congr rfl fun t _ => congrArg₂ (· * ·) (h.r194 t c) (h.r268 t c)))

theorem r270 (z : Fin 1) (c : Fin 256) : (val_main_v270 (F := Ideal) x0 x1 x2 x3 x4 x5 x8) (ix2 z c) = d.ge c := by
  exact (hrow_cast _ _ z c).trans ((hsum_rows (val_main_v268 (F := Ideal) x0 x1 x2 x3 x4 x5 x8) (val_main_cst_22 (F := Ideal)) zero_cst _ _ c).trans (Finset.sum_congr rfl fun t _ => h.r268 t c))

theorem r264 (z : Fin 1) (c : Fin 256) : (val_main_v264 (F := Ideal) x0 x8) (ix2 z c) = d.gq c := by
  exact (hrow_cast _ _ z c).trans ((hsum_rows (val_main_v261 (F := Ideal) x0 x8) (val_main_cst_21 (F := Ideal)) zero_cst _ _ c).trans (Finset.sum_congr rfl fun t _ => h.r261 t c))

theorem r266 (a c : Fin 256) : (val_main_v266 (F := Ideal) x0 x1 x2 x3 x4 x8) (ix2 a c) = d.gp a c := by
  rw [show (val_main_v266 (F := Ideal) x0 x1 x2 x3 x4 x8) (ix2 a c) = (val_main_v265 (F := Ideal) x0 x1 x2 x3 x4 x8) (ix2 c a) from flip_at _ _ a c, show (val_main_v265 (F := Ideal) x0 x1 x2 x3 x4 x8) (ix2 c a) = _ from dot_weight _ _ c a]
  exact Finset.sum_congr rfl fun t _ => by rw [h.r261, h.r199_0, mul_comm]

end Cert.Rows.Is
-- ==== Proof.RefRun.lean ====
/-
The reference's run, its results as the specification's functions of its arguments.
-/
module

public import proofs.«01_k».proof.Proof.RefBack
public import proofs.«01_k».proof.Proof.Gen.ReferenceIdeal.Run
public import Idealize.ShloMosaic.Lib.Claim

@[expose] public section

set_option maxRecDepth 16384

noncomputable section

namespace Cert.ReferenceIdeal.Gen

open Idealize.ShloMosaic Idealize.ShloMosaic.StableHlo Idealize.SL.Sem Cert.ReferenceIdeal Cert.ReferenceIdeal.Read Cert.Rows

/-- A rank-2 index is its two coordinates. -/
theorem ix2_coords {a b : ℕ} (i : (⟨2, ![a, b]⟩ : Shape).Idx) : ix2 (i 0) (i 1) = i := by
  funext k
  match k with
  | 0 => rfl
  | 1 => rfl

variable (m : (ℓ : Loc nD τ sig) → Buf (Elt Ideal) ℓ) (ρ : Dev nD → PrngReg)

/-- The call's data, from the reference's argument arrays. -/
abbrev data (c : Dev nD) : Data :=
  ofArrays (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))

theorem data_is (c : Dev nD) : Is (data m c) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) := ofArrays_is _ _ _ _ _ _ _ _ _ _

/-- Every execution of the reference ends with the specification's nine results, its arguments unchanged. -/
theorem run_data : θ_run defs (onTc (τ := τ) (main (F := Ideal))) ⟨m, fun _ => 0, ρ⟩ fun r => ∀ c : Dev nD,
      r.2.mem (c.tc.loc main_v583) = (fun i : S4096x768.Idx => (data m c).out0 (i 0).val (i 1))
      ∧ r.2.mem (c.tc.loc main_v585) = (fun i : S4096x1024.Idx => (data m c).out1 (i 0).val (i 1))
      ∧ r.2.mem (c.tc.loc main_v586) = (fun i : S32x256.Idx => (data m c).gw (i 0).val (i 1))
      ∧ r.2.mem (c.tc.loc main_v299) = (fun i : S1x256.Idx => (data m c).gb (i 1))
      ∧ r.2.mem (c.tc.loc main_v273) = (fun i : S1x256.Idx => (data m c).gg (i 1))
      ∧ r.2.mem (c.tc.loc main_v270) = (fun i : S1x256.Idx => (data m c).ge (i 1))
      ∧ r.2.mem (c.tc.loc main_v266) = (fun i : S256x256.Idx => (data m c).gp (i 0) (i 1))
      ∧ r.2.mem (c.tc.loc main_v264) = (fun i : S1x256.Idx => (data m c).gq (i 1))
      ∧ r.2.mem (c.tc.loc main_v587) = (fun i : S8x256.Idx => (data m c).gs (i 0).val (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) := by
  refine θ_run_mono (Cert.ReferenceIdeal.Value.run (F := Ideal) m ρ) fun r hr c => ?_
  have h := data_is m c
  obtain ⟨h583, h585, h586, h299, h273, h270, h266, h264, h587, ha⟩ := hr c
  refine ⟨?_, ?_, ?_, ?_, ?_, ?_, ?_, ?_, ?_, ha⟩
  · exact h583.trans ((val_main_v583_eq (launchContents m c)).trans (funext fun i => (congrArg _ (ix2_coords i).symm).trans (h.r583 (i 0) (i 1))))
  · exact h585.trans ((val_main_v585_eq (launchContents m c)).trans (funext fun i => (congrArg _ (ix2_coords i).symm).trans (h.r585 (i 0) (i 1))))
  · exact h586.trans ((val_main_v586_eq (launchContents m c)).trans (funext fun i => (congrArg _ (ix2_coords i).symm).trans (h.r586 (i 0) (i 1))))
  · exact h299.trans ((val_main_v299_eq (launchContents m c)).trans (funext fun i => (congrArg _ (ix2_coords i).symm).trans (h.r299 (i 0) (i 1))))
  · exact h273.trans ((val_main_v273_eq (launchContents m c)).trans (funext fun i => (congrArg _ (ix2_coords i).symm).trans (h.r273 (i 0) (i 1))))
  · exact h270.trans ((val_main_v270_eq (launchContents m c)).trans (funext fun i => (congrArg _ (ix2_coords i).symm).trans (h.r270 (i 0) (i 1))))
  · exact h266.trans ((val_main_v266_eq (launchContents m c)).trans (funext fun i => (congrArg _ (ix2_coords i).symm).trans (h.r266 (i 0) (i 1))))
  · exact h264.trans ((val_main_v264_eq (launchContents m c)).trans (funext fun i => (congrArg _ (ix2_coords i).symm).trans (h.r264 (i 0) (i 1))))
  · exact h587.trans ((val_main_v587_eq (launchContents m c)).trans (funext fun i => (congrArg _ (ix2_coords i).symm).trans (h.r587 (i 0) (i 1))))

end Cert.ReferenceIdeal.Gen

end
-- ==== Proof.Finite.lean ====
/-
  The precondition: an `all` of `|x| < ∞` that is 1 says that every entry is a real number; the printed predicate says so of
  every argument but the tenth, of the columns of `proj` that the call reads.
-/
module

public import proofs.«01_k».proof.Defs
public import proofs.«01_k».proof.Proof.Args
public import proofs.«01_k».proof.Proof.Total
public import Idealize.ShloMosaic.Lib.ReduceAll
public import Idealize.ShloMosaic.Lib.Affine

@[expose] public section

set_option maxRecDepth 16384

noncomputable section

namespace Cert.Rows

open Idealize.ShloMosaic Cert.Pre_finite

/-- The shape relations of the predicate hold. -/
theorem preFacts : Cert.Pre_finite.Facts := by
  constructor <;> decide

/-- `|x| < ∞` says that `x` is a real number. -/
theorem real_of_lt {x : EReal} (h : Ideal.cmp .olt (max x (-x)) (Ideal.ofBits .f32 0x7F800000#32) = 1#1) : Real' x := by
  have htop : Ideal.ofBits .f32 0x7F800000#32 = ⊤ := by simp [Ideal.ofBits, Ideal.ieee]
  rw [htop] at h
  refine Real'.of_ne ?_ ?_
  · rintro rfl
    simp [Ideal.cmp] at h
  · rintro rfl
    simp [Ideal.cmp] at h

/-- An array of which every `|x| < ∞` holds real numbers. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : Real' (x i) := by
  haveI : Subsingleton S_.Idx := ⟨fun a b => funext fun k => k.elim0⟩
  exact real_of_lt (Host.reduce_andi_all _ _ hr hu j h i)

variable (x0 : FVec Ideal ⟨2, ![4096, 3456]⟩ .f32) (x1 : FVec Ideal ⟨2, ![31, 256]⟩ .f32)
    (x2 x3 x4 : FVec Ideal ⟨2, ![1, 256]⟩ .f32) (x5 : FVec Ideal ⟨2, ![256, 256]⟩ .f32) (x6 : FVec Ideal ⟨2, ![1, 256]⟩ .f32)
    (x7 : FVec Ideal ⟨2, ![3, 256]⟩ .f32) (x8 x9 : FVec Ideal ⟨2, ![4096, 256]⟩ .f32)

/-- The predicate's meaning, argument by argument. -/
theorem pre_parts [Cert.Pre_finite.Facts] (h : Cert.Pre_finite.fn (F := Ideal) x0 x1 x2 x3 x4 x5 x6 x7 x8 x9 = fun _ => 1#1) :
    (∀ i, Real' (extractStridedSlice S4096x768 ![0, 0] x0 Facts.slices_S4096x3456_S4096x768_0_0 i))
    ∧ (∀ i, Real' (extractStridedSlice S4096x1024 ![0, 1280] x0 Facts.slices_S4096x3456_S4096x1024_0_1280 i))
    ∧ (∀ i, Real' (x1 i)) ∧ (∀ i, Real' (x2 i)) ∧ (∀ i, Real' (x3 i)) ∧ (∀ i, Real' (x4 i)) ∧ (∀ i, Real' (x5 i))
    ∧ (∀ i, Real' (x7 i)) ∧ (∀ i, Real' (x8 i)) ∧ (∀ i, Real' (x9 i)) := by
  have e := congrFun h (fun k => k.elim0)
  dsimp only [fn, fn_part1, fn_part2] at e
  obtain ⟨e, h9⟩ := IntOp.andi_eq_one.1 e
  obtain ⟨e, h8⟩ := IntOp.andi_eq_one.1 e
  obtain ⟨e, h7⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e, h1⟩ := IntOp.andi_eq_one.1 e
  obtain ⟨ha, hb⟩ := IntOp.andi_eq_one.1 e
  exact ⟨all_real _ _ _ _ _ ha, all_real _ _ _ _ _ hb, all_real _ _ _ _ _ h1, all_real _ _ _ _ _ h2, all_real _ _ _ _ _ h3,
    all_real _ _ _ _ _ h4, all_real _ _ _ _ _ h5, all_real _ _ _ _ _ h7, all_real _ _ _ _ _ h8, all_real _ _ _ _ _ h9⟩

/-- Under the precondition the call's data are finite. -/
theorem ofArrays_fin [Cert.Pre_finite.Facts] (h : Cert.Pre_finite.fn (F := Ideal) x0 x1 x2 x3 x4 x5 x6 x7 x8 x9 = fun _ => 1#1) :
    (ofArrays x0 x1 x2 x3 x4 x5 x6 x7 x8 x9).Fin' := by
  obtain ⟨ha, hb, h1, h2, h3, h4, h5, h7, h8, h9⟩ := pre_parts x0 x1 x2 x3 x4 x5 x6 x7 x8 x9 h
  have hr : ∀ {R : ℕ} (x : FVec Ideal ⟨2, ![R, 256]⟩ .f32), (∀ i, Real' (x i)) → ∀ t c, Real' (rd x t c) := fun x hx t c => by
    unfold rd
    split
    · exact hx _
    · exact Real'.zero
  have hlo : ∀ (o : ℕ) (ho : o + 256 ≤ 3456), o + 256 ≤ 768 → ∀ t c, Real' (col x0 o ho t c) := fun o ho hs t c => by
    unfold col
    split
    · rename_i ht
      have e := ha (ix2 ⟨t, ht⟩ ⟨o + c.val, by omega⟩)
      rwa [extractStridedSlice_apply ![0, 0] x0 _ (ix2 ⟨t, ht⟩ ⟨o + c.val, by omega⟩) (ix2 ⟨t, ht⟩ ⟨o + c.val, by omega⟩)
        (fun a => match a with | 0 => by simp [ix2] | 1 => by simp [ix2])] at e
    · exact Real'.zero
  have hhi : ∀ (o : ℕ) (ho : o + 256 ≤ 3456) (_ : 1280 ≤ o), o + 256 ≤ 2304 → ∀ t c, Real' (col x0 o ho t c) := fun o ho hs hs' t c => by
    unfold col
    split
    · rename_i ht
      have e := hb (ix2 ⟨t, ht⟩ ⟨o + c.val - 1280, by omega⟩)
      rwa [extractStridedSlice_apply ![0, 1280] x0 _ (ix2 ⟨t, ht⟩ ⟨o + c.val - 1280, by omega⟩) (ix2 ⟨t, ht⟩ ⟨o + c.val, by omega⟩)
        (fun a => match a with | 0 => by simp [ix2] | 1 => by simp [ix2]; omega)] at e
    · exact Real'.zero
  exact {
    val := hlo 0 (by decide) (by decide)
    gate := hlo 256 (by decide) (by decide)
    az := hlo 512 (by decide) (by decide)
    cb := hhi 1280 (by decide) (by decide) (by decide)
    cc := hhi 1536 (by decide) (by decide) (by decide)
    cx := hhi 1792 (by decide) (by decide) (by decide)
    cz := hhi 2048 (by decide) (by decide) (by decide)
    ya := hr x8 h8
    yc := hr x9 h9
    w := hr x1 h1
    s := hr x7 h7
    b := fun c => h2 _
    g := fun c => h3 _
    e := fun c => h4 _
    p := fun a c => h5 _ }

end Cert.Rows

end
-- ==== Proof.Products.lean ====
/-
The tokens in tiles of 512 rows, arrays side by side, and the normalization of a row.
-/
module

public import Idealize.ShloMosaic.Lib.Pointwise
public import Idealize.ShloMosaic.Lib.Pipeline.Value
public import Idealize.ShloMosaic.PureOps.Ideal.Laws

@[expose] public section

set_option backward.isDefEq.respectTransparency false
set_option maxRecDepth 16384

noncomputable section

namespace Cert.Products

open Idealize.ShloMosaic

/-- Row `r` of tile `t`. -/
def row (t : ℕ) (ht : t < 8) (r : Fin 512) : Fin 4096 := ⟨512 * t + r.val, by have := r.isLt; omega⟩

/-- A sum over the tokens, tile by tile. -/
theorem sum_rows (f : Fin 4096 → EReal) : ∑ p : Fin 8, ∑ r : Fin 512, f (row p.val p.isLt r) = ∑ t : Fin 4096, f t := by
  rw [← Fintype.sum_prod_type', ← Equiv.sum_comp (finProdFinEquiv (m := 8) (n := 512)) f]
  refine Finset.sum_congr rfl fun x _ => congrArg f (Fin.ext ?_)
  show 512 * x.1.val + x.2.val = x.2.val + 512 * x.1.val
  omega

/-- Four blocks of 256 columns side by side. -/
def cat4 {n : ℕ} (x y z w : Fin n → Fin 256 → EReal) (r : Fin n) (q : Fin 1024) : EReal :=
  if h : q.val < 256 then x r ⟨q.val, h⟩
  else if h : q.val - 256 < 256 then y r ⟨q.val - 256, h⟩
  else if h : q.val - 256 - 256 < 256 then z r ⟨q.val - 256 - 256, h⟩
  else w r ⟨q.val - 256 - 256 - 256, by have := q.isLt; omega⟩

/-- Six blocks of columns side by side. -/
def cat6 {n : ℕ} (x : Fin n → Fin 768 → EReal) (y : Fin n → Fin 512 → EReal) (z : Fin n → Fin 1024 → EReal) (u : Fin n → Fin 768 → EReal)
    (v : Fin n → Fin 256 → EReal) (w : Fin n → Fin 128 → EReal) (r : Fin n) (q : Fin 3456) : EReal :=
  if h : q.val < 768 then x r ⟨q.val, h⟩
  else if h : q.val - 768 < 512 then y r ⟨q.val - 768, h⟩
  else if h : q.val - 768 - 512 < 1024 then z r ⟨q.val - 768 - 512, h⟩
  else if h : q.val - 768 - 512 - 1024 < 768 then u r ⟨q.val - 768 - 512 - 1024, h⟩
  else if h : q.val - 768 - 512 - 1024 - 768 < 256 then v r ⟨q.val - 768 - 512 - 1024 - 768, h⟩
  else w r ⟨q.val - 768 - 512 - 1024 - 768 - 256, by have := q.isLt; omega⟩

/-- An array's entries by row and column. -/
abbrev rc {n k : ℕ} {f : FTy} (x : FVec Ideal ⟨2, ![n, k]⟩ f) (r : Fin n) (q : Fin k) : EReal := x (ix2 r q)

theorem ix2_coords {a b : ℕ} (i : (⟨2, ![a, b]⟩ : Shape).Idx) : ix2 (i 0) (i 1) = i := by
  funext k
  match k with
  | 0 => rfl
  | 1 => rfl

section
variable {f : FTy}

theorem cat4_tile (x y z w : FVec Ideal ⟨2, ![512, 256]⟩ f) (h) (r : Fin 512) (q : Fin 1024) :
    concatenate ⟨2, ![512, 1024]⟩ 1 [⟨⟨2, ![512, 256]⟩, x⟩, ⟨⟨2, ![512, 256]⟩, y⟩, ⟨⟨2, ![512, 256]⟩, z⟩, ⟨⟨2, ![512, 256]⟩, w⟩] h (ix2 r q) = cat4 (rc x) (rc y) (rc z) (rc w) r q := by
  unfold cat4
  pointwise []

theorem cat4_rows (x y z w : FVec Ideal ⟨2, ![4096, 256]⟩ f) (h) (r : Fin 4096) (q : Fin 1024) :
    concatenate ⟨2, ![4096, 1024]⟩ 1 [⟨⟨2, ![4096, 256]⟩, x⟩, ⟨⟨2, ![4096, 256]⟩, y⟩, ⟨⟨2, ![4096, 256]⟩, z⟩, ⟨⟨2, ![4096, 256]⟩, w⟩] h (ix2 r q) = cat4 (rc x) (rc y) (rc z) (rc w) r q := by
  unfold cat4
  pointwise []

theorem cat6_tile (x : FVec Ideal ⟨2, ![512, 768]⟩ f) (y : FVec Ideal ⟨2, ![512, 512]⟩ f) (z : FVec Ideal ⟨2, ![512, 1024]⟩ f) (u : FVec Ideal ⟨2, ![512, 768]⟩ f)
    (v : FVec Ideal ⟨2, ![512, 256]⟩ f) (w : FVec Ideal ⟨2, ![512, 128]⟩ f) (h) (r : Fin 512) (q : Fin 3456) :
    concatenate ⟨2, ![512, 3456]⟩ 1 [⟨⟨2, ![512, 768]⟩, x⟩, ⟨⟨2, ![512, 512]⟩, y⟩, ⟨⟨2, ![512, 1024]⟩, z⟩, ⟨⟨2, ![512, 768]⟩, u⟩, ⟨⟨2, ![512, 256]⟩, v⟩, ⟨⟨2, ![512, 128]⟩, w⟩] h (ix2 r q)
      = cat6 (rc x) (rc y) (rc z) (rc u) (rc v) (rc w) r q := by
  unfold cat6
  pointwise []

theorem cat6_rows (x : FVec Ideal ⟨2, ![4096, 768]⟩ f) (y : FVec Ideal ⟨2, ![4096, 512]⟩ f) (z : FVec Ideal ⟨2, ![4096, 1024]⟩ f) (u : FVec Ideal ⟨2, ![4096, 768]⟩ f)
    (v : FVec Ideal ⟨2, ![4096, 256]⟩ f) (w : FVec Ideal ⟨2, ![4096, 128]⟩ f) (h) (r : Fin 4096) (q : Fin 3456) :
    concatenate ⟨2, ![4096, 3456]⟩ 1 [⟨⟨2, ![4096, 768]⟩, x⟩, ⟨⟨2, ![4096, 512]⟩, y⟩, ⟨⟨2, ![4096, 1024]⟩, z⟩, ⟨⟨2, ![4096, 768]⟩, u⟩, ⟨⟨2, ![4096, 256]⟩, v⟩, ⟨⟨2, ![4096, 128]⟩, w⟩] h (ix2 r q)
      = cat6 (rc x) (rc y) (rc z) (rc u) (rc v) (rc w) r q := by
  unfold cat6
  pointwise []

end

/-- A tile's blocks side by side are the tile's rows of the arrays side by side. -/
theorem cat4_row {x y z w : Fin 512 → Fin 256 → EReal} {X Y Z W : Fin 4096 → Fin 256 → EReal} {t : ℕ} {ht : t < 8}
    (hx : ∀ r q, x r q = X (row t ht r) q) (hy : ∀ r q, y r q = Y (row t ht r) q) (hz : ∀ r q, z r q = Z (row t ht r) q) (hw : ∀ r q, w r q = W (row t ht r) q)
    (r : Fin 512) (q : Fin 1024) : cat4 x y z w r q = cat4 X Y Z W (row t ht r) q := by
  unfold cat4
  simp only [hx, hy, hz, hw]

theorem cat6_row {x : Fin 512 → Fin 768 → EReal} {y : Fin 512 → Fin 512 → EReal} {z : Fin 512 → Fin 1024 → EReal} {u : Fin 512 → Fin 768 → EReal}
    {v : Fin 512 → Fin 256 → EReal} {w : Fin 512 → Fin 128 → EReal} {X : Fin 4096 → Fin 768 → EReal} {Y : Fin 4096 → Fin 512 → EReal}
    {Z : Fin 4096 → Fin 1024 → EReal} {U : Fin 4096 → Fin 768 → EReal} {V : Fin 4096 → Fin 256 → EReal} {W : Fin 4096 → Fin 128 → EReal} {t : ℕ} {ht : t < 8}
    (hx : ∀ r q, x r q = X (row t ht r) q) (hy : ∀ r q, y r q = Y (row t ht r) q) (hz : ∀ r q, z r q = Z (row t ht r) q)
    (hu : ∀ r q, u r q = U (row t ht r) q) (hv : ∀ r q, v r q = V (row t ht r) q) (hw : ∀ r q, w r q = W (row t ht r) q)
    (r : Fin 512) (q : Fin 3456) : cat6 x y z u v w r q = cat6 X Y Z U V W (row t ht r) q := by
  unfold cat6
  simp only [hx, hy, hz, hu, hv, hw]

/-! ## A row's normalization, forwards and backwards -/

def k1024 : EReal := Ideal.ofBits .f32 0x44800000#32
def eps : EReal := Ideal.ofBits .f32 0x358637BD#32
def mhalf : EReal := Ideal.ofBits .f32 0xBF000000#32

/-- The mean square of a row, and its inverse root with that root's slope. -/
def msq (x : Fin 1024 → EReal) : EReal := Ideal.div (∑ k : Fin 1024, x k * x k) k1024 + eps
def rs (x : Fin 1024 → EReal) : EReal := Ideal.rsqrt (msq x)
def drs (x : Fin 1024 → EReal) : EReal := mhalf * Ideal.div (rs x) (msq x)

/-- The mean square's cotangent, spread over the row. -/
def dms (x p : Fin 1024 → EReal) : EReal := Ideal.div ((∑ k : Fin 1024, x k * p k) * drs x) k1024

/-- The row's cotangent: through the product, twice through the square, and past the projection. -/
def dx (x p e : Fin 1024 → EReal) (q : Fin 1024) : EReal := p q * rs x + x q * dms x p + dms x p * x q + e q

/-- A row normalized and scaled. -/
def nrm {n : ℕ} (x : FVec Ideal ⟨2, ![n, 1024]⟩ .f32) (g : FVec Ideal ⟨2, ![1, 1024]⟩ .f32) (t : Fin n) (q : Fin 1024) : EReal := x (ix2 t q) * rs (rc x t) * g (ix2 0 q)

end Cert.Products

end
-- ==== Proof.InTile.lean ====
/-
The input projection's backward pass with respect to its input, tile by tile: what the kernel's blocks hold.
-/
module

public import proofs.«01_k».proof.Proof.Products
public import proofs.«01_k».proof.Proof.Gen.KernelXIdeal.Value
public import Idealize.ShloMosaic.Lib.Pipeline.ValueKit

@[expose] public section

set_option backward.isDefEq.respectTransparency false
set_option maxRecDepth 16384
set_option maxHeartbeats 4000000

noncomputable section

namespace Cert.KernelXIdeal.Gen

open Idealize.ShloMosaic Idealize.ShloMosaic.TcCoe Idealize.SL.Sem
open Cert.KernelXIdeal Cert.Products

theorem hz : (![0, 0] : Fin 2 → Nat) = fun _ => 0 := funext fun a => by fin_cases a <;> rfl

/-! ## The payloads, entry by entry -/

section
variable (a : FVec Ideal S512x768 .bf16) (b : FVec Ideal S512x512 .bf16) (d : FVec Ideal S512x1024 .bf16) (e : FVec Ideal S512x768 .bf16)
  (f : FVec Ideal S512x256 .bf16) (h : FVec Ideal S512x128 .bf16) (w : FVec Ideal S1024x3456 .bf16) (x : FVec Ideal S512x1024 .f32) (g : FVec Ideal S1x1024 .f32)

theorem pay4_at (r : Fin 512) (q : Fin 1024) :
    k0_pay4 (F := Ideal) a b d e f h w (ix2 r q) = ∑ k : Fin 3456, cat6 (rc a) (rc b) (rc d) (rc e) (rc f) (rc h) r k * w (ix2 q k) := by
  unfold k0_pay4
  simp only [← cat6_tile a b d e f h concatenates_S512x768_S512x512_S512x1024_S512x768_S512x256_S512x128_S512x3456_d1]
  pointwise []
theorem pay5_at (r : Fin 512) (z : Fin 1) : k0_pay5 (F := Ideal) x (ix2 r z) = msq (rc x r) := by
  unfold k0_pay5 msq k1024 eps
  pointwise []
theorem pay6_at (r : Fin 512) (z : Fin 1) : k0_pay6 (F := Ideal) x (ix2 r z) = rs (rc x r) := by
  have h : k0_pay6 (F := Ideal) x (ix2 r z) = Ideal.rsqrt (k0_pay5 (F := Ideal) x (ix2 r z)) := rfl
  rw [h, pay5_at]
  rfl
theorem pay7_at (r : Fin 512) (z : Fin 1) : k0_pay7 (F := Ideal) x (ix2 r z) = drs (rc x r) := by
  have h : k0_pay7 (F := Ideal) x (ix2 r z) = mhalf * Ideal.div (k0_pay6 (F := Ideal) x (ix2 r z)) (k0_pay5 (F := Ideal) x (ix2 r z)) := rfl
  rw [h, pay5_at, pay6_at]
  rfl
theorem pay8_at (z : Fin 1) (q : Fin 1024) : k0_pay8 (F := Ideal) a b d e f h w x (ix2 z q)
    = ∑ r : Fin 512, x (ix2 r q) * rs (rc x r) * k0_pay4 (F := Ideal) a b d e f h w (ix2 r q) := by
  unfold k0_pay8
  simp only [← pay6_at x _ 0]
  generalize k0_pay4 (F := Ideal) a b d e f h w = y
  generalize k0_pay6 (F := Ideal) x = s
  pointwise []
theorem pay9_at (r : Fin 512) (q : Fin 1024) : k0_pay9 (F := Ideal) a b d e f h w g (ix2 r q) = k0_pay4 (F := Ideal) a b d e f h w (ix2 r q) * g (ix2 0 q) := by
  unfold k0_pay9
  generalize k0_pay4 (F := Ideal) a b d e f h w = y
  pointwise []
theorem pay1_at (p n : FVec Ideal S512x1024 .f32) (r : Fin 512) (q : Fin 1024) :
    k0_pay1 (F := Ideal) x (k0_pay6 (F := Ideal) x) (k0_pay7 (F := Ideal) x) p n (ix2 r q) = dx (rc x r) (rc p r) (rc n r) q := by
  unfold k0_pay1 dx dms k1024
  rw [← pay6_at x r 0, ← pay7_at x r 0]
  generalize k0_pay6 (F := Ideal) x = s
  generalize k0_pay7 (F := Ideal) x = u
  pointwise []
  simp only [Fin.sum_univ_one]
theorem pay3_at (q : Fin 1024) : k0_pay3 (F := Ideal) (ix2 0 q) = 0 := by
  unfold k0_pay3
  pointwise []
theorem pay2_at (x s : FVec Ideal S1x1024 .f32) (q : Fin 1024) : k0_pay2 (F := Ideal) x s (ix2 0 q) = s (ix2 0 q) + x (ix2 0 q) := by
  unfold k0_pay2
  pointwise []
end

/-! ## A point's blocks -/

variable (m : (ℓ : Loc nD τ sig) → Buf (Elt Ideal) ℓ)

/-- The point's rows of the cotangent of the normalized input. -/
abbrev dh (c : Dev nD) (t : Fin cfg0.N) : FVec Ideal S512x1024 .f32 :=
  k0_pay4 (F := Ideal) (iblk m c 0 t) (iblk m c 1 t) (iblk m c 2 t) (iblk m c 3 t) (iblk m c 4 t) (iblk m c 5 t) (iblk m c 6 t)

theorem at10 (c : Dev nD) (t : Fin cfg0.N) : (outsAt0 m c t.val t.isLt).1
    = k0_pay1 (F := Ideal) (iblk m c 7 t) (k0_pay6 (F := Ideal) (iblk m c 7 t)) (k0_pay7 (F := Ideal) (iblk m c 7 t))
        (k0_pay9 (F := Ideal) (iblk m c 0 t) (iblk m c 1 t) (iblk m c 2 t) (iblk m c 3 t) (iblk m c 4 t) (iblk m c 5 t) (iblk m c 6 t) (iblk m c 8 t)) (iblk m c 9 t) := by
  by_cases h : t.val % 8 = 0
  · rw [outsAt0_A m c t h]
    dsimp only
    unfold out0_A_10
    rw [View.read_writes_eq_canon _ _ _ (fun y => cover0_A_10 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_11 t).read_unread,
      View.ld_unit_zero (S := S512x768) hz, View.ld_unit_zero (S := S512x512) hz, View.ld_unit_zero (S := S512x1024) hz, View.ld_unit_zero (S := S512x256) hz, View.ld_unit_zero (S := S512x128) hz, View.ld_unit_zero (S := S1024x3456) hz, View.ld_unit_zero (S := S1x1024) hz]
  · rw [outsAt0_B m c t h]
    dsimp only
    unfold out0_B_10
    rw [View.read_writes_eq_canon _ _ _ (fun y => cover0_B_10 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_11 t).read_unread,
      View.ld_unit_zero (S := S512x768) hz, View.ld_unit_zero (S := S512x512) hz, View.ld_unit_zero (S := S512x1024) hz, View.ld_unit_zero (S := S512x256) hz, View.ld_unit_zero (S := S512x128) hz, View.ld_unit_zero (S := S1024x3456) hz, View.ld_unit_zero (S := S1x1024) hz]

theorem at11_first (c : Dev nD) (t : Fin cfg0.N) (h : t.val % 8 = 0) : (outsAt0 m c t.val t.isLt).2
    = k0_pay2 (F := Ideal) (k0_pay8 (F := Ideal) (iblk m c 0 t) (iblk m c 1 t) (iblk m c 2 t) (iblk m c 3 t) (iblk m c 4 t) (iblk m c 5 t) (iblk m c 6 t) (iblk m c 7 t)) (k0_pay3 (F := Ideal)) := by
  rw [outsAt0_A m c t h]
  dsimp only
  unfold out0_A_11
  rw [View.read_writes_eq_canon _ _ _ (fun y => cover0_A_11 (y := y) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_11 t).read_unread,
      View.ld_unit_zero (S := S512x768) hz, View.ld_unit_zero (S := S512x512) hz, View.ld_unit_zero (S := S512x1024) hz, View.ld_unit_zero (S := S512x256) hz, View.ld_unit_zero (S := S512x128) hz, View.ld_unit_zero (S := S1024x3456) hz, View.ld_unit_zero (S := S1x1024) hz]

theorem at11_later (c : Dev nD) (t : Fin cfg0.N) (h : ¬t.val % 8 = 0) : (outsAt0 m c t.val t.isLt).2
    = k0_pay2 (F := Ideal) (k0_pay8 (F := Ideal) (iblk m c 0 t) (iblk m c 1 t) (iblk m c 2 t) (iblk m c 3 t) (iblk m c 4 t) (iblk m c 5 t) (iblk m c 6 t) (iblk m c 7 t))
        (outsAt0 m c (t.val - 1) (Nat.lt_of_le_of_lt (Nat.sub_le _ _) t.isLt)).2 := by
  rw [outsAt0_B m c t h]
  dsimp only
  unfold out0_B_11
  rw [View.read_writes_eq_canon _ _ _ (fun y => cover0_B_11 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_11 t).read_unread,
      View.ld_unit_zero (S := S512x768) hz, View.ld_unit_zero (S := S512x512) hz, View.ld_unit_zero (S := S512x1024) hz, View.ld_unit_zero (S := S512x256) hz, View.ld_unit_zero (S := S512x128) hz, View.ld_unit_zero (S := S1024x3456) hz, View.ld_unit_zero (S := S1x1024) hz]

end Cert.KernelXIdeal.Gen

end
-- ==== Proof.InRun.lean ====
/-
The input projection's backward pass with respect to its input: the kernel's results and the reference's are the same
functions of the arguments.
-/
module

public import proofs.«01_k».proof.Proof.InTile
public import proofs.«01_k».proof.Proof.Gen.RefXIdeal.Run
public import proofs.«01_k».proof.Proof.Gen.RefXIdeal.Read
public import Idealize.ShloMosaic.Lib.Claim

@[expose] public section

set_option backward.isDefEq.respectTransparency false
set_option maxRecDepth 16384
set_option maxHeartbeats 4000000

noncomputable section

/-! ## The results, entry by entry -/

namespace Cert.Products

open Idealize.ShloMosaic

section
variable (a : FVec Ideal ⟨2, ![4096, 768]⟩ .bf16) (b : FVec Ideal ⟨2, ![4096, 512]⟩ .bf16) (d : FVec Ideal ⟨2, ![4096, 1024]⟩ .bf16)
  (e : FVec Ideal ⟨2, ![4096, 768]⟩ .bf16) (f : FVec Ideal ⟨2, ![4096, 256]⟩ .bf16) (h : FVec Ideal ⟨2, ![4096, 128]⟩ .bf16)
  (w : FVec Ideal ⟨2, ![1024, 3456]⟩ .bf16) (x : FVec Ideal ⟨2, ![4096, 1024]⟩ .f32) (g : FVec Ideal ⟨2, ![1, 1024]⟩ .f32) (n : FVec Ideal ⟨2, ![4096, 1024]⟩ .f32)

/-- The cotangent of the normalized input: `[a b d e f h] · wᵀ`. -/
def inH (t : Fin 4096) (q : Fin 1024) : EReal := ∑ k : Fin 3456, cat6 (rc a) (rc b) (rc d) (rc e) (rc f) (rc h) t k * w (ix2 q k)

/-- The cotangent of the input. -/
def inX : FVec Ideal ⟨2, ![4096, 1024]⟩ .f32 := fun i => dx (rc x (i 0)) (fun q => inH a b d e f h w (i 0) q * g (ix2 0 q)) (rc n (i 0)) (i 1)

/-- The cotangent of the scale. -/
def inG : FVec Ideal ⟨2, ![1, 1024]⟩ .f32 := fun i => ∑ t : Fin 4096, x (ix2 t (i 1)) * rs (rc x t) * inH a b d e f h w t (i 1)
end

end Cert.Products

/-! ## The kernel -/

namespace Cert.KernelXIdeal.Gen

open Idealize.ShloMosaic Idealize.ShloMosaic.TcCoe Idealize.SL.Sem
open Cert.KernelXIdeal Cert.Products

variable (m : (ℓ : Loc nD τ sig) → Buf (Elt Ideal) ℓ) (ρ : Dev nD → PrngReg)

theorem lt8 (t : Fin cfg0.N) : t.val < 8 := lt_of_lt_of_eq t.isLt N_0

theorem idx0 : ∀ t : Fin cfg0.N, win0_0.index t = ![t.val, 0] := by decide +kernel
theorem blk0 (c : Dev nD) (t : Fin cfg0.N) (r : Fin 512) (q : Fin 768) :
    (iblk m c 0 t : Vec Ideal S512x768 .bf16) (ix2 r q) = m (c.tc.loc main_arg0) (ix2 (row t.val (lt8 t) r) q) := by
  rw [← V_main_arg0 m c]
  unfold row
  blk_ext [iblk, idx0 t]
theorem idx1 : ∀ t : Fin cfg0.N, win0_1.index t = ![t.val, 0] := by decide +kernel
theorem blk1 (c : Dev nD) (t : Fin cfg0.N) (r : Fin 512) (q : Fin 512) :
    (iblk m c 1 t : Vec Ideal S512x512 .bf16) (ix2 r q) = m (c.tc.loc main_arg1) (ix2 (row t.val (lt8 t) r) q) := by
  rw [← V_main_arg1 m c]
  unfold row
  blk_ext [iblk, idx1 t]
theorem idx2 : ∀ t : Fin cfg0.N, win0_2.index t = ![t.val, 0] := by decide +kernel
theorem blk2 (c : Dev nD) (t : Fin cfg0.N) (r : Fin 512) (q : Fin 1024) :
    (iblk m c 2 t : Vec Ideal S512x1024 .bf16) (ix2 r q) = m (c.tc.loc main_arg2) (ix2 (row t.val (lt8 t) r) q) := by
  rw [← V_main_arg2 m c]
  unfold row
  blk_ext [iblk, idx2 t]
theorem idx3 : ∀ t : Fin cfg0.N, win0_3.index t = ![t.val, 0] := by decide +kernel
theorem blk3 (c : Dev nD) (t : Fin cfg0.N) (r : Fin 512) (q : Fin 768) :
    (iblk m c 3 t : Vec Ideal S512x768 .bf16) (ix2 r q) = m (c.tc.loc main_arg3) (ix2 (row t.val (lt8 t) r) q) := by
  rw [← V_main_arg3 m c]
  unfold row
  blk_ext [iblk, idx3 t]
theorem idx4 : ∀ t : Fin cfg0.N, win0_4.index t = ![t.val, 0] := by decide +kernel
theorem blk4 (c : Dev nD) (t : Fin cfg0.N) (r : Fin 512) (q : Fin 256) :
    (iblk m c 4 t : Vec Ideal S512x256 .bf16) (ix2 r q) = m (c.tc.loc main_arg4) (ix2 (row t.val (lt8 t) r) q) := by
  rw [← V_main_arg4 m c]
  unfold row
  blk_ext [iblk, idx4 t]
theorem idx5 : ∀ t : Fin cfg0.N, win0_5.index t = ![t.val, 0] := by decide +kernel
theorem blk5 (c : Dev nD) (t : Fin cfg0.N) (r : Fin 512) (q : Fin 128) :
    (iblk m c 5 t : Vec Ideal S512x128 .bf16) (ix2 r q) = m (c.tc.loc main_arg5) (ix2 (row t.val (lt8 t) r) q) := by
  rw [← V_main_arg5 m c]
  unfold row
  blk_ext [iblk, idx5 t]
theorem idx6 : ∀ t : Fin cfg0.N, win0_6.index t = ![0, 0] := by decide +kernel
theorem blk6 (c : Dev nD) (t : Fin cfg0.N) (r : Fin 1024) (q : Fin 3456) :
    (iblk m c 6 t : Vec Ideal S1024x3456 .bf16) (ix2 r q) = m (c.tc.loc main_arg6) (ix2 r q) := by
  rw [← V_main_arg6 m c]
  blk_ext [iblk, idx6 t]
theorem idx7 : ∀ t : Fin cfg0.N, win0_7.index t = ![t.val, 0] := by decide +kernel
theorem blk7 (c : Dev nD) (t : Fin cfg0.N) (r : Fin 512) (q : Fin 1024) :
    (iblk m c 7 t : Vec Ideal S512x1024 .f32) (ix2 r q) = m (c.tc.loc main_arg7) (ix2 (row t.val (lt8 t) r) q) := by
  rw [← V_main_arg7 m c]
  unfold row
  blk_ext [iblk, idx7 t]
theorem idx8 : ∀ t : Fin cfg0.N, win0_8.index t = ![0, 0] := by decide +kernel
theorem blk8 (c : Dev nD) (t : Fin cfg0.N) (r : Fin 1) (q : Fin 1024) :
    (iblk m c 8 t : Vec Ideal S1x1024 .f32) (ix2 r q) = m (c.tc.loc main_arg8) (ix2 r q) := by
  rw [← V_main_arg8 m c]
  blk_ext [iblk, idx8 t]
theorem idx9 : ∀ t : Fin cfg0.N, win0_9.index t = ![t.val, 0] := by decide +kernel
theorem blk9 (c : Dev nD) (t : Fin cfg0.N) (r : Fin 512) (q : Fin 1024) :
    (iblk m c 9 t : Vec Ideal S512x1024 .f32) (ix2 r q) = m (c.tc.loc main_arg9) (ix2 (row t.val (lt8 t) r) q) := by
  rw [← V_main_arg9 m c]
  unfold row
  blk_ext [iblk, idx9 t]

abbrev inHm (c : Dev nD) : Fin 4096 → Fin 1024 → EReal := inH (m (c.tc.loc main_arg0)) (m (c.tc.loc main_arg1)) (m (c.tc.loc main_arg2)) (m (c.tc.loc main_arg3)) (m (c.tc.loc main_arg4)) (m (c.tc.loc main_arg5)) (m (c.tc.loc main_arg6))
abbrev inXm (c : Dev nD) : FVec Ideal S4096x1024 .f32 := inX (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))
abbrev inGm (c : Dev nD) : FVec Ideal S1x1024 .f32 := inG (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

/-- The point's rows of the input. -/
abbrev X7 (c : Dev nD) (t : Fin cfg0.N) : FVec Ideal S512x1024 .f32 := iblk m c 7 t

/-- A point's rows of the cotangent of the normalized input. -/
theorem dh_at (c : Dev nD) (t : Fin cfg0.N) (r : Fin 512) (q : Fin 1024) : dh m c t (ix2 r q) = inHm m c (row t.val (lt8 t) r) q := by
  refine (pay4_at _ _ _ _ _ _ _ r q).trans (Finset.sum_congr rfl fun k _ => congrArg₂ (fun a b : EReal => a * b) ?_ (blk6 m c t q k))
  exact cat6_row (fun r q => blk0 m c t r q) (fun r q => blk1 m c t r q) (fun r q => blk2 m c t r q) (fun r q => blk3 m c t r q) (fun r q => blk4 m c t r q) (fun r q => blk5 m c t r q) r k

theorem idx10 : ∀ t : Fin cfg0.N, win0_10.index t = ![t.val, 0] := by decide +kernel
theorem arr10 (c : Dev nD) : (dats m 0 c).arrAt 10 cfg0.N = inXm m c := by
  refine (dats m 0 c).arrAt_eq_of_covers 10 _ (by decide +kernel) fun t hf y => ?_
  rw [after0_10, at10]
  obtain ⟨r, q, rfl⟩ : ∃ (r : Fin 512) (q : Fin 1024), y = ix2 r q := ⟨y 0, y 1, by funext a; fin_cases a <;> rfl⟩
  have e : ((cfg0.win 10).blk t).view.emb (ix2 r q) = ix2 (row t.val (lt8 t) r) q := by
    unfold row
    blk_ext [idx10 t]
  rw [e]
  refine (pay1_at _ _ _ r q).trans ?_
  have h7 : rc (X7 m c t) r = rc (f := .f32) (m (c.tc.loc main_arg7)) (row t.val (lt8 t) r) := funext fun k => blk7 m c t r k
  have h9 : rc (f := .f32) (iblk m c 9 t) r = rc (f := .f32) (m (c.tc.loc main_arg9)) (row t.val (lt8 t) r) := funext fun k => blk9 m c t r k
  have hp : rc (k0_pay9 (F := Ideal) (iblk m c 0 t) (iblk m c 1 t) (iblk m c 2 t) (iblk m c 3 t) (iblk m c 4 t) (iblk m c 5 t) (iblk m c 6 t) (iblk m c 8 t)) r
      = fun q => inHm m c (row t.val (lt8 t) r) q * m (c.tc.loc main_arg8) (ix2 0 q) := funext fun k =>
    (pay9_at _ _ _ _ _ _ _ _ r k).trans (congrArg₂ (fun a b : EReal => a * b) (dh_at m c t r k) (blk8 m c t 0 k))
  rw [h7, h9, hp]
  rfl

theorem sum11 (c : Dev nD) (q : Fin 1024) : (outsAt0 m c t0_7.val t0_7.isLt).2 (ix2 0 q) = inGm m c (ix2 0 q) := by
  rw [Pipeline.eq_sum_fin_of_reset_step_apply_last (fun n h => ((outsAt0 m c n h).2 : S1x1024.Idx → EReal)) 8 (fun _ => 0)
    (fun t i => ∑ r : Fin 512, X7 m c t (ix2 r (i 1)) * rs (rc (X7 m c t) r) * dh m c t (ix2 r (i 1)))
    (fun t h i => by
      obtain ⟨z, q, rfl⟩ : ∃ (z : Fin 1) (q : Fin 1024), i = ix2 z q := ⟨i 0, i 1, (ix2_coords i).symm⟩
      obtain rfl : z = 0 := Subsingleton.elim _ _
      refine (congrFun (at11_first m c t h) _).trans ((pay2_at _ _ q).trans ?_)
      rw [pay3_at]
      exact congrArg (fun a : EReal => 0 + a) (pay8_at _ _ _ _ _ _ _ _ 0 q))
    (fun t h i => by
      obtain ⟨z, q, rfl⟩ : ∃ (z : Fin 1) (q : Fin 1024), i = ix2 z q := ⟨i 0, i 1, (ix2_coords i).symm⟩
      obtain rfl : z = 0 := Subsingleton.elim _ _
      refine (congrFun (at11_later m c t h) _).trans ((pay2_at _ _ q).trans ?_)
      exact congrArg (fun a : EReal => _ + a) (pay8_at _ _ _ _ _ _ _ _ 0 q))
    (le_of_eq N_0) t0_7 rfl (ix2 0 q), zero_add]
  refine Eq.trans ?_ (sum_rows (fun t => rc (f := .f32) (m (c.tc.loc main_arg7)) t q * rs (rc (f := .f32) (m (c.tc.loc main_arg7)) t) * inHm m c t q))
  refine Finset.sum_congr rfl fun p _ => Finset.sum_congr rfl fun r _ => ?_
  have h7 : ∀ t : Fin cfg0.N, rc (X7 m c t) r = rc (f := .f32) (m (c.tc.loc main_arg7)) (row t.val (lt8 t) r) := fun t => funext fun k => blk7 m c t r k
  refine congrArg₂ (fun a b : EReal => a * b) (congrArg₂ (fun a b : EReal => a * b) (congrFun (h7 _) q) ?_) (dh_at m c _ r q)
  exact congrArg rs (h7 _)

theorem idx11 : ∀ t : Fin cfg0.N, win0_11.index t = ![0, 0] := by decide +kernel
theorem arr11 (c : Dev nD) : (dats m 0 c).arrAt 11 cfg0.N = inGm m c := by
  refine (dats m 0 c).arrAt_eq_of_after_last 11 t0_7 (by decide +kernel) _ fun j => ?_
  rw [after0_11]
  obtain ⟨z, q, rfl⟩ : ∃ (z : Fin 1) (q : Fin 1024), j = ix2 z q := ⟨j 0, j 1, by funext a; fin_cases a <;> rfl⟩
  obtain rfl : z = 0 := Subsingleton.elim _ _
  have e : (cfg0.win 11).arr.view.emb (ix2 0 q) = ix2 0 q := by funext b; fin_cases b <;> exact Fin.ext (by blk_simp)
  rw [e]
  blk_simp [idx11 t0_7]
  refine Eq.trans (congrArg _ ?_) (sum11 m c q)
  funext b; fin_cases b <;> rfl

/-- Every execution of the kernel ends with the two cotangents, its arguments unchanged. -/
theorem run_data : θ_run defs (onTc (τ := τ) (main (F := Ideal))) ⟨m, fun _ => 0, ρ⟩ fun r => ∀ c : Dev nD,
      r.2.mem (c.tc.loc main_v0_0) = inXm m c
      ∧ r.2.mem (c.tc.loc main_v0_1) = inGm m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) := by
  refine θ_run_mono (Cert.KernelXIdeal.Value.run_blocks (F := Ideal) m ρ) fun r hr c => ?_
  obtain ⟨h0, h1, ha⟩ := hr c
  exact ⟨h0.trans (arr10 m c), h1.trans (arr11 m c), ha⟩

end Cert.KernelXIdeal.Gen

/-! ## The reference -/

namespace Cert.RefXIdeal.Gen

open Idealize.ShloMosaic Idealize.ShloMosaic.StableHlo Idealize.SL.Sem
open Cert.RefXIdeal Cert.RefXIdeal.Read Cert.Products

section
variable (x0 : FVec Ideal S4096x768 .bf16) (x1 : FVec Ideal S4096x512 .bf16) (x2 : FVec Ideal S4096x1024 .bf16) (x3 : FVec Ideal S4096x768 .bf16)
  (x4 : FVec Ideal S4096x256 .bf16) (x5 : FVec Ideal S4096x128 .bf16) (x6 : FVec Ideal S1024x3456 .bf16) (x7 : FVec Ideal S4096x1024 .f32)
  (x8 : FVec Ideal S1x1024 .f32) (x9 : FVec Ideal S4096x1024 .f32)

theorem v1_at (r : Fin 4096) (q : Fin 3456) : val_main_v1 (F := Ideal) x0 x1 x2 x3 x4 x5 (ix2 r q) = cat6 (rc x0) (rc x1) (rc x2) (rc x3) (rc x4) (rc x5) r q :=
  Eq.trans rfl (cat6_rows x0 x1 x2 x3 x4 x5 concatenates_S4096x768_S4096x512_S4096x1024_S4096x768_S4096x256_S4096x128_S4096x3456_d1 r q)
theorem v19_at (r : Fin 4096) (q : Fin 1024) : val_main_v19 (F := Ideal) x0 x1 x2 x3 x4 x5 x6 (ix2 r q) = inH x0 x1 x2 x3 x4 x5 x6 r q := by
  unfold inH
  simp only [← v1_at]
  unfold val_main_v19 val_main_v2
  generalize val_main_v1 (F := Ideal) x0 x1 x2 x3 x4 x5 = y
  pointwise []
theorem v9_at (r : Fin 4096) (z : Fin 1) : val_main_v9 (F := Ideal) x7 (ix2 r z) = msq (rc x7 r) := by
  unfold val_main_v9 val_main_v8 val_main_v7 val_main_v6 val_main_v5 val_main_v4 val_main_v3 val_main_cst val_main_cst_0 val_main_cst_1 msq k1024 eps
  pointwise []
theorem v10_at (r : Fin 4096) (z : Fin 1) : val_main_v10 (F := Ideal) x7 (ix2 r z) = rs (rc x7 r) := by
  have h : val_main_v10 (F := Ideal) x7 (ix2 r z) = Ideal.rsqrt (val_main_v9 (F := Ideal) x7 (ix2 r z)) := rfl
  rw [h, v9_at]
  rfl
theorem v13_at (r : Fin 4096) (z : Fin 1) : val_main_v13 (F := Ideal) x7 (ix2 r z) = drs (rc x7 r) := by
  have h : val_main_v13 (F := Ideal) x7 (ix2 r z) = mhalf * Ideal.div (val_main_v10 (F := Ideal) x7 (ix2 r z)) (val_main_v9 (F := Ideal) x7 (ix2 r z)) := rfl
  rw [h, v9_at, v10_at]
  rfl
theorem v24_at (r : Fin 4096) (q : Fin 1024) : val_main_v24 (F := Ideal) x0 x1 x2 x3 x4 x5 x6 x8 (ix2 r q) = inH x0 x1 x2 x3 x4 x5 x6 r q * x8 (ix2 0 q) := by
  rw [← v19_at]
  unfold val_main_v24 val_main_v23
  generalize val_main_v19 (F := Ideal) x0 x1 x2 x3 x4 x5 x6 = y
  pointwise []
theorem v33_at (r : Fin 4096) (z : Fin 1) : val_main_v33 (F := Ideal) x0 x1 x2 x3 x4 x5 x6 x7 x8 (ix2 r z)
    = dms (rc x7 r) (fun q => inH x0 x1 x2 x3 x4 x5 x6 r q * x8 (ix2 0 q)) := by
  unfold dms k1024
  rw [← v13_at x7 r z]
  simp only [← v24_at]
  unfold val_main_v33 val_main_v32 val_main_v31 val_main_v27 val_main_v26 val_main_v25 val_main_cst_4 val_main_cst_5
  generalize val_main_v24 (F := Ideal) x0 x1 x2 x3 x4 x5 x6 x8 = y
  generalize val_main_v13 (F := Ideal) x7 = u
  pointwise []
theorem v35_at (r : Fin 4096) (q : Fin 1024) : val_main_v35 (F := Ideal) x0 x1 x2 x3 x4 x5 x6 x7 x8 (ix2 r q)
    = dms (rc x7 r) (fun q => inH x0 x1 x2 x3 x4 x5 x6 r q * x8 (ix2 0 q)) := by
  rw [← v33_at x0 x1 x2 x3 x4 x5 x6 x7 x8 r 0]
  unfold val_main_v35 val_main_v34 val_main_cst_6
  generalize val_main_v33 (F := Ideal) x0 x1 x2 x3 x4 x5 x6 x7 x8 = y
  pointwise []
  simp only [Fin.sum_univ_one]
theorem val39 : val_main_v39 (F := Ideal) x0 x1 x2 x3 x4 x5 x6 x7 x8 x9 = inX x0 x1 x2 x3 x4 x5 x6 x7 x8 x9 := by
  funext i
  obtain ⟨r, q, rfl⟩ : ∃ (r : Fin 4096) (q : Fin 1024), i = ix2 r q := ⟨i 0, i 1, (ix2_coords i).symm⟩
  have h28 : val_main_v28 (F := Ideal) x7 (ix2 r q) = val_main_v10 (F := Ideal) x7 (ix2 r 0) := by
    unfold val_main_v28
    generalize val_main_v10 (F := Ideal) x7 = s
    pointwise []
  have e : val_main_v39 (F := Ideal) x0 x1 x2 x3 x4 x5 x6 x7 x8 x9 (ix2 r q)
      = x9 (ix2 r q) + val_main_v24 (F := Ideal) x0 x1 x2 x3 x4 x5 x6 x8 (ix2 r q) * val_main_v28 (F := Ideal) x7 (ix2 r q)
        + x7 (ix2 r q) * val_main_v35 (F := Ideal) x0 x1 x2 x3 x4 x5 x6 x7 x8 (ix2 r q)
        + val_main_v35 (F := Ideal) x0 x1 x2 x3 x4 x5 x6 x7 x8 (ix2 r q) * x7 (ix2 r q) := rfl
  rw [e, v24_at, v35_at, h28, v10_at]
  unfold inX dx
  show _ = _ + x9 (ix2 r q)
  rw [add_assoc (x9 (ix2 r q)), add_assoc (x9 (ix2 r q)), add_comm (x9 (ix2 r q))]
  rfl
theorem val22 : val_main_v22 (F := Ideal) x0 x1 x2 x3 x4 x5 x6 x7 = inG x0 x1 x2 x3 x4 x5 x6 x7 := by
  funext i
  obtain ⟨z, q, rfl⟩ : ∃ (z : Fin 1) (q : Fin 1024), i = ix2 z q := ⟨i 0, i 1, (ix2_coords i).symm⟩
  unfold inG
  simp only [← v19_at, ← v10_at x7 _ 0]
  unfold val_main_v22 val_main_v21 val_main_v20 val_main_v15 val_main_v14 val_main_cst_3
  generalize val_main_v19 (F := Ideal) x0 x1 x2 x3 x4 x5 x6 = y
  generalize val_main_v10 (F := Ideal) x7 = s
  pointwise []
end

variable (m : (ℓ : Loc nD τ sig) → Buf (Elt Ideal) ℓ) (ρ : Dev nD → PrngReg)

/-- Every execution of the reference ends with the two cotangents, its arguments unchanged. -/
theorem run_data : θ_run defs (onTc (τ := τ) (main (F := Ideal))) ⟨m, fun _ => 0, ρ⟩ fun r => ∀ c : Dev nD,
      r.2.mem (c.tc.loc main_v39) = inX (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))
      ∧ r.2.mem (c.tc.loc main_v22) = inG (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) := by
  refine θ_run_mono (Cert.RefXIdeal.Value.run (F := Ideal) m ρ) fun r hr c => ?_
  obtain ⟨h39, h22, ha⟩ := hr c
  exact ⟨h39.trans (val39 ..), h22.trans (val22 ..), ha⟩

end Cert.RefXIdeal.Gen

end
-- ==== Proof.WeightTile.lean ====
/-
The input projection's backward pass with respect to its weight, tile by tile: what the kernel's block holds.
-/
module

public import proofs.«01_k».proof.Proof.Products
public import proofs.«01_k».proof.Proof.Gen.KernelWIdeal.Value
public import Idealize.ShloMosaic.Lib.Pipeline.ValueKit
public import Idealize.ShloMosaic.Lib.Pipeline.ReadBack

@[expose] public section

set_option backward.isDefEq.respectTransparency false
set_option maxRecDepth 16384
set_option maxHeartbeats 4000000

noncomputable section

namespace Cert.KernelWIdeal.Gen

open Idealize.ShloMosaic Idealize.ShloMosaic.TcCoe Idealize.SL.Sem
open Cert.KernelWIdeal Cert.Products

theorem hz : (![0, 0] : Fin 2 → Nat) = fun _ => 0 := funext fun a => by fin_cases a <;> rfl

/-! ## The payloads, entry by entry -/

section
variable (h : FVec Ideal S512x1024 .bf16) (a : FVec Ideal S512x768 .bf16) (b : FVec Ideal S512x512 .bf16) (d : FVec Ideal S512x1024 .bf16)
  (e : FVec Ideal S512x768 .bf16) (f : FVec Ideal S512x256 .bf16) (g : FVec Ideal S512x128 .bf16)

/-- A point's addition to the sum `s`: `hᵀ · [a b d e f g]`. -/
def accW (s : FVec Ideal S1024x3456 .f32) : FVec Ideal S1024x3456 .f32 := fun i =>
  s i + ∑ r : Fin 512, h (ix2 r (i 0)) * cat6 (rc a) (rc b) (rc d) (rc e) (rc f) (rc g) r (i 1)

theorem pay6_at (s : FVec Ideal S1024x768 .f32) (p : Fin 1024) (q : Fin 768) :
    k0_pay6 (F := Ideal) h s a (ix2 p q) = s (ix2 p q) + ∑ r : Fin 512, h (ix2 r p) * a (ix2 r q) := by
  unfold k0_pay6 k0_pay5
  pointwise []
theorem pay7_at (s : FVec Ideal S1024x512 .f32) (p : Fin 1024) (q : Fin 512) :
    k0_pay7 (F := Ideal) h s b (ix2 p q) = s (ix2 p q) + ∑ r : Fin 512, h (ix2 r p) * b (ix2 r q) := by
  unfold k0_pay7 k0_pay5
  pointwise []
theorem pay8_at (s : FVec Ideal S1024x1024 .f32) (p : Fin 1024) (q : Fin 1024) :
    k0_pay8 (F := Ideal) h s d (ix2 p q) = s (ix2 p q) + ∑ r : Fin 512, h (ix2 r p) * d (ix2 r q) := by
  unfold k0_pay8 k0_pay5
  pointwise []
theorem pay1_at (s : FVec Ideal S1024x768 .f32) (p : Fin 1024) (q : Fin 768) :
    k0_pay1 (F := Ideal) (k0_pay5 h) (k0_pay9 s) e (ix2 p q) = s (ix2 p q) + ∑ r : Fin 512, h (ix2 r p) * e (ix2 r q) := by
  unfold k0_pay1 k0_pay5 k0_pay9
  pointwise []
theorem pay2_at (s : FVec Ideal S1024x256 .f32) (p : Fin 1024) (q : Fin 256) :
    k0_pay2 (F := Ideal) (k0_pay5 h) s f (ix2 p q) = s (ix2 p q) + ∑ r : Fin 512, h (ix2 r p) * f (ix2 r q) := by
  unfold k0_pay2 k0_pay5
  pointwise []
theorem pay3_at (s : FVec Ideal S1024x128 .f32) (p : Fin 1024) (q : Fin 128) :
    k0_pay3 (F := Ideal) (k0_pay5 h) s g (ix2 p q) = s (ix2 p q) + ∑ r : Fin 512, h (ix2 r p) * g (ix2 r q) := by
  unfold k0_pay3 k0_pay5
  pointwise []
theorem pay4_at (p : Fin 1024) (q : Fin 3456) : k0_pay4 (F := Ideal) (ix2 p q) = 0 := by
  unfold k0_pay4
  pointwise []

/-- The columns of the six slabs. -/
abbrev R0 : Rect S1024x3456 := Rect.unit (s := S1024x3456) ![0, 0] S1024x768.size inb_S1024x3456_S1024x768_0_0
abbrev R1 : Rect S1024x3456 := Rect.unit (s := S1024x3456) ![0, 768] S1024x512.size inb_S1024x3456_S1024x512_0_768
abbrev R2 : Rect S1024x3456 := Rect.unit (s := S1024x3456) ![0, 1280] S1024x1024.size inb_S1024x3456_S1024x1024_0_1280
abbrev R3 : Rect S1024x3456 := Rect.unit (s := S1024x3456) ![0, 2304] S1024x768.size inb_S1024x3456_S1024x768_0_2304
abbrev R4 : Rect S1024x3456 := Rect.unit (s := S1024x3456) ![0, 3072] S1024x256.size inb_S1024x3456_S1024x256_0_3072
abbrev R5 : Rect S1024x3456 := Rect.unit (s := S1024x3456) ![0, 3328] S1024x128.size inb_S1024x3456_S1024x128_0_3328

/-- A point's six stores. -/
def stores (s : FVec Ideal S1024x3456 .f32) : List (View.Piece (Elt Ideal) S1024x3456 .f32) := [
  ⟨R5, k0_pay3 (k0_pay5 h) (View.ld (Val := Elt Ideal) (e' := .f32) s R5) g⟩,
  ⟨R4, k0_pay2 (k0_pay5 h) (View.ld (Val := Elt Ideal) (e' := .f32) s R4) f⟩,
  ⟨R3, k0_pay1 (k0_pay5 h) (k0_pay9 (View.ld (Val := Elt Ideal) (e' := .f32) s R3)) e⟩,
  ⟨R2, k0_pay8 h (View.ld (Val := Elt Ideal) (e' := .f32) s R2) d⟩,
  ⟨R1, k0_pay7 h (View.ld (Val := Elt Ideal) (e' := .f32) s R1) b⟩,
  ⟨R0, k0_pay6 h (View.ld (Val := Elt Ideal) (e' := .f32) s R0) a⟩]

/-- The slabs' places among the columns. -/
theorem cat6_0 (r : Fin 512) (q : Fin 768) : cat6 (rc a) (rc b) (rc d) (rc e) (rc f) (rc g) r ⟨0 + q.val, by omega⟩ = a (ix2 r q) := by
  unfold cat6
  rw [dif_pos (show 0 + q.val < 768 by omega)]
  exact congrArg (fun k => a (ix2 r k)) (Fin.ext (show 0 + q.val = q.val by omega))
theorem cat6_1 (r : Fin 512) (q : Fin 512) : cat6 (rc a) (rc b) (rc d) (rc e) (rc f) (rc g) r ⟨768 + q.val, by omega⟩ = b (ix2 r q) := by
  unfold cat6
  rw [dif_neg (show ¬768 + q.val < 768 by omega), dif_pos (show 768 + q.val - 768 < 512 by omega)]
  exact congrArg (fun k => b (ix2 r k)) (Fin.ext (show 768 + q.val - 768 = q.val by omega))
theorem cat6_2 (r : Fin 512) (q : Fin 1024) : cat6 (rc a) (rc b) (rc d) (rc e) (rc f) (rc g) r ⟨1280 + q.val, by omega⟩ = d (ix2 r q) := by
  unfold cat6
  rw [dif_neg (show ¬1280 + q.val < 768 by omega), dif_neg (show ¬1280 + q.val - 768 < 512 by omega), dif_pos (show 1280 + q.val - 768 - 512 < 1024 by omega)]
  exact congrArg (fun k => d (ix2 r k)) (Fin.ext (show 1280 + q.val - 768 - 512 = q.val by omega))
theorem cat6_3 (r : Fin 512) (q : Fin 768) : cat6 (rc a) (rc b) (rc d) (rc e) (rc f) (rc g) r ⟨2304 + q.val, by omega⟩ = e (ix2 r q) := by
  unfold cat6
  rw [dif_neg (show ¬2304 + q.val < 768 by omega), dif_neg (show ¬2304 + q.val - 768 < 512 by omega), dif_neg (show ¬2304 + q.val - 768 - 512 < 1024 by omega), dif_pos (show 2304 + q.val - 768 - 512 - 1024 < 768 by omega)]
  exact congrArg (fun k => e (ix2 r k)) (Fin.ext (show 2304 + q.val - 768 - 512 - 1024 = q.val by omega))
theorem cat6_4 (r : Fin 512) (q : Fin 256) : cat6 (rc a) (rc b) (rc d) (rc e) (rc f) (rc g) r ⟨3072 + q.val, by omega⟩ = f (ix2 r q) := by
  unfold cat6
  rw [dif_neg (show ¬3072 + q.val < 768 by omega), dif_neg (show ¬3072 + q.val - 768 < 512 by omega), dif_neg (show ¬3072 + q.val - 768 - 512 < 1024 by omega), dif_neg (show ¬3072 + q.val - 768 - 512 - 1024 < 768 by omega), dif_pos (show 3072 + q.val - 768 - 512 - 1024 - 768 < 256 by omega)]
  exact congrArg (fun k => f (ix2 r k)) (Fin.ext (show 3072 + q.val - 768 - 512 - 1024 - 768 = q.val by omega))
theorem cat6_5 (r : Fin 512) (q : Fin 128) : cat6 (rc a) (rc b) (rc d) (rc e) (rc f) (rc g) r ⟨3328 + q.val, by omega⟩ = g (ix2 r q) := by
  unfold cat6
  rw [dif_neg (show ¬3328 + q.val < 768 by omega), dif_neg (show ¬3328 + q.val - 768 < 512 by omega), dif_neg (show ¬3328 + q.val - 768 - 512 < 1024 by omega), dif_neg (show ¬3328 + q.val - 768 - 512 - 1024 < 768 by omega), dif_neg (show ¬3328 + q.val - 768 - 512 - 1024 - 768 < 256 by omega)]
  exact congrArg (fun k => g (ix2 r k)) (Fin.ext (show 3328 + q.val - 768 - 512 - 1024 - 768 - 256 = q.val by omega))

/-- A store is a block of the new sum. -/
theorem store_0 (s : FVec Ideal S1024x3456 .f32) (x : R0.shape.Idx) : ((k0_pay6 h (View.ld (Val := Elt Ideal) (e' := .f32) s R0) a) : FVec Ideal S1024x768 .f32) x = accW h a b d e f g s (R0.emb x) := by
  obtain ⟨p, q, rfl⟩ : ∃ (p : Fin 1024) (q : Fin 768), x = ix2 p q := ⟨x 0, x 1, by funext a; fin_cases a <;> rfl⟩
  have hx : R0.emb (ix2 p q) = ix2 p ⟨0 + q.val, by omega⟩ := by
    funext k
    fin_cases k <;> exact Fin.ext (by blk_simp; first | rfl | exact (Nat.zero_add _).symm)
  rw [hx]
  refine (pay6_at h a _ p q).trans (congrArg₂ (fun a b : EReal => a + b) (congrArg s hx) (Finset.sum_congr rfl fun r _ => ?_))
  exact congrArg (fun z : EReal => h (ix2 r p) * z) (cat6_0 a b d e f g r q).symm
theorem store_1 (s : FVec Ideal S1024x3456 .f32) (x : R1.shape.Idx) : ((k0_pay7 h (View.ld (Val := Elt Ideal) (e' := .f32) s R1) b) : FVec Ideal S1024x512 .f32) x = accW h a b d e f g s (R1.emb x) := by
  obtain ⟨p, q, rfl⟩ : ∃ (p : Fin 1024) (q : Fin 512), x = ix2 p q := ⟨x 0, x 1, by funext a; fin_cases a <;> rfl⟩
  have hx : R1.emb (ix2 p q) = ix2 p ⟨768 + q.val, by omega⟩ := by
    funext k
    fin_cases k <;> exact Fin.ext (by blk_simp; first | rfl | exact (Nat.zero_add _).symm)
  rw [hx]
  refine (pay7_at h b _ p q).trans (congrArg₂ (fun a b : EReal => a + b) (congrArg s hx) (Finset.sum_congr rfl fun r _ => ?_))
  exact congrArg (fun z : EReal => h (ix2 r p) * z) (cat6_1 a b d e f g r q).symm
theorem store_2 (s : FVec Ideal S1024x3456 .f32) (x : R2.shape.Idx) : ((k0_pay8 h (View.ld (Val := Elt Ideal) (e' := .f32) s R2) d) : FVec Ideal S1024x1024 .f32) x = accW h a b d e f g s (R2.emb x) := by
  obtain ⟨p, q, rfl⟩ : ∃ (p : Fin 1024) (q : Fin 1024), x = ix2 p q := ⟨x 0, x 1, by funext a; fin_cases a <;> rfl⟩
  have hx : R2.emb (ix2 p q) = ix2 p ⟨1280 + q.val, by omega⟩ := by
    funext k
    fin_cases k <;> exact Fin.ext (by blk_simp; first | rfl | exact (Nat.zero_add _).symm)
  rw [hx]
  refine (pay8_at h d _ p q).trans (congrArg₂ (fun a b : EReal => a + b) (congrArg s hx) (Finset.sum_congr rfl fun r _ => ?_))
  exact congrArg (fun z : EReal => h (ix2 r p) * z) (cat6_2 a b d e f g r q).symm
theorem store_3 (s : FVec Ideal S1024x3456 .f32) (x : R3.shape.Idx) : ((k0_pay1 (k0_pay5 h) (k0_pay9 (View.ld (Val := Elt Ideal) (e' := .f32) s R3)) e) : FVec Ideal S1024x768 .f32) x = accW h a b d e f g s (R3.emb x) := by
  obtain ⟨p, q, rfl⟩ : ∃ (p : Fin 1024) (q : Fin 768), x = ix2 p q := ⟨x 0, x 1, by funext a; fin_cases a <;> rfl⟩
  have hx : R3.emb (ix2 p q) = ix2 p ⟨2304 + q.val, by omega⟩ := by
    funext k
    fin_cases k <;> exact Fin.ext (by blk_simp; first | rfl | exact (Nat.zero_add _).symm)
  rw [hx]
  refine (pay1_at h e _ p q).trans (congrArg₂ (fun a b : EReal => a + b) (congrArg s hx) (Finset.sum_congr rfl fun r _ => ?_))
  exact congrArg (fun z : EReal => h (ix2 r p) * z) (cat6_3 a b d e f g r q).symm
theorem store_4 (s : FVec Ideal S1024x3456 .f32) (x : R4.shape.Idx) : ((k0_pay2 (k0_pay5 h) (View.ld (Val := Elt Ideal) (e' := .f32) s R4) f) : FVec Ideal S1024x256 .f32) x = accW h a b d e f g s (R4.emb x) := by
  obtain ⟨p, q, rfl⟩ : ∃ (p : Fin 1024) (q : Fin 256), x = ix2 p q := ⟨x 0, x 1, by funext a; fin_cases a <;> rfl⟩
  have hx : R4.emb (ix2 p q) = ix2 p ⟨3072 + q.val, by omega⟩ := by
    funext k
    fin_cases k <;> exact Fin.ext (by blk_simp; first | rfl | exact (Nat.zero_add _).symm)
  rw [hx]
  refine (pay2_at h f _ p q).trans (congrArg₂ (fun a b : EReal => a + b) (congrArg s hx) (Finset.sum_congr rfl fun r _ => ?_))
  exact congrArg (fun z : EReal => h (ix2 r p) * z) (cat6_4 a b d e f g r q).symm
theorem store_5 (s : FVec Ideal S1024x3456 .f32) (x : R5.shape.Idx) : ((k0_pay3 (k0_pay5 h) (View.ld (Val := Elt Ideal) (e' := .f32) s R5) g) : FVec Ideal S1024x128 .f32) x = accW h a b d e f g s (R5.emb x) := by
  obtain ⟨p, q, rfl⟩ : ∃ (p : Fin 1024) (q : Fin 128), x = ix2 p q := ⟨x 0, x 1, by funext a; fin_cases a <;> rfl⟩
  have hx : R5.emb (ix2 p q) = ix2 p ⟨3328 + q.val, by omega⟩ := by
    funext k
    fin_cases k <;> exact Fin.ext (by blk_simp; first | rfl | exact (Nat.zero_add _).symm)
  rw [hx]
  refine (pay3_at h g _ p q).trans (congrArg₂ (fun a b : EReal => a + b) (congrArg s hx) (Finset.sum_congr rfl fun r _ => ?_))
  exact congrArg (fun z : EReal => h (ix2 r p) * z) (cat6_5 a b d e f g r q).symm

/-- Over anything, the six stores leave the new sum. -/
theorem canon_stores (s : FVec Ideal S1024x3456 .f32) (L : List (View.Piece (Elt Ideal) S1024x3456 .f32)) :
    View.canon (s := S1024x3456) (e := .f32) (Val := Elt Ideal) (stores h a b d e f g s ++ L) = accW h a b d e f g s := by
  funext y
  refine View.canon_append_of_piecesOf _ L _ ?_ y (View.cover_of_tiledBy (stores h a b d e f g s) ![1024, 128] (by sl_kernel_rfl) y)
  exact ⟨store_5 h a b d e f g s, store_4 h a b d e f g s, store_3 h a b d e f g s, store_2 h a b d e f g s, store_1 h a b d e f g s, store_0 h a b d e f g s, trivial⟩
end

/-! ## A point's block -/

variable (m : (ℓ : Loc nD τ sig) → Buf (Elt Ideal) ℓ)

theorem at7_first (c : Dev nD) (t : Fin cfg0.N) (h : t.val % 8 = 0) : outsAt0 m c t.val t.isLt = accW (iblk m c 0 t) (iblk m c 1 t) (iblk m c 2 t) (iblk m c 3 t) (iblk m c 4 t) (iblk m c 5 t) (iblk m c 6 t) (k0_pay4 (F := Ideal)) := by
  rw [outsAt0_A m c t h]
  unfold out0_A_7
  rw [View.read_writes_eq_canon _ _ _ (fun y => cover0_A_7 (y := y) ..)]
  unfold kernelRun0_A
  dsimp only
  sl_unfold_words
  simp (discharger := decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread,
    View.ld_unit_zero (S := S512x1024) hz, View.ld_unit_zero (S := S512x768) hz, View.ld_unit_zero (S := S512x512) hz, View.ld_unit_zero (S := S512x256) hz, View.ld_unit_zero (S := S512x128) hz]
  exact canon_stores _ _ _ _ _ _ _ _ [_]

theorem at7_later (c : Dev nD) (t : Fin cfg0.N) (h : ¬t.val % 8 = 0) : outsAt0 m c t.val t.isLt = accW (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  rw [outsAt0_B m c t h]
  unfold out0_B_7
  rw [View.read_writes_eq_canon _ _ _ (fun y => cover0_B_7 (y := y) ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
    View.ld_unit_zero (S := S512x1024) hz, View.ld_unit_zero (S := S512x768) hz, View.ld_unit_zero (S := S512x512) hz, View.ld_unit_zero (S := S512x256) hz, View.ld_unit_zero (S := S512x128) hz]
  exact (congrArg _ (List.append_nil _).symm).trans (canon_stores _ _ _ _ _ _ _ _ [])

end Cert.KernelWIdeal.Gen

end
-- ==== Proof.WeightRun.lean ====
/-
The input projection's backward pass with respect to its weight: the kernel's result and the reference's are the same
function of the arguments.
-/
module

public import proofs.«01_k».proof.Proof.InTile
public import proofs.«01_k».proof.Proof.WeightTile
public import proofs.«01_k».proof.Proof.Gen.RefWIdeal.Run
public import proofs.«01_k».proof.Proof.Gen.RefWIdeal.Read
public import Idealize.ShloMosaic.Lib.Claim

@[expose] public section

set_option backward.isDefEq.respectTransparency false
set_option maxRecDepth 16384
set_option maxHeartbeats 4000000

noncomputable section

/-! ## The result, entry by entry -/

namespace Cert.Products

open Idealize.ShloMosaic

/-- The cotangent of the weight: the normalized input, transposed, times `[a b d e f h]`. -/
def inW (x : FVec Ideal ⟨2, ![4096, 1024]⟩ .f32) (g : FVec Ideal ⟨2, ![1, 1024]⟩ .f32)
    (a : FVec Ideal ⟨2, ![4096, 768]⟩ .bf16) (b : FVec Ideal ⟨2, ![4096, 512]⟩ .bf16) (d : FVec Ideal ⟨2, ![4096, 1024]⟩ .bf16)
    (e : FVec Ideal ⟨2, ![4096, 768]⟩ .bf16) (f : FVec Ideal ⟨2, ![4096, 256]⟩ .bf16) (h : FVec Ideal ⟨2, ![4096, 128]⟩ .bf16) : FVec Ideal ⟨2, ![1024, 3456]⟩ .f32 :=
  fun i => ∑ t : Fin 4096, nrm x g t (i 0) * cat6 (rc a) (rc b) (rc d) (rc e) (rc f) (rc h) t (i 1)

end Cert.Products

/-! ## The reference -/

namespace Cert.RefWIdeal.Gen

open Idealize.ShloMosaic Idealize.ShloMosaic.StableHlo Idealize.SL.Sem
open Cert.RefWIdeal Cert.RefWIdeal.Read Cert.Products

section
variable (x0 : FVec Ideal S4096x1024 .f32) (x1 : FVec Ideal S1x1024 .f32) (x2 : FVec Ideal S4096x768 .bf16) (x3 : FVec Ideal S4096x512 .bf16)
  (x4 : FVec Ideal S4096x1024 .bf16) (x5 : FVec Ideal S4096x768 .bf16) (x6 : FVec Ideal S4096x256 .bf16) (x7 : FVec Ideal S4096x128 .bf16)

theorem v1_at (r : Fin 4096) (q : Fin 3456) : val_main_v1 (F := Ideal) x2 x3 x4 x5 x6 x7 (ix2 r q) = cat6 (rc x2) (rc x3) (rc x4) (rc x5) (rc x6) (rc x7) r q :=
  Eq.trans rfl (cat6_rows x2 x3 x4 x5 x6 x7 concatenates_S4096x768_S4096x512_S4096x1024_S4096x768_S4096x256_S4096x128_S4096x3456_d1 r q)
theorem v9_at (r : Fin 4096) (z : Fin 1) : val_main_v9 (F := Ideal) x0 (ix2 r z) = msq (rc x0 r) := by
  unfold val_main_v9 val_main_v8 val_main_v7 val_main_v6 val_main_v5 val_main_v4 val_main_v3 val_main_cst_0 val_main_cst_1 val_main_cst_2 msq k1024 eps
  pointwise []
theorem v10_at (r : Fin 4096) (z : Fin 1) : val_main_v10 (F := Ideal) x0 (ix2 r z) = rs (rc x0 r) := by
  have h : val_main_v10 (F := Ideal) x0 (ix2 r z) = Ideal.rsqrt (val_main_v9 (F := Ideal) x0 (ix2 r z)) := rfl
  rw [h, v9_at]
  rfl
theorem v14_at (r : Fin 4096) (q : Fin 1024) : val_main_v14 (F := Ideal) x0 x1 (ix2 r q) = nrm x0 x1 r q := by
  unfold nrm
  rw [← v10_at x0 r 0]
  unfold val_main_v14 val_main_v13 val_main_v12 val_main_v11
  generalize val_main_v10 (F := Ideal) x0 = s
  pointwise []
theorem v16_at (q : Fin 3456) (p : Fin 1024) : val_main_v16 (F := Ideal) x0 x1 x2 x3 x4 x5 x6 x7 (ix2 q p)
    = ∑ t : Fin 4096, val_main_v1 (F := Ideal) x2 x3 x4 x5 x6 x7 (ix2 t q) * val_main_v14 (F := Ideal) x0 x1 (ix2 t p) := by
  unfold val_main_v16
  generalize val_main_v1 (F := Ideal) x2 x3 x4 x5 x6 x7 = y
  generalize val_main_v14 (F := Ideal) x0 x1 = z
  pointwise []
theorem val17 : val_main_v17 (F := Ideal) x0 x1 x2 x3 x4 x5 x6 x7 = inW x0 x1 x2 x3 x4 x5 x6 x7 := by
  funext i
  obtain ⟨p, q, rfl⟩ : ∃ (p : Fin 1024) (q : Fin 3456), i = ix2 p q := ⟨i 0, i 1, (ix2_coords i).symm⟩
  have e : val_main_v17 (F := Ideal) x0 x1 x2 x3 x4 x5 x6 x7 (ix2 p q) = val_main_v16 (F := Ideal) x0 x1 x2 x3 x4 x5 x6 x7 (ix2 q p) := by
    unfold val_main_v17
    generalize val_main_v16 (F := Ideal) x0 x1 x2 x3 x4 x5 x6 x7 = y
    pointwise []
  rw [e, v16_at]
  exact Finset.sum_congr rfl fun t _ => (mul_comm _ _).trans (congrArg₂ (fun a b : EReal => a * b) (v14_at x0 x1 t p) (v1_at x2 x3 x4 x5 x6 x7 t q))
end

variable (m : (ℓ : Loc nD τ sig) → Buf (Elt Ideal) ℓ) (ρ : Dev nD → PrngReg)

/-- Every execution of the reference ends with the cotangent, its arguments unchanged. -/
theorem run_data : θ_run defs (onTc (τ := τ) (main (F := Ideal))) ⟨m, fun _ => 0, ρ⟩ fun r => ∀ c : Dev nD,
      r.2.mem (c.tc.loc main_v17) = inW (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine θ_run_mono (Cert.RefWIdeal.Value.run (F := Ideal) m ρ) fun r hr c => ?_
  obtain ⟨h17, ha⟩ := hr c
  exact ⟨h17.trans (val17 ..), ha⟩

end Cert.RefWIdeal.Gen

/-! ## The kernel -/

namespace Cert.KernelWIdeal.Gen

open Idealize.ShloMosaic Idealize.ShloMosaic.TcCoe Idealize.SL.Sem
open Cert.KernelWIdeal Cert.Products

variable (m : (ℓ : Loc nD τ sig) → Buf (Elt Ideal) ℓ) (ρ : Dev nD → PrngReg)

theorem lt8 (t : Fin cfg0.N) : t.val < 8 := lt_of_lt_of_eq t.isLt N_0

/-- What the kernel computes before the call: the normalized input. -/
theorem host_at (c : Dev nD) (t : Fin 4096) (q : Fin 1024) :
    (V m c main_v12 : S4096x1024.Idx → EReal) (ix2 t q) = nrm (m (c.tc.loc main_arg0)) (m (c.tc.loc main_arg1)) t q := by
  refine Eq.trans ?_ (Cert.RefWIdeal.Gen.v14_at (m (c.tc.loc main_arg0)) (m (c.tc.loc main_arg1)) t q)
  rfl

theorem idx0 : ∀ t : Fin cfg0.N, win0_0.index t = ![t.val, 0] := by decide +kernel
theorem blk0 (c : Dev nD) (t : Fin cfg0.N) (r : Fin 512) (q : Fin 1024) :
    (iblk m c 0 t : Vec Ideal S512x1024 .bf16) (ix2 r q) = nrm (m (c.tc.loc main_arg0)) (m (c.tc.loc main_arg1)) (row t.val (lt8 t) r) q := by
  rw [← host_at m c]
  unfold row
  blk_ext [iblk, idx0 t]
theorem idx1 : ∀ t : Fin cfg0.N, win0_1.index t = ![t.val, 0] := by decide +kernel
theorem blk1 (c : Dev nD) (t : Fin cfg0.N) (r : Fin 512) (q : Fin 768) :
    (iblk m c 1 t : Vec Ideal S512x768 .bf16) (ix2 r q) = m (c.tc.loc main_arg2) (ix2 (row t.val (lt8 t) r) q) := by
  rw [← V_main_arg2 m c]
  unfold row
  blk_ext [iblk, idx1 t]
theorem idx2 : ∀ t : Fin cfg0.N, win0_2.index t = ![t.val, 0] := by decide +kernel
theorem blk2 (c : Dev nD) (t : Fin cfg0.N) (r : Fin 512) (q : Fin 512) :
    (iblk m c 2 t : Vec Ideal S512x512 .bf16) (ix2 r q) = m (c.tc.loc main_arg3) (ix2 (row t.val (lt8 t) r) q) := by
  rw [← V_main_arg3 m c]
  unfold row
  blk_ext [iblk, idx2 t]
theorem idx3 : ∀ t : Fin cfg0.N, win0_3.index t = ![t.val, 0] := by decide +kernel
theorem blk3 (c : Dev nD) (t : Fin cfg0.N) (r : Fin 512) (q : Fin 1024) :
    (iblk m c 3 t : Vec Ideal S512x1024 .bf16) (ix2 r q) = m (c.tc.loc main_arg4) (ix2 (row t.val (lt8 t) r) q) := by
  rw [← V_main_arg4 m c]
  unfold row
  blk_ext [iblk, idx3 t]
theorem idx4 : ∀ t : Fin cfg0.N, win0_4.index t = ![t.val, 0] := by decide +kernel
theorem blk4 (c : Dev nD) (t : Fin cfg0.N) (r : Fin 512) (q : Fin 768) :
    (iblk m c 4 t : Vec Ideal S512x768 .bf16) (ix2 r q) = m (c.tc.loc main_arg5) (ix2 (row t.val (lt8 t) r) q) := by
  rw [← V_main_arg5 m c]
  unfold row
  blk_ext [iblk, idx4 t]
theorem idx5 : ∀ t : Fin cfg0.N, win0_5.index t = ![t.val, 0] := by decide +kernel
theorem blk5 (c : Dev nD) (t : Fin cfg0.N) (r : Fin 512) (q : Fin 256) :
    (iblk m c 5 t : Vec Ideal S512x256 .bf16) (ix2 r q) = m (c.tc.loc main_arg6) (ix2 (row t.val (lt8 t) r) q) := by
  rw [← V_main_arg6 m c]
  unfold row
  blk_ext [iblk, idx5 t]
theorem idx6 : ∀ t : Fin cfg0.N, win0_6.index t = ![t.val, 0] := by decide +kernel
theorem blk6 (c : Dev nD) (t : Fin cfg0.N) (r : Fin 512) (q : Fin 128) :
    (iblk m c 6 t : Vec Ideal S512x128 .bf16) (ix2 r q) = m (c.tc.loc main_arg7) (ix2 (row t.val (lt8 t) r) q) := by
  rw [← V_main_arg7 m c]
  unfold row
  blk_ext [iblk, idx6 t]

abbrev inWm (c : Dev nD) : FVec Ideal S1024x3456 .f32 := inW (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

theorem sum7 (c : Dev nD) (p : Fin 1024) (q : Fin 3456) : outsAt0 m c t0_7.val t0_7.isLt (ix2 p q) = inWm m c (ix2 p q) := by
  rw [Pipeline.eq_sum_fin_of_reset_step_apply_last (fun n h => (outsAt0 m c n h : S1024x3456.Idx → EReal)) 8 (fun _ => 0)
    (fun t i => ∑ r : Fin 512, rc (f := .bf16) (iblk m c 0 t : Vec Ideal S512x1024 .bf16) r (i 0) * cat6 (rc (f := .bf16) (iblk m c 1 t : Vec Ideal S512x768 .bf16)) (rc (f := .bf16) (iblk m c 2 t : Vec Ideal S512x512 .bf16)) (rc (f := .bf16) (iblk m c 3 t : Vec Ideal S512x1024 .bf16)) (rc (f := .bf16) (iblk m c 4 t : Vec Ideal S512x768 .bf16)) (rc (f := .bf16) (iblk m c 5 t : Vec Ideal S512x256 .bf16)) (rc (f := .bf16) (iblk m c 6 t : Vec Ideal S512x128 .bf16)) r (i 1))
    (fun t h i => by
      refine (congrFun (at7_first m c t h) _).trans ?_
      obtain ⟨p, q, rfl⟩ : ∃ (p : Fin 1024) (q : Fin 3456), i = ix2 p q := ⟨i 0, i 1, (ix2_coords i).symm⟩
      unfold accW
      rw [pay4_at])
    (fun t h i => congrFun (at7_later m c t h) _)
    (le_of_eq N_0) t0_7 rfl (ix2 p q), zero_add]
  refine Eq.trans ?_ (sum_rows (fun t => nrm (m (c.tc.loc main_arg0)) (m (c.tc.loc main_arg1)) t p * cat6 (rc (f := .bf16) (m (c.tc.loc main_arg2))) (rc (f := .bf16) (m (c.tc.loc main_arg3))) (rc (f := .bf16) (m (c.tc.loc main_arg4))) (rc (f := .bf16) (m (c.tc.loc main_arg5))) (rc (f := .bf16) (m (c.tc.loc main_arg6))) (rc (f := .bf16) (m (c.tc.loc main_arg7))) t q))
  refine Finset.sum_congr rfl fun k _ => Finset.sum_congr rfl fun r _ => ?_
  exact congrArg₂ (fun a b : EReal => a * b) (blk0 m c _ r p) (cat6_row (fun r q => blk1 m c _ r q) (fun r q => blk2 m c _ r q) (fun r q => blk3 m c _ r q) (fun r q => blk4 m c _ r q) (fun r q => blk5 m c _ r q) (fun r q => blk6 m c _ r q) r q)

theorem idx7 : ∀ t : Fin cfg0.N, win0_7.index t = ![0, 0] := by decide +kernel
theorem arr7 (c : Dev nD) : (dats m 0 c).arrAt 7 cfg0.N = inWm m c := by
  refine (dats m 0 c).arrAt_eq_of_after_last 7 t0_7 (by decide +kernel) _ fun j => ?_
  rw [after0_7]
  obtain ⟨p, q, rfl⟩ : ∃ (p : Fin 1024) (q : Fin 3456), j = ix2 p q := ⟨j 0, j 1, by funext a; fin_cases a <;> rfl⟩
  have e : (cfg0.win 7).arr.view.emb (ix2 p q) = ix2 p q := by funext b; fin_cases b <;> exact Fin.ext (by blk_simp)
  rw [e]
  blk_simp [idx7 t0_7]
  refine Eq.trans (congrArg _ ?_) (sum7 m c p q)
  funext b; fin_cases b <;> rfl

/-- Every execution of the kernel ends with the cotangent, its arguments unchanged. -/
theorem run_data : θ_run defs (onTc (τ := τ) (main (F := Ideal))) ⟨m, fun _ => 0, ρ⟩ fun r => ∀ c : Dev nD,
      r.2.mem (c.tc.loc main_v13) = inWm m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine θ_run_mono (Cert.KernelWIdeal.Value.run_blocks (F := Ideal) m ρ) fun r hr c => ?_
  obtain ⟨h0, ha⟩ := hr c
  exact ⟨h0.trans (arr7 m c), ha⟩

end Cert.KernelWIdeal.Gen

end
-- ==== Proof.OutTile.lean ====
/-
The output projection's backward pass, tile by tile: what the kernel's blocks hold.
-/
module

public import proofs.«01_k».proof.Proof.Products
public import proofs.«01_k».proof.Proof.Gen.KernelOIdeal.Value
public import Idealize.ShloMosaic.Lib.Pipeline.ValueKit

@[expose] public section

set_option backward.isDefEq.respectTransparency false
set_option maxRecDepth 16384
set_option maxHeartbeats 4000000

noncomputable section

namespace Cert.KernelOIdeal.Gen

open Idealize.ShloMosaic Idealize.ShloMosaic.TcCoe Idealize.SL.Sem
open Cert.KernelOIdeal Cert.Products

theorem hz : (![0, 0] : Fin 2 → Nat) = fun _ => 0 := funext fun a => by fin_cases a <;> rfl

/-! ## The payloads, entry by entry -/

section
variable (d : FVec Ideal S512x1024 .f32) (w : FVec Ideal S1024x1024 .bf16)

theorem pay3_at (r : Fin 512) (q : Fin 1024) : k0_pay3 (F := Ideal) d w (ix2 r q) = ∑ k : Fin 1024, d (ix2 r k) * w (ix2 q k) := by
  unfold k0_pay3 k0_pay2
  pointwise []
theorem pay4_at (r : Fin 512) (q : Fin 256) : k0_pay4 (F := Ideal) d w (ix2 r q) = k0_pay3 (F := Ideal) d w (ix2 r ⟨0 + q.val, by omega⟩) := by
  unfold k0_pay4
  pointwise []
theorem pay5_at (r : Fin 512) (q : Fin 256) : k0_pay5 (F := Ideal) d w (ix2 r q) = k0_pay3 (F := Ideal) d w (ix2 r ⟨256 + q.val, by omega⟩) := by
  unfold k0_pay5
  pointwise []
theorem pay6_at (r : Fin 512) (q : Fin 256) : k0_pay6 (F := Ideal) d w (ix2 r q) = k0_pay3 (F := Ideal) d w (ix2 r ⟨512 + q.val, by omega⟩) := by
  unfold k0_pay6
  pointwise []
theorem pay7_at (r : Fin 512) (q : Fin 256) : k0_pay7 (F := Ideal) d w (ix2 r q) = k0_pay3 (F := Ideal) d w (ix2 r ⟨768 + q.val, by omega⟩) := by
  unfold k0_pay7
  pointwise []
theorem pay1_at (a q : Fin 1024) : k0_pay1 (F := Ideal) (ix2 a q) = 0 := by
  unfold k0_pay1
  pointwise []
theorem pay8_at (x y z u : FVec Ideal S512x256 .f32) (s : FVec Ideal S1024x1024 .f32) (a q : Fin 1024) :
    k0_pay8 (F := Ideal) d x y z u s (ix2 a q) = s (ix2 a q) + ∑ r : Fin 512, cat4 (rc x) (rc y) (rc z) (rc u) r a * d (ix2 r q) := by
  unfold k0_pay8 k0_pay2
  simp only [← cat4_tile (f := .bf16) x y z u concatenates_S512x256_S512x256_S512x256_S512x256_S512x1024_d1]
  pointwise []
end

/-! ## A point's blocks -/

variable (m : (ℓ : Loc nD τ sig) → Buf (Elt Ideal) ℓ)

theorem at6 (c : Dev nD) (t : Fin cfg0.N) : (outsAt0 m c t.val t.isLt).1 = k0_pay4 (F := Ideal) (iblk m c 0 t) (iblk m c 5 t) := by
  by_cases h : t.val % 8 = 0
  · rw [outsAt0_A m c t h]
    dsimp only
    unfold out0_A_6
    rw [View.read_writes_eq_canon _ _ _ (fun y => cover0_A_6 (y := y) ..)]
    unfold kernelRun0_A
    dsimp only
    rw [View.canon_unit_zero hz]
    simp only [View.readAt_eq_ld, (hs0_0 t).read_unread, (hs0_5 t).read_unread, View.ld_unit_zero (S := S512x1024) hz, View.ld_unit_zero (S := S1024x1024) hz]
  · rw [outsAt0_B m c t h]
    dsimp only
    unfold out0_B_6
    rw [View.read_writes_eq_canon _ _ _ (fun y => cover0_B_6 (y := y) ..)]
    unfold kernelRun0_B
    dsimp only
    rw [View.canon_unit_zero hz]
    simp only [View.readAt_eq_ld, (hs0_0 t).read_unread, (hs0_5 t).read_unread, View.ld_unit_zero (S := S512x1024) hz, View.ld_unit_zero (S := S1024x1024) hz]

theorem at7 (c : Dev nD) (t : Fin cfg0.N) : (outsAt0 m c t.val t.isLt).2.1 = k0_pay5 (F := Ideal) (iblk m c 0 t) (iblk m c 5 t) := by
  by_cases h : t.val % 8 = 0
  · rw [outsAt0_A m c t h]
    dsimp only
    unfold out0_A_7
    rw [View.read_writes_eq_canon _ _ _ (fun y => cover0_A_7 (y := y) ..)]
    unfold kernelRun0_A
    dsimp only
    rw [View.canon_unit_zero hz]
    simp only [View.readAt_eq_ld, (hs0_0 t).read_unread, (hs0_5 t).read_unread, View.ld_unit_zero (S := S512x1024) hz, View.ld_unit_zero (S := S1024x1024) hz]
  · rw [outsAt0_B m c t h]
    dsimp only
    unfold out0_B_7
    rw [View.read_writes_eq_canon _ _ _ (fun y => cover0_B_7 (y := y) ..)]
    unfold kernelRun0_B
    dsimp only
    rw [View.canon_unit_zero hz]
    simp only [View.readAt_eq_ld, (hs0_0 t).read_unread, (hs0_5 t).read_unread, View.ld_unit_zero (S := S512x1024) hz, View.ld_unit_zero (S := S1024x1024) hz]

theorem at8 (c : Dev nD) (t : Fin cfg0.N) : (outsAt0 m c t.val t.isLt).2.2.1 = k0_pay6 (F := Ideal) (iblk m c 0 t) (iblk m c 5 t) := by
  by_cases h : t.val % 8 = 0
  · rw [outsAt0_A m c t h]
    dsimp only
    unfold out0_A_8
    rw [View.read_writes_eq_canon _ _ _ (fun y => cover0_A_8 (y := y) ..)]
    unfold kernelRun0_A
    dsimp only
    rw [View.canon_unit_zero hz]
    simp only [View.readAt_eq_ld, (hs0_0 t).read_unread, (hs0_5 t).read_unread, View.ld_unit_zero (S := S512x1024) hz, View.ld_unit_zero (S := S1024x1024) hz]
  · rw [outsAt0_B m c t h]
    dsimp only
    unfold out0_B_8
    rw [View.read_writes_eq_canon _ _ _ (fun y => cover0_B_8 (y := y) ..)]
    unfold kernelRun0_B
    dsimp only
    rw [View.canon_unit_zero hz]
    simp only [View.readAt_eq_ld, (hs0_0 t).read_unread, (hs0_5 t).read_unread, View.ld_unit_zero (S := S512x1024) hz, View.ld_unit_zero (S := S1024x1024) hz]

theorem at9 (c : Dev nD) (t : Fin cfg0.N) : (outsAt0 m c t.val t.isLt).2.2.2.1 = k0_pay7 (F := Ideal) (iblk m c 0 t) (iblk m c 5 t) := by
  by_cases h : t.val % 8 = 0
  · rw [outsAt0_A m c t h]
    dsimp only
    unfold out0_A_9
    rw [View.read_writes_eq_canon _ _ _ (fun y => cover0_A_9 (y := y) ..)]
    unfold kernelRun0_A
    dsimp only
    rw [View.canon_unit_zero hz]
    simp only [View.readAt_eq_ld, (hs0_0 t).read_unread, (hs0_5 t).read_unread, View.ld_unit_zero (S := S512x1024) hz, View.ld_unit_zero (S := S1024x1024) hz]
  · rw [outsAt0_B m c t h]
    dsimp only
    unfold out0_B_9
    rw [View.read_writes_eq_canon _ _ _ (fun y => cover0_B_9 (y := y) ..)]
    unfold kernelRun0_B
    dsimp only
    rw [View.canon_unit_zero hz]
    simp only [View.readAt_eq_ld, (hs0_0 t).read_unread, (hs0_5 t).read_unread, View.ld_unit_zero (S := S512x1024) hz, View.ld_unit_zero (S := S1024x1024) hz]

theorem at10_first (c : Dev nD) (t : Fin cfg0.N) (h : t.val % 8 = 0) : (outsAt0 m c t.val t.isLt).2.2.2.2
    = k0_pay8 (F := Ideal) (iblk m c 0 t) (iblk m c 1 t) (iblk m c 2 t) (iblk m c 3 t) (iblk m c 4 t) (k0_pay1 (F := Ideal)) := by
  rw [outsAt0_A m c t h]
  dsimp only
  unfold out0_A_10
  rw [View.read_writes_eq_canon _ _ _ (fun y => cover0_A_10 (y := y) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, (hs0_2 t).read_unread, (hs0_3 t).read_unread, (hs0_4 t).read_unread,
    View.ld_unit_zero (S := S512x1024) hz, View.ld_unit_zero (S := S512x256) hz]

theorem at10_later (c : Dev nD) (t : Fin cfg0.N) (h : ¬t.val % 8 = 0) : (outsAt0 m c t.val t.isLt).2.2.2.2
    = k0_pay8 (F := Ideal) (iblk m c 0 t) (iblk m c 1 t) (iblk m c 2 t) (iblk m c 3 t) (iblk m c 4 t)
        (outsAt0 m c (t.val - 1) (Nat.lt_of_le_of_lt (Nat.sub_le _ _) t.isLt)).2.2.2.2 := by
  rw [outsAt0_B m c t h]
  dsimp only
  unfold out0_B_10
  rw [View.read_writes_eq_canon _ _ _ (fun y => cover0_B_10 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_10 t).read_unread,
    View.ld_unit_zero (S := S512x1024) hz, View.ld_unit_zero (S := S512x256) hz, View.ld_unit_zero (S := S1024x1024) hz]

end Cert.KernelOIdeal.Gen

end
-- ==== Proof.OutRun.lean ====
/-
The output projection's backward pass: the kernel's results and the reference's are the same functions of the arguments.
-/
module

public import proofs.«01_k».proof.Proof.OutTile
public import proofs.«01_k».proof.Proof.Gen.RefOIdeal.Run
public import proofs.«01_k».proof.Proof.Gen.RefOIdeal.Read
public import Idealize.ShloMosaic.Lib.Claim

@[expose] public section

set_option backward.isDefEq.respectTransparency false
set_option maxRecDepth 16384
set_option maxHeartbeats 4000000

noncomputable section

/-! ## The results, entry by entry -/

namespace Cert.Products

open Idealize.ShloMosaic

/-- A row against a row. -/
abbrev dots {n a k : ℕ} {f g : FTy} (x : FVec Ideal ⟨2, ![n, k]⟩ f) (y : FVec Ideal ⟨2, ![a, k]⟩ g) (r : Fin n) (q : Fin a) : EReal :=
  ∑ j : Fin k, x (ix2 r j) * y (ix2 q j)

/-- The cotangents of the four blocks of columns: `d · wᵀ`, from column `o` on. -/
def outY (d : FVec Ideal ⟨2, ![4096, 1024]⟩ .f32) (w : FVec Ideal ⟨2, ![1024, 1024]⟩ .bf16) (o : ℕ) (ho : o + 256 ≤ 1024) :
    FVec Ideal ⟨2, ![4096, 256]⟩ .f32 := fun i => ∑ k : Fin 1024, d (ix2 (i 0) k) * w (ix2 ⟨o + (i 1).val, by have : (i 1).val < 256 := (i 1).isLt; omega⟩ k)

/-- The cotangent of the weight: `[x y z u]ᵀ · d`. -/
def outW (d : FVec Ideal ⟨2, ![4096, 1024]⟩ .f32) (x y z u : FVec Ideal ⟨2, ![4096, 256]⟩ .f32) : FVec Ideal ⟨2, ![1024, 1024]⟩ .f32 :=
  fun i => ∑ t : Fin 4096, cat4 (rc x) (rc y) (rc z) (rc u) t (i 0) * d (ix2 t (i 1))

end Cert.Products

/-! ## The kernel -/

namespace Cert.KernelOIdeal.Gen

open Idealize.ShloMosaic Idealize.ShloMosaic.TcCoe Idealize.SL.Sem
open Cert.KernelOIdeal Cert.Products

variable (m : (ℓ : Loc nD τ sig) → Buf (Elt Ideal) ℓ) (ρ : Dev nD → PrngReg)

theorem lt8 (t : Fin cfg0.N) : t.val < 8 := lt_of_lt_of_eq t.isLt N_0

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx10 : ∀ t : Fin cfg0.N, win0_10.index t = ![0, 0] := by decide +kernel

theorem blk0 (c : Dev nD) (t : Fin cfg0.N) (r : Fin 512) (q : Fin 1024) :
    (iblk m c 0 t : Vec Ideal S512x1024 .f32) (ix2 r q) = m (c.tc.loc main_arg0) (ix2 (row t.val (lt8 t) r) q) := by
  rw [← V_main_arg0 m c]
  unfold row
  blk_ext [iblk, idx0 t]
theorem blk5 (c : Dev nD) (t : Fin cfg0.N) (a q : Fin 1024) :
    (iblk m c 5 t : Vec Ideal S1024x1024 .bf16) (ix2 a q) = m (c.tc.loc main_arg5) (ix2 a q) := by
  rw [← V_main_arg5 m c]
  blk_ext [iblk, idx5 t]
theorem blk1 (c : Dev nD) (t : Fin cfg0.N) (r : Fin 512) (q : Fin 256) :
    (iblk m c 1 t : Vec Ideal S512x256 .f32) (ix2 r q) = m (c.tc.loc main_arg1) (ix2 (row t.val (lt8 t) r) q) := by
  rw [← V_main_arg1 m c]
  unfold row
  blk_ext [iblk, idx1 t]
theorem blk2 (c : Dev nD) (t : Fin cfg0.N) (r : Fin 512) (q : Fin 256) :
    (iblk m c 2 t : Vec Ideal S512x256 .f32) (ix2 r q) = m (c.tc.loc main_arg2) (ix2 (row t.val (lt8 t) r) q) := by
  rw [← V_main_arg2 m c]
  unfold row
  blk_ext [iblk, idx2 t]
theorem blk3 (c : Dev nD) (t : Fin cfg0.N) (r : Fin 512) (q : Fin 256) :
    (iblk m c 3 t : Vec Ideal S512x256 .f32) (ix2 r q) = m (c.tc.loc main_arg3) (ix2 (row t.val (lt8 t) r) q) := by
  rw [← V_main_arg3 m c]
  unfold row
  blk_ext [iblk, idx3 t]
theorem blk4 (c : Dev nD) (t : Fin cfg0.N) (r : Fin 512) (q : Fin 256) :
    (iblk m c 4 t : Vec Ideal S512x256 .f32) (ix2 r q) = m (c.tc.loc main_arg4) (ix2 (row t.val (lt8 t) r) q) := by
  rw [← V_main_arg4 m c]
  unfold row
  blk_ext [iblk, idx4 t]

/-- A block of `d · wᵀ`. -/
theorem rows3 (c : Dev nD) (t : Fin cfg0.N) (r : Fin 512) (q : Fin 1024) :
    k0_pay3 (F := Ideal) (iblk m c 0 t) (iblk m c 5 t) (ix2 r q)
      = dots (f := .f32) (g := .bf16) (m (c.tc.loc main_arg0)) (m (c.tc.loc main_arg5)) (row t.val (lt8 t) r) q := by
  rw [pay3_at]
  exact Finset.sum_congr rfl fun k _ => congrArg₂ (fun a b : EReal => a * b) (blk0 m c t r k) (blk5 m c t q k)

theorem idx6 : ∀ t : Fin cfg0.N, win0_6.index t = ![t.val, 0] := by decide +kernel
theorem arr6 (c : Dev nD) : (dats m 0 c).arrAt 6 cfg0.N = outY (m (c.tc.loc main_arg0)) (m (c.tc.loc main_arg5)) 0 (by decide) := by
  refine (dats m 0 c).arrAt_eq_of_covers 6 _ (by decide +kernel) fun t hf y => ?_
  rw [after0_6, at6]
  obtain ⟨r, q, rfl⟩ : ∃ (r : Fin 512) (q : Fin 256), y = ix2 r q := ⟨y 0, y 1, by funext a; fin_cases a <;> rfl⟩
  have e : ((cfg0.win 6).blk t).view.emb (ix2 r q) = ix2 (row t.val (lt8 t) r) q := by
    unfold row
    blk_ext [idx6 t]
  rw [e]
  exact (pay4_at _ _ r q).trans (rows3 m c t r _)

theorem idx7 : ∀ t : Fin cfg0.N, win0_7.index t = ![t.val, 0] := by decide +kernel
theorem arr7 (c : Dev nD) : (dats m 0 c).arrAt 7 cfg0.N = outY (m (c.tc.loc main_arg0)) (m (c.tc.loc main_arg5)) 256 (by decide) := by
  refine (dats m 0 c).arrAt_eq_of_covers 7 _ (by decide +kernel) fun t hf y => ?_
  rw [after0_7, at7]
  obtain ⟨r, q, rfl⟩ : ∃ (r : Fin 512) (q : Fin 256), y = ix2 r q := ⟨y 0, y 1, by funext a; fin_cases a <;> rfl⟩
  have e : ((cfg0.win 7).blk t).view.emb (ix2 r q) = ix2 (row t.val (lt8 t) r) q := by
    unfold row
    blk_ext [idx7 t]
  rw [e]
  exact (pay5_at _ _ r q).trans (rows3 m c t r _)

theorem idx8 : ∀ t : Fin cfg0.N, win0_8.index t = ![t.val, 0] := by decide +kernel
theorem arr8 (c : Dev nD) : (dats m 0 c).arrAt 8 cfg0.N = outY (m (c.tc.loc main_arg0)) (m (c.tc.loc main_arg5)) 512 (by decide) := by
  refine (dats m 0 c).arrAt_eq_of_covers 8 _ (by decide +kernel) fun t hf y => ?_
  rw [after0_8, at8]
  obtain ⟨r, q, rfl⟩ : ∃ (r : Fin 512) (q : Fin 256), y = ix2 r q := ⟨y 0, y 1, by funext a; fin_cases a <;> rfl⟩
  have e : ((cfg0.win 8).blk t).view.emb (ix2 r q) = ix2 (row t.val (lt8 t) r) q := by
    unfold row
    blk_ext [idx8 t]
  rw [e]
  exact (pay6_at _ _ r q).trans (rows3 m c t r _)

theorem idx9 : ∀ t : Fin cfg0.N, win0_9.index t = ![t.val, 0] := by decide +kernel
theorem arr9 (c : Dev nD) : (dats m 0 c).arrAt 9 cfg0.N = outY (m (c.tc.loc main_arg0)) (m (c.tc.loc main_arg5)) 768 (by decide) := by
  refine (dats m 0 c).arrAt_eq_of_covers 9 _ (by decide +kernel) fun t hf y => ?_
  rw [after0_9, at9]
  obtain ⟨r, q, rfl⟩ : ∃ (r : Fin 512) (q : Fin 256), y = ix2 r q := ⟨y 0, y 1, by funext a; fin_cases a <;> rfl⟩
  have e : ((cfg0.win 9).blk t).view.emb (ix2 r q) = ix2 (row t.val (lt8 t) r) q := by
    unfold row
    blk_ext [idx9 t]
  rw [e]
  exact (pay7_at _ _ r q).trans (rows3 m c t r _)

theorem sum10 (c : Dev nD) (a q : Fin 1024) : (outsAt0 m c t0_7.val t0_7.isLt).2.2.2.2 (ix2 a q)
    = outW (m (c.tc.loc main_arg0)) (m (c.tc.loc main_arg1)) (m (c.tc.loc main_arg2)) (m (c.tc.loc main_arg3)) (m (c.tc.loc main_arg4)) (ix2 a q) := by
  rw [Pipeline.eq_sum_fin_of_reset_step_apply_last (fun n h => ((outsAt0 m c n h).2.2.2.2 : S1024x1024.Idx → EReal)) 8 (fun _ => 0)
    (fun t i => ∑ r : Fin 512, cat4 (rc (iblk m c 1 t : Vec Ideal S512x256 .f32)) (rc (iblk m c 2 t : Vec Ideal S512x256 .f32)) (rc (iblk m c 3 t : Vec Ideal S512x256 .f32)) (rc (iblk m c 4 t : Vec Ideal S512x256 .f32)) r (i 0) * (iblk m c 0 t : Vec Ideal S512x1024 .f32) (ix2 r (i 1)))
    (fun t h i => by
      obtain ⟨a, q, rfl⟩ : ∃ (a q : Fin 1024), i = ix2 a q := ⟨i 0, i 1, (ix2_coords i).symm⟩
      refine (congrFun (at10_first m c t h) _).trans ((pay8_at _ _ _ _ _ _ a q).trans ?_)
      rw [pay1_at]
      rfl)
    (fun t h i => by
      obtain ⟨a, q, rfl⟩ : ∃ (a q : Fin 1024), i = ix2 a q := ⟨i 0, i 1, (ix2_coords i).symm⟩
      exact (congrFun (at10_later m c t h) _).trans (pay8_at _ _ _ _ _ _ a q))
    (le_of_eq N_0) t0_7 rfl (ix2 a q), zero_add]
  refine Eq.trans ?_ (sum_rows (fun t => cat4 (rc (m (c.tc.loc main_arg1))) (rc (m (c.tc.loc main_arg2))) (rc (m (c.tc.loc main_arg3))) (rc (m (c.tc.loc main_arg4))) t a * m (c.tc.loc main_arg0) (ix2 t q)))
  refine Finset.sum_congr rfl fun p _ => Finset.sum_congr rfl fun r _ => ?_
  exact congrArg₂ (· * ·) (cat4_row (fun r q => blk1 m c _ r q) (fun r q => blk2 m c _ r q) (fun r q => blk3 m c _ r q) (fun r q => blk4 m c _ r q) r a) (blk0 m c _ r q)

theorem arr10 (c : Dev nD) : (dats m 0 c).arrAt 10 cfg0.N
    = outW (m (c.tc.loc main_arg0)) (m (c.tc.loc main_arg1)) (m (c.tc.loc main_arg2)) (m (c.tc.loc main_arg3)) (m (c.tc.loc main_arg4)) := by
  refine (dats m 0 c).arrAt_eq_of_after_last 10 t0_7 (by decide +kernel) _ fun j => ?_
  rw [after0_10]
  obtain ⟨a, q, rfl⟩ : ∃ (a q : Fin 1024), j = ix2 a q := ⟨j 0, j 1, by funext a; fin_cases a <;> rfl⟩
  have e : (cfg0.win 10).arr.view.emb (ix2 a q) = ix2 a q := by funext b; fin_cases b <;> exact Fin.ext (by blk_simp)
  rw [e]
  blk_simp [idx10 t0_7]
  refine Eq.trans (congrArg _ ?_) (sum10 m c a q)
  funext b; fin_cases b <;> rfl

/-- Every execution of the kernel ends with the five cotangents, its arguments unchanged. -/
theorem run_data : θ_run defs (onTc (τ := τ) (main (F := Ideal))) ⟨m, fun _ => 0, ρ⟩ fun r => ∀ c : Dev nD,
      r.2.mem (c.tc.loc main_v0_0) = outY (m (c.tc.loc main_arg0)) (m (c.tc.loc main_arg5)) 0 (by decide)
      ∧ r.2.mem (c.tc.loc main_v0_1) = outY (m (c.tc.loc main_arg0)) (m (c.tc.loc main_arg5)) 256 (by decide)
      ∧ r.2.mem (c.tc.loc main_v0_2) = outY (m (c.tc.loc main_arg0)) (m (c.tc.loc main_arg5)) 512 (by decide)
      ∧ r.2.mem (c.tc.loc main_v0_3) = outY (m (c.tc.loc main_arg0)) (m (c.tc.loc main_arg5)) 768 (by decide)
      ∧ r.2.mem (c.tc.loc main_v0_4) = outW (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine θ_run_mono (Cert.KernelOIdeal.Value.run_blocks (F := Ideal) m ρ) fun r hr c => ?_
  obtain ⟨h0, h1, h2, h3, h4, ha⟩ := hr c
  exact ⟨h0.trans (arr6 m c), h1.trans (arr7 m c), h2.trans (arr8 m c), h3.trans (arr9 m c), h4.trans (arr10 m c), ha⟩

end Cert.KernelOIdeal.Gen

/-! ## The reference -/

namespace Cert.RefOIdeal.Gen

open Idealize.ShloMosaic Idealize.ShloMosaic.StableHlo Idealize.SL.Sem
open Cert.RefOIdeal Cert.RefOIdeal.Read Cert.Products

section
variable (x0 : FVec Ideal S4096x1024 .f32) (x1 x2 x3 x4 : FVec Ideal S4096x256 .f32) (x5 : FVec Ideal S1024x1024 .bf16)

theorem v5_at (r : Fin 4096) (q : Fin 1024) : val_main_v5 (F := Ideal) x0 x5 (ix2 r q) = ∑ k : Fin 1024, x0 (ix2 r k) * x5 (ix2 q k) := by
  unfold val_main_v5 val_main_v0
  pointwise []
theorem v1_at (r : Fin 4096) (q : Fin 1024) : val_main_v1 (F := Ideal) x1 x2 x3 x4 (ix2 r q) = cat4 (rc x1) (rc x2) (rc x3) (rc x4) r q := cat4_rows x1 x2 x3 x4 _ r q
theorem v3_at (q a : Fin 1024) : val_main_v3 (F := Ideal) x0 x1 x2 x3 x4 (ix2 q a) = ∑ t : Fin 4096, x0 (ix2 t q) * val_main_v1 (F := Ideal) x1 x2 x3 x4 (ix2 t a) := by
  unfold val_main_v3
  generalize val_main_v1 (F := Ideal) x1 x2 x3 x4 = y
  pointwise []

theorem val6 : val_main_v6 (F := Ideal) x0 x5 = outY x0 x5 0 (by decide) := by
  funext i
  obtain ⟨r, q, rfl⟩ : ∃ (r : Fin 4096) (q : Fin 256), i = ix2 r q := ⟨i 0, i 1, (ix2_coords i).symm⟩
  have e : val_main_v6 (F := Ideal) x0 x5 (ix2 r q) = val_main_v5 (F := Ideal) x0 x5 (ix2 r ⟨0 + q.val, by omega⟩) := by
    unfold val_main_v6
    generalize val_main_v5 (F := Ideal) x0 x5 = y
    pointwise []
  exact e.trans (v5_at x0 x5 r _)
theorem val7 : val_main_v7 (F := Ideal) x0 x5 = outY x0 x5 256 (by decide) := by
  funext i
  obtain ⟨r, q, rfl⟩ : ∃ (r : Fin 4096) (q : Fin 256), i = ix2 r q := ⟨i 0, i 1, (ix2_coords i).symm⟩
  have e : val_main_v7 (F := Ideal) x0 x5 (ix2 r q) = val_main_v5 (F := Ideal) x0 x5 (ix2 r ⟨256 + q.val, by omega⟩) := by
    unfold val_main_v7
    generalize val_main_v5 (F := Ideal) x0 x5 = y
    pointwise []
  exact e.trans (v5_at x0 x5 r _)
theorem val8 : val_main_v8 (F := Ideal) x0 x5 = outY x0 x5 512 (by decide) := by
  funext i
  obtain ⟨r, q, rfl⟩ : ∃ (r : Fin 4096) (q : Fin 256), i = ix2 r q := ⟨i 0, i 1, (ix2_coords i).symm⟩
  have e : val_main_v8 (F := Ideal) x0 x5 (ix2 r q) = val_main_v5 (F := Ideal) x0 x5 (ix2 r ⟨512 + q.val, by omega⟩) := by
    unfold val_main_v8
    generalize val_main_v5 (F := Ideal) x0 x5 = y
    pointwise []
  exact e.trans (v5_at x0 x5 r _)
theorem val9 : val_main_v9 (F := Ideal) x0 x5 = outY x0 x5 768 (by decide) := by
  funext i
  obtain ⟨r, q, rfl⟩ : ∃ (r : Fin 4096) (q : Fin 256), i = ix2 r q := ⟨i 0, i 1, (ix2_coords i).symm⟩
  have e : val_main_v9 (F := Ideal) x0 x5 (ix2 r q) = val_main_v5 (F := Ideal) x0 x5 (ix2 r ⟨768 + q.val, by omega⟩) := by
    unfold val_main_v9
    generalize val_main_v5 (F := Ideal) x0 x5 = y
    pointwise []
  exact e.trans (v5_at x0 x5 r _)
theorem val4 : val_main_v4 (F := Ideal) x0 x1 x2 x3 x4 = outW x0 x1 x2 x3 x4 := by
  funext i
  obtain ⟨a, q, rfl⟩ : ∃ (a q : Fin 1024), i = ix2 a q := ⟨i 0, i 1, (ix2_coords i).symm⟩
  have e : val_main_v4 (F := Ideal) x0 x1 x2 x3 x4 (ix2 a q) = val_main_v3 (F := Ideal) x0 x1 x2 x3 x4 (ix2 q a) := by
    unfold val_main_v4
    generalize val_main_v3 (F := Ideal) x0 x1 x2 x3 x4 = y
    pointwise []
  rw [e, v3_at]
  exact Finset.sum_congr rfl fun t _ => (mul_comm _ _).trans (congrArg (· * _) (v1_at x1 x2 x3 x4 t a))
end

variable (m : (ℓ : Loc nD τ sig) → Buf (Elt Ideal) ℓ) (ρ : Dev nD → PrngReg)

/-- Every execution of the reference ends with the five cotangents, its arguments unchanged. -/
theorem run_data : θ_run defs (onTc (τ := τ) (main (F := Ideal))) ⟨m, fun _ => 0, ρ⟩ fun r => ∀ c : Dev nD,
      r.2.mem (c.tc.loc main_v6) = outY (m (c.tc.loc main_arg0)) (m (c.tc.loc main_arg5)) 0 (by decide)
      ∧ r.2.mem (c.tc.loc main_v7) = outY (m (c.tc.loc main_arg0)) (m (c.tc.loc main_arg5)) 256 (by decide)
      ∧ r.2.mem (c.tc.loc main_v8) = outY (m (c.tc.loc main_arg0)) (m (c.tc.loc main_arg5)) 512 (by decide)
      ∧ r.2.mem (c.tc.loc main_v9) = outY (m (c.tc.loc main_arg0)) (m (c.tc.loc main_arg5)) 768 (by decide)
      ∧ r.2.mem (c.tc.loc main_v4) = outW (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine θ_run_mono (Cert.RefOIdeal.Value.run (F := Ideal) m ρ) fun r hr c => ?_
  obtain ⟨h6, h7, h8, h9, h4, ha⟩ := hr c
  exact ⟨h6.trans (val6 _ _), h7.trans (val7 _ _), h8.trans (val8 _ _), h9.trans (val9 _ _), h4.trans (val4 _ _ _ _ _), ha⟩

end Cert.RefOIdeal.Gen

end
-- ==== Proof.InForward.lean ====
/-
The input projection: the kernel's results and the reference's are the same functions of the arguments.
-/
module

public import proofs.«01_k».proof.Proof.Products
public import proofs.«01_k».proof.Proof.Gen.KernelInIdeal.Value
public import proofs.«01_k».proof.Proof.Gen.RefInIdeal.Run
public import proofs.«01_k».proof.Proof.Gen.RefInIdeal.Read
public import Idealize.ShloMosaic.Lib.Pipeline.ValueKit
public import Idealize.ShloMosaic.Lib.Claim

@[expose] public section

set_option backward.isDefEq.respectTransparency false
set_option maxRecDepth 16384
set_option maxHeartbeats 4000000

noncomputable section

/-! ## The results, entry by entry -/

namespace Cert.Products

open Idealize.ShloMosaic

/-- The normalized input, narrowed. -/
def inN (x : FVec Ideal ⟨2, ![4096, 1024]⟩ .f32) (g : FVec Ideal ⟨2, ![1, 1024]⟩ .f32) : FVec Ideal ⟨2, ![4096, 1024]⟩ .bf16 := fun i => nrm x g (i 0) (i 1)

/-- The normalized input against the weight. -/
def inP (x : FVec Ideal ⟨2, ![4096, 1024]⟩ .f32) (g : FVec Ideal ⟨2, ![1, 1024]⟩ .f32) (w : FVec Ideal ⟨2, ![1024, 3456]⟩ .bf16) : FVec Ideal ⟨2, ![4096, 3456]⟩ .f32 :=
  fun i => ∑ k : Fin 1024, nrm x g (i 0) k * w (ix2 k (i 1))

end Cert.Products

/-! ## The kernel -/

namespace Cert.KernelInIdeal.Gen

open Idealize.ShloMosaic Idealize.ShloMosaic.TcCoe Idealize.SL.Sem
open Cert.KernelInIdeal Cert.Products

theorem hz : (![0, 0] : Fin 2 → Nat) = fun _ => 0 := funext fun a => by fin_cases a <;> rfl

section
variable (x : FVec Ideal S512x1024 .f32) (g : FVec Ideal S1x1024 .f32) (w : FVec Ideal S1024x3456 .bf16)

theorem pay1_at (r : Fin 512) (q : Fin 1024) : k0_pay1 (F := Ideal) x g (ix2 r q) = nrm x g r q := by
  unfold k0_pay1 nrm rs msq k1024 eps
  pointwise []
theorem pay2_at (r : Fin 512) (q : Fin 3456) : k0_pay2 (F := Ideal) x g w (ix2 r q) = ∑ k : Fin 1024, nrm x g r k * w (ix2 k q) := by
  have h : k0_pay2 (F := Ideal) x g w (ix2 r q) = ∑ k : Fin 1024, k0_pay1 (F := Ideal) x g (ix2 r k) * w (ix2 k q) := by
    unfold k0_pay2
    generalize k0_pay1 (F := Ideal) x g = y
    pointwise []
  rw [h]
  exact Finset.sum_congr rfl fun k _ => congrArg₂ (fun a b : EReal => a * b) (pay1_at x g r k) rfl

theorem out3 : out0_3 (F := Ideal) x g w = k0_pay2 (F := Ideal) x g w := by
  unfold out0_3
  rw [View.canon_unit_zero hz, View.ld_unit_zero (S := S512x1024) hz, View.ld_unit_zero (S := S1x1024) hz, View.ld_unit_zero (S := S1024x3456) hz]
theorem out4 : out0_4 (F := Ideal) x g w = k0_pay1 (F := Ideal) x g := by
  unfold out0_4
  rw [View.canon_unit_zero hz, View.ld_unit_zero (S := S512x1024) hz, View.ld_unit_zero (S := S1x1024) hz]
end

variable (m : (ℓ : Loc nD τ sig) → Buf (Elt Ideal) ℓ) (ρ : Dev nD → PrngReg)

theorem lt8 (t : Fin cfg0.N) : t.val < 8 := lt_of_lt_of_eq t.isLt N_0

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel

theorem blk0 (c : Dev nD) (t : Fin cfg0.N) (r : Fin 512) (q : Fin 1024) :
    (iblk m c 0 t : Vec Ideal S512x1024 .f32) (ix2 r q) = m (c.tc.loc main_arg0) (ix2 (row t.val (lt8 t) r) q) := by
  rw [← V_main_arg0 m c]
  unfold row
  blk_ext [iblk, idx0 t]
theorem blk1 (c : Dev nD) (t : Fin cfg0.N) (r : Fin 1) (q : Fin 1024) :
    (iblk m c 1 t : Vec Ideal S1x1024 .f32) (ix2 r q) = m (c.tc.loc main_arg1) (ix2 r q) := by
  rw [← V_main_arg1 m c]
  blk_ext [iblk, idx1 t]
theorem blk2 (c : Dev nD) (t : Fin cfg0.N) (r : Fin 1024) (q : Fin 3456) :
    (iblk m c 2 t : Vec Ideal S1024x3456 .bf16) (ix2 r q) = m (c.tc.loc main_arg2) (ix2 r q) := by
  rw [← V_main_arg2 m c]
  blk_ext [iblk, idx2 t]

theorem nrm_row (c : Dev nD) (t : Fin cfg0.N) (r : Fin 512) (q : Fin 1024) :
    nrm (iblk m c 0 t : Vec Ideal S512x1024 .f32) (iblk m c 1 t : Vec Ideal S1x1024 .f32) r q = nrm (m (c.tc.loc main_arg0)) (m (c.tc.loc main_arg1)) (row t.val (lt8 t) r) q := by
  have h : rc (f := .f32) (iblk m c 0 t : Vec Ideal S512x1024 .f32) r = rc (f := .f32) (m (c.tc.loc main_arg0)) (row t.val (lt8 t) r) := funext fun k => blk0 m c t r k
  unfold nrm
  rw [h]
  exact congrArg₂ (fun a b : EReal => a * b) (congrArg₂ (fun a b : EReal => a * b) (blk0 m c t r q) rfl) (blk1 m c t 0 q)

theorem arr3 (c : Dev nD) : (dats m 0 c).arrAt 3 cfg0.N = inP (m (c.tc.loc main_arg0)) (m (c.tc.loc main_arg1)) (m (c.tc.loc main_arg2)) := by
  refine (dats m 0 c).arrAt_eq_of_covers 3 _ (by decide +kernel) fun t hf y => ?_
  rw [after0_3, out3]
  obtain ⟨r, q, rfl⟩ : ∃ (r : Fin 512) (q : Fin 3456), y = ix2 r q := ⟨y 0, y 1, by funext a; fin_cases a <;> rfl⟩
  have e : ((cfg0.win 3).blk t).view.emb (ix2 r q) = ix2 (row t.val (lt8 t) r) q := by
    unfold row
    blk_ext [idx3 t]
  rw [e]
  exact (pay2_at _ _ _ r q).trans (Finset.sum_congr rfl fun k _ => congrArg₂ (fun a b : EReal => a * b) (nrm_row m c t r k) (blk2 m c t k q))
theorem arr4 (c : Dev nD) : (dats m 0 c).arrAt 4 cfg0.N = inN (m (c.tc.loc main_arg0)) (m (c.tc.loc main_arg1)) := by
  refine (dats m 0 c).arrAt_eq_of_covers 4 _ (by decide +kernel) fun t hf y => ?_
  rw [after0_4, out4]
  obtain ⟨r, q, rfl⟩ : ∃ (r : Fin 512) (q : Fin 1024), y = ix2 r q := ⟨y 0, y 1, by funext a; fin_cases a <;> rfl⟩
  have e : ((cfg0.win 4).blk t).view.emb (ix2 r q) = ix2 (row t.val (lt8 t) r) q := by
    unfold row
    blk_ext [idx4 t]
  rw [e]
  exact (pay1_at _ _ r q).trans (nrm_row m c t r q)

/-- Every execution of the kernel ends with the projection and the normalized input, its arguments unchanged. -/
theorem run_data : θ_run defs (onTc (τ := τ) (main (F := Ideal))) ⟨m, fun _ => 0, ρ⟩ fun r => ∀ c : Dev nD,
      r.2.mem (c.tc.loc main_v0_0) = inP (m (c.tc.loc main_arg0)) (m (c.tc.loc main_arg1)) (m (c.tc.loc main_arg2))
      ∧ r.2.mem (c.tc.loc main_v0_1) = inN (m (c.tc.loc main_arg0)) (m (c.tc.loc main_arg1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine θ_run_mono (Cert.KernelInIdeal.Value.run_blocks (F := Ideal) m ρ) fun r hr c => ?_
  obtain ⟨h0, h1, ha⟩ := hr c
  exact ⟨h0.trans (arr3 m c), h1.trans (arr4 m c), ha⟩

end Cert.KernelInIdeal.Gen

/-! ## The reference -/

namespace Cert.RefInIdeal.Gen

open Idealize.ShloMosaic Idealize.ShloMosaic.StableHlo Idealize.SL.Sem
open Cert.RefInIdeal Cert.RefInIdeal.Read Cert.Products

section
variable (x0 : FVec Ideal S4096x1024 .f32) (x1 : FVec Ideal S1x1024 .f32) (x2 : FVec Ideal S1024x3456 .bf16)

theorem v6_at (r : Fin 4096) (z : Fin 1) : val_main_v6 (F := Ideal) x0 (ix2 r z) = msq (rc x0 r) := by
  unfold val_main_v6 val_main_v5 val_main_v4 val_main_v3 val_main_v2 val_main_v1 val_main_v0 val_main_cst val_main_cst_0 val_main_cst_1 msq k1024 eps
  pointwise []
theorem v7_at (r : Fin 4096) (z : Fin 1) : val_main_v7 (F := Ideal) x0 (ix2 r z) = rs (rc x0 r) := by
  have h : val_main_v7 (F := Ideal) x0 (ix2 r z) = Ideal.rsqrt (val_main_v6 (F := Ideal) x0 (ix2 r z)) := rfl
  rw [h, v6_at]
  rfl
theorem v11_at (r : Fin 4096) (q : Fin 1024) : val_main_v11 (F := Ideal) x0 x1 (ix2 r q) = nrm x0 x1 r q := by
  unfold nrm
  rw [← v7_at x0 r 0]
  unfold val_main_v11 val_main_v10 val_main_v9 val_main_v8
  generalize val_main_v7 (F := Ideal) x0 = s
  pointwise []

theorem val14 : val_main_v14 (F := Ideal) x0 x1 = inN x0 x1 := by
  funext i
  obtain ⟨r, q, rfl⟩ : ∃ (r : Fin 4096) (q : Fin 1024), i = ix2 r q := ⟨i 0, i 1, (ix2_coords i).symm⟩
  have e : val_main_v14 (F := Ideal) x0 x1 (ix2 r q) = val_main_v11 (F := Ideal) x0 x1 (ix2 r q) := rfl
  exact e.trans (v11_at x0 x1 r q)
theorem val13 : val_main_v13 (F := Ideal) x0 x1 x2 = inP x0 x1 x2 := by
  funext i
  obtain ⟨r, q, rfl⟩ : ∃ (r : Fin 4096) (q : Fin 3456), i = ix2 r q := ⟨i 0, i 1, (ix2_coords i).symm⟩
  have e : val_main_v13 (F := Ideal) x0 x1 x2 (ix2 r q) = ∑ k : Fin 1024, val_main_v11 (F := Ideal) x0 x1 (ix2 r k) * x2 (ix2 k q) := by
    unfold val_main_v13 val_main_v12
    generalize val_main_v11 (F := Ideal) x0 x1 = y
    pointwise []
  exact e.trans (Finset.sum_congr rfl fun k _ => congrArg₂ (fun a b : EReal => a * b) (v11_at x0 x1 r k) rfl)
end

variable (m : (ℓ : Loc nD τ sig) → Buf (Elt Ideal) ℓ) (ρ : Dev nD → PrngReg)

/-- Every execution of the reference ends with the projection and the normalized input, its arguments unchanged. -/
theorem run_data : θ_run defs (onTc (τ := τ) (main (F := Ideal))) ⟨m, fun _ => 0, ρ⟩ fun r => ∀ c : Dev nD,
      r.2.mem (c.tc.loc main_v13) = inP (m (c.tc.loc main_arg0)) (m (c.tc.loc main_arg1)) (m (c.tc.loc main_arg2))
      ∧ r.2.mem (c.tc.loc main_v14) = inN (m (c.tc.loc main_arg0)) (m (c.tc.loc main_arg1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine θ_run_mono (Cert.RefInIdeal.Value.run (F := Ideal) m ρ) fun r hr c => ?_
  obtain ⟨h0, h1, ha⟩ := hr c
  exact ⟨h0.trans (val13 _ _ _), h1.trans (val14 _ _), ha⟩

end Cert.RefInIdeal.Gen

end
-- ==== Proof.OutForward.lean ====
/-
The output projection: the kernel's result and the reference's are the same function of the arguments.
-/
module

public import proofs.«01_k».proof.Proof.Products
public import proofs.«01_k».proof.Proof.Gen.KernelOutIdeal.Value
public import proofs.«01_k».proof.Proof.Gen.RefOutIdeal.Run
public import proofs.«01_k».proof.Proof.Gen.RefOutIdeal.Read
public import Idealize.ShloMosaic.Lib.Pipeline.ValueKit
public import Idealize.ShloMosaic.Lib.Claim

@[expose] public section

set_option backward.isDefEq.respectTransparency false
set_option maxRecDepth 16384
set_option maxHeartbeats 4000000

noncomputable section

/-! ## The result, entry by entry -/

namespace Cert.Products

open Idealize.ShloMosaic

/-- The input plus `[a b d e] · w`. -/
def outX (x : FVec Ideal ⟨2, ![4096, 1024]⟩ .f32) (a b d e : FVec Ideal ⟨2, ![4096, 256]⟩ .f32) (w : FVec Ideal ⟨2, ![1024, 1024]⟩ .bf16) : FVec Ideal ⟨2, ![4096, 1024]⟩ .f32 :=
  fun i => x (ix2 (i 0) (i 1)) + ∑ k : Fin 1024, cat4 (rc a) (rc b) (rc d) (rc e) (i 0) k * w (ix2 k (i 1))

end Cert.Products

/-! ## The kernel -/

namespace Cert.KernelOutIdeal.Gen

open Idealize.ShloMosaic Idealize.ShloMosaic.TcCoe Idealize.SL.Sem
open Cert.KernelOutIdeal Cert.Products

theorem hz : (![0, 0] : Fin 2 → Nat) = fun _ => 0 := funext fun a => by fin_cases a <;> rfl

section
variable (x : FVec Ideal S512x1024 .f32) (a b d e : FVec Ideal S512x256 .f32) (w : FVec Ideal S1024x1024 .bf16)

/-- A tile's four blocks side by side. -/
def side : FVec Ideal S512x1024 .bf16 :=
  concatenate S512x1024 1 [⟨S512x256, truncf .bf16 a bitsLt_bf16_f32⟩, ⟨S512x256, truncf .bf16 b bitsLt_bf16_f32⟩, ⟨S512x256, truncf .bf16 d bitsLt_bf16_f32⟩, ⟨S512x256, truncf .bf16 e bitsLt_bf16_f32⟩] concatenates_S512x256_S512x256_S512x256_S512x256_S512x1024_d1
theorem side_at (r : Fin 512) (q : Fin 1024) : side a b d e (ix2 r q) = cat4 (rc a) (rc b) (rc d) (rc e) r q :=
  cat4_tile (truncf .bf16 a bitsLt_bf16_f32) (truncf .bf16 b bitsLt_bf16_f32) (truncf .bf16 d bitsLt_bf16_f32) (truncf .bf16 e bitsLt_bf16_f32) _ r q
theorem pay1_at (r : Fin 512) (q : Fin 1024) : k0_pay1 (F := Ideal) a b d e x w (ix2 r q)
    = x (ix2 r q) + ∑ k : Fin 1024, cat4 (rc a) (rc b) (rc d) (rc e) r k * w (ix2 k q) := by
  have h : k0_pay1 (F := Ideal) a b d e x w
      = addf x (matmul dot_S512x1024_S1024x1024_S512x1024_1_0_0_1_n_n none (side a b d e) w (constant S512x1024 .f32 0x00000000#32)) := rfl
  have h' : k0_pay1 (F := Ideal) a b d e x w (ix2 r q) = x (ix2 r q) + ∑ k : Fin 1024, side a b d e (ix2 r k) * w (ix2 k q) := by
    rw [h]
    generalize side a b d e = y
    pointwise []
  rw [h']
  exact congrArg (fun s : EReal => x (ix2 r q) + s) (Finset.sum_congr rfl fun k _ => congrArg₂ (fun a b : EReal => a * b) (side_at a b d e r k) rfl)

theorem out6 : out0_6 (F := Ideal) x a b d e w = k0_pay1 (F := Ideal) a b d e x w := by
  unfold out0_6
  rw [View.canon_unit_zero hz, View.ld_unit_zero (S := S512x1024) hz, View.ld_unit_zero (S := S1024x1024) hz]
  simp only [View.ld_unit_zero (S := S512x256) hz]
end

variable (m : (ℓ : Loc nD τ sig) → Buf (Elt Ideal) ℓ) (ρ : Dev nD → PrngReg)

theorem lt8 (t : Fin cfg0.N) : t.val < 8 := lt_of_lt_of_eq t.isLt N_0

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![t.val, 0] := by decide +kernel

theorem blk0 (c : Dev nD) (t : Fin cfg0.N) (r : Fin 512) (q : Fin 1024) :
    (iblk m c 0 t : Vec Ideal S512x1024 .f32) (ix2 r q) = m (c.tc.loc main_arg0) (ix2 (row t.val (lt8 t) r) q) := by
  rw [← V_main_arg0 m c]
  unfold row
  blk_ext [iblk, idx0 t]
theorem blk1 (c : Dev nD) (t : Fin cfg0.N) (r : Fin 512) (q : Fin 256) :
    (iblk m c 1 t : Vec Ideal S512x256 .f32) (ix2 r q) = m (c.tc.loc main_arg1) (ix2 (row t.val (lt8 t) r) q) := by
  rw [← V_main_arg1 m c]
  unfold row
  blk_ext [iblk, idx1 t]
theorem blk2 (c : Dev nD) (t : Fin cfg0.N) (r : Fin 512) (q : Fin 256) :
    (iblk m c 2 t : Vec Ideal S512x256 .f32) (ix2 r q) = m (c.tc.loc main_arg2) (ix2 (row t.val (lt8 t) r) q) := by
  rw [← V_main_arg2 m c]
  unfold row
  blk_ext [iblk, idx2 t]
theorem blk3 (c : Dev nD) (t : Fin cfg0.N) (r : Fin 512) (q : Fin 256) :
    (iblk m c 3 t : Vec Ideal S512x256 .f32) (ix2 r q) = m (c.tc.loc main_arg3) (ix2 (row t.val (lt8 t) r) q) := by
  rw [← V_main_arg3 m c]
  unfold row
  blk_ext [iblk, idx3 t]
theorem blk4 (c : Dev nD) (t : Fin cfg0.N) (r : Fin 512) (q : Fin 256) :
    (iblk m c 4 t : Vec Ideal S512x256 .f32) (ix2 r q) = m (c.tc.loc main_arg4) (ix2 (row t.val (lt8 t) r) q) := by
  rw [← V_main_arg4 m c]
  unfold row
  blk_ext [iblk, idx4 t]
theorem blk5 (c : Dev nD) (t : Fin cfg0.N) (r : Fin 1024) (q : Fin 1024) :
    (iblk m c 5 t : Vec Ideal S1024x1024 .bf16) (ix2 r q) = m (c.tc.loc main_arg5) (ix2 r q) := by
  rw [← V_main_arg5 m c]
  blk_ext [iblk, idx5 t]

theorem arr6 (c : Dev nD) : (dats m 0 c).arrAt 6 cfg0.N = outX (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 6 _ (by decide +kernel) fun t hf y => ?_
  rw [after0_6, out6]
  obtain ⟨r, q, rfl⟩ : ∃ (r : Fin 512) (q : Fin 1024), y = ix2 r q := ⟨y 0, y 1, by funext a; fin_cases a <;> rfl⟩
  have e : ((cfg0.win 6).blk t).view.emb (ix2 r q) = ix2 (row t.val (lt8 t) r) q := by
    unfold row
    blk_ext [idx6 t]
  rw [e]
  refine (pay1_at _ _ _ _ _ _ r q).trans (congrArg₂ (fun a b : EReal => a + b) (blk0 m c t r q) (Finset.sum_congr rfl fun k _ => congrArg₂ (fun a b : EReal => a * b) ?_ (blk5 m c t k q)))
  exact cat4_row (fun r q => blk1 m c t r q) (fun r q => blk2 m c t r q) (fun r q => blk3 m c t r q) (fun r q => blk4 m c t r q) r k

/-- Every execution of the kernel ends with the input plus the projection, its arguments unchanged. -/
theorem run_data : θ_run defs (onTc (τ := τ) (main (F := Ideal))) ⟨m, fun _ => 0, ρ⟩ fun r => ∀ c : Dev nD,
      r.2.mem (c.tc.loc main_v0) = outX (m (c.tc.loc main_arg0)) (m (c.tc.loc main_arg1)) (m (c.tc.loc main_arg2)) (m (c.tc.loc main_arg3)) (m (c.tc.loc main_arg4)) (m (c.tc.loc main_arg5))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine θ_run_mono (Cert.KernelOutIdeal.Value.run_blocks (F := Ideal) m ρ) fun r hr c => ?_
  exact ⟨(hr c).1.trans (arr6 m c), (hr c).2⟩

end Cert.KernelOutIdeal.Gen

/-! ## The reference -/

namespace Cert.RefOutIdeal.Gen

open Idealize.ShloMosaic Idealize.ShloMosaic.StableHlo Idealize.SL.Sem
open Cert.RefOutIdeal Cert.RefOutIdeal.Read Cert.Products

section
variable (x0 : FVec Ideal S4096x1024 .f32) (x1 x2 x3 x4 : FVec Ideal S4096x256 .f32) (x5 : FVec Ideal S1024x1024 .bf16)

theorem v1_at (r : Fin 4096) (q : Fin 1024) : val_main_v1 (F := Ideal) x1 x2 x3 x4 (ix2 r q) = cat4 (rc x1) (rc x2) (rc x3) (rc x4) r q := cat4_rows x1 x2 x3 x4 _ r q

theorem val3 : val_main_v3 (F := Ideal) x0 x1 x2 x3 x4 x5 = outX x0 x1 x2 x3 x4 x5 := by
  funext i
  obtain ⟨r, q, rfl⟩ : ∃ (r : Fin 4096) (q : Fin 1024), i = ix2 r q := ⟨i 0, i 1, (ix2_coords i).symm⟩
  have e : val_main_v3 (F := Ideal) x0 x1 x2 x3 x4 x5 (ix2 r q) = x0 (ix2 r q) + ∑ k : Fin 1024, val_main_v1 (F := Ideal) x1 x2 x3 x4 (ix2 r k) * x5 (ix2 k q) := by
    unfold val_main_v3 val_main_v2 val_main_v0
    generalize val_main_v1 (F := Ideal) x1 x2 x3 x4 = y
    pointwise []
  exact e.trans (congrArg (fun s : EReal => x0 (ix2 r q) + s) (Finset.sum_congr rfl fun k _ => congrArg₂ (fun a b : EReal => a * b) (v1_at x1 x2 x3 x4 r k) rfl))
end

variable (m : (ℓ : Loc nD τ sig) → Buf (Elt Ideal) ℓ) (ρ : Dev nD → PrngReg)

/-- Every execution of the reference ends with the input plus the projection, its arguments unchanged. -/
theorem run_data : θ_run defs (onTc (τ := τ) (main (F := Ideal))) ⟨m, fun _ => 0, ρ⟩ fun r => ∀ c : Dev nD,
      r.2.mem (c.tc.loc main_v3) = outX (m (c.tc.loc main_arg0)) (m (c.tc.loc main_arg1)) (m (c.tc.loc main_arg2)) (m (c.tc.loc main_arg3)) (m (c.tc.loc main_arg4)) (m (c.tc.loc main_arg5))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine θ_run_mono (Cert.RefOutIdeal.Value.run (F := Ideal) m ρ) fun r hr c => ?_
  exact ⟨(hr c).1.trans (val3 _ _ _ _ _ _), (hr c).2⟩

end Cert.RefOutIdeal.Gen

end
-- ==== Proof.LossRun.lean ====
/-
The loss head, forwards and backwards: the kernel's results and the reference's are the same functions of the arguments.
-/
module

public import proofs.«01_k».proof.Proof.Products
public import proofs.«01_k».proof.Proof.Gen.KernelLossIdeal.Value
public import proofs.«01_k».proof.Proof.Gen.RefLossIdeal.Run
public import proofs.«01_k».proof.Proof.Gen.RefLossIdeal.Read
public import Idealize.ShloMosaic.Lib.Pipeline.ValueKit
public import Idealize.ShloMosaic.Lib.Claim

@[expose] public section

set_option backward.isDefEq.respectTransparency false
set_option maxRecDepth 16384
set_option maxHeartbeats 4000000

noncomputable section

/-! ## The results, entry by entry -/

namespace Cert.Products

open Idealize.ShloMosaic

def inv1024 : EReal := Ideal.ofBits .f32 0x3A800000#32
def inv2048 : EReal := Ideal.ofBits .f32 0x3A000000#32

theorem k1024_eq : k1024 = ((1024 : ℝ) : EReal) := by
  simp [k1024, Ideal.ofBits, Ideal.ieee]
  norm_num [← EReal.coe_mul]
theorem inv1024_eq : inv1024 = ((1 / 1024 : ℝ) : EReal) := by
  simp [inv1024, Ideal.ofBits, Ideal.ieee]
  norm_num [← EReal.coe_mul]
theorem inv2048_eq : inv2048 = ((1 / 2048 : ℝ) : EReal) := by
  simp [inv2048, Ideal.ofBits, Ideal.ieee]
  norm_num [← EReal.coe_mul]
theorem half_eq : Ideal.ofBits .f32 0x3F000000#32 = ((1 / 2 : ℝ) : EReal) := by
  simp [Ideal.ofBits, Ideal.ieee]
  norm_num [← EReal.coe_mul]
theorem two_eq : Ideal.ofBits .f32 0x40000000#32 = ((2 : ℝ) : EReal) := by
  simp [Ideal.ofBits, Ideal.ieee]
  norm_num [← EReal.coe_mul]

/-- The mean square's slope: half of twice the error over the row's length. -/
theorem slope (e : EReal) : Ideal.div (Ideal.ofBits .f32 0x3F000000#32 * Ideal.ofBits .f32 0x3F800000#32) k1024 * (Ideal.ofBits .f32 0x40000000#32 * e) = e * inv1024 := by
  rw [k1024_eq, Ideal.div_coe (by norm_num), half_eq, two_eq, Ideal.ofBits_one_f32, mul_one, ← mul_assoc, ← EReal.coe_mul, ← EReal.coe_mul, inv1024_eq, mul_comm]
  norm_num

/-- A positive number times a sum is the sum of its products. -/
theorem sum_mul_pos {ι : Type} (s : Finset ι) (f : ι → EReal) {c : ℝ} (hc : 0 ≤ c) : ∑ t ∈ s, f t * (c : EReal) = (∑ t ∈ s, f t) * (c : EReal) := by
  classical
  induction s using Finset.induction_on with
  | empty => simp
  | insert a s h ih => rw [Finset.sum_insert h, Finset.sum_insert h, ih, EReal.right_distrib_of_nonneg_of_ne_top (EReal.coe_nonneg.mpr hc) (EReal.coe_ne_top c)]

section
variable {n : ℕ} (x : FVec Ideal ⟨2, ![n, 1024]⟩ .f32) (g : FVec Ideal ⟨2, ![1, 1024]⟩ .f32) (y : FVec Ideal ⟨2, ![n, 1024]⟩ .f32)

/-- The prediction's error, and the loss's cotangent at the prediction. -/
def err (t : Fin n) (q : Fin 1024) : EReal := nrm x g t q - y (ix2 t q)
def ct (t : Fin n) (q : Fin 1024) : EReal := err x g y t q * inv1024

/-- A row's summed square error. -/
def sqs (t : Fin n) : EReal := ∑ q : Fin 1024, err x g y t q * err x g y t q

theorem half_mean (s : Fin 4096 → EReal) :
    Ideal.ofBits .f32 0x3F000000#32 * ∑ t : Fin 4096, Ideal.div (s t) k1024 = (∑ t : Fin 4096, s t) * inv2048 := by
  simp only [k1024_eq, Ideal.div_coe (y := 1024) (by norm_num)]
  rw [sum_mul_pos _ _ (by norm_num), half_eq, mul_comm, mul_assoc, ← EReal.coe_mul, inv2048_eq]
  norm_num
end

section
variable (x : FVec Ideal ⟨2, ![4096, 1024]⟩ .f32) (g : FVec Ideal ⟨2, ![1, 1024]⟩ .f32) (y : FVec Ideal ⟨2, ![4096, 1024]⟩ .f32)

/-- The cotangent of the input, that of the scale, and the loss. -/
def lossX : FVec Ideal ⟨2, ![4096, 1024]⟩ .f32 := fun i => dx (rc x (i 0)) (fun q => ct x g y (i 0) q * g (ix2 0 q)) (fun _ => 0) (i 1)
def lossG : FVec Ideal ⟨2, ![1, 1024]⟩ .f32 := fun i => ∑ t : Fin 4096, x (ix2 t (i 1)) * rs (rc x t) * ct x g y t (i 1)
def lossL : FVec Ideal ⟨2, ![1, 128]⟩ .f32 := fun _ => (∑ t : Fin 4096, sqs x g y t) * inv2048
end

end Cert.Products

/-! ## The kernel -/

namespace Cert.KernelLossIdeal.Gen

open Idealize.ShloMosaic Idealize.ShloMosaic.TcCoe Idealize.SL.Sem
open Cert.KernelLossIdeal Cert.Products

theorem hz : (![0, 0] : Fin 2 → Nat) = fun _ => 0 := funext fun a => by fin_cases a <;> rfl

section
variable (x : FVec Ideal S512x1024 .f32) (g : FVec Ideal S1x1024 .f32) (y : FVec Ideal S512x1024 .f32)

theorem pay6_at (r : Fin 512) (z : Fin 1) : k0_pay6 (F := Ideal) x (ix2 r z) = msq (rc x r) := by
  unfold k0_pay6 msq k1024 eps
  pointwise []
theorem pay7_at (r : Fin 512) (z : Fin 1) : k0_pay7 (F := Ideal) x (ix2 r z) = rs (rc x r) := by
  have h : k0_pay7 (F := Ideal) x (ix2 r z) = Ideal.rsqrt (k0_pay6 (F := Ideal) x (ix2 r z)) := rfl
  rw [h, pay6_at]
  rfl
theorem pay8_at (r : Fin 512) (q : Fin 1024) : k0_pay8 (F := Ideal) x (ix2 r q) = x (ix2 r q) * rs (rc x r) := by
  unfold k0_pay8
  rw [← pay7_at x r 0]
  generalize k0_pay7 (F := Ideal) x = s
  pointwise []
theorem pay9_at (r : Fin 512) (q : Fin 1024) : k0_pay9 (F := Ideal) x g y (ix2 r q) = err x g y r q := by
  unfold k0_pay9 err nrm
  rw [← pay8_at x r q]
  generalize k0_pay8 (F := Ideal) x = s
  pointwise []
theorem pay10_at (r : Fin 512) (q : Fin 1024) : k0_pay10 (F := Ideal) x g y (ix2 r q) = ct x g y r q := by
  unfold k0_pay10 ct inv1024
  rw [← pay9_at x g y r q]
  generalize k0_pay9 (F := Ideal) x g y = s
  pointwise []
theorem pay11_at (z : Fin 1) (q : Fin 1024) : k0_pay11 (F := Ideal) x g y (ix2 z q) = ∑ r : Fin 512, x (ix2 r q) * rs (rc x r) * ct x g y r q := by
  unfold k0_pay11
  simp only [← pay8_at, ← pay10_at]
  generalize k0_pay8 (F := Ideal) x = s
  generalize k0_pay10 (F := Ideal) x g y = u
  pointwise []
theorem pay12_at (r : Fin 512) (q : Fin 1024) : k0_pay12 (F := Ideal) x g y (ix2 r q) = ct x g y r q * g (ix2 0 q) := by
  unfold k0_pay12
  rw [← pay10_at]
  generalize k0_pay10 (F := Ideal) x g y = u
  pointwise []
theorem pay13_at (r : Fin 512) (q : Fin 1024) : k0_pay13 (F := Ideal) x g y (ix2 r q) = ct x g y r q * g (ix2 0 q) * rs (rc x r) := by
  unfold k0_pay13
  rw [← pay12_at, ← pay7_at x r 0]
  generalize k0_pay12 (F := Ideal) x g y = u
  generalize k0_pay7 (F := Ideal) x = s
  pointwise []
theorem pay14_at (r : Fin 512) (q : Fin 1024) : k0_pay14 (F := Ideal) x g y (ix2 r q) = dms (rc x r) (fun q => ct x g y r q * g (ix2 0 q)) := by
  unfold k0_pay14 dms drs k1024 mhalf
  rw [← pay6_at x r 0, ← pay7_at x r 0]
  simp only [← pay12_at]
  generalize k0_pay12 (F := Ideal) x g y = u
  generalize k0_pay7 (F := Ideal) x = s
  generalize k0_pay6 (F := Ideal) x = v
  pointwise []
  simp only [Fin.sum_univ_one]
theorem pay1_at (r : Fin 512) (q : Fin 1024) : k0_pay1 (F := Ideal) x (k0_pay13 (F := Ideal) x g y) (k0_pay14 (F := Ideal) x g y) (k0_pay15 (F := Ideal) x g y) (ix2 r q)
    = dx (rc x r) (fun q => ct x g y r q * g (ix2 0 q)) (fun _ => 0) q := by
  unfold k0_pay1 k0_pay15 dx
  rw [← pay14_at x g y r q, ← pay13_at, add_zero]
  generalize k0_pay13 (F := Ideal) x g y = u
  generalize k0_pay14 (F := Ideal) x g y = s
  pointwise []
theorem pay2_at (u s : FVec Ideal S1x1024 .f32) (q : Fin 1024) : k0_pay2 (F := Ideal) u s (ix2 0 q) = s (ix2 0 q) + u (ix2 0 q) := by
  unfold k0_pay2
  pointwise []
theorem pay3_at (s : FVec Ideal S1x128 .f32) (q : Fin 128) : k0_pay3 (F := Ideal) (k0_pay9 (F := Ideal) x g y) s (ix2 0 q) = s (ix2 0 q) + (∑ r : Fin 512, sqs x g y r) * inv2048 := by
  unfold k0_pay3 sqs inv2048
  simp only [← pay9_at]
  generalize k0_pay9 (F := Ideal) x g y = u
  pointwise []
theorem pay4_at (q : Fin 1024) : k0_pay4 (F := Ideal) (ix2 0 q) = 0 := by
  unfold k0_pay4
  pointwise []
theorem pay5_at (q : Fin 128) : k0_pay5 (F := Ideal) (ix2 0 q) = 0 := by
  unfold k0_pay5
  pointwise []
end

variable (m : (ℓ : Loc nD τ sig) → Buf (Elt Ideal) ℓ) (ρ : Dev nD → PrngReg)

/-- The point's rows of the input, the scale, and the point's rows of the target. -/
abbrev X (c : Dev nD) (t : Fin cfg0.N) : FVec Ideal S512x1024 .f32 := iblk m c 0 t
abbrev G (c : Dev nD) (t : Fin cfg0.N) : FVec Ideal S1x1024 .f32 := iblk m c 1 t
abbrev Y (c : Dev nD) (t : Fin cfg0.N) : FVec Ideal S512x1024 .f32 := iblk m c 2 t

theorem at3 (c : Dev nD) (t : Fin cfg0.N) : (outsAt0 m c t.val t.isLt).1
    = k0_pay1 (F := Ideal) (X m c t) (k0_pay13 (F := Ideal) (X m c t) (G m c t) (Y m c t)) (k0_pay14 (F := Ideal) (X m c t) (G m c t) (Y m c t)) (k0_pay15 (F := Ideal) (X m c t) (G m c t) (Y m c t)) := by
  by_cases h : t.val % 8 = 0
  · rw [outsAt0_A m c t h]
    dsimp only
    unfold out0_A_3
    rw [View.read_writes_eq_canon _ _ _ (fun y => cover0_A_3 (y := y) ..)]
    unfold kernelRun0_A
    dsimp only
    sl_unfold_words
    rw [View.canon_unit_zero hz]
    simp only [View.readAt_eq_ld, (hs0_0 t).read_unread, (hs0_1 t).read_unread, (hs0_2 t).read_unread, View.ld_unit_zero (S := S512x1024) hz, View.ld_unit_zero (S := S1x1024) hz]
  · rw [outsAt0_B m c t h]
    dsimp only
    unfold out0_B_3
    rw [View.read_writes_eq_canon _ _ _ (fun y => cover0_B_3 (y := y) ..)]
    unfold kernelRun0_B
    dsimp only
    sl_unfold_words
    rw [View.canon_unit_zero hz]
    simp only [View.readAt_eq_ld, (hs0_0 t).read_unread, (hs0_1 t).read_unread, (hs0_2 t).read_unread, View.ld_unit_zero (S := S512x1024) hz, View.ld_unit_zero (S := S1x1024) hz]

theorem at4_first (c : Dev nD) (t : Fin cfg0.N) (h : t.val % 8 = 0) : (outsAt0 m c t.val t.isLt).2.1
    = k0_pay2 (F := Ideal) (k0_pay11 (F := Ideal) (X m c t) (G m c t) (Y m c t)) (k0_pay4 (F := Ideal)) := by
  rw [outsAt0_A m c t h]
  dsimp only
  unfold out0_A_4
  rw [View.read_writes_eq_canon _ _ _ (fun y => cover0_A_4 (y := y) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, View.ld_unit_zero (S := S512x1024) hz, View.ld_unit_zero (S := S1x1024) hz]

theorem at4_later (c : Dev nD) (t : Fin cfg0.N) (h : ¬t.val % 8 = 0) : (outsAt0 m c t.val t.isLt).2.1
    = k0_pay2 (F := Ideal) (k0_pay11 (F := Ideal) (X m c t) (G m c t) (Y m c t)) (outsAt0 m c (t.val - 1) (Nat.lt_of_le_of_lt (Nat.sub_le _ _) t.isLt)).2.1 := by
  rw [outsAt0_B m c t h]
  dsimp only
  unfold out0_B_4
  rw [View.read_writes_eq_canon _ _ _ (fun y => cover0_B_4 (y := y) ..)]
  unfold kernelRun0_B
  dsimp only
  sl_unfold_words
  rw [View.canon_unit_zero hz]
  simp only [View.readAt_eq_ld, (hs0_0 t).read_unread, (hs0_1 t).read_unread, (hs0_2 t).read_unread, (hs0_4 t).read_unread, View.ld_unit_zero (S := S512x1024) hz, View.ld_unit_zero (S := S1x1024) hz]

theorem at5_first (c : Dev nD) (t : Fin cfg0.N) (h : t.val % 8 = 0) : (outsAt0 m c t.val t.isLt).2.2
    = k0_pay3 (F := Ideal) (k0_pay9 (F := Ideal) (X m c t) (G m c t) (Y m c t)) (k0_pay5 (F := Ideal)) := by
  rw [outsAt0_A m c t h]
  dsimp only
  unfold out0_A_5
  rw [View.read_writes_eq_canon _ _ _ (fun y => cover0_A_5 (y := y) ..)]
  unfold kernelRun0_A
  dsimp only
  sl_unfold_words
  rw [View.canon_cons_unit_zero (S := S1x128) hz, View.readCov_unit_zero (S := S1x128) _ hz]
  simp only [View.readAt_eq_ld, (hs0_0 t).read_unread, (hs0_1 t).read_unread, (hs0_2 t).read_unread, View.ld_unit_zero (S := S512x1024) hz, View.ld_unit_zero (S := S1x1024) hz]

theorem at5_later (c : Dev nD) (t : Fin cfg0.N) (h : ¬t.val % 8 = 0) : (outsAt0 m c t.val t.isLt).2.2
    = k0_pay3 (F := Ideal) (k0_pay9 (F := Ideal) (X m c t) (G m c t) (Y m c t)) (outsAt0 m c (t.val - 1) (Nat.lt_of_le_of_lt (Nat.sub_le _ _) t.isLt)).2.2 := by
  rw [outsAt0_B m c t h]
  dsimp only
  unfold out0_B_5
  rw [View.read_writes_eq_canon _ _ _ (fun y => cover0_B_5 (y := y) ..)]
  unfold kernelRun0_B
  dsimp only
  sl_unfold_words
  rw [View.canon_unit_zero hz]
  simp only [View.readAt_eq_ld, (hs0_0 t).read_unread, (hs0_1 t).read_unread, (hs0_2 t).read_unread, (hs0_5 t).read_unread, View.ld_unit_zero (S := S512x1024) hz, View.ld_unit_zero (S := S1x1024) hz, View.ld_unit_zero (S := S1x128) hz]

theorem lt8 (t : Fin cfg0.N) : t.val < 8 := lt_of_lt_of_eq t.isLt N_0

theorem idx0 : ∀ t : Fin cfg0.N, win0_0.index t = ![t.val, 0] := by decide +kernel
theorem blk0 (c : Dev nD) (t : Fin cfg0.N) (r : Fin 512) (q : Fin 1024) : X m c t (ix2 r q) = m (c.tc.loc main_arg0) (ix2 (row t.val (lt8 t) r) q) := by
  rw [← V_main_arg0 m c]
  unfold row
  blk_ext [iblk, idx0 t]
theorem idx1 : ∀ t : Fin cfg0.N, win0_1.index t = ![0, 0] := by decide +kernel
theorem blk1 (c : Dev nD) (t : Fin cfg0.N) (r : Fin 1) (q : Fin 1024) : G m c t (ix2 r q) = m (c.tc.loc main_arg1) (ix2 r q) := by
  rw [← V_main_arg1 m c]
  blk_ext [iblk, idx1 t]
theorem idx2 : ∀ t : Fin cfg0.N, win0_2.index t = ![t.val, 0] := by decide +kernel
theorem blk2 (c : Dev nD) (t : Fin cfg0.N) (r : Fin 512) (q : Fin 1024) : Y m c t (ix2 r q) = m (c.tc.loc main_arg2) (ix2 (row t.val (lt8 t) r) q) := by
  rw [← V_main_arg2 m c]
  unfold row
  blk_ext [iblk, idx2 t]

abbrev Xm (c : Dev nD) : FVec Ideal S4096x1024 .f32 := m (c.tc.loc main_arg0)
abbrev Gm (c : Dev nD) : FVec Ideal S1x1024 .f32 := m (c.tc.loc main_arg1)
abbrev Ym (c : Dev nD) : FVec Ideal S4096x1024 .f32 := m (c.tc.loc main_arg2)

theorem X_row (c : Dev nD) (t : Fin cfg0.N) (r : Fin 512) : rc (X m c t) r = rc (Xm m c) (row t.val (lt8 t) r) := funext fun q => blk0 m c t r q
theorem err_row (c : Dev nD) (t : Fin cfg0.N) (r : Fin 512) (q : Fin 1024) : err (X m c t) (G m c t) (Y m c t) r q = err (Xm m c) (Gm m c) (Ym m c) (row t.val (lt8 t) r) q := by
  unfold err nrm
  rw [X_row, blk0, blk1, blk2]
theorem ct_row (c : Dev nD) (t : Fin cfg0.N) (r : Fin 512) (q : Fin 1024) : ct (X m c t) (G m c t) (Y m c t) r q = ct (Xm m c) (Gm m c) (Ym m c) (row t.val (lt8 t) r) q :=
  congrArg (fun e : EReal => e * inv1024) (err_row m c t r q)
theorem sq_row (c : Dev nD) (t : Fin cfg0.N) (r : Fin 512) : sqs (X m c t) (G m c t) (Y m c t) r = sqs (Xm m c) (Gm m c) (Ym m c) (row t.val (lt8 t) r) :=
  Finset.sum_congr rfl fun q _ => congrArg (fun e : EReal => e * e) (err_row m c t r q)

theorem idx3 : ∀ t : Fin cfg0.N, win0_3.index t = ![t.val, 0] := by decide +kernel
theorem arr3 (c : Dev nD) : (dats m 0 c).arrAt 3 cfg0.N = lossX (Xm m c) (Gm m c) (Ym m c) := by
  refine (dats m 0 c).arrAt_eq_of_covers 3 _ (by decide +kernel) fun t hf y => ?_
  rw [after0_3, at3]
  obtain ⟨r, q, rfl⟩ : ∃ (r : Fin 512) (q : Fin 1024), y = ix2 r q := ⟨y 0, y 1, by funext a; fin_cases a <;> rfl⟩
  have e : ((cfg0.win 3).blk t).view.emb (ix2 r q) = ix2 (row t.val (lt8 t) r) q := by
    unfold row
    blk_ext [idx3 t]
  rw [e]
  refine (pay1_at _ _ _ r q).trans ?_
  have hp : (fun q => ct (X m c t) (G m c t) (Y m c t) r q * G m c t (ix2 0 q)) = fun q => ct (Xm m c) (Gm m c) (Ym m c) (row t.val (lt8 t) r) q * Gm m c (ix2 0 q) :=
    funext fun q => congrArg₂ (fun a b : EReal => a * b) (ct_row m c t r q) (blk1 m c t 0 q)
  rw [hp, X_row]
  rfl

theorem sum4 (c : Dev nD) (q : Fin 1024) : (outsAt0 m c t0_7.val t0_7.isLt).2.1 (ix2 0 q) = lossG (Xm m c) (Gm m c) (Ym m c) (ix2 0 q) := by
  rw [Pipeline.eq_sum_fin_of_reset_step_apply_last (fun n h => ((outsAt0 m c n h).2.1 : S1x1024.Idx → EReal)) 8 (fun _ => 0)
    (fun t i => ∑ r : Fin 512, X m c t (ix2 r (i 1)) * rs (rc (X m c t) r) * ct (X m c t) (G m c t) (Y m c t) r (i 1))
    (fun t h i => by
      obtain ⟨z, q, rfl⟩ : ∃ (z : Fin 1) (q : Fin 1024), i = ix2 z q := ⟨i 0, i 1, (ix2_coords i).symm⟩
      obtain rfl : z = 0 := Subsingleton.elim _ _
      refine (congrFun (at4_first m c t h) _).trans ((pay2_at _ _ q).trans ?_)
      rw [pay4_at]
      exact congrArg (fun a : EReal => 0 + a) (pay11_at _ _ _ 0 q))
    (fun t h i => by
      obtain ⟨z, q, rfl⟩ : ∃ (z : Fin 1) (q : Fin 1024), i = ix2 z q := ⟨i 0, i 1, (ix2_coords i).symm⟩
      obtain rfl : z = 0 := Subsingleton.elim _ _
      refine (congrFun (at4_later m c t h) _).trans ((pay2_at _ _ q).trans ?_)
      exact congrArg (fun a : EReal => _ + a) (pay11_at _ _ _ 0 q))
    (le_of_eq N_0) t0_7 rfl (ix2 0 q), zero_add]
  refine Eq.trans ?_ (sum_rows (fun t => Xm m c (ix2 t q) * rs (rc (Xm m c) t) * ct (Xm m c) (Gm m c) (Ym m c) t q))
  refine Finset.sum_congr rfl fun p _ => Finset.sum_congr rfl fun r _ => ?_
  refine congrArg₂ (fun a b : EReal => a * b) (congrArg₂ (fun a b : EReal => a * b) (blk0 m c _ r q) ?_) (ct_row m c _ r q)
  exact congrArg rs (X_row m c _ r)

theorem sum5 (c : Dev nD) (q : Fin 128) : (outsAt0 m c t0_7.val t0_7.isLt).2.2 (ix2 0 q) = lossL (Xm m c) (Gm m c) (Ym m c) (ix2 0 q) := by
  rw [Pipeline.eq_sum_fin_of_reset_step_apply_last (fun n h => ((outsAt0 m c n h).2.2 : S1x128.Idx → EReal)) 8 (fun _ => 0)
    (fun t i => (∑ r : Fin 512, sqs (X m c t) (G m c t) (Y m c t) r) * inv2048)
    (fun t h i => by
      obtain ⟨z, q, rfl⟩ : ∃ (z : Fin 1) (q : Fin 128), i = ix2 z q := ⟨i 0, i 1, (ix2_coords i).symm⟩
      obtain rfl : z = 0 := Subsingleton.elim _ _
      refine (congrFun (at5_first m c t h) _).trans ((pay3_at _ _ _ _ q).trans ?_)
      rw [pay5_at])
    (fun t h i => by
      obtain ⟨z, q, rfl⟩ : ∃ (z : Fin 1) (q : Fin 128), i = ix2 z q := ⟨i 0, i 1, (ix2_coords i).symm⟩
      obtain rfl : z = 0 := Subsingleton.elim _ _
      exact (congrFun (at5_later m c t h) _).trans (pay3_at _ _ _ _ q))
    (le_of_eq N_0) t0_7 rfl (ix2 0 q), zero_add]
  unfold lossL
  rw [← sum_rows (sqs (Xm m c) (Gm m c) (Ym m c)), inv2048_eq, ← sum_mul_pos _ _ (by norm_num)]
  refine Finset.sum_congr rfl fun p _ => congrArg (fun a : EReal => a * _) (Finset.sum_congr rfl fun r _ => ?_)
  exact sq_row m c _ r

theorem idx4 : ∀ t : Fin cfg0.N, win0_4.index t = ![0, 0] := by decide +kernel
theorem arr4 (c : Dev nD) : (dats m 0 c).arrAt 4 cfg0.N = lossG (Xm m c) (Gm m c) (Ym m c) := by
  refine (dats m 0 c).arrAt_eq_of_after_last 4 t0_7 (by decide +kernel) _ fun j => ?_
  rw [after0_4]
  obtain ⟨z, q, rfl⟩ : ∃ (z : Fin 1) (q : Fin 1024), j = ix2 z q := ⟨j 0, j 1, by funext a; fin_cases a <;> rfl⟩
  obtain rfl : z = 0 := Subsingleton.elim _ _
  have e : (cfg0.win 4).arr.view.emb (ix2 0 q) = ix2 0 q := by funext b; fin_cases b <;> exact Fin.ext (by blk_simp)
  rw [e]
  blk_simp [idx4 t0_7]
  refine Eq.trans (congrArg _ ?_) (sum4 m c q)
  funext b; fin_cases b <;> rfl

theorem idx5 : ∀ t : Fin cfg0.N, win0_5.index t = ![0, 0] := by decide +kernel
theorem arr5 (c : Dev nD) : (dats m 0 c).arrAt 5 cfg0.N = lossL (Xm m c) (Gm m c) (Ym m c) := by
  refine (dats m 0 c).arrAt_eq_of_after_last 5 t0_7 (by decide +kernel) _ fun j => ?_
  rw [after0_5]
  obtain ⟨z, q, rfl⟩ : ∃ (z : Fin 1) (q : Fin 128), j = ix2 z q := ⟨j 0, j 1, by funext a; fin_cases a <;> rfl⟩
  obtain rfl : z = 0 := Subsingleton.elim _ _
  have e : (cfg0.win 5).arr.view.emb (ix2 0 q) = ix2 0 q := by funext b; fin_cases b <;> exact Fin.ext (by blk_simp)
  rw [e]
  blk_simp [idx5 t0_7]
  refine Eq.trans (congrArg _ ?_) (sum5 m c q)
  funext b; fin_cases b <;> rfl

/-- Every execution of the kernel ends with the two cotangents and the loss, its arguments unchanged. -/
theorem run_data : θ_run defs (onTc (τ := τ) (main (F := Ideal))) ⟨m, fun _ => 0, ρ⟩ fun r => ∀ c : Dev nD,
      r.2.mem (c.tc.loc main_v0_0) = lossX (Xm m c) (Gm m c) (Ym m c)
      ∧ r.2.mem (c.tc.loc main_v0_1) = lossG (Xm m c) (Gm m c) (Ym m c)
      ∧ r.2.mem (c.tc.loc main_v0_2) = lossL (Xm m c) (Gm m c) (Ym m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine θ_run_mono (Cert.KernelLossIdeal.Value.run_blocks (F := Ideal) m ρ) fun r hr c => ?_
  obtain ⟨h0, h1, h2, ha⟩ := hr c
  exact ⟨h0.trans (arr3 m c), h1.trans (arr4 m c), h2.trans (arr5 m c), ha⟩

end Cert.KernelLossIdeal.Gen

/-! ## The reference -/

namespace Cert.RefLossIdeal.Gen

open Idealize.ShloMosaic Idealize.ShloMosaic.StableHlo Idealize.SL.Sem
open Cert.RefLossIdeal Cert.RefLossIdeal.Read Cert.Products

section
variable (x0 : FVec Ideal S4096x1024 .f32) (x1 : FVec Ideal S1x1024 .f32) (x2 : FVec Ideal S4096x1024 .f32)

theorem v6_at (r : Fin 4096) (z : Fin 1) : val_main_v6 (F := Ideal) x0 (ix2 r z) = msq (rc x0 r) := by
  unfold val_main_v6 val_main_v5 val_main_v4 val_main_v3 val_main_v2 val_main_v1 val_main_v0 val_main_cst val_main_cst_0 val_main_cst_1 msq k1024 eps
  pointwise []
theorem v7_at (r : Fin 4096) (z : Fin 1) : val_main_v7 (F := Ideal) x0 (ix2 r z) = rs (rc x0 r) := by
  have h : val_main_v7 (F := Ideal) x0 (ix2 r z) = Ideal.rsqrt (val_main_v6 (F := Ideal) x0 (ix2 r z)) := rfl
  rw [h, v6_at]
  rfl
theorem v10_at (r : Fin 4096) (z : Fin 1) : val_main_v10 (F := Ideal) x0 (ix2 r z) = drs (rc x0 r) := by
  have h : val_main_v10 (F := Ideal) x0 (ix2 r z) = mhalf * Ideal.div (val_main_v7 (F := Ideal) x0 (ix2 r z)) (val_main_v6 (F := Ideal) x0 (ix2 r z)) := rfl
  rw [h, v6_at, v7_at]
  rfl
theorem v12_at (r : Fin 4096) (q : Fin 1024) : val_main_v12 (F := Ideal) x0 (ix2 r q) = x0 (ix2 r q) * rs (rc x0 r) := by
  rw [← v7_at x0 r 0]
  unfold val_main_v12 val_main_v11
  generalize val_main_v7 (F := Ideal) x0 = s
  pointwise []
theorem v15_at (r : Fin 4096) (q : Fin 1024) : val_main_v15 (F := Ideal) x0 x1 x2 (ix2 r q) = err x0 x1 x2 r q := by
  unfold err nrm
  rw [← v12_at]
  unfold val_main_v15 val_main_v14 val_main_v13
  generalize val_main_v12 (F := Ideal) x0 = s
  pointwise []
theorem v29_at (r : Fin 4096) (q : Fin 1024) : val_main_v29 (F := Ideal) x0 x1 x2 (ix2 r q) = ct x0 x1 x2 r q := by
  unfold ct
  rw [← slope, ← v15_at]
  unfold val_main_v29 val_main_v28 val_main_v27 val_main_v26 val_main_v25 val_main_v24 val_main_v18 val_main_v17 val_main_cst_3 val_main_cst_8 val_main_cst_9 val_main_cst_10 k1024
  generalize val_main_v15 (F := Ideal) x0 x1 x2 = s
  rfl
theorem v34_at (r : Fin 4096) (q : Fin 1024) : val_main_v34 (F := Ideal) x0 x1 x2 (ix2 r q) = ct x0 x1 x2 r q * x1 (ix2 0 q) := by
  rw [← v29_at]
  unfold val_main_v34 val_main_v33
  generalize val_main_v29 (F := Ideal) x0 x1 x2 = s
  pointwise []
theorem v42_at (r : Fin 4096) (z : Fin 1) : val_main_v42 (F := Ideal) x0 x1 x2 (ix2 r z) = dms (rc x0 r) (fun q => ct x0 x1 x2 r q * x1 (ix2 0 q)) := by
  unfold dms k1024
  rw [← v10_at x0 r z]
  simp only [← v34_at]
  unfold val_main_v42 val_main_v41 val_main_v40 val_main_v37 val_main_v36 val_main_v35 val_main_cst_12 val_main_cst_13
  generalize val_main_v34 (F := Ideal) x0 x1 x2 = y
  generalize val_main_v10 (F := Ideal) x0 = u
  pointwise []
theorem v44_at (r : Fin 4096) (q : Fin 1024) : val_main_v44 (F := Ideal) x0 x1 x2 (ix2 r q) = dms (rc x0 r) (fun q => ct x0 x1 x2 r q * x1 (ix2 0 q)) := by
  rw [← v42_at x0 x1 x2 r 0]
  unfold val_main_v44 val_main_v43 val_main_cst_14
  generalize val_main_v42 (F := Ideal) x0 x1 x2 = y
  pointwise []
  simp only [Fin.sum_univ_one]
theorem val48 : val_main_v48 (F := Ideal) x0 x1 x2 = lossX x0 x1 x2 := by
  funext i
  obtain ⟨r, q, rfl⟩ : ∃ (r : Fin 4096) (q : Fin 1024), i = ix2 r q := ⟨i 0, i 1, (ix2_coords i).symm⟩
  have h38 : val_main_v38 (F := Ideal) x0 (ix2 r q) = val_main_v7 (F := Ideal) x0 (ix2 r 0) := by
    unfold val_main_v38
    generalize val_main_v7 (F := Ideal) x0 = s
    pointwise []
  have e : val_main_v48 (F := Ideal) x0 x1 x2 (ix2 r q)
      = val_main_v34 (F := Ideal) x0 x1 x2 (ix2 r q) * val_main_v38 (F := Ideal) x0 (ix2 r q)
        + x0 (ix2 r q) * val_main_v44 (F := Ideal) x0 x1 x2 (ix2 r q)
        + val_main_v44 (F := Ideal) x0 x1 x2 (ix2 r q) * x0 (ix2 r q) := rfl
  rw [e, v34_at, v44_at, h38, v7_at]
  exact (add_zero _).symm
theorem val32 : val_main_v32 (F := Ideal) x0 x1 x2 = lossG x0 x1 x2 := by
  funext i
  obtain ⟨z, q, rfl⟩ : ∃ (z : Fin 1) (q : Fin 1024), i = ix2 z q := ⟨i 0, i 1, (ix2_coords i).symm⟩
  unfold lossG
  simp only [← v29_at]
  show _ = ∑ t : Fin 4096, x0 (ix2 t q) * rs (rc x0 t) * val_main_v29 (F := Ideal) x0 x1 x2 (ix2 t q)
  simp only [← v12_at]
  unfold val_main_v32 val_main_v31 val_main_v30 val_main_cst_11
  generalize val_main_v29 (F := Ideal) x0 x1 x2 = y
  generalize val_main_v12 (F := Ideal) x0 = s
  pointwise []
theorem v22_at (i : S_.Idx) : val_main_v22 (F := Ideal) x0 x1 x2 i = ∑ t : Fin 4096, Ideal.div (sqs x0 x1 x2 t) k1024 := by
  unfold sqs k1024
  simp only [← v15_at]
  unfold val_main_v22 val_main_v21 val_main_v20 val_main_v19 val_main_v16 val_main_cst_4 val_main_cst_5 val_main_cst_6
  generalize val_main_v15 (F := Ideal) x0 x1 x2 = s
  pointwise []
theorem val49 : val_main_v49 (F := Ideal) x0 x1 x2 = lossL x0 x1 x2 := by
  funext i
  unfold lossL
  rw [← half_mean, ← v22_at x0 x1 x2 ix0]
  unfold val_main_v49 val_main_v23 val_main_cst_7
  generalize val_main_v22 (F := Ideal) x0 x1 x2 = s
  exact congrArg (fun a : EReal => _ * a) (congrArg s (Subsingleton.elim _ _))
end

variable (m : (ℓ : Loc nD τ sig) → Buf (Elt Ideal) ℓ) (ρ : Dev nD → PrngReg)

/-- Every execution of the reference ends with the two cotangents and the loss, its arguments unchanged. -/
theorem run_data : θ_run defs (onTc (τ := τ) (main (F := Ideal))) ⟨m, fun _ => 0, ρ⟩ fun r => ∀ c : Dev nD,
      r.2.mem (c.tc.loc main_v48) = lossX (m (c.tc.loc main_arg0)) (m (c.tc.loc main_arg1)) (m (c.tc.loc main_arg2))
      ∧ r.2.mem (c.tc.loc main_v32) = lossG (m (c.tc.loc main_arg0)) (m (c.tc.loc main_arg1)) (m (c.tc.loc main_arg2))
      ∧ r.2.mem (c.tc.loc main_v49) = lossL (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine θ_run_mono (Cert.RefLossIdeal.Value.run (F := Ideal) m ρ) fun r hr c => ?_
  obtain ⟨h48, h32, h49, ha⟩ := hr c
  exact ⟨h48.trans (val48 ..), h32.trans (val32 ..), h49.trans (val49 ..), ha⟩

end Cert.RefLossIdeal.Gen

end
-- ==== Proof.ACTile.lean ====
/-
The forward pass of the two convolution branches, one tile: its results are products of values the backward pass recomputes.
-/
module

public import proofs.«01_k».proof.Proof.TileRows
public import proofs.«01_k».proof.Proof.Gen.KernelACIdeal.Skeleton

@[expose] public section

set_option backward.isDefEq.respectTransparency false
set_option maxRecDepth 16384
set_option maxHeartbeats 1000000

noncomputable section

namespace Cert.KernelACIdeal.Gen

open Idealize.ShloMosaic
open Cert.KernelACIdeal Cert.Rows

/-- The first branch's convolution with its bias, before the mean is taken off, and the mean. -/
def conv (ic : grid0.Coords) (b : Cert.KernelIdeal.Tile.Blk) : FVec Ideal S512x256 .f32 :=
  k0_pay14 b.v30 b.v44 (k0_pay11 b.v30 b.v44 (k0_pay9 b.v30 b.v44 (k0_pay6 ic b.x3 b.x0 b.x4 b.x1 b.x11) (k0_pay7 ic b.x3 b.x0 b.x4 b.x1) (k0_pay8 b.x11)) (k0_pay10 b.v44))
    (k0_pay12 b.v44) (k0_pay13 b.v30)

section
variable {b : Cert.KernelIdeal.Tile.Blk} {ic : grid0.Coords} (hs : k0_pay2 (F := Ideal) ic = b.v5)
include hs

theorem glu_eq : k0_pay5 (F := Ideal) ic b.x3 b.x0 b.x4 b.x1 = b.v44 := by
  unfold k0_pay5
  rw [hs]
  rfl

theorem pay6_at (r : Fin 512) (c : Fin 256) : k0_pay6 (F := Ideal) ic b.x3 b.x0 b.x4 b.x1 b.x11 (ix2 r c) = b.tap r c 0 := by
  have e : k0_pay3 (F := Ideal) b.x11 = b.v30 := rfl
  unfold k0_pay6
  rw [glu_eq hs, e]
  simp only [mul_at, roll_up, bcast_row, Nat.reduceLeDiff, Nat.reduceAdd, Cert.KernelIdeal.Tile.Blk.tap]

theorem pay9_at (r : Fin 512) (c : Fin 256) :
    k0_pay9 (F := Ideal) b.v30 b.v44 (k0_pay6 ic b.x3 b.x0 b.x4 b.x1 b.x11) (k0_pay7 ic b.x3 b.x0 b.x4 b.x1) (k0_pay8 b.x11) (ix2 r c)
      = ∑ k ∈ Finset.range 9, b.tap r c k := by
  have e : k0_pay3 (F := Ideal) b.x11 = b.v30 := rfl
  unfold k0_pay9 k0_pay7 k0_pay8
  rw [glu_eq hs, e]
  simp only [add_at, mul_at, roll_up, bcast_row, Nat.reduceLeDiff, Nat.reduceAdd, pay6_at hs, Finset.sum_range_succ, Finset.sum_range_zero, zero_add, Cert.KernelIdeal.Tile.Blk.tap]

theorem conv_at (r : Fin 512) (c : Fin 256) : conv ic b (ix2 r c) = ∑ k ∈ Finset.range 24, b.tap r c k := by
  unfold conv k0_pay14 k0_pay12 k0_pay13 k0_pay11 k0_pay10
  simp only [add_at, mul_at, roll_up, bcast_row, Nat.reduceLeDiff, Nat.reduceAdd, pay9_at hs, Finset.sum_range_succ, Finset.sum_range_zero, zero_add, Cert.KernelIdeal.Tile.Blk.tap]

theorem pay16_at (r : Fin 512) (c : Fin 256) : k0_pay16 (F := Ideal) b.v30 b.x12 b.v44 (conv ic b) (k0_pay15 b.v44) (ix2 r c) = b.conv r c := by
  unfold k0_pay16 k0_pay15
  simp only [add_at, mul_at, roll_up, slice_rows (o := 32), bcast_row, bcast_one, Nat.reduceLeDiff, Nat.reduceAdd, conv_at hs, Finset.sum_range_succ, Finset.sum_range_zero, zero_add, Cert.KernelIdeal.Tile.Blk.tap, Cert.KernelIdeal.Tile.Blk.conv]
  simp only [slice_rows, Fin.val_zero, zero_add]

theorem pay17_at (r : Fin 512) (z : Fin 1) :
    k0_pay17 (F := Ideal) b.v30 b.x12 b.v44 (conv ic b) (k0_pay15 b.v44) (ix2 r z) = Ideal.div (∑ k, b.conv r k) k256 := by
  unfold k0_pay17
  rw [div_at, sum_chan]
  simp only [pay16_at hs]
  rfl

/-- The centred rows. -/
theorem centre_eq (hb : Shape.Broadcasts S512x1 S512x256) :
    subf (k0_pay16 (F := Ideal) b.v30 b.x12 b.v44 (conv ic b) (k0_pay15 b.v44))
      (broadcastTo S512x256 (k0_pay17 (F := Ideal) b.v30 b.x12 b.v44 (conv ic b) (k0_pay15 b.v44)) hb) = b.v296 := by
  funext i
  obtain ⟨r, c, rfl⟩ : ∃ (r : Fin 512) (c : Fin 256), i = ix2 r c := ⟨i 0, i 1, by funext a; fin_cases a <;> rfl⟩
  rw [Cert.KernelIdeal.Tile.Blk.v296_read, sub_at, bcast_col, pay16_at hs, pay17_at hs]

/-- The first branch's result. -/
theorem pay18_at {d : Data} {i : ℕ} (h : Cert.KernelIdeal.Tile.Ok b d i) (r : Fin 512) (c : Fin 256) :
    k0_pay18 (F := Ideal) b.x2 b.x13 b.x14 (k0_pay4 b.x15) b.x16 (k0_pay16 b.v30 b.x12 b.v44 (conv ic b) (k0_pay15 b.v44))
      (k0_pay17 b.v30 b.x12 b.v44 (conv ic b) (k0_pay15 b.v44)) (ix2 r c)
      = d.z (512 * i + r.val) c * (d.az (512 * i + r.val) c * Ideal.logistic (d.az (512 * i + r.val) c)) := by
  unfold k0_pay18
  dsimp only
  rw [centre_eq hs, ← h.v323, ← h.x2]
  rfl

/-- The second branch's result. -/
theorem pay1_at {d : Data} {i : ℕ} (h : Cert.KernelIdeal.Tile.Ok b d i) (r : Fin 512) (c : Fin 256) :
    k0_pay1 (F := Ideal) b.x5 (k0_pay19 (k0_pay2 ic) b.x9 b.x6) (k0_pay20 (k0_pay2 ic) b.x10 b.x7) b.x8 b.x17 (ix2 r c)
      = d.cb (512 * i + r.val) c * d.cy (512 * i + r.val) c * (d.cz (512 * i + r.val) c * Ideal.logistic (d.cz (512 * i + r.val) c)) := by
  rw [hs, ← h.v349, ← h.x8, ← h.x5]
  rfl
end

/-- The factor of the rows before a tile is the backward pass's, whose points run over the tiles in the opposite order. -/
theorem factor {b : Cert.KernelIdeal.Tile.Blk} {d : Data} {i : ℕ} (h : Cert.KernelIdeal.Tile.Ok b d i) (ic : grid0.Coords) (hc : (ic 0).val = i) :
    k0_pay2 (F := Ideal) ic = b.v5 := by
  have hi := h.hi
  rw [h.v5]
  unfold k0_pay2
  dsimp only
  rw [hc, Ideal.scalar_sitofp_def]
  clear h hc
  interval_cases i <;> simp [Scalar.cmpi, Scalar.extui, IntOp.cmpi]

end Cert.KernelACIdeal.Gen

end
-- ==== Proof.ACRef.lean ====
/-
The forward pass of the two convolution branches: its results as functions of the arguments, and the reference's run.
-/
module

public import proofs.«01_k».proof.Proof.RefRun
public import proofs.«01_k».proof.Proof.Gen.RefACIdeal.Run
public import proofs.«01_k».proof.Proof.Gen.RefACIdeal.Read

@[expose] public section

set_option maxRecDepth 16384
set_option maxHeartbeats 1000000

noncomputable section

namespace Cert.Rows

open Idealize.ShloMosaic

/-- The data of the eight arrays a forward pass reads; there is no upstream gradient. -/
abbrev fwdData (x0 : FVec Ideal ⟨2, ![4096, 3456]⟩ .f32) (x1 : FVec Ideal ⟨2, ![31, 256]⟩ .f32)
    (x2 x3 x4 : FVec Ideal ⟨2, ![1, 256]⟩ .f32) (x5 : FVec Ideal ⟨2, ![256, 256]⟩ .f32) (x6 : FVec Ideal ⟨2, ![1, 256]⟩ .f32)
    (x7 : FVec Ideal ⟨2, ![3, 256]⟩ .f32) : Data :=
  ofArrays x0 x1 x2 x3 x4 x5 x6 x7 (fun _ => (0 : EReal)) (fun _ => (0 : EReal))

/-- The first branch's result. -/
def Data.fwdA (d : Data) (n : ℕ) (c : Fin 256) : EReal := d.z n c * (d.az n c * Ideal.logistic (d.az n c))

/-- The second branch's result. -/
def Data.fwdC (d : Data) (n : ℕ) (c : Fin 256) : EReal := d.cb n c * d.cy n c * (d.cz n c * Ideal.logistic (d.cz n c))

end Cert.Rows

namespace Cert.RefACIdeal.Gen

open Idealize.ShloMosaic Idealize.ShloMosaic.StableHlo Idealize.SL.Sem Cert.RefACIdeal Cert.RefACIdeal.Read Cert.Rows

section
variable (x0 : FVec Ideal ⟨2, ![4096, 3456]⟩ .f32) (x1 : FVec Ideal ⟨2, ![31, 256]⟩ .f32)
    (x2 x3 x4 : FVec Ideal ⟨2, ![1, 256]⟩ .f32) (x5 : FVec Ideal ⟨2, ![256, 256]⟩ .f32) (x6 : FVec Ideal ⟨2, ![1, 256]⟩ .f32)
    (x7 : FVec Ideal ⟨2, ![3, 256]⟩ .f32)

/-! The backward pass's reference recomputes these stages. -/

theorem conv_eq : val_main_v191 (F := Ideal) x0 x1 x2 x3 x4 = Cert.ReferenceIdeal.Read.val_main_v198 (F := Ideal) x0 x1 x2 x3 x4 := rfl

theorem point_eq : val_main_v195 (F := Ideal) x0 x1 x2 x3 x4 x5 x6 = Cert.ReferenceIdeal.Read.val_main_v202 (F := Ideal) x0 x1 x2 x3 x4 x5 x6 := rfl

theorem gateA_eq : val_main_v196 (F := Ideal) x0 = Cert.ReferenceIdeal.Read.val_main_v203_0 (F := Ideal) x0 := rfl

theorem short_eq : val_main_v214 (F := Ideal) x0 x7 = Cert.ReferenceIdeal.Read.val_main_v222 (F := Ideal) x0 x7 := rfl

theorem gateC_eq : val_main_v216 (F := Ideal) x0 = Cert.ReferenceIdeal.Read.val_main_v224_0 (F := Ideal) x0 := rfl

theorem v197_at (t : Fin 4096) (c : Fin 256) :
    val_main_v197 (F := Ideal) x0 x1 x2 x3 x4 x5 x6 (ix2 t c) = (fwdData x0 x1 x2 x3 x4 x5 x6 x7).fwdA t.val c := by
  have h : Is (fwdData x0 x1 x2 x3 x4 x5 x6 x7) x0 x1 x2 x3 x4 x5 x6 x7 _ _ := ofArrays_is _ _ _ _ _ _ _ _ _ _
  have e : val_main_v197 (F := Ideal) x0 x1 x2 x3 x4 x5 x6 (ix2 t c) = val_main_v195 (F := Ideal) x0 x1 x2 x3 x4 x5 x6 (ix2 t c) * val_main_v196 (F := Ideal) x0 (ix2 t c) := rfl
  rw [e, point_eq, gateA_eq, h.r202, h.r203_0]
  rfl

theorem v217_at (t : Fin 4096) (c : Fin 256) :
    val_main_v217 (F := Ideal) x0 x7 (ix2 t c) = (fwdData x0 x1 x2 x3 x4 x5 x6 x7).fwdC t.val c := by
  have h : Is (fwdData x0 x1 x2 x3 x4 x5 x6 x7) x0 x1 x2 x3 x4 x5 x6 x7 _ _ := ofArrays_is _ _ _ _ _ _ _ _ _ _
  have e : val_main_v217 (F := Ideal) x0 x7 (ix2 t c) = Cert.ReferenceIdeal.Read.val_main_v3 (F := Ideal) x0 (ix2 t c) * val_main_v214 (F := Ideal) x0 x7 (ix2 t c) * val_main_v216 (F := Ideal) x0 (ix2 t c) := rfl
  rw [e, short_eq, gateC_eq, h.r3, h.r222, h.r224_0]
  rfl

end

variable (m : (ℓ : Loc nD τ sig) → Buf (Elt Ideal) ℓ) (ρ : Dev nD → PrngReg)

/-- The call's data, from the reference's argument arrays. -/
abbrev data (c : Dev nD) : Data :=
  fwdData (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

/-- Every execution of the reference ends with the two branches' results, its arguments unchanged. -/
theorem run_data : θ_run defs (onTc (τ := τ) (main (F := Ideal))) ⟨m, fun _ => 0, ρ⟩ fun r => ∀ c : Dev nD,
      r.2.mem (c.tc.loc main_v197) = (fun i : S4096x256.Idx => (data m c).fwdA (i 0).val (i 1))
      ∧ r.2.mem (c.tc.loc main_v217) = (fun i : S4096x256.Idx => (data m c).fwdC (i 0).val (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine θ_run_mono (Cert.RefACIdeal.Value.run (F := Ideal) m ρ) fun r hr c => ?_
  obtain ⟨ha, hc, hk⟩ := hr c
  refine ⟨?_, ?_, hk⟩
  · exact ha.trans ((val_main_v197_eq (launchContents m c)).trans (funext fun i => (congrArg _ (Cert.ReferenceIdeal.Gen.ix2_coords i).symm).trans (v197_at _ _ _ _ _ _ _ _ (i 0) (i 1))))
  · exact hc.trans ((val_main_v217_eq (launchContents m c)).trans (funext fun i => (congrArg _ (Cert.ReferenceIdeal.Gen.ix2_coords i).symm).trans (v217_at _ _ _ _ _ _ _ _ (i 0) (i 1))))

end Cert.RefACIdeal.Gen

end
-- ==== Proof.ACRun.lean ====
/-
The forward pass of the two convolution branches: the kernel's blocks and its results.
-/
module

public import proofs.«01_k».proof.Proof.ACTile
public import proofs.«01_k».proof.Proof.ACRef
public import proofs.«01_k».proof.Proof.TileAt
public import proofs.«01_k».proof.Proof.Gen.KernelACIdeal.Value
public import Idealize.ShloMosaic.Lib.Pipeline.ValueKit
public import Idealize.ShloMosaic.Lib.Pipeline.ReadBack

@[expose] public section

set_option backward.isDefEq.respectTransparency false
set_option maxRecDepth 16384
set_option maxHeartbeats 1000000

noncomputable section

namespace Cert.KernelACIdeal.Gen

open Idealize.ShloMosaic Idealize.ShloMosaic.TcCoe Idealize.SL.Sem
open Cert.KernelACIdeal Cert.Rows

variable (m : (ℓ : Loc nD τ sig) → Buf (Elt Ideal) ℓ)

/-! ## The blocks -/

theorem idx0 : ∀ t : Fin cfg0.N, win0_0.index t = ![t.val, 0] := by decide +kernel
theorem idx1 : ∀ t : Fin cfg0.N, win0_1.index t = ![t.val, 1] := by decide +kernel
theorem idx2 : ∀ t : Fin cfg0.N, win0_2.index t = ![t.val, 2] := by decide +kernel
theorem idx3 : ∀ t : Fin cfg0.N, win0_3.index t = ![16 * t.val - 1, 0] := by decide +kernel
theorem idx4 : ∀ t : Fin cfg0.N, win0_4.index t = ![16 * t.val - 1, 1] := by decide +kernel
theorem idx5 : ∀ t : Fin cfg0.N, win0_5.index t = ![t.val, 5] := by decide +kernel
theorem idx6 : ∀ t : Fin cfg0.N, win0_6.index t = ![t.val, 6] := by decide +kernel
theorem idx7 : ∀ t : Fin cfg0.N, win0_7.index t = ![t.val, 7] := by decide +kernel
theorem idx8 : ∀ t : Fin cfg0.N, win0_8.index t = ![t.val, 8] := by decide +kernel
theorem idx9 : ∀ t : Fin cfg0.N, win0_9.index t = ![16 * t.val - 1, 6] := by decide +kernel
theorem idx10 : ∀ t : Fin cfg0.N, win0_10.index t = ![16 * t.val - 1, 7] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0] := by decide +kernel
theorem idx17 : ∀ t : Fin cfg0.N, win0_17.index t = ![0, 0] := by decide +kernel
theorem idx18 : ∀ t : Fin cfg0.N, win0_18.index t = ![t.val, 0] := by decide +kernel
theorem idx19 : ∀ t : Fin cfg0.N, win0_19.index t = ![t.val, 0] := by decide +kernel

theorem coord : ∀ t : Fin cfg0.N, (grid0.coords t 0).val = t.val := by decide +kernel

/-- The columns and the weights of the launch. -/
abbrev data (c : Dev nD) : Data :=
  fwdData (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7))

/-- The backward pass's grid point that works on the same tile. -/
def back (t : Fin cfg0.N) : Fin Cert.KernelIdeal.cfg0.N := ⟨7 - t.val, lt_of_lt_of_eq (by omega) Cert.KernelIdeal.Gen.N_0.symm⟩

/-- The blocks of a point, with no upstream gradient. -/
def tile (c : Dev nD) (t : Fin cfg0.N) : Cert.KernelIdeal.Tile.Blk :=
  Cert.KernelIdeal.Tile.Blk.mk (Cert.KernelIdeal.grid0.coords (back t)) (X0_0 m c t) (X0_1 m c t) (X0_2 m c t) (X0_3 m c t) (X0_4 m c t) (X0_5 m c t) (X0_6 m c t) (X0_7 m c t) (X0_8 m c t) (X0_9 m c t) (X0_10 m c t)
    (iblk m c 11 t) (iblk m c 12 t) (iblk m c 13 t) (iblk m c 14 t) (iblk m c 15 t) (iblk m c 16 t) (iblk m c 17 t) (fun _ => (0 : EReal)) (fun _ => (0 : EReal))

/-- A place of the projected array is a column's. -/
theorem at_col (c : Dev nD) {x : EReal} {o : ℕ} (ho : o + 256 ≤ 3456) {n : ℕ} (hn : n < 4096) (q : Fin 256)
    (e : x = (V m c main_arg0 : S4096x3456.Idx → EReal) (ix2 ⟨n, hn⟩ ⟨o + q.val, by have := q.isLt; omega⟩)) :
    x = col (n := 4096) (m := 3456) (m (c.tc.loc main_arg0)) o ho n q := by
  unfold col
  rw [dif_pos hn, ← V_main_arg0 m c]
  exact e

theorem taps_at (c : Dev nD) (k : Fin 32) (q : Fin 256) :
    (V m c main_v0 : S32x256.Idx → EReal) (ix2 k q) = rd (n := 31) (m (c.tc.loc main_arg1)) k.val q := by
  change pad S32x256 ![0, 0] ![1, 0] ![0, 0] (m (c.tc.loc main_arg1)) (sitofp .f32 (constantI S_ 32 0#32) : FVec Ideal S_ .f32) pads_S31x256_S32x256_010_000 h_S_ (ix2 k q) = _
  have z : ∀ i, (sitofp .f32 (constantI S_ 32 0#32) : FVec Ideal S_ .f32) i = 0 := fun i => by
    show Scalar.sitofp (F := Ideal) .f32 (0#32 : BitVec 32) = (0 : EReal)
    simp [Ideal.scalar_sitofp_def]
  refine (hpad (lo := 0) (hi := 1) (m (c.tc.loc main_arg1)) _ z _ _ k q).trans ?_
  rw [if_pos (Nat.zero_le _), Nat.sub_zero]

theorem short_at (c : Dev nD) (k : Fin 8) (q : Fin 256) :
    (V m c main_v2 : S8x256.Idx → EReal) (ix2 k q) = rd (n := 3) (m (c.tc.loc main_arg7)) k.val q := by
  change pad S8x256 ![0, 0] ![5, 0] ![0, 0] (m (c.tc.loc main_arg7)) (sitofp .f32 (constantI S_ 32 0#32) : FVec Ideal S_ .f32) pads_S3x256_S8x256_050_000 h_S_ (ix2 k q) = _
  have z : ∀ i, (sitofp .f32 (constantI S_ 32 0#32) : FVec Ideal S_ .f32) i = 0 := fun i => by
    show Scalar.sitofp (F := Ideal) .f32 (0#32 : BitVec 32) = (0 : EReal)
    simp [Ideal.scalar_sitofp_def]
  refine (hpad (lo := 0) (hi := 5) (m (c.tc.loc main_arg7)) _ z _ _ k q).trans ?_
  rw [if_pos (Nat.zero_le _), Nat.sub_zero]

theorem point_at (c : Dev nD) (a q : Fin 256) :
    (V m c main_v1 : S256x256.Idx → EReal) (ix2 a q) = m (c.tc.loc main_arg5) (ix2 a q) := by
  entry_read
  rfl

theorem rd_zero {n : ℕ} (t : ℕ) (c : Fin 256) : (0 : EReal) = rd (n := n) (fun _ => (0 : EReal)) t c := by
  unfold rd
  split <;> rfl

/-- Point `t` works on tile `t`. -/
theorem tile_ok (c : Dev nD) (t : Fin cfg0.N) : Cert.KernelIdeal.Tile.Ok (tile m c t) (data m c) t.val := by
  have ht : t.val < 8 := lt_of_lt_of_eq t.isLt N_0
  unfold tile data fwdData ofArrays
  constructor <;> try dsimp only
  · exact ht
  · exact Cert.KernelIdeal.Gen.coord (back t)
  · intro r q; refine at_col m c _ (by have := r.isLt; omega) q ?_; unfold X0_0 Pipeline.Window.fill; rw [dif_pos (moved0_0 t _)]; blk_ext [iblk, idx0 t]
  · intro r q; refine at_col m c _ (by have := r.isLt; omega) q ?_; unfold X0_1 Pipeline.Window.fill; rw [dif_pos (moved0_1 t _)]; blk_ext [iblk, idx1 t]
  · intro r q; refine at_col m c _ (by have := r.isLt; omega) q ?_; unfold X0_2 Pipeline.Window.fill; rw [dif_pos (moved0_2 t _)]; blk_ext [iblk, idx2 t]
  · intro h r q; refine at_col m c _ (by have := r.isLt; omega) q ?_; unfold X0_3 Pipeline.Window.fill; rw [dif_pos (moved0_3 t _)]; blk_ext [iblk, idx3 t]
  · intro h r q; refine at_col m c _ (by have := r.isLt; omega) q ?_; unfold X0_4 Pipeline.Window.fill; rw [dif_pos (moved0_4 t _)]; blk_ext [iblk, idx4 t]
  · intro r q; refine at_col m c _ (by have := r.isLt; omega) q ?_; unfold X0_5 Pipeline.Window.fill; rw [dif_pos (moved0_5 t _)]; blk_ext [iblk, idx5 t]
  · intro r q; refine at_col m c _ (by have := r.isLt; omega) q ?_; unfold X0_6 Pipeline.Window.fill; rw [dif_pos (moved0_6 t _)]; blk_ext [iblk, idx6 t]
  · intro r q; refine at_col m c _ (by have := r.isLt; omega) q ?_; unfold X0_7 Pipeline.Window.fill; rw [dif_pos (moved0_7 t _)]; blk_ext [iblk, idx7 t]
  · intro r q; refine at_col m c _ (by have := r.isLt; omega) q ?_; unfold X0_8 Pipeline.Window.fill; rw [dif_pos (moved0_8 t _)]; blk_ext [iblk, idx8 t]
  · intro h r q; refine at_col m c _ (by have := r.isLt; omega) q ?_; unfold X0_9 Pipeline.Window.fill; rw [dif_pos (moved0_9 t _)]; blk_ext [iblk, idx9 t]
  · intro h r q; refine at_col m c _ (by have := r.isLt; omega) q ?_; unfold X0_10 Pipeline.Window.fill; rw [dif_pos (moved0_10 t _)]; blk_ext [iblk, idx10 t]
  · intro k q _; refine Eq.trans ?_ (taps_at m c k q); blk_ext [iblk, idx11 t]
  · intro q; rw [← V_main_arg2 m c]; blk_ext [iblk, idx12 t]
  · intro q; rw [← V_main_arg3 m c]; blk_ext [iblk, idx13 t]
  · intro q; rw [← V_main_arg4 m c]; blk_ext [iblk, idx14 t]
  · intro a q; refine Eq.trans ?_ (point_at m c a q); blk_ext [iblk, idx15 t]
  · intro q; rw [← V_main_arg6 m c]; blk_ext [iblk, idx16 t]
  · intro k q _; refine Eq.trans ?_ (short_at m c k q); blk_ext [iblk, idx17 t]
  · intro r q; exact rd_zero _ _
  · intro r q; exact rd_zero _ _

/-! ## The results -/

theorem start (c : Dev nD) (t : Fin cfg0.N) : k0_pay2 (F := Ideal) (grid0.coords t) = (tile m c t).v5 :=
  factor (tile_ok m c t) (grid0.coords t) (coord t)

theorem out18 (c : Dev nD) (t : Fin cfg0.N) (r : Fin 512) (q : Fin 256) :
    (outsAt0 m c t).1 (ix2 r q) = (data m c).fwdA (512 * t.val + r.val) q := by
  refine Eq.trans ?_ (pay18_at (start m c t) (tile_ok m c t) r q)
  unfold conv
  rw [← glu_eq (start m c t)]
  unfold outsAt0
  frame_out
  rfl

theorem out19 (c : Dev nD) (t : Fin cfg0.N) (r : Fin 512) (q : Fin 256) :
    (outsAt0 m c t).2 (ix2 r q) = (data m c).fwdC (512 * t.val + r.val) q := by
  refine Eq.trans ?_ (pay1_at (start m c t) (tile_ok m c t) r q)
  unfold outsAt0
  frame_out
  rfl

theorem arr18 (c : Dev nD) : (dats m 0 c).arrAt 18 cfg0.N = fun i : S4096x256.Idx => (data m c).fwdA (i 0).val (i 1) := by
  refine (dats m 0 c).arrAt_eq_of_covers 18 _ (by decide +kernel) fun t hf y => ?_
  rw [after0_18]
  obtain ⟨r, q, rfl⟩ : ∃ (r : Fin 512) (q : Fin 256), y = ix2 r q := ⟨y 0, y 1, by funext a; fin_cases a <;> rfl⟩
  have e : ((cfg0.win 18).blk t).view.emb (ix2 r q) 1 = q := Fin.ext (by blk_simp [idx18 t])
  rw [e]
  blk_simp [idx18 t]
  refine (out18 m c t r q).trans (congrArg (fun n => (data m c).fwdA n q) ?_)
  show 512 * t.val + r.val = t.val * 512 + r.val
  omega

theorem arr19 (c : Dev nD) : (dats m 0 c).arrAt 19 cfg0.N = fun i : S4096x256.Idx => (data m c).fwdC (i 0).val (i 1) := by
  refine (dats m 0 c).arrAt_eq_of_covers 19 _ (by decide +kernel) fun t hf y => ?_
  rw [after0_19]
  obtain ⟨r, q, rfl⟩ : ∃ (r : Fin 512) (q : Fin 256), y = ix2 r q := ⟨y 0, y 1, by funext a; fin_cases a <;> rfl⟩
  have e : ((cfg0.win 19).blk t).view.emb (ix2 r q) 1 = q := Fin.ext (by blk_simp [idx19 t])
  rw [e]
  blk_simp [idx19 t]
  refine (out19 m c t r q).trans (congrArg (fun n => (data m c).fwdC n q) ?_)
  show 512 * t.val + r.val = t.val * 512 + r.val
  omega

end Cert.KernelACIdeal.Gen

end
-- ==== Proof.lean ====
/-
The certificate: for each of the eight calls the two frames of the kernel, the reference's frame, and the equality of the
kernel's results with the reference's; for the convolution branches' backward call on finite arguments.
-/
module

public import proofs.«01_k».proof.Defs
public import proofs.«01_k».proof.Proof.FrameBits
public import proofs.«01_k».proof.Proof.KernelRun
public import proofs.«01_k».proof.Proof.RefRun
public import proofs.«01_k».proof.Proof.Finite
public import proofs.«01_k».proof.Proof.InRun
public import proofs.«01_k».proof.Proof.WeightRun
public import proofs.«01_k».proof.Proof.OutRun
public import proofs.«01_k».proof.Proof.InForward
public import proofs.«01_k».proof.Proof.OutForward
public import proofs.«01_k».proof.Proof.LossRun
public import proofs.«01_k».proof.Proof.ACRun
public import proofs.«01_k».proof.Proof.Gen.KernelAC.Frame
public import proofs.«01_k».proof.Proof.Gen.KernelX.Frame
public import proofs.«01_k».proof.Proof.Gen.KernelW.Frame
public import proofs.«01_k».proof.Proof.Gen.KernelO.Frame
public import proofs.«01_k».proof.Proof.Gen.KernelXIdeal.Value
public import proofs.«01_k».proof.Proof.Gen.KernelWIdeal.Value
public import proofs.«01_k».proof.Proof.Gen.KernelOIdeal.Value
public import proofs.«01_k».proof.Proof.Gen.KernelIn.Frame
public import proofs.«01_k».proof.Proof.Gen.KernelOut.Frame
public import proofs.«01_k».proof.Proof.Gen.KernelInIdeal.Value
public import proofs.«01_k».proof.Proof.Gen.KernelOutIdeal.Value
public import proofs.«01_k».proof.Proof.Gen.KernelLoss.Frame
public import proofs.«01_k».proof.Proof.Gen.KernelLossIdeal.Value

@[expose] public section

set_option maxRecDepth 16384

noncomputable section

namespace Cert.Proof

open Idealize.ShloMosaic Idealize.SL.Sem Cert.Rows

instance : Cert.Pre_finite.Facts := preFacts

/-- The idealized kernel's frame. -/
theorem frame_kernelIdeal : Cert.quiescent_KernelIdeal := fun m ρ _ => Cert.KernelIdeal.Gen.frame (F := Ideal) m ρ

theorem frame_kernelIdeal_finite : Cert.quiescent_KernelIdeal_pre_finite := fun m ρ _ => Cert.KernelIdeal.Gen.frame (F := Ideal) m ρ

/-- The reference's frame. -/
theorem frame_reference : Cert.quiescent_ReferenceIdeal := fun m ρ _ =>
  θ_run_mono (Cert.ReferenceIdeal.Gen.run_data m ρ) fun r hr => ⟨fun c => (hr c).2.2.2.2.2.2.2.2.2, sem_eq_zero_of_no_sems rfl _⟩

theorem frame_reference_finite : Cert.quiescent_ReferenceIdeal_pre_finite := fun m ρ _ => frame_reference m ρ trivial

/-- Equal arrays, equal data. -/
theorem data_congr {x0 y0 : FVec Ideal ⟨2, ![4096, 3456]⟩ .f32} {x1 y1 : FVec Ideal ⟨2, ![31, 256]⟩ .f32}
    {x2 y2 x3 y3 x4 y4 : FVec Ideal ⟨2, ![1, 256]⟩ .f32} {x5 y5 : FVec Ideal ⟨2, ![256, 256]⟩ .f32} {x6 y6 : FVec Ideal ⟨2, ![1, 256]⟩ .f32}
    {x7 y7 : FVec Ideal ⟨2, ![3, 256]⟩ .f32} {x8 y8 x9 y9 : FVec Ideal ⟨2, ![4096, 256]⟩ .f32}
    (e0 : x0 = y0) (e1 : x1 = y1) (e2 : x2 = y2) (e3 : x3 = y3) (e4 : x4 = y4) (e5 : x5 = y5) (e6 : x6 = y6) (e7 : x7 = y7)
    (e8 : x8 = y8) (e9 : x9 = y9) : ofArrays x0 x1 x2 x3 x4 x5 x6 x7 x8 x9 = ofArrays y0 y1 y2 y3 y4 y5 y6 y7 y8 y9 := by
  subst e0 e1 e2 e3 e4 e5 e6 e7 e8 e9
  rfl

/-- On finite arguments kernel and reference end with the same nine results. -/
theorem value : Cert.algebraic_KernelIdeal_ReferenceIdeal_pre_finite := by
  intro m g m' g' hpre hm
  have hd : ∀ c, (Cert.KernelIdeal.Gen.data m c).Fin' := fun c => ofArrays_fin _ _ _ _ _ _ _ _ _ _ (hpre c)
  have he : ∀ c, Cert.ReferenceIdeal.Gen.data m' c = Cert.KernelIdeal.Gen.data m c := fun c => by
    obtain ⟨e0, e1, e2, e3, e4, e5, e6, e7, e8, e9⟩ := hm c
    exact data_congr e0 e1 e2 e3 e4 e5 e6 e7 e8 e9
  refine ⟨fun c => (fun i : Cert.KernelIdeal.S4096x768.Idx => (Cert.KernelIdeal.Gen.data m c).out0 (i 0).val (i 1)), fun c => (fun i : Cert.KernelIdeal.S4096x1024.Idx => (Cert.KernelIdeal.Gen.data m c).out1 (i 0).val (i 1)), fun c => (fun i : Cert.KernelIdeal.S32x256.Idx => (Cert.KernelIdeal.Gen.data m c).gw (i 0).val (i 1)), fun c => (fun i : Cert.KernelIdeal.S1x256.Idx => (Cert.KernelIdeal.Gen.data m c).gb (i 1)), fun c => (fun i : Cert.KernelIdeal.S1x256.Idx => (Cert.KernelIdeal.Gen.data m c).gg (i 1)), fun c => (fun i : Cert.KernelIdeal.S1x256.Idx => (Cert.KernelIdeal.Gen.data m c).ge (i 1)), fun c => (fun i : Cert.KernelIdeal.S256x256.Idx => (Cert.KernelIdeal.Gen.data m c).gp (i 0) (i 1)), fun c => (fun i : Cert.KernelIdeal.S1x256.Idx => (Cert.KernelIdeal.Gen.data m c).gq (i 1)), fun c => (fun i : Cert.KernelIdeal.S8x256.Idx => (Cert.KernelIdeal.Gen.data m c).gs (i 0).val (i 1)), ?_, ?_⟩
  · exact Cert.KernelIdeal.Gen.run_data m g hd
  · refine θ_run_mono (Cert.ReferenceIdeal.Gen.run_data m' g') fun r hr c => ?_
    have h := hr c
    rw [he c] at h
    exact h

/-! ## The input projection's backward calls and the output projection's -/

theorem frame_kernelX : Cert.quiescent_KernelX := fun m ρ _ => Cert.KernelX.Gen.frame m ρ

theorem frame_kernelXIdeal : Cert.quiescent_KernelXIdeal := fun m ρ _ => Cert.KernelXIdeal.Gen.frame (F := Ideal) m ρ

theorem frame_kernelW : Cert.quiescent_KernelW := fun m ρ _ => Cert.KernelW.Gen.frame m ρ

theorem frame_kernelWIdeal : Cert.quiescent_KernelWIdeal := fun m ρ _ => Cert.KernelWIdeal.Gen.frame (F := Ideal) m ρ

theorem frame_kernelO : Cert.quiescent_KernelO := fun m ρ _ => Cert.KernelO.Gen.frame m ρ

theorem frame_kernelOIdeal : Cert.quiescent_KernelOIdeal := fun m ρ _ => Cert.KernelOIdeal.Gen.frame (F := Ideal) m ρ

theorem frame_refX : Cert.quiescent_RefXIdeal := fun m ρ _ =>
  θ_run_mono (Cert.RefXIdeal.Gen.run_data m ρ) fun r hr => ⟨fun c => (hr c).2.2, sem_eq_zero_of_no_sems rfl _⟩

theorem frame_refW : Cert.quiescent_RefWIdeal := fun m ρ _ =>
  θ_run_mono (Cert.RefWIdeal.Gen.run_data m ρ) fun r hr => ⟨fun c => (hr c).2, sem_eq_zero_of_no_sems rfl _⟩

theorem frame_refO : Cert.quiescent_RefOIdeal := fun m ρ _ =>
  θ_run_mono (Cert.RefOIdeal.Gen.run_data m ρ) fun r hr => ⟨fun c => (hr c).2.2.2.2.2, sem_eq_zero_of_no_sems rfl _⟩

/-- The gradients at the input projection's input and scale. -/
theorem value_x : Cert.algebraic_KernelXIdeal_RefXIdeal := by
  intro m g m' g' _ hm
  refine ⟨_, _, Cert.KernelXIdeal.Gen.run_data m g, θ_run_mono (Cert.RefXIdeal.Gen.run_data m' g') fun r hr c => ?_⟩
  obtain ⟨e0, e1, e2, e3, e4, e5, e6, e7, e8, e9⟩ := hm c
  exact ⟨(hr c).1.trans (by rw [e0, e1, e2, e3, e4, e5, e6, e7, e8, e9]), (hr c).2.1.trans (by rw [e0, e1, e2, e3, e4, e5, e6, e7]),
    (hr c).2.2⟩

/-- The gradient at the input projection's matrix. -/
theorem value_w : Cert.algebraic_KernelWIdeal_RefWIdeal := by
  intro m g m' g' _ hm
  refine ⟨_, Cert.KernelWIdeal.Gen.run_data m g, θ_run_mono (Cert.RefWIdeal.Gen.run_data m' g') fun r hr c => ?_⟩
  obtain ⟨e0, e1, e2, e3, e4, e5, e6, e7⟩ := hm c
  exact ⟨(hr c).1.trans (by rw [e0, e1, e2, e3, e4, e5, e6, e7]), (hr c).2⟩

/-- The gradients at the output projection's four inputs and its matrix. -/
theorem value_o : Cert.algebraic_KernelOIdeal_RefOIdeal := by
  intro m g m' g' _ hm
  refine ⟨_, _, _, _, _, Cert.KernelOIdeal.Gen.run_data m g, θ_run_mono (Cert.RefOIdeal.Gen.run_data m' g') fun r hr c => ?_⟩
  obtain ⟨e0, e1, e2, e3, e4, e5⟩ := hm c
  obtain ⟨h0, h1, h2, h3, h4, ha⟩ := hr c
  exact ⟨h0.trans (by rw [e0, e5]), h1.trans (by rw [e0, e5]), h2.trans (by rw [e0, e5]), h3.trans (by rw [e0, e5]),
    h4.trans (by rw [e0, e1, e2, e3, e4]), ha⟩

/-! ## The two projections -/

theorem frame_kernelIn : Cert.quiescent_KernelIn := fun m ρ _ => Cert.KernelIn.Gen.frame m ρ

theorem frame_kernelInIdeal : Cert.quiescent_KernelInIdeal := fun m ρ _ => Cert.KernelInIdeal.Gen.frame (F := Ideal) m ρ

theorem frame_kernelOut : Cert.quiescent_KernelOut := fun m ρ _ => Cert.KernelOut.Gen.frame m ρ

theorem frame_kernelOutIdeal : Cert.quiescent_KernelOutIdeal := fun m ρ _ => Cert.KernelOutIdeal.Gen.frame (F := Ideal) m ρ

theorem frame_refIn : Cert.quiescent_RefInIdeal := fun m ρ _ =>
  θ_run_mono (Cert.RefInIdeal.Gen.run_data m ρ) fun r hr => ⟨fun c => (hr c).2.2, sem_eq_zero_of_no_sems rfl _⟩

theorem frame_refOut : Cert.quiescent_RefOutIdeal := fun m ρ _ =>
  θ_run_mono (Cert.RefOutIdeal.Gen.run_data m ρ) fun r hr => ⟨fun c => (hr c).2, sem_eq_zero_of_no_sems rfl _⟩

/-- The input projection and the normalized input. -/
theorem value_in : Cert.algebraic_KernelInIdeal_RefInIdeal := by
  intro m g m' g' _ hm
  refine ⟨_, _, Cert.KernelInIdeal.Gen.run_data m g, θ_run_mono (Cert.RefInIdeal.Gen.run_data m' g') fun r hr c => ?_⟩
  obtain ⟨e0, e1, e2⟩ := hm c
  exact ⟨(hr c).1.trans (by rw [e0, e1, e2]), (hr c).2.1.trans (by rw [e0, e1]), (hr c).2.2⟩

/-- The output projection, added to the input. -/
theorem value_out : Cert.algebraic_KernelOutIdeal_RefOutIdeal := by
  intro m g m' g' _ hm
  refine ⟨_, Cert.KernelOutIdeal.Gen.run_data m g, θ_run_mono (Cert.RefOutIdeal.Gen.run_data m' g') fun r hr c => ?_⟩
  obtain ⟨e0, e1, e2, e3, e4, e5⟩ := hm c
  exact ⟨(hr c).1.trans (by rw [e0, e1, e2, e3, e4, e5]), (hr c).2⟩

/-! ## The loss -/

theorem frame_kernelLoss : Cert.quiescent_KernelLoss := fun m ρ _ => Cert.KernelLoss.Gen.frame m ρ

theorem frame_kernelLossIdeal : Cert.quiescent_KernelLossIdeal := fun m ρ _ => Cert.KernelLossIdeal.Gen.frame (F := Ideal) m ρ

theorem frame_refLoss : Cert.quiescent_RefLossIdeal := fun m ρ _ =>
  θ_run_mono (Cert.RefLossIdeal.Gen.run_data m ρ) fun r hr => ⟨fun c => (hr c).2.2.2, sem_eq_zero_of_no_sems rfl _⟩

/-- The loss and its gradients at the last layer's output and at the scale. -/
theorem value_loss : Cert.algebraic_KernelLossIdeal_RefLossIdeal := by
  intro m g m' g' _ hm
  refine ⟨_, _, _, Cert.KernelLossIdeal.Gen.run_data m g, θ_run_mono (Cert.RefLossIdeal.Gen.run_data m' g') fun r hr c => ?_⟩
  obtain ⟨e0, e1, e2⟩ := hm c
  exact ⟨(hr c).1.trans (by rw [e0, e1, e2]), (hr c).2.1.trans (by rw [e0, e1, e2]), (hr c).2.2.1.trans (by rw [e0, e1, e2]), (hr c).2.2.2⟩

/-! ## The convolution branches, forward -/

theorem frame_kernelAC : Cert.quiescent_KernelAC := fun m ρ _ => Cert.KernelAC.Gen.frame m ρ

theorem frame_kernelACIdeal : Cert.quiescent_KernelACIdeal := fun m ρ _ => Cert.KernelACIdeal.Gen.frame (F := Ideal) m ρ

theorem frame_refAC : Cert.quiescent_RefACIdeal := fun m ρ _ =>
  θ_run_mono (Cert.RefACIdeal.Gen.run_data m ρ) fun r hr => ⟨fun c => (hr c).2.2, sem_eq_zero_of_no_sems rfl _⟩

/-- The two convolution branches' outputs. -/
theorem value_ac : Cert.algebraic_KernelACIdeal_RefACIdeal := by
  intro m g m' g' _ hm
  refine ⟨_, _, θ_run_mono (Cert.KernelACIdeal.Value.run_blocks (F := Ideal) m g) fun r hr c =>
    ⟨(hr c).1.trans (Cert.KernelACIdeal.Gen.arr18 m c), (hr c).2.1.trans (Cert.KernelACIdeal.Gen.arr19 m c), (hr c).2.2⟩,
    θ_run_mono (Cert.RefACIdeal.Gen.run_data m' g') fun r hr c => ?_⟩
  obtain ⟨e0, e1, e2, e3, e4, e5, e6, e7⟩ := hm c
  have ed : Cert.RefACIdeal.Gen.data m' c = Cert.KernelACIdeal.Gen.data m c := data_congr e0 e1 e2 e3 e4 e5 e6 e7 rfl rfl
  exact ⟨(hr c).1.trans (congrArg (fun d : Data => fun i : (⟨2, ![4096, 256]⟩ : Shape).Idx => d.fwdA (i 0).val (i 1)) ed),
    (hr c).2.1.trans (congrArg (fun d : Data => fun i : (⟨2, ![4096, 256]⟩ : Shape).Idx => d.fwdC (i 0).val (i 1)) ed), (hr c).2.2⟩

theorem claim : Cert.Claim :=
  ⟨Cert.Kernel.Gen.facts, Cert.KernelIdeal.Gen.facts, Cert.ReferenceIdeal.Gen.facts, Cert.KernelX.Gen.facts,
    Cert.KernelXIdeal.Gen.facts, Cert.RefXIdeal.Gen.facts, Cert.KernelW.Gen.facts, Cert.KernelWIdeal.Gen.facts,
    Cert.RefWIdeal.Gen.facts, Cert.KernelO.Gen.facts, Cert.KernelOIdeal.Gen.facts, Cert.RefOIdeal.Gen.facts,
    Cert.KernelIn.Gen.facts, Cert.KernelInIdeal.Gen.facts, Cert.RefInIdeal.Gen.facts, Cert.KernelOut.Gen.facts,
    Cert.KernelOutIdeal.Gen.facts, Cert.RefOutIdeal.Gen.facts,
    Cert.KernelLoss.Gen.facts, Cert.KernelLossIdeal.Gen.facts, Cert.RefLossIdeal.Gen.facts,
    Cert.KernelAC.Gen.facts, Cert.KernelACIdeal.Gen.facts, Cert.RefACIdeal.Gen.facts, preFacts,
    frame_kernel, frame_kernelIdeal, frame_kernelIdeal_finite, frame_reference, frame_reference_finite,
    frame_kernelX, frame_kernelXIdeal, frame_refX, frame_kernelW, frame_kernelWIdeal, frame_refW,
    frame_kernelO, frame_kernelOIdeal, frame_refO, frame_kernelIn, frame_kernelInIdeal, frame_refIn, frame_kernelOut, frame_kernelOutIdeal, frame_refOut,
    frame_kernelLoss, frame_kernelLossIdeal, frame_refLoss, frame_kernelAC, frame_kernelACIdeal, frame_refAC,
    trivial, value, trivial, value_x, trivial, value_w, trivial, value_o, trivial, value_in, trivial, value_out, trivial, value_loss, trivial, value_ac⟩

end Cert.Proof

end
